-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S64x768 : Shape := ⟨2, ![64, 768]⟩
abbrev S64 : Shape := ⟨1, ![64]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn {F : FTy → Type} [FloatOps F] (main_arg0 : FVec F S4x8192x768 .f32) (main_arg1 : FVec F S64x768 .f32) (main_arg2 : FVec F S64 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  main_v8
-- ==== Kernel.lean ====
abbrev S4x8192x768 : Shape := ⟨3, ![4, 8192, 768]⟩
abbrev S64x768 : Shape := ⟨2, ![64, 768]⟩
abbrev S64 : Shape := ⟨1, ![64]⟩
abbrev S32768x768 : Shape := ⟨2, ![32768, 768]⟩
abbrev S64x8192 : Shape := ⟨2, ![64, 8192]⟩
abbrev S64x1 : Shape := ⟨2, ![64, 1]⟩
abbrev S1024x768 : Shape := ⟨2, ![1024, 768]⟩
abbrev S64x1024 : Shape := ⟨2, ![64, 1024]⟩
abbrev S1024 : Shape := ⟨1, ![1024]⟩
abbrev S1x1024 : Shape := ⟨2, ![1, 1024]⟩
abbrev S8x8192 : Shape := ⟨2, ![8, 8192]⟩
abbrev S64x256 : Shape := ⟨2, ![64, 256]⟩
abbrev S8x256 : Shape := ⟨2, ![8, 256]⟩
abbrev S16 : Shape := ⟨1, ![16]⟩
abbrev S_ : Shape := ⟨0, ![]⟩
abbrev S1x16 : Shape := ⟨2, ![1, 16]⟩
abbrev S256x8192 : Shape := ⟨2, ![256, 8192]⟩
abbrev S32x8192 : Shape := ⟨2, ![32, 8192]⟩
abbrev S4x64x8192 : Shape := ⟨3, ![4, 64, 8192]⟩
abbrev S4x8192x64 : Shape := ⟨3, ![4, 8192, 64]⟩
abbrev S4x8x8192 : Shape := ⟨3, ![4, 8, 8192]⟩
abbrev S4x8192x8 : Shape := ⟨3, ![4, 8192, 8]⟩

abbrev nBuf : Table → Nat
  | .hbm => 43
  | .local .tc .vmem => 24
  | .local .scVector .vmem => 20
  | _ => 0

abbrev bufTy : (tb : Table) → Fin (nBuf tb) → BufTy
  | .hbm, ⟨0, _⟩ => ⟨S4x8192x768, .f32⟩
  | .hbm, ⟨1, _⟩ => ⟨S64x768, .f32⟩
  | .hbm, ⟨2, _⟩ => ⟨S64, .f32⟩
  | .hbm, ⟨3, _⟩ => ⟨S32768x768, .f32⟩
  | .hbm, ⟨4, _⟩ => ⟨S64x8192, .f32⟩
  | .hbm, ⟨5, _⟩ => ⟨S64x1, .f32⟩
  | .hbm, ⟨6, _⟩ => ⟨S64x8192, .f32⟩
  | .hbm, ⟨7, _⟩ => ⟨S64x1, .f32⟩
  | .hbm, ⟨8, _⟩ => ⟨S64x8192, .f32⟩
  | .hbm, ⟨9, _⟩ => ⟨S64x1, .f32⟩
  | .hbm, ⟨10, _⟩ => ⟨S64x8192, .f32⟩
  | .hbm, ⟨11, _⟩ => ⟨S64x1, .f32⟩
  | .hbm, ⟨12, _⟩ => ⟨S64x8192, .f32⟩
  | .hbm, ⟨13, _⟩ => ⟨S8x8192, .i32⟩
  | .hbm, ⟨14, _⟩ => ⟨S64x8192, .f32⟩
  | .hbm, ⟨15, _⟩ => ⟨S8x8192, .i32⟩
  | .hbm, ⟨16, _⟩ => ⟨S64x8192, .f32⟩
  | .hbm, ⟨17, _⟩ => ⟨S8x8192, .i32⟩
  | .hbm, ⟨18, _⟩ => ⟨S64x8192, .f32⟩
  | .hbm, ⟨19, _⟩ => ⟨S8x8192, .i32⟩
  | .hbm, ⟨20, _⟩ => ⟨S256x8192, .f32⟩
  | .hbm, ⟨21, _⟩ => ⟨S32x8192, .i32⟩
  | .hbm, ⟨22, _⟩ => ⟨S64x1, .f32⟩
  | .hbm, ⟨23, _⟩ => ⟨S64x1, .f32⟩
  | .hbm, ⟨24, _⟩ => ⟨S64x1, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4x64x8192, .f32⟩
  | .hbm, ⟨40, _⟩ => ⟨S4x8192x64, .f32⟩
  | .hbm, ⟨41, _⟩ => ⟨S4x8x8192, .i32⟩
  | .hbm, ⟨42, _⟩ => ⟨S4x8192x8, .i32⟩
  | .local .tc .vmem, ⟨0, _⟩ => ⟨S1024x768, .f32⟩
  | .local .tc .vmem, ⟨1, _⟩ => ⟨S1024x768, .f32⟩
  | .local .tc .vmem, ⟨2, _⟩ => ⟨S64x768, .f32⟩
  | .local .tc .vmem, ⟨3, _⟩ => ⟨S64x1024, .f32⟩
  | .local .tc .vmem, ⟨4, _⟩ => ⟨S64x1024, .f32⟩
  | .local .tc .vmem, ⟨5, _⟩ => ⟨S64x1, .f32⟩
  | .local .tc .vmem, ⟨6, _⟩ => ⟨S1024x768, .f32⟩
  | .local .tc .vmem, ⟨7, _⟩ => ⟨S1024x768, .f32⟩
  | .local .tc .vmem, ⟨8, _⟩ => ⟨S64x768, .f32⟩
  | .local .tc .vmem, ⟨9, _⟩ => ⟨S64x1024, .f32⟩
  | .local .tc .vmem, ⟨10, _⟩ => ⟨S64x1024, .f32⟩
  | .local .tc .vmem, ⟨11, _⟩ => ⟨S64x1, .f32⟩
  | .local .tc .vmem, ⟨12, _⟩ => ⟨S1024x768, .f32⟩
  | .local .tc .vmem, ⟨13, _⟩ => ⟨S1024x768, .f32⟩
  | .local .tc .vmem, ⟨14, _⟩ => ⟨S64x768, .f32⟩
  | .local .tc .vmem, ⟨15, _⟩ => ⟨S64x1024, .f32⟩
  | .local .tc .vmem, ⟨16, _⟩ => ⟨S64x1024, .f32⟩
  | .local .tc .vmem, ⟨17, _⟩ => ⟨S64x1, .f32⟩
  | .local .tc .vmem, ⟨18, _⟩ => ⟨S1024x768, .f32⟩
  | .local .tc .vmem, ⟨19, _⟩ => ⟨S1024x768, .f32⟩
  | .local .tc .vmem, ⟨20, _⟩ => ⟨S64x768, .f32⟩
  | .local .tc .vmem, ⟨21, _⟩ => ⟨S64x1024, .f32⟩
  | .local .tc .vmem, ⟨22, _⟩ => ⟨S64x1024, .f32⟩
  | .local .tc .vmem, ⟨23, _⟩ => ⟨S64x1, .f32⟩
  | .local .scVector .vmem, ⟨0, _⟩ => ⟨S64x256, .f32⟩
  | .local .scVector .vmem, ⟨1, _⟩ => ⟨S64x256, .f32⟩
  | .local .scVector .vmem, ⟨2, _⟩ => ⟨S8x256, .i32⟩
  | .local .scVector .vmem, ⟨3, _⟩ => ⟨S16, .f32⟩
  | .local .scVector .vmem, ⟨4, _⟩ => ⟨S16, .i32⟩
  | .local .scVector .vmem, ⟨5, _⟩ => ⟨S64x256, .f32⟩
  | .local .scVector .vmem, ⟨6, _⟩ => ⟨S64x256, .f32⟩
  | .local .scVector .vmem, ⟨7, _⟩ => ⟨S8x256, .i32⟩
  | .local .scVector .vmem, ⟨8, _⟩ => ⟨S16, .f32⟩
  | .local .scVector .vmem, ⟨9, _⟩ => ⟨S16, .i32⟩
  | .local .scVector .vmem, ⟨10, _⟩ => ⟨S64x256, .f32⟩
  | .local .scVector .vmem, ⟨11, _⟩ => ⟨S64x256, .f32⟩
  | .local .scVector .vmem, ⟨12, _⟩ => ⟨S8x256, .i32⟩
  | .local .scVector .vmem, ⟨13, _⟩ => ⟨S16, .f32⟩
  | .local .scVector .vmem, ⟨14, _⟩ => ⟨S16, .i32⟩
  | .local .scVector .vmem, ⟨15, _⟩ => ⟨S64x256, .f32⟩
  | .local .scVector .vmem, ⟨16, _⟩ => ⟨S64x256, .f32⟩
  | .local .scVector .vmem, ⟨17, _⟩ => ⟨S8x256, .i32⟩
  | .local .scVector .vmem, ⟨18, _⟩ => ⟨S16, .f32⟩
  | .local .scVector .vmem, ⟨19, _⟩ => ⟨S16, .i32⟩
  | _, _ => ⟨S4x8192x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | _ => false

abbrev sig : RefSig :=
  ofTables nBuf rfl bufTy 4 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2_0 : Ref sig .tc := ⟨.hbm, 6, rfl⟩
abbrev main_v2_1 : Ref sig .tc := ⟨.hbm, 7, rfl⟩
abbrev main_v3_0 : Ref sig .tc := ⟨.hbm, 8, rfl⟩
abbrev main_v3_1 : Ref sig .tc := ⟨.hbm, 9, rfl⟩
abbrev main_v4_0 : Ref sig .tc := ⟨.hbm, 10, rfl⟩
abbrev main_v4_1 : Ref sig .tc := ⟨.hbm, 11, rfl⟩
abbrev main_v5_0 : Ref sig .tc := ⟨.hbm, 12, rfl⟩
abbrev main_v5_1 : Ref sig .tc := ⟨.hbm, 13, rfl⟩
abbrev main_v6_0 : Ref sig .tc := ⟨.hbm, 14, rfl⟩
abbrev main_v6_1 : Ref sig .tc := ⟨.hbm, 15, rfl⟩
abbrev main_v7_0 : Ref sig .tc := ⟨.hbm, 16, rfl⟩
abbrev main_v7_1 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v1_0_scv : Ref sig .scVector := ⟨.hbm, 4, rfl⟩
abbrev main_v5_0_scv : Ref sig .scVector := ⟨.hbm, 12, rfl⟩
abbrev main_v5_1_scv : Ref sig .scVector := ⟨.hbm, 13, rfl⟩
abbrev main_v2_0_scv : Ref sig .scVector := ⟨.hbm, 6, rfl⟩
abbrev main_v6_0_scv : Ref sig .scVector := ⟨.hbm, 14, rfl⟩
abbrev main_v6_1_scv : Ref sig .scVector := ⟨.hbm, 15, rfl⟩
abbrev main_v3_0_scv : Ref sig .scVector := ⟨.hbm, 8, rfl⟩
abbrev main_v7_0_scv : Ref sig .scVector := ⟨.hbm, 16, rfl⟩
abbrev main_v7_1_scv : Ref sig .scVector := ⟨.hbm, 17, rfl⟩
abbrev main_v4_0_scv : Ref sig .scVector := ⟨.hbm, 10, rfl⟩
abbrev main_v8_0_scv : Ref sig .scVector := ⟨.hbm, 18, rfl⟩
abbrev main_v8_1_scv : Ref sig .scVector := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc4_scratch0 : Ref sig .scVector := ⟨.vmem, 0, rfl⟩
abbrev cc4_scratch1 : Ref sig .scVector := ⟨.vmem, 1, rfl⟩
abbrev cc4_scratch2 : Ref sig .scVector := ⟨.vmem, 2, rfl⟩
abbrev cc4_scratch3 : Ref sig .scVector := ⟨.vmem, 3, rfl⟩
abbrev cc4_scratch4 : Ref sig .scVector := ⟨.vmem, 4, rfl⟩
abbrev cc5_scratch0 : Ref sig .scVector := ⟨.vmem, 5, rfl⟩
abbrev cc5_scratch1 : Ref sig .scVector := ⟨.vmem, 6, rfl⟩
abbrev cc5_scratch2 : Ref sig .scVector := ⟨.vmem, 7, rfl⟩
abbrev cc5_scratch3 : Ref sig .scVector := ⟨.vmem, 8, rfl⟩
abbrev cc5_scratch4 : Ref sig .scVector := ⟨.vmem, 9, rfl⟩
abbrev cc6_scratch0 : Ref sig .scVector := ⟨.vmem, 10, rfl⟩
abbrev cc6_scratch1 : Ref sig .scVector := ⟨.vmem, 11, rfl⟩
abbrev cc6_scratch2 : Ref sig .scVector := ⟨.vmem, 12, rfl⟩
abbrev cc6_scratch3 : Ref sig .scVector := ⟨.vmem, 13, rfl⟩
abbrev cc6_scratch4 : Ref sig .scVector := ⟨.vmem, 14, rfl⟩
abbrev cc7_scratch0 : Ref sig .scVector := ⟨.vmem, 15, rfl⟩
abbrev cc7_scratch1 : Ref sig .scVector := ⟨.vmem, 16, rfl⟩
abbrev cc7_scratch2 : Ref sig .scVector := ⟨.vmem, 17, rfl⟩
abbrev cc7_scratch3 : Ref sig .scVector := ⟨.vmem, 18, rfl⟩
abbrev cc7_scratch4 : Ref sig .scVector := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_8 : BitVec 32 := 0#32
  let v18 : BitVec 1 := Scalar.cmpi .ne v17 c0_i32_8
  v18

def k0_cond2 (i : grid0.Coords) : BitVec 1 :=
  let arg0 : BitVec 32 := BitVec.ofNat 32 (i 0).val
  let c0_i32_9 : BitVec 32 := 0#32
  let v19 : BitVec 1 := Scalar.cmpi .ne arg0 c0_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_8 : BitVec 32 := 0#32
  let v18 : BitVec 1 := Scalar.cmpi .ne v17 c0_i32_8
  v18

def k1_cond2 (i : grid1.Coords) : BitVec 1 :=
  let arg0 : BitVec 32 := BitVec.ofNat 32 (i 0).val
  let c0_i32_9 : BitVec 32 := 0#32
  let v19 : BitVec 1 := Scalar.cmpi .ne arg0 c0_i32_9
  let v20 : BitVec 32 := Scalar.extui v19
  let c0_i32_10 : BitVec 32 := 0#32
  let v21 : BitVec 1 := Scalar.cmpi .ne v20 c0_i32_10
  v21

def cc1_transform_0 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_8 : BitVec 32 := 0#32
  let v18 : BitVec 1 := Scalar.cmpi .ne v17 c0_i32_8
  v18

def k2_cond2 (i : grid2.Coords) : BitVec 1 :=
  let arg0 : BitVec 32 := BitVec.ofNat 32 (i 0).val
  let c0_i32_9 : BitVec 32 := 0#32
  let v19 : BitVec 1 := Scalar.cmpi .ne arg0 c0_i32_9
  let v20 : BitVec 32 := Scalar.extui v19
  let c0_i32_10 : BitVec 32 := 0#32
  let v21 : BitVec 1 := Scalar.cmpi .ne v20 c0_i32_10
  v21

def cc2_transform_0 (i : grid2.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S64x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![8], ![false]⟩

def k3_cond1 (i : grid3.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_8 : BitVec 32 := 0#32
  let v18 : BitVec 1 := Scalar.cmpi .ne v17 c0_i32_8
  v18

def k3_cond2 (i : grid3.Coords) : BitVec 1 :=
  let arg0 : BitVec 32 := BitVec.ofNat 32 (i 0).val
  let c0_i32_9 : BitVec 32 := 0#32
  let v19 : BitVec 1 := Scalar.cmpi .ne arg0 c0_i32_9
  let v20 : BitVec 32 := Scalar.extui v19
  let c0_i32_10 : BitVec 32 := 0#32
  let v21 : BitVec 1 := Scalar.cmpi .ne v20 c0_i32_10
  v21

def cc3_transform_0 (i : grid3.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x768 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S64x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨2, ![2, 16], ![false, false]⟩

def k4_off1 (i : grid4.Coords) : Fin 2 → Nat :=
  let c0_i32_6_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
@[reducible] def k4_t1_loop : Scf.Loop 32 :=
  let c0_i32 : BitVec 32 := 0#32
  let c16_i32 : BitVec 32 := 16#32
  let v11 : BitVec 32 := Scalar.addi c0_i32 c16_i32
  let c1_i32 : BitVec 32 := 1#32
  ⟨c0_i32, v11, c1_i32⟩
def k4_off2 (k4_t1 : Fin k4_t1_loop.trips) : Fin 2 → Nat :=
  let c0_i32_9 : BitVec 32 := 0#32
  let v16 : Index := Scalar.indexCast c0_i32_9
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v17 : Index := Scalar.indexCast v15
  ![0, v17.toNat]
def k4_off3 (k4_t1 : Fin k4_t1_loop.trips) : Fin 2 → Nat :=
  let c1_i32_10 : BitVec 32 := 1#32
  let v19 : Index := Scalar.indexCast c1_i32_10
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v20 : Index := Scalar.indexCast v15
  ![1, v20.toNat]
def k4_off4 (k4_t1 : Fin k4_t1_loop.trips) : Fin 2 → Nat :=
  let c2_i32_11 : BitVec 32 := 2#32
  let v22 : Index := Scalar.indexCast c2_i32_11
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v23 : Index := Scalar.indexCast v15
  ![2, v23.toNat]
def k4_off5 (k4_t1 : Fin k4_t1_loop.trips) : Fin 2 → Nat :=
  let c3_i32 : BitVec 32 := 3#32
  let v25 : Index := Scalar.indexCast c3_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v26 : Index := Scalar.indexCast v15
  ![3, v26.toNat]
def k4_off6 (k4_t1 : Fin k4_t1_loop.trips) : Fin 2 → Nat :=
  let c4_i32 : BitVec 32 := 4#32
  let v28 : Index := Scalar.indexCast c4_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v29 : Index := Scalar.indexCast v15
  ![4, v29.toNat]
def k4_off7 (k4_t1 : Fin k4_t1_loop.trips) : Fin 2 → Nat :=
  let c5_i32 : BitVec 32 := 5#32
  let v31 : Index := Scalar.indexCast c5_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v32 : Index := Scalar.indexCast v15
  ![5, v32.toNat]
def k4_off8 (k4_t1 : Fin k4_t1_loop.trips) : Fin 2 → Nat :=
  let c6_i32 : BitVec 32 := 6#32
  let v34 : Index := Scalar.indexCast c6_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v35 : Index := Scalar.indexCast v15
  ![6, v35.toNat]
def k4_off9 (k4_t1 : Fin k4_t1_loop.trips) : Fin 2 → Nat :=
  let c7_i32_12 : BitVec 32 := 7#32
  let v37 : Index := Scalar.indexCast c7_i32_12
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v38 : Index := Scalar.indexCast v15
  ![7, v38.toNat]
def k4_off10 (k4_t1 : Fin k4_t1_loop.trips) : Fin 2 → Nat :=
  let c8_i32_13 : BitVec 32 := 8#32
  let v40 : Index := Scalar.indexCast c8_i32_13
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v41 : Index := Scalar.indexCast v15
  ![8, v41.toNat]
def k4_off11 (k4_t1 : Fin k4_t1_loop.trips) : Fin 2 → Nat :=
  let c9_i32 : BitVec 32 := 9#32
  let v43 : Index := Scalar.indexCast c9_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v44 : Index := Scalar.indexCast v15
  ![9, v44.toNat]
def k4_off12 (k4_t1 : Fin k4_t1_loop.trips) : Fin 2 → Nat :=
  let c10_i32 : BitVec 32 := 10#32
  let v46 : Index := Scalar.indexCast c10_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v47 : Index := Scalar.indexCast v15
  ![10, v47.toNat]
def k4_off13 (k4_t1 : Fin k4_t1_loop.trips) : Fin 2 → Nat :=
  let c11_i32 : BitVec 32 := 11#32
  let v49 : Index := Scalar.indexCast c11_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v50 : Index := Scalar.indexCast v15
  ![11, v50.toNat]
def k4_off14 (k4_t1 : Fin k4_t1_loop.trips) : Fin 2 → Nat :=
  let c12_i32 : BitVec 32 := 12#32
  let v52 : Index := Scalar.indexCast c12_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v53 : Index := Scalar.indexCast v15
  ![12, v53.toNat]
def k4_off15 (k4_t1 : Fin k4_t1_loop.trips) : Fin 2 → Nat :=
  let c13_i32 : BitVec 32 := 13#32
  let v55 : Index := Scalar.indexCast c13_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v56 : Index := Scalar.indexCast v15
  ![13, v56.toNat]
def k4_off16 (k4_t1 : Fin k4_t1_loop.trips) : Fin 2 → Nat :=
  let c14_i32 : BitVec 32 := 14#32
  let v58 : Index := Scalar.indexCast c14_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v59 : Index := Scalar.indexCast v15
  ![14, v59.toNat]
def k4_off17 (k4_t1 : Fin k4_t1_loop.trips) : Fin 2 → Nat :=
  let c15_i32 : BitVec 32 := 15#32
  let v61 : Index := Scalar.indexCast c15_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v62 : Index := Scalar.indexCast v15
  ![15, v62.toNat]
def k4_off18 (k4_t1 : Fin k4_t1_loop.trips) : Fin 2 → Nat :=
  let c16_i32_14 : BitVec 32 := 16#32
  let v64 : Index := Scalar.indexCast c16_i32_14
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v65 : Index := Scalar.indexCast v15
  ![16, v65.toNat]
def k4_off19 (k4_t1 : Fin k4_t1_loop.trips) : Fin 2 → Nat :=
  let c17_i32 : BitVec 32 := 17#32
  let v67 : Index := Scalar.indexCast c17_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v68 : Index := Scalar.indexCast v15
  ![17, v68.toNat]
def k4_off20 (k4_t1 : Fin k4_t1_loop.trips) : Fin 2 → Nat :=
  let c18_i32 : BitVec 32 := 18#32
  let v70 : Index := Scalar.indexCast c18_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v71 : Index := Scalar.indexCast v15
  ![18, v71.toNat]
def k4_off21 (k4_t1 : Fin k4_t1_loop.trips) : Fin 2 → Nat :=
  let c19_i32 : BitVec 32 := 19#32
  let v73 : Index := Scalar.indexCast c19_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v74 : Index := Scalar.indexCast v15
  ![19, v74.toNat]
def k4_off22 (k4_t1 : Fin k4_t1_loop.trips) : Fin 2 → Nat :=
  let c20_i32 : BitVec 32 := 20#32
  let v76 : Index := Scalar.indexCast c20_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v77 : Index := Scalar.indexCast v15
  ![20, v77.toNat]
def k4_off23 (k4_t1 : Fin k4_t1_loop.trips) : Fin 2 → Nat :=
  let c21_i32 : BitVec 32 := 21#32
  let v79 : Index := Scalar.indexCast c21_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v80 : Index := Scalar.indexCast v15
  ![21, v80.toNat]
def k4_off24 (k4_t1 : Fin k4_t1_loop.trips) : Fin 2 → Nat :=
  let c22_i32 : BitVec 32 := 22#32
  let v82 : Index := Scalar.indexCast c22_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v83 : Index := Scalar.indexCast v15
  ![22, v83.toNat]
def k4_off25 (k4_t1 : Fin k4_t1_loop.trips) : Fin 2 → Nat :=
  let c23_i32 : BitVec 32 := 23#32
  let v85 : Index := Scalar.indexCast c23_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v86 : Index := Scalar.indexCast v15
  ![23, v86.toNat]
def k4_off26 (k4_t1 : Fin k4_t1_loop.trips) : Fin 2 → Nat :=
  let c24_i32 : BitVec 32 := 24#32
  let v88 : Index := Scalar.indexCast c24_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v89 : Index := Scalar.indexCast v15
  ![24, v89.toNat]
def k4_off27 (k4_t1 : Fin k4_t1_loop.trips) : Fin 2 → Nat :=
  let c25_i32 : BitVec 32 := 25#32
  let v91 : Index := Scalar.indexCast c25_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v92 : Index := Scalar.indexCast v15
  ![25, v92.toNat]
def k4_off28 (k4_t1 : Fin k4_t1_loop.trips) : Fin 2 → Nat :=
  let c26_i32 : BitVec 32 := 26#32
  let v94 : Index := Scalar.indexCast c26_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v95 : Index := Scalar.indexCast v15
  ![26, v95.toNat]
def k4_off29 (k4_t1 : Fin k4_t1_loop.trips) : Fin 2 → Nat :=
  let c27_i32 : BitVec 32 := 27#32
  let v97 : Index := Scalar.indexCast c27_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v98 : Index := Scalar.indexCast v15
  ![27, v98.toNat]
def k4_off30 (k4_t1 : Fin k4_t1_loop.trips) : Fin 2 → Nat :=
  let c28_i32 : BitVec 32 := 28#32
  let v100 : Index := Scalar.indexCast c28_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v101 : Index := Scalar.indexCast v15
  ![28, v101.toNat]
def k4_off31 (k4_t1 : Fin k4_t1_loop.trips) : Fin 2 → Nat :=
  let c29_i32 : BitVec 32 := 29#32
  let v103 : Index := Scalar.indexCast c29_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v104 : Index := Scalar.indexCast v15
  ![29, v104.toNat]
def k4_off32 (k4_t1 : Fin k4_t1_loop.trips) : Fin 2 → Nat :=
  let c30_i32 : BitVec 32 := 30#32
  let v106 : Index := Scalar.indexCast c30_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v107 : Index := Scalar.indexCast v15
  ![30, v107.toNat]
def k4_off33 (k4_t1 : Fin k4_t1_loop.trips) : Fin 2 → Nat :=
  let c31_i32 : BitVec 32 := 31#32
  let v109 : Index := Scalar.indexCast c31_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v110 : Index := Scalar.indexCast v15
  ![31, v110.toNat]
def k4_off34 (k4_t1 : Fin k4_t1_loop.trips) : Fin 2 → Nat :=
  let c32_i32 : BitVec 32 := 32#32
  let v112 : Index := Scalar.indexCast c32_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v113 : Index := Scalar.indexCast v15
  ![32, v113.toNat]
def k4_off35 (k4_t1 : Fin k4_t1_loop.trips) : Fin 2 → Nat :=
  let c33_i32 : BitVec 32 := 33#32
  let v115 : Index := Scalar.indexCast c33_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v116 : Index := Scalar.indexCast v15
  ![33, v116.toNat]
def k4_off36 (k4_t1 : Fin k4_t1_loop.trips) : Fin 2 → Nat :=
  let c34_i32 : BitVec 32 := 34#32
  let v118 : Index := Scalar.indexCast c34_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v119 : Index := Scalar.indexCast v15
  ![34, v119.toNat]
def k4_off37 (k4_t1 : Fin k4_t1_loop.trips) : Fin 2 → Nat :=
  let c35_i32 : BitVec 32 := 35#32
  let v121 : Index := Scalar.indexCast c35_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v122 : Index := Scalar.indexCast v15
  ![35, v122.toNat]
def k4_off38 (k4_t1 : Fin k4_t1_loop.trips) : Fin 2 → Nat :=
  let c36_i32 : BitVec 32 := 36#32
  let v124 : Index := Scalar.indexCast c36_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v125 : Index := Scalar.indexCast v15
  ![36, v125.toNat]
def k4_off39 (k4_t1 : Fin k4_t1_loop.trips) : Fin 2 → Nat :=
  let c37_i32 : BitVec 32 := 37#32
  let v127 : Index := Scalar.indexCast c37_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v128 : Index := Scalar.indexCast v15
  ![37, v128.toNat]
def k4_off40 (k4_t1 : Fin k4_t1_loop.trips) : Fin 2 → Nat :=
  let c38_i32 : BitVec 32 := 38#32
  let v130 : Index := Scalar.indexCast c38_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v131 : Index := Scalar.indexCast v15
  ![38, v131.toNat]
def k4_off41 (k4_t1 : Fin k4_t1_loop.trips) : Fin 2 → Nat :=
  let c39_i32 : BitVec 32 := 39#32
  let v133 : Index := Scalar.indexCast c39_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v134 : Index := Scalar.indexCast v15
  ![39, v134.toNat]
def k4_off42 (k4_t1 : Fin k4_t1_loop.trips) : Fin 2 → Nat :=
  let c40_i32 : BitVec 32 := 40#32
  let v136 : Index := Scalar.indexCast c40_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v137 : Index := Scalar.indexCast v15
  ![40, v137.toNat]
def k4_off43 (k4_t1 : Fin k4_t1_loop.trips) : Fin 2 → Nat :=
  let c41_i32 : BitVec 32 := 41#32
  let v139 : Index := Scalar.indexCast c41_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v140 : Index := Scalar.indexCast v15
  ![41, v140.toNat]
def k4_off44 (k4_t1 : Fin k4_t1_loop.trips) : Fin 2 → Nat :=
  let c42_i32 : BitVec 32 := 42#32
  let v142 : Index := Scalar.indexCast c42_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v143 : Index := Scalar.indexCast v15
  ![42, v143.toNat]
def k4_off45 (k4_t1 : Fin k4_t1_loop.trips) : Fin 2 → Nat :=
  let c43_i32 : BitVec 32 := 43#32
  let v145 : Index := Scalar.indexCast c43_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v146 : Index := Scalar.indexCast v15
  ![43, v146.toNat]
def k4_off46 (k4_t1 : Fin k4_t1_loop.trips) : Fin 2 → Nat :=
  let c44_i32 : BitVec 32 := 44#32
  let v148 : Index := Scalar.indexCast c44_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v149 : Index := Scalar.indexCast v15
  ![44, v149.toNat]
def k4_off47 (k4_t1 : Fin k4_t1_loop.trips) : Fin 2 → Nat :=
  let c45_i32 : BitVec 32 := 45#32
  let v151 : Index := Scalar.indexCast c45_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v152 : Index := Scalar.indexCast v15
  ![45, v152.toNat]
def k4_off48 (k4_t1 : Fin k4_t1_loop.trips) : Fin 2 → Nat :=
  let c46_i32 : BitVec 32 := 46#32
  let v154 : Index := Scalar.indexCast c46_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v155 : Index := Scalar.indexCast v15
  ![46, v155.toNat]
def k4_off49 (k4_t1 : Fin k4_t1_loop.trips) : Fin 2 → Nat :=
  let c47_i32 : BitVec 32 := 47#32
  let v157 : Index := Scalar.indexCast c47_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v158 : Index := Scalar.indexCast v15
  ![47, v158.toNat]
def k4_off50 (k4_t1 : Fin k4_t1_loop.trips) : Fin 2 → Nat :=
  let c48_i32 : BitVec 32 := 48#32
  let v160 : Index := Scalar.indexCast c48_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v161 : Index := Scalar.indexCast v15
  ![48, v161.toNat]
def k4_off51 (k4_t1 : Fin k4_t1_loop.trips) : Fin 2 → Nat :=
  let c49_i32 : BitVec 32 := 49#32
  let v163 : Index := Scalar.indexCast c49_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v164 : Index := Scalar.indexCast v15
  ![49, v164.toNat]
def k4_off52 (k4_t1 : Fin k4_t1_loop.trips) : Fin 2 → Nat :=
  let c50_i32 : BitVec 32 := 50#32
  let v166 : Index := Scalar.indexCast c50_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v167 : Index := Scalar.indexCast v15
  ![50, v167.toNat]
def k4_off53 (k4_t1 : Fin k4_t1_loop.trips) : Fin 2 → Nat :=
  let c51_i32 : BitVec 32 := 51#32
  let v169 : Index := Scalar.indexCast c51_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v170 : Index := Scalar.indexCast v15
  ![51, v170.toNat]
def k4_off54 (k4_t1 : Fin k4_t1_loop.trips) : Fin 2 → Nat :=
  let c52_i32 : BitVec 32 := 52#32
  let v172 : Index := Scalar.indexCast c52_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v173 : Index := Scalar.indexCast v15
  ![52, v173.toNat]
def k4_off55 (k4_t1 : Fin k4_t1_loop.trips) : Fin 2 → Nat :=
  let c53_i32 : BitVec 32 := 53#32
  let v175 : Index := Scalar.indexCast c53_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v176 : Index := Scalar.indexCast v15
  ![53, v176.toNat]
def k4_off56 (k4_t1 : Fin k4_t1_loop.trips) : Fin 2 → Nat :=
  let c54_i32 : BitVec 32 := 54#32
  let v178 : Index := Scalar.indexCast c54_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v179 : Index := Scalar.indexCast v15
  ![54, v179.toNat]
def k4_off57 (k4_t1 : Fin k4_t1_loop.trips) : Fin 2 → Nat :=
  let c55_i32 : BitVec 32 := 55#32
  let v181 : Index := Scalar.indexCast c55_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v182 : Index := Scalar.indexCast v15
  ![55, v182.toNat]
def k4_off58 (k4_t1 : Fin k4_t1_loop.trips) : Fin 2 → Nat :=
  let c56_i32 : BitVec 32 := 56#32
  let v184 : Index := Scalar.indexCast c56_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v185 : Index := Scalar.indexCast v15
  ![56, v185.toNat]
def k4_off59 (k4_t1 : Fin k4_t1_loop.trips) : Fin 2 → Nat :=
  let c57_i32 : BitVec 32 := 57#32
  let v187 : Index := Scalar.indexCast c57_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v188 : Index := Scalar.indexCast v15
  ![57, v188.toNat]
def k4_off60 (k4_t1 : Fin k4_t1_loop.trips) : Fin 2 → Nat :=
  let c58_i32 : BitVec 32 := 58#32
  let v190 : Index := Scalar.indexCast c58_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v191 : Index := Scalar.indexCast v15
  ![58, v191.toNat]
def k4_off61 (k4_t1 : Fin k4_t1_loop.trips) : Fin 2 → Nat :=
  let c59_i32 : BitVec 32 := 59#32
  let v193 : Index := Scalar.indexCast c59_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v194 : Index := Scalar.indexCast v15
  ![59, v194.toNat]
def k4_off62 (k4_t1 : Fin k4_t1_loop.trips) : Fin 2 → Nat :=
  let c60_i32 : BitVec 32 := 60#32
  let v196 : Index := Scalar.indexCast c60_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v197 : Index := Scalar.indexCast v15
  ![60, v197.toNat]
def k4_off63 (k4_t1 : Fin k4_t1_loop.trips) : Fin 2 → Nat :=
  let c61_i32 : BitVec 32 := 61#32
  let v199 : Index := Scalar.indexCast c61_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v200 : Index := Scalar.indexCast v15
  ![61, v200.toNat]
def k4_off64 (k4_t1 : Fin k4_t1_loop.trips) : Fin 2 → Nat :=
  let c62_i32 : BitVec 32 := 62#32
  let v202 : Index := Scalar.indexCast c62_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v203 : Index := Scalar.indexCast v15
  ![62, v203.toNat]
def k4_off65 (k4_t1 : Fin k4_t1_loop.trips) : Fin 2 → Nat :=
  let c63_i32 : BitVec 32 := 63#32
  let v205 : Index := Scalar.indexCast c63_i32
  let c0_i32_7 : BitVec 32 := 0#32
  let c0_i32 : BitVec 32 := 0#32
  let c1_i32 : BitVec 32 := 1#32
  let arg10 : BitVec 32 := Scf.iv c0_i32 c1_i32 k4_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v206 : Index := Scalar.indexCast v15
  ![63, v206.toNat]
@[reducible] def k4_t2_loop : Scf.Loop 32 :=
  let c0_i32_2 : BitVec 32 := 0#32
  let c256_i32_3 : BitVec 32 := 256#32
  let v12 : BitVec 32 := Scalar.addi c0_i32_2 c256_i32_3
  let c1_i32_4 : BitVec 32 := 1#32
  ⟨c0_i32_2, v12, c1_i32_4⟩
@[reducible] def k4_t3_loop : Scf.Loop 32 :=
  let c1_i32_10 : BitVec 32 := 1#32
  let c15_i32 : BitVec 32 := 15#32
  let v22 : BitVec 32 := Scalar.addi c1_i32_10 c15_i32
  let c1_i32_11 : BitVec 32 := 1#32
  ⟨c1_i32_10, v22, c1_i32_11⟩

def k4_chk2 (v126 : IVec S16 32) : Prop :=
  (∀ a x, ((![v126] : Fin 1 → IVec S16 32) a x).toNat < S16.size a)
theorem k4_idx2_inb : ∀ (v126 : IVec S16 32) (k4_hw2 : k4_chk2 v126), ∀ a x, ((![v126] : Fin 1 → IVec S16 32) a x).toNat < S16.size a := fun v126 k4_hw2 => k4_hw2

def k4_chk3 (v23 : IVec S16 32) : Prop :=
  (∀ a x, ((![v23] : Fin 1 → IVec S16 32) a x).toNat < S16.size a) ∧
  (∀ a x, ((![v23] : Fin 1 → IVec S16 32) a x).toNat < S16.size a)
theorem k4_idx3_inb : ∀ (v23 : IVec S16 32) (k4_hw3 : k4_chk3 v23), ∀ a x, ((![v23] : Fin 1 → IVec S16 32) a x).toNat < S16.size a := fun v23 k4_hw3 => k4_hw3.1
theorem k4_idx4_inb : ∀ (v23 : IVec S16 32) (k4_hw3 : k4_chk3 v23), ∀ a x, ((![v23] : Fin 1 → IVec S16 32) a x).toNat < S16.size a := fun v23 k4_hw3 => k4_hw3.2

def k4_chk4 (v15 : IVec S16 32) (v28 : IVec S16 32) : Prop :=
  (∀ a x, ((![v28, v15] : Fin 2 → IVec S16 32) a x).toNat < S64x256.size a)
theorem k4_idx5_inb : ∀ (v15 : IVec S16 32) (v28 : IVec S16 32) (k4_hw4 : k4_chk4 v15 v28), ∀ a x, ((![v28, v15] : Fin 2 → IVec S16 32) a x).toNat < S64x256.size a := fun v15 v28 k4_hw4 => k4_hw4
@[reducible] def k4_t4_loop : Scf.Loop 32 :=
  let c1_i32_21 : BitVec 32 := 1#32
  let c15_i32_22 : BitVec 32 := 15#32
  let v37 : BitVec 32 := Scalar.addi c1_i32_21 c15_i32_22
  let c1_i32_23 : BitVec 32 := 1#32
  ⟨c1_i32_21, v37, c1_i32_23⟩

def k4_chk5 (v126 : IVec S16 32) : Prop :=
  (∀ a x, ((![v126] : Fin 1 → IVec S16 32) a x).toNat < S16.size a)
theorem k4_idx6_inb : ∀ (v126 : IVec S16 32) (k4_hw5 : k4_chk5 v126), ∀ a x, ((![v126] : Fin 1 → IVec S16 32) a x).toNat < S16.size a := fun v126 k4_hw5 => k4_hw5

def k4_chk6 (v38 : IVec S16 32) : Prop :=
  (∀ a x, ((![v38] : Fin 1 → IVec S16 32) a x).toNat < S16.size a) ∧
  (∀ a x, ((![v38] : Fin 1 → IVec S16 32) a x).toNat < S16.size a)
theorem k4_idx7_inb : ∀ (v38 : IVec S16 32) (k4_hw6 : k4_chk6 v38), ∀ a x, ((![v38] : Fin 1 → IVec S16 32) a x).toNat < S16.size a := fun v38 k4_hw6 => k4_hw6.1
theorem k4_idx8_inb : ∀ (v38 : IVec S16 32) (k4_hw6 : k4_chk6 v38), ∀ a x, ((![v38] : Fin 1 → IVec S16 32) a x).toNat < S16.size a := fun v38 k4_hw6 => k4_hw6.2

def k4_chk7 (v15 : IVec S16 32) (v43 : IVec S16 32) : Prop :=
  (∀ a x, ((![v43, v15] : Fin 2 → IVec S16 32) a x).toNat < S64x256.size a)
theorem k4_idx9_inb : ∀ (v15 : IVec S16 32) (v43 : IVec S16 32) (k4_hw7 : k4_chk7 v15 v43), ∀ a x, ((![v43, v15] : Fin 2 → IVec S16 32) a x).toNat < S64x256.size a := fun v15 v43 k4_hw7 => k4_hw7
@[reducible] def k4_t5_loop : Scf.Loop 32 :=
  let c1_i32_32 : BitVec 32 := 1#32
  let c15_i32_33 : BitVec 32 := 15#32
  let v52 : BitVec 32 := Scalar.addi c1_i32_32 c15_i32_33
  let c1_i32_34 : BitVec 32 := 1#32
  ⟨c1_i32_32, v52, c1_i32_34⟩

def k4_chk8 (v126 : IVec S16 32) : Prop :=
  (∀ a x, ((![v126] : Fin 1 → IVec S16 32) a x).toNat < S16.size a)
theorem k4_idx10_inb : ∀ (v126 : IVec S16 32) (k4_hw8 : k4_chk8 v126), ∀ a x, ((![v126] : Fin 1 → IVec S16 32) a x).toNat < S16.size a := fun v126 k4_hw8 => k4_hw8

def k4_chk9 (v53 : IVec S16 32) : Prop :=
  (∀ a x, ((![v53] : Fin 1 → IVec S16 32) a x).toNat < S16.size a) ∧
  (∀ a x, ((![v53] : Fin 1 → IVec S16 32) a x).toNat < S16.size a)
theorem k4_idx11_inb : ∀ (v53 : IVec S16 32) (k4_hw9 : k4_chk9 v53), ∀ a x, ((![v53] : Fin 1 → IVec S16 32) a x).toNat < S16.size a := fun v53 k4_hw9 => k4_hw9.1
theorem k4_idx12_inb : ∀ (v53 : IVec S16 32) (k4_hw9 : k4_chk9 v53), ∀ a x, ((![v53] : Fin 1 → IVec S16 32) a x).toNat < S16.size a := fun v53 k4_hw9 => k4_hw9.2

def k4_chk10 (v15 : IVec S16 32) (v58 : IVec S16 32) : Prop :=
  (∀ a x, ((![v58, v15] : Fin 2 → IVec S16 32) a x).toNat < S64x256.size a)
theorem k4_idx13_inb : ∀ (v15 : IVec S16 32) (v58 : IVec S16 32) (k4_hw10 : k4_chk10 v15 v58), ∀ a x, ((![v58, v15] : Fin 2 → IVec S16 32) a x).toNat < S64x256.size a := fun v15 v58 k4_hw10 => k4_hw10
@[reducible] def k4_t6_loop : Scf.Loop 32 :=
  let c1_i32_43 : BitVec 32 := 1#32
  let c15_i32_44 : BitVec 32 := 15#32
  let v67 : BitVec 32 := Scalar.addi c1_i32_43 c15_i32_44
  let c1_i32_45 : BitVec 32 := 1#32
  ⟨c1_i32_43, v67, c1_i32_45⟩

def k4_chk11 (v126 : IVec S16 32) : Prop :=
  (∀ a x, ((![v126] : Fin 1 → IVec S16 32) a x).toNat < S16.size a)
theorem k4_idx14_inb : ∀ (v126 : IVec S16 32) (k4_hw11 : k4_chk11 v126), ∀ a x, ((![v126] : Fin 1 → IVec S16 32) a x).toNat < S16.size a := fun v126 k4_hw11 => k4_hw11

def k4_chk12 (v68 : IVec S16 32) : Prop :=
  (∀ a x, ((![v68] : Fin 1 → IVec S16 32) a x).toNat < S16.size a) ∧
  (∀ a x, ((![v68] : Fin 1 → IVec S16 32) a x).toNat < S16.size a)
theorem k4_idx15_inb : ∀ (v68 : IVec S16 32) (k4_hw12 : k4_chk12 v68), ∀ a x, ((![v68] : Fin 1 → IVec S16 32) a x).toNat < S16.size a := fun v68 k4_hw12 => k4_hw12.1
theorem k4_idx16_inb : ∀ (v68 : IVec S16 32) (k4_hw12 : k4_chk12 v68), ∀ a x, ((![v68] : Fin 1 → IVec S16 32) a x).toNat < S16.size a := fun v68 k4_hw12 => k4_hw12.2
@[reducible] def k4_t7_loop : Scf.Loop 32 :=
  let c1_i32_54 : BitVec 32 := 1#32
  let c15_i32_55 : BitVec 32 := 15#32
  let v81 : BitVec 32 := Scalar.addi c1_i32_54 c15_i32_55
  let c1_i32_56 : BitVec 32 := 1#32
  ⟨c1_i32_54, v81, c1_i32_56⟩

def k4_chk14 (v126 : IVec S16 32) : Prop :=
  (∀ a x, ((![v126] : Fin 1 → IVec S16 32) a x).toNat < S16.size a)
theorem k4_idx19_inb : ∀ (v126 : IVec S16 32) (k4_hw14 : k4_chk14 v126), ∀ a x, ((![v126] : Fin 1 → IVec S16 32) a x).toNat < S16.size a := fun v126 k4_hw14 => k4_hw14

def k4_chk15 (v82 : IVec S16 32) : Prop :=
  (∀ a x, ((![v82] : Fin 1 → IVec S16 32) a x).toNat < S16.size a) ∧
  (∀ a x, ((![v82] : Fin 1 → IVec S16 32) a x).toNat < S16.size a)
theorem k4_idx20_inb : ∀ (v82 : IVec S16 32) (k4_hw15 : k4_chk15 v82), ∀ a x, ((![v82] : Fin 1 → IVec S16 32) a x).toNat < S16.size a := fun v82 k4_hw15 => k4_hw15.1
theorem k4_idx21_inb : ∀ (v82 : IVec S16 32) (k4_hw15 : k4_chk15 v82), ∀ a x, ((![v82] : Fin 1 → IVec S16 32) a x).toNat < S16.size a := fun v82 k4_hw15 => k4_hw15.2
@[reducible] def k4_t8_loop : Scf.Loop 32 :=
  let c1_i32_65 : BitVec 32 := 1#32
  let c15_i32_66 : BitVec 32 := 15#32
  let v95 : BitVec 32 := Scalar.addi c1_i32_65 c15_i32_66
  let c1_i32_67 : BitVec 32 := 1#32
  ⟨c1_i32_65, v95, c1_i32_67⟩

def k4_chk16 (v126 : IVec S16 32) : Prop :=
  (∀ a x, ((![v126] : Fin 1 → IVec S16 32) a x).toNat < S16.size a)
theorem k4_idx24_inb : ∀ (v126 : IVec S16 32) (k4_hw16 : k4_chk16 v126), ∀ a x, ((![v126] : Fin 1 → IVec S16 32) a x).toNat < S16.size a := fun v126 k4_hw16 => k4_hw16

def k4_chk17 (v96 : IVec S16 32) : Prop :=
  (∀ a x, ((![v96] : Fin 1 → IVec S16 32) a x).toNat < S16.size a) ∧
  (∀ a x, ((![v96] : Fin 1 → IVec S16 32) a x).toNat < S16.size a)
theorem k4_idx25_inb : ∀ (v96 : IVec S16 32) (k4_hw17 : k4_chk17 v96), ∀ a x, ((![v96] : Fin 1 → IVec S16 32) a x).toNat < S16.size a := fun v96 k4_hw17 => k4_hw17.1
theorem k4_idx26_inb : ∀ (v96 : IVec S16 32) (k4_hw17 : k4_chk17 v96), ∀ a x, ((![v96] : Fin 1 → IVec S16 32) a x).toNat < S16.size a := fun v96 k4_hw17 => k4_hw17.2

def k4_chk13 (v7 : IVec S16 32) : Prop :=
  (∀ a x, ((![v7] : Fin 1 → IVec S16 32) a x).toNat < S16.size a) ∧
  (∀ a x, ((![v7] : Fin 1 → IVec S16 32) a x).toNat < S16.size a) ∧
  (∀ a x, ((![v7] : Fin 1 → IVec S16 32) a x).toNat < S16.size a) ∧
  (∀ a x, ((![v7] : Fin 1 → IVec S16 32) a x).toNat < S16.size a) ∧
  (∀ a x, ((![v7] : Fin 1 → IVec S16 32) a x).toNat < S16.size a) ∧
  (∀ a x, ((![v7] : Fin 1 → IVec S16 32) a x).toNat < S16.size a)
theorem k4_idx17_inb : ∀ (v7 : IVec S16 32) (k4_hw13 : k4_chk13 v7), ∀ a x, ((![v7] : Fin 1 → IVec S16 32) a x).toNat < S16.size a := fun v7 k4_hw13 => k4_hw13.1
theorem k4_idx18_inb : ∀ (v7 : IVec S16 32) (k4_hw13 : k4_chk13 v7), ∀ a x, ((![v7] : Fin 1 → IVec S16 32) a x).toNat < S16.size a := fun v7 k4_hw13 => k4_hw13.2.1
theorem k4_idx22_inb : ∀ (v7 : IVec S16 32) (k4_hw13 : k4_chk13 v7), ∀ a x, ((![v7] : Fin 1 → IVec S16 32) a x).toNat < S16.size a := fun v7 k4_hw13 => k4_hw13.2.2.1
theorem k4_idx23_inb : ∀ (v7 : IVec S16 32) (k4_hw13 : k4_chk13 v7), ∀ a x, ((![v7] : Fin 1 → IVec S16 32) a x).toNat < S16.size a := fun v7 k4_hw13 => k4_hw13.2.2.2.1
theorem k4_idx27_inb : ∀ (v7 : IVec S16 32) (k4_hw13 : k4_chk13 v7), ∀ a x, ((![v7] : Fin 1 → IVec S16 32) a x).toNat < S16.size a := fun v7 k4_hw13 => k4_hw13.2.2.2.2.1
theorem k4_idx28_inb : ∀ (v7 : IVec S16 32) (k4_hw13 : k4_chk13 v7), ∀ a x, ((![v7] : Fin 1 → IVec S16 32) a x).toNat < S16.size a := fun v7 k4_hw13 => k4_hw13.2.2.2.2.2
@[reducible] def k4_t9_loop : Scf.Loop 32 :=
  let c1_i32_76 : BitVec 32 := 1#32
  let c15_i32_77 : BitVec 32 := 15#32
  let v109 : BitVec 32 := Scalar.addi c1_i32_76 c15_i32_77
  let c1_i32_78 : BitVec 32 := 1#32
  ⟨c1_i32_76, v109, c1_i32_78⟩

def k4_chk18 (v126 : IVec S16 32) : Prop :=
  (∀ a x, ((![v126] : Fin 1 → IVec S16 32) a x).toNat < S16.size a)
theorem k4_idx29_inb : ∀ (v126 : IVec S16 32) (k4_hw18 : k4_chk18 v126), ∀ a x, ((![v126] : Fin 1 → IVec S16 32) a x).toNat < S16.size a := fun v126 k4_hw18 => k4_hw18

def k4_chk19 (v110 : IVec S16 32) : Prop :=
  (∀ a x, ((![v110] : Fin 1 → IVec S16 32) a x).toNat < S16.size a) ∧
  (∀ a x, ((![v110] : Fin 1 → IVec S16 32) a x).toNat < S16.size a)
theorem k4_idx30_inb : ∀ (v110 : IVec S16 32) (k4_hw19 : k4_chk19 v110), ∀ a x, ((![v110] : Fin 1 → IVec S16 32) a x).toNat < S16.size a := fun v110 k4_hw19 => k4_hw19.1
theorem k4_idx31_inb : ∀ (v110 : IVec S16 32) (k4_hw19 : k4_chk19 v110), ∀ a x, ((![v110] : Fin 1 → IVec S16 32) a x).toNat < S16.size a := fun v110 k4_hw19 => k4_hw19.2
@[reducible] def k4_t10_loop : Scf.Loop 32 :=
  let c0_i32_87 : BitVec 32 := 0#32
  let c16_i32_88 : BitVec 32 := 16#32
  let v120 : BitVec 32 := Scalar.addi c0_i32_87 c16_i32_88
  let c1_i32_89 : BitVec 32 := 1#32
  ⟨c0_i32_87, v120, c1_i32_89⟩

def k4_chk20 (v123 : IVec S16 32) : Prop :=
  (∀ a x, ((![v123] : Fin 1 → IVec S16 32) a x).toNat < S16.size a)
theorem k4_idx32_inb : ∀ (v123 : IVec S16 32) (k4_hw20 : k4_chk20 v123), ∀ a x, ((![v123] : Fin 1 → IVec S16 32) a x).toNat < S16.size a := fun v123 k4_hw20 => k4_hw20

def k4_chk21 (v15 : IVec S16 32) (v113 : IVec S16 32) : Prop :=
  (∀ a x, ((![v113, v15] : Fin 2 → IVec S16 32) a x).toNat < S64x256.size a)
theorem k4_idx33_inb : ∀ (v15 : IVec S16 32) (v113 : IVec S16 32) (k4_hw21 : k4_chk21 v15 v113), ∀ a x, ((![v113, v15] : Fin 2 → IVec S16 32) a x).toNat < S64x256.size a := fun v15 v113 k4_hw21 => k4_hw21

def k4_chk1 (v3 : IVec S16 32) (v9 : IVec S16 32) (v15 : IVec S16 32) : Prop :=
  (∀ a x, ((![v3, v15] : Fin 2 → IVec S16 32) a x).toNat < S64x256.size a) ∧
  (∀ a x, ((![v9, v15] : Fin 2 → IVec S16 32) a x).toNat < S8x256.size a)
theorem k4_idx1_inb : ∀ (v3 : IVec S16 32) (v9 : IVec S16 32) (v15 : IVec S16 32) (k4_hw1 : k4_chk1 v3 v9 v15), ∀ a x, ((![v3, v15] : Fin 2 → IVec S16 32) a x).toNat < S64x256.size a := fun v3 v9 v15 k4_hw1 => k4_hw1.1
theorem k4_idx34_inb : ∀ (v3 : IVec S16 32) (v9 : IVec S16 32) (v15 : IVec S16 32) (k4_hw1 : k4_chk1 v3 v9 v15), ∀ a x, ((![v9, v15] : Fin 2 → IVec S16 32) a x).toNat < S8x256.size a := fun v3 v9 v15 k4_hw1 => k4_hw1.2
def k4_off66 (i : grid4.Coords) : Fin 2 → Nat :=
  let c0_i32_6_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
def k4_off67 (i : grid4.Coords) : Fin 2 → Nat :=
  let c0_i32_6_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
abbrev grid5 : Pipeline.Grid := ⟨2, ![2, 16], ![false, false]⟩

def k5_off1 (i : grid5.Coords) : Fin 2 → Nat :=
  let c0_i32_6_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
@[reducible] def k5_t1_loop : Scf.Loop 32 :=
  let c0_i32 : BitVec 32 := 0#32
  let c16_i32 : BitVec 32 := 16#32
  let v11 : BitVec 32 := Scalar.addi c0_i32 c16_i32
  let c1_i32 : BitVec 32 := 1#32
  ⟨c0_i32, v11, c1_i32⟩
def k5_off2 (k5_t1 : Fin k5_t1_loop.trips) : Fin 2 → Nat :=
  let c0_i32_9 : BitVec 32 := 0#32
  let v16 : Index := Scalar.indexCast c0_i32_9
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v17 : Index := Scalar.indexCast v15
  ![0, v17.toNat]
def k5_off3 (k5_t1 : Fin k5_t1_loop.trips) : Fin 2 → Nat :=
  let c1_i32_10 : BitVec 32 := 1#32
  let v19 : Index := Scalar.indexCast c1_i32_10
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v20 : Index := Scalar.indexCast v15
  ![1, v20.toNat]
def k5_off4 (k5_t1 : Fin k5_t1_loop.trips) : Fin 2 → Nat :=
  let c2_i32_11 : BitVec 32 := 2#32
  let v22 : Index := Scalar.indexCast c2_i32_11
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v23 : Index := Scalar.indexCast v15
  ![2, v23.toNat]
def k5_off5 (k5_t1 : Fin k5_t1_loop.trips) : Fin 2 → Nat :=
  let c3_i32 : BitVec 32 := 3#32
  let v25 : Index := Scalar.indexCast c3_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v26 : Index := Scalar.indexCast v15
  ![3, v26.toNat]
def k5_off6 (k5_t1 : Fin k5_t1_loop.trips) : Fin 2 → Nat :=
  let c4_i32 : BitVec 32 := 4#32
  let v28 : Index := Scalar.indexCast c4_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v29 : Index := Scalar.indexCast v15
  ![4, v29.toNat]
def k5_off7 (k5_t1 : Fin k5_t1_loop.trips) : Fin 2 → Nat :=
  let c5_i32 : BitVec 32 := 5#32
  let v31 : Index := Scalar.indexCast c5_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v32 : Index := Scalar.indexCast v15
  ![5, v32.toNat]
def k5_off8 (k5_t1 : Fin k5_t1_loop.trips) : Fin 2 → Nat :=
  let c6_i32 : BitVec 32 := 6#32
  let v34 : Index := Scalar.indexCast c6_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v35 : Index := Scalar.indexCast v15
  ![6, v35.toNat]
def k5_off9 (k5_t1 : Fin k5_t1_loop.trips) : Fin 2 → Nat :=
  let c7_i32_12 : BitVec 32 := 7#32
  let v37 : Index := Scalar.indexCast c7_i32_12
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v38 : Index := Scalar.indexCast v15
  ![7, v38.toNat]
def k5_off10 (k5_t1 : Fin k5_t1_loop.trips) : Fin 2 → Nat :=
  let c8_i32_13 : BitVec 32 := 8#32
  let v40 : Index := Scalar.indexCast c8_i32_13
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v41 : Index := Scalar.indexCast v15
  ![8, v41.toNat]
def k5_off11 (k5_t1 : Fin k5_t1_loop.trips) : Fin 2 → Nat :=
  let c9_i32 : BitVec 32 := 9#32
  let v43 : Index := Scalar.indexCast c9_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v44 : Index := Scalar.indexCast v15
  ![9, v44.toNat]
def k5_off12 (k5_t1 : Fin k5_t1_loop.trips) : Fin 2 → Nat :=
  let c10_i32 : BitVec 32 := 10#32
  let v46 : Index := Scalar.indexCast c10_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v47 : Index := Scalar.indexCast v15
  ![10, v47.toNat]
def k5_off13 (k5_t1 : Fin k5_t1_loop.trips) : Fin 2 → Nat :=
  let c11_i32 : BitVec 32 := 11#32
  let v49 : Index := Scalar.indexCast c11_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v50 : Index := Scalar.indexCast v15
  ![11, v50.toNat]
def k5_off14 (k5_t1 : Fin k5_t1_loop.trips) : Fin 2 → Nat :=
  let c12_i32 : BitVec 32 := 12#32
  let v52 : Index := Scalar.indexCast c12_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v53 : Index := Scalar.indexCast v15
  ![12, v53.toNat]
def k5_off15 (k5_t1 : Fin k5_t1_loop.trips) : Fin 2 → Nat :=
  let c13_i32 : BitVec 32 := 13#32
  let v55 : Index := Scalar.indexCast c13_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v56 : Index := Scalar.indexCast v15
  ![13, v56.toNat]
def k5_off16 (k5_t1 : Fin k5_t1_loop.trips) : Fin 2 → Nat :=
  let c14_i32 : BitVec 32 := 14#32
  let v58 : Index := Scalar.indexCast c14_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v59 : Index := Scalar.indexCast v15
  ![14, v59.toNat]
def k5_off17 (k5_t1 : Fin k5_t1_loop.trips) : Fin 2 → Nat :=
  let c15_i32 : BitVec 32 := 15#32
  let v61 : Index := Scalar.indexCast c15_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v62 : Index := Scalar.indexCast v15
  ![15, v62.toNat]
def k5_off18 (k5_t1 : Fin k5_t1_loop.trips) : Fin 2 → Nat :=
  let c16_i32_14 : BitVec 32 := 16#32
  let v64 : Index := Scalar.indexCast c16_i32_14
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v65 : Index := Scalar.indexCast v15
  ![16, v65.toNat]
def k5_off19 (k5_t1 : Fin k5_t1_loop.trips) : Fin 2 → Nat :=
  let c17_i32 : BitVec 32 := 17#32
  let v67 : Index := Scalar.indexCast c17_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v68 : Index := Scalar.indexCast v15
  ![17, v68.toNat]
def k5_off20 (k5_t1 : Fin k5_t1_loop.trips) : Fin 2 → Nat :=
  let c18_i32 : BitVec 32 := 18#32
  let v70 : Index := Scalar.indexCast c18_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v71 : Index := Scalar.indexCast v15
  ![18, v71.toNat]
def k5_off21 (k5_t1 : Fin k5_t1_loop.trips) : Fin 2 → Nat :=
  let c19_i32 : BitVec 32 := 19#32
  let v73 : Index := Scalar.indexCast c19_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v74 : Index := Scalar.indexCast v15
  ![19, v74.toNat]
def k5_off22 (k5_t1 : Fin k5_t1_loop.trips) : Fin 2 → Nat :=
  let c20_i32 : BitVec 32 := 20#32
  let v76 : Index := Scalar.indexCast c20_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v77 : Index := Scalar.indexCast v15
  ![20, v77.toNat]
def k5_off23 (k5_t1 : Fin k5_t1_loop.trips) : Fin 2 → Nat :=
  let c21_i32 : BitVec 32 := 21#32
  let v79 : Index := Scalar.indexCast c21_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v80 : Index := Scalar.indexCast v15
  ![21, v80.toNat]
def k5_off24 (k5_t1 : Fin k5_t1_loop.trips) : Fin 2 → Nat :=
  let c22_i32 : BitVec 32 := 22#32
  let v82 : Index := Scalar.indexCast c22_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v83 : Index := Scalar.indexCast v15
  ![22, v83.toNat]
def k5_off25 (k5_t1 : Fin k5_t1_loop.trips) : Fin 2 → Nat :=
  let c23_i32 : BitVec 32 := 23#32
  let v85 : Index := Scalar.indexCast c23_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v86 : Index := Scalar.indexCast v15
  ![23, v86.toNat]
def k5_off26 (k5_t1 : Fin k5_t1_loop.trips) : Fin 2 → Nat :=
  let c24_i32 : BitVec 32 := 24#32
  let v88 : Index := Scalar.indexCast c24_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v89 : Index := Scalar.indexCast v15
  ![24, v89.toNat]
def k5_off27 (k5_t1 : Fin k5_t1_loop.trips) : Fin 2 → Nat :=
  let c25_i32 : BitVec 32 := 25#32
  let v91 : Index := Scalar.indexCast c25_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v92 : Index := Scalar.indexCast v15
  ![25, v92.toNat]
def k5_off28 (k5_t1 : Fin k5_t1_loop.trips) : Fin 2 → Nat :=
  let c26_i32 : BitVec 32 := 26#32
  let v94 : Index := Scalar.indexCast c26_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v95 : Index := Scalar.indexCast v15
  ![26, v95.toNat]
def k5_off29 (k5_t1 : Fin k5_t1_loop.trips) : Fin 2 → Nat :=
  let c27_i32 : BitVec 32 := 27#32
  let v97 : Index := Scalar.indexCast c27_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v98 : Index := Scalar.indexCast v15
  ![27, v98.toNat]
def k5_off30 (k5_t1 : Fin k5_t1_loop.trips) : Fin 2 → Nat :=
  let c28_i32 : BitVec 32 := 28#32
  let v100 : Index := Scalar.indexCast c28_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v101 : Index := Scalar.indexCast v15
  ![28, v101.toNat]
def k5_off31 (k5_t1 : Fin k5_t1_loop.trips) : Fin 2 → Nat :=
  let c29_i32 : BitVec 32 := 29#32
  let v103 : Index := Scalar.indexCast c29_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v104 : Index := Scalar.indexCast v15
  ![29, v104.toNat]
def k5_off32 (k5_t1 : Fin k5_t1_loop.trips) : Fin 2 → Nat :=
  let c30_i32 : BitVec 32 := 30#32
  let v106 : Index := Scalar.indexCast c30_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v107 : Index := Scalar.indexCast v15
  ![30, v107.toNat]
def k5_off33 (k5_t1 : Fin k5_t1_loop.trips) : Fin 2 → Nat :=
  let c31_i32 : BitVec 32 := 31#32
  let v109 : Index := Scalar.indexCast c31_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v110 : Index := Scalar.indexCast v15
  ![31, v110.toNat]
def k5_off34 (k5_t1 : Fin k5_t1_loop.trips) : Fin 2 → Nat :=
  let c32_i32 : BitVec 32 := 32#32
  let v112 : Index := Scalar.indexCast c32_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v113 : Index := Scalar.indexCast v15
  ![32, v113.toNat]
def k5_off35 (k5_t1 : Fin k5_t1_loop.trips) : Fin 2 → Nat :=
  let c33_i32 : BitVec 32 := 33#32
  let v115 : Index := Scalar.indexCast c33_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v116 : Index := Scalar.indexCast v15
  ![33, v116.toNat]
def k5_off36 (k5_t1 : Fin k5_t1_loop.trips) : Fin 2 → Nat :=
  let c34_i32 : BitVec 32 := 34#32
  let v118 : Index := Scalar.indexCast c34_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v119 : Index := Scalar.indexCast v15
  ![34, v119.toNat]
def k5_off37 (k5_t1 : Fin k5_t1_loop.trips) : Fin 2 → Nat :=
  let c35_i32 : BitVec 32 := 35#32
  let v121 : Index := Scalar.indexCast c35_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v122 : Index := Scalar.indexCast v15
  ![35, v122.toNat]
def k5_off38 (k5_t1 : Fin k5_t1_loop.trips) : Fin 2 → Nat :=
  let c36_i32 : BitVec 32 := 36#32
  let v124 : Index := Scalar.indexCast c36_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v125 : Index := Scalar.indexCast v15
  ![36, v125.toNat]
def k5_off39 (k5_t1 : Fin k5_t1_loop.trips) : Fin 2 → Nat :=
  let c37_i32 : BitVec 32 := 37#32
  let v127 : Index := Scalar.indexCast c37_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v128 : Index := Scalar.indexCast v15
  ![37, v128.toNat]
def k5_off40 (k5_t1 : Fin k5_t1_loop.trips) : Fin 2 → Nat :=
  let c38_i32 : BitVec 32 := 38#32
  let v130 : Index := Scalar.indexCast c38_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v131 : Index := Scalar.indexCast v15
  ![38, v131.toNat]
def k5_off41 (k5_t1 : Fin k5_t1_loop.trips) : Fin 2 → Nat :=
  let c39_i32 : BitVec 32 := 39#32
  let v133 : Index := Scalar.indexCast c39_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v134 : Index := Scalar.indexCast v15
  ![39, v134.toNat]
def k5_off42 (k5_t1 : Fin k5_t1_loop.trips) : Fin 2 → Nat :=
  let c40_i32 : BitVec 32 := 40#32
  let v136 : Index := Scalar.indexCast c40_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v137 : Index := Scalar.indexCast v15
  ![40, v137.toNat]
def k5_off43 (k5_t1 : Fin k5_t1_loop.trips) : Fin 2 → Nat :=
  let c41_i32 : BitVec 32 := 41#32
  let v139 : Index := Scalar.indexCast c41_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v140 : Index := Scalar.indexCast v15
  ![41, v140.toNat]
def k5_off44 (k5_t1 : Fin k5_t1_loop.trips) : Fin 2 → Nat :=
  let c42_i32 : BitVec 32 := 42#32
  let v142 : Index := Scalar.indexCast c42_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v143 : Index := Scalar.indexCast v15
  ![42, v143.toNat]
def k5_off45 (k5_t1 : Fin k5_t1_loop.trips) : Fin 2 → Nat :=
  let c43_i32 : BitVec 32 := 43#32
  let v145 : Index := Scalar.indexCast c43_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v146 : Index := Scalar.indexCast v15
  ![43, v146.toNat]
def k5_off46 (k5_t1 : Fin k5_t1_loop.trips) : Fin 2 → Nat :=
  let c44_i32 : BitVec 32 := 44#32
  let v148 : Index := Scalar.indexCast c44_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v149 : Index := Scalar.indexCast v15
  ![44, v149.toNat]
def k5_off47 (k5_t1 : Fin k5_t1_loop.trips) : Fin 2 → Nat :=
  let c45_i32 : BitVec 32 := 45#32
  let v151 : Index := Scalar.indexCast c45_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v152 : Index := Scalar.indexCast v15
  ![45, v152.toNat]
def k5_off48 (k5_t1 : Fin k5_t1_loop.trips) : Fin 2 → Nat :=
  let c46_i32 : BitVec 32 := 46#32
  let v154 : Index := Scalar.indexCast c46_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v155 : Index := Scalar.indexCast v15
  ![46, v155.toNat]
def k5_off49 (k5_t1 : Fin k5_t1_loop.trips) : Fin 2 → Nat :=
  let c47_i32 : BitVec 32 := 47#32
  let v157 : Index := Scalar.indexCast c47_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v158 : Index := Scalar.indexCast v15
  ![47, v158.toNat]
def k5_off50 (k5_t1 : Fin k5_t1_loop.trips) : Fin 2 → Nat :=
  let c48_i32 : BitVec 32 := 48#32
  let v160 : Index := Scalar.indexCast c48_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v161 : Index := Scalar.indexCast v15
  ![48, v161.toNat]
def k5_off51 (k5_t1 : Fin k5_t1_loop.trips) : Fin 2 → Nat :=
  let c49_i32 : BitVec 32 := 49#32
  let v163 : Index := Scalar.indexCast c49_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v164 : Index := Scalar.indexCast v15
  ![49, v164.toNat]
def k5_off52 (k5_t1 : Fin k5_t1_loop.trips) : Fin 2 → Nat :=
  let c50_i32 : BitVec 32 := 50#32
  let v166 : Index := Scalar.indexCast c50_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v167 : Index := Scalar.indexCast v15
  ![50, v167.toNat]
def k5_off53 (k5_t1 : Fin k5_t1_loop.trips) : Fin 2 → Nat :=
  let c51_i32 : BitVec 32 := 51#32
  let v169 : Index := Scalar.indexCast c51_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v170 : Index := Scalar.indexCast v15
  ![51, v170.toNat]
def k5_off54 (k5_t1 : Fin k5_t1_loop.trips) : Fin 2 → Nat :=
  let c52_i32 : BitVec 32 := 52#32
  let v172 : Index := Scalar.indexCast c52_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v173 : Index := Scalar.indexCast v15
  ![52, v173.toNat]
def k5_off55 (k5_t1 : Fin k5_t1_loop.trips) : Fin 2 → Nat :=
  let c53_i32 : BitVec 32 := 53#32
  let v175 : Index := Scalar.indexCast c53_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v176 : Index := Scalar.indexCast v15
  ![53, v176.toNat]
def k5_off56 (k5_t1 : Fin k5_t1_loop.trips) : Fin 2 → Nat :=
  let c54_i32 : BitVec 32 := 54#32
  let v178 : Index := Scalar.indexCast c54_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v179 : Index := Scalar.indexCast v15
  ![54, v179.toNat]
def k5_off57 (k5_t1 : Fin k5_t1_loop.trips) : Fin 2 → Nat :=
  let c55_i32 : BitVec 32 := 55#32
  let v181 : Index := Scalar.indexCast c55_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v182 : Index := Scalar.indexCast v15
  ![55, v182.toNat]
def k5_off58 (k5_t1 : Fin k5_t1_loop.trips) : Fin 2 → Nat :=
  let c56_i32 : BitVec 32 := 56#32
  let v184 : Index := Scalar.indexCast c56_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v185 : Index := Scalar.indexCast v15
  ![56, v185.toNat]
def k5_off59 (k5_t1 : Fin k5_t1_loop.trips) : Fin 2 → Nat :=
  let c57_i32 : BitVec 32 := 57#32
  let v187 : Index := Scalar.indexCast c57_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v188 : Index := Scalar.indexCast v15
  ![57, v188.toNat]
def k5_off60 (k5_t1 : Fin k5_t1_loop.trips) : Fin 2 → Nat :=
  let c58_i32 : BitVec 32 := 58#32
  let v190 : Index := Scalar.indexCast c58_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v191 : Index := Scalar.indexCast v15
  ![58, v191.toNat]
def k5_off61 (k5_t1 : Fin k5_t1_loop.trips) : Fin 2 → Nat :=
  let c59_i32 : BitVec 32 := 59#32
  let v193 : Index := Scalar.indexCast c59_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v194 : Index := Scalar.indexCast v15
  ![59, v194.toNat]
def k5_off62 (k5_t1 : Fin k5_t1_loop.trips) : Fin 2 → Nat :=
  let c60_i32 : BitVec 32 := 60#32
  let v196 : Index := Scalar.indexCast c60_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v197 : Index := Scalar.indexCast v15
  ![60, v197.toNat]
def k5_off63 (k5_t1 : Fin k5_t1_loop.trips) : Fin 2 → Nat :=
  let c61_i32 : BitVec 32 := 61#32
  let v199 : Index := Scalar.indexCast c61_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v200 : Index := Scalar.indexCast v15
  ![61, v200.toNat]
def k5_off64 (k5_t1 : Fin k5_t1_loop.trips) : Fin 2 → Nat :=
  let c62_i32 : BitVec 32 := 62#32
  let v202 : Index := Scalar.indexCast c62_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v203 : Index := Scalar.indexCast v15
  ![62, v203.toNat]
def k5_off65 (k5_t1 : Fin k5_t1_loop.trips) : Fin 2 → Nat :=
  let c63_i32 : BitVec 32 := 63#32
  let v205 : Index := Scalar.indexCast c63_i32
  let c0_i32_7 : BitVec 32 := 0#32
  let c0_i32 : BitVec 32 := 0#32
  let c1_i32 : BitVec 32 := 1#32
  let arg10 : BitVec 32 := Scf.iv c0_i32 c1_i32 k5_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v206 : Index := Scalar.indexCast v15
  ![63, v206.toNat]
@[reducible] def k5_t2_loop : Scf.Loop 32 :=
  let c0_i32_2 : BitVec 32 := 0#32
  let c256_i32_3 : BitVec 32 := 256#32
  let v12 : BitVec 32 := Scalar.addi c0_i32_2 c256_i32_3
  let c1_i32_4 : BitVec 32 := 1#32
  ⟨c0_i32_2, v12, c1_i32_4⟩
@[reducible] def k5_t3_loop : Scf.Loop 32 :=
  let c1_i32_10 : BitVec 32 := 1#32
  let c15_i32 : BitVec 32 := 15#32
  let v22 : BitVec 32 := Scalar.addi c1_i32_10 c15_i32
  let c1_i32_11 : BitVec 32 := 1#32
  ⟨c1_i32_10, v22, c1_i32_11⟩

def k5_chk2 (v126 : IVec S16 32) : Prop :=
  (∀ a x, ((![v126] : Fin 1 → IVec S16 32) a x).toNat < S16.size a)
theorem k5_idx2_inb : ∀ (v126 : IVec S16 32) (k5_hw2 : k5_chk2 v126), ∀ a x, ((![v126] : Fin 1 → IVec S16 32) a x).toNat < S16.size a := fun v126 k5_hw2 => k5_hw2

def k5_chk3 (v23 : IVec S16 32) : Prop :=
  (∀ a x, ((![v23] : Fin 1 → IVec S16 32) a x).toNat < S16.size a) ∧
  (∀ a x, ((![v23] : Fin 1 → IVec S16 32) a x).toNat < S16.size a)
theorem k5_idx3_inb : ∀ (v23 : IVec S16 32) (k5_hw3 : k5_chk3 v23), ∀ a x, ((![v23] : Fin 1 → IVec S16 32) a x).toNat < S16.size a := fun v23 k5_hw3 => k5_hw3.1
theorem k5_idx4_inb : ∀ (v23 : IVec S16 32) (k5_hw3 : k5_chk3 v23), ∀ a x, ((![v23] : Fin 1 → IVec S16 32) a x).toNat < S16.size a := fun v23 k5_hw3 => k5_hw3.2

def k5_chk4 (v15 : IVec S16 32) (v28 : IVec S16 32) : Prop :=
  (∀ a x, ((![v28, v15] : Fin 2 → IVec S16 32) a x).toNat < S64x256.size a)
theorem k5_idx5_inb : ∀ (v15 : IVec S16 32) (v28 : IVec S16 32) (k5_hw4 : k5_chk4 v15 v28), ∀ a x, ((![v28, v15] : Fin 2 → IVec S16 32) a x).toNat < S64x256.size a := fun v15 v28 k5_hw4 => k5_hw4
@[reducible] def k5_t4_loop : Scf.Loop 32 :=
  let c1_i32_21 : BitVec 32 := 1#32
  let c15_i32_22 : BitVec 32 := 15#32
  let v37 : BitVec 32 := Scalar.addi c1_i32_21 c15_i32_22
  let c1_i32_23 : BitVec 32 := 1#32
  ⟨c1_i32_21, v37, c1_i32_23⟩

def k5_chk5 (v126 : IVec S16 32) : Prop :=
  (∀ a x, ((![v126] : Fin 1 → IVec S16 32) a x).toNat < S16.size a)
theorem k5_idx6_inb : ∀ (v126 : IVec S16 32) (k5_hw5 : k5_chk5 v126), ∀ a x, ((![v126] : Fin 1 → IVec S16 32) a x).toNat < S16.size a := fun v126 k5_hw5 => k5_hw5

def k5_chk6 (v38 : IVec S16 32) : Prop :=
  (∀ a x, ((![v38] : Fin 1 → IVec S16 32) a x).toNat < S16.size a) ∧
  (∀ a x, ((![v38] : Fin 1 → IVec S16 32) a x).toNat < S16.size a)
theorem k5_idx7_inb : ∀ (v38 : IVec S16 32) (k5_hw6 : k5_chk6 v38), ∀ a x, ((![v38] : Fin 1 → IVec S16 32) a x).toNat < S16.size a := fun v38 k5_hw6 => k5_hw6.1
theorem k5_idx8_inb : ∀ (v38 : IVec S16 32) (k5_hw6 : k5_chk6 v38), ∀ a x, ((![v38] : Fin 1 → IVec S16 32) a x).toNat < S16.size a := fun v38 k5_hw6 => k5_hw6.2

def k5_chk7 (v15 : IVec S16 32) (v43 : IVec S16 32) : Prop :=
  (∀ a x, ((![v43, v15] : Fin 2 → IVec S16 32) a x).toNat < S64x256.size a)
theorem k5_idx9_inb : ∀ (v15 : IVec S16 32) (v43 : IVec S16 32) (k5_hw7 : k5_chk7 v15 v43), ∀ a x, ((![v43, v15] : Fin 2 → IVec S16 32) a x).toNat < S64x256.size a := fun v15 v43 k5_hw7 => k5_hw7
@[reducible] def k5_t5_loop : Scf.Loop 32 :=
  let c1_i32_32 : BitVec 32 := 1#32
  let c15_i32_33 : BitVec 32 := 15#32
  let v52 : BitVec 32 := Scalar.addi c1_i32_32 c15_i32_33
  let c1_i32_34 : BitVec 32 := 1#32
  ⟨c1_i32_32, v52, c1_i32_34⟩

def k5_chk8 (v126 : IVec S16 32) : Prop :=
  (∀ a x, ((![v126] : Fin 1 → IVec S16 32) a x).toNat < S16.size a)
theorem k5_idx10_inb : ∀ (v126 : IVec S16 32) (k5_hw8 : k5_chk8 v126), ∀ a x, ((![v126] : Fin 1 → IVec S16 32) a x).toNat < S16.size a := fun v126 k5_hw8 => k5_hw8

def k5_chk9 (v53 : IVec S16 32) : Prop :=
  (∀ a x, ((![v53] : Fin 1 → IVec S16 32) a x).toNat < S16.size a) ∧
  (∀ a x, ((![v53] : Fin 1 → IVec S16 32) a x).toNat < S16.size a)
theorem k5_idx11_inb : ∀ (v53 : IVec S16 32) (k5_hw9 : k5_chk9 v53), ∀ a x, ((![v53] : Fin 1 → IVec S16 32) a x).toNat < S16.size a := fun v53 k5_hw9 => k5_hw9.1
theorem k5_idx12_inb : ∀ (v53 : IVec S16 32) (k5_hw9 : k5_chk9 v53), ∀ a x, ((![v53] : Fin 1 → IVec S16 32) a x).toNat < S16.size a := fun v53 k5_hw9 => k5_hw9.2

def k5_chk10 (v15 : IVec S16 32) (v58 : IVec S16 32) : Prop :=
  (∀ a x, ((![v58, v15] : Fin 2 → IVec S16 32) a x).toNat < S64x256.size a)
theorem k5_idx13_inb : ∀ (v15 : IVec S16 32) (v58 : IVec S16 32) (k5_hw10 : k5_chk10 v15 v58), ∀ a x, ((![v58, v15] : Fin 2 → IVec S16 32) a x).toNat < S64x256.size a := fun v15 v58 k5_hw10 => k5_hw10
@[reducible] def k5_t6_loop : Scf.Loop 32 :=
  let c1_i32_43 : BitVec 32 := 1#32
  let c15_i32_44 : BitVec 32 := 15#32
  let v67 : BitVec 32 := Scalar.addi c1_i32_43 c15_i32_44
  let c1_i32_45 : BitVec 32 := 1#32
  ⟨c1_i32_43, v67, c1_i32_45⟩

def k5_chk11 (v126 : IVec S16 32) : Prop :=
  (∀ a x, ((![v126] : Fin 1 → IVec S16 32) a x).toNat < S16.size a)
theorem k5_idx14_inb : ∀ (v126 : IVec S16 32) (k5_hw11 : k5_chk11 v126), ∀ a x, ((![v126] : Fin 1 → IVec S16 32) a x).toNat < S16.size a := fun v126 k5_hw11 => k5_hw11

def k5_chk12 (v68 : IVec S16 32) : Prop :=
  (∀ a x, ((![v68] : Fin 1 → IVec S16 32) a x).toNat < S16.size a) ∧
  (∀ a x, ((![v68] : Fin 1 → IVec S16 32) a x).toNat < S16.size a)
theorem k5_idx15_inb : ∀ (v68 : IVec S16 32) (k5_hw12 : k5_chk12 v68), ∀ a x, ((![v68] : Fin 1 → IVec S16 32) a x).toNat < S16.size a := fun v68 k5_hw12 => k5_hw12.1
theorem k5_idx16_inb : ∀ (v68 : IVec S16 32) (k5_hw12 : k5_chk12 v68), ∀ a x, ((![v68] : Fin 1 → IVec S16 32) a x).toNat < S16.size a := fun v68 k5_hw12 => k5_hw12.2
@[reducible] def k5_t7_loop : Scf.Loop 32 :=
  let c1_i32_54 : BitVec 32 := 1#32
  let c15_i32_55 : BitVec 32 := 15#32
  let v81 : BitVec 32 := Scalar.addi c1_i32_54 c15_i32_55
  let c1_i32_56 : BitVec 32 := 1#32
  ⟨c1_i32_54, v81, c1_i32_56⟩

def k5_chk14 (v126 : IVec S16 32) : Prop :=
  (∀ a x, ((![v126] : Fin 1 → IVec S16 32) a x).toNat < S16.size a)
theorem k5_idx19_inb : ∀ (v126 : IVec S16 32) (k5_hw14 : k5_chk14 v126), ∀ a x, ((![v126] : Fin 1 → IVec S16 32) a x).toNat < S16.size a := fun v126 k5_hw14 => k5_hw14

def k5_chk15 (v82 : IVec S16 32) : Prop :=
  (∀ a x, ((![v82] : Fin 1 → IVec S16 32) a x).toNat < S16.size a) ∧
  (∀ a x, ((![v82] : Fin 1 → IVec S16 32) a x).toNat < S16.size a)
theorem k5_idx20_inb : ∀ (v82 : IVec S16 32) (k5_hw15 : k5_chk15 v82), ∀ a x, ((![v82] : Fin 1 → IVec S16 32) a x).toNat < S16.size a := fun v82 k5_hw15 => k5_hw15.1
theorem k5_idx21_inb : ∀ (v82 : IVec S16 32) (k5_hw15 : k5_chk15 v82), ∀ a x, ((![v82] : Fin 1 → IVec S16 32) a x).toNat < S16.size a := fun v82 k5_hw15 => k5_hw15.2
@[reducible] def k5_t8_loop : Scf.Loop 32 :=
  let c1_i32_65 : BitVec 32 := 1#32
  let c15_i32_66 : BitVec 32 := 15#32
  let v95 : BitVec 32 := Scalar.addi c1_i32_65 c15_i32_66
  let c1_i32_67 : BitVec 32 := 1#32
  ⟨c1_i32_65, v95, c1_i32_67⟩

def k5_chk16 (v126 : IVec S16 32) : Prop :=
  (∀ a x, ((![v126] : Fin 1 → IVec S16 32) a x).toNat < S16.size a)
theorem k5_idx24_inb : ∀ (v126 : IVec S16 32) (k5_hw16 : k5_chk16 v126), ∀ a x, ((![v126] : Fin 1 → IVec S16 32) a x).toNat < S16.size a := fun v126 k5_hw16 => k5_hw16

def k5_chk17 (v96 : IVec S16 32) : Prop :=
  (∀ a x, ((![v96] : Fin 1 → IVec S16 32) a x).toNat < S16.size a) ∧
  (∀ a x, ((![v96] : Fin 1 → IVec S16 32) a x).toNat < S16.size a)
theorem k5_idx25_inb : ∀ (v96 : IVec S16 32) (k5_hw17 : k5_chk17 v96), ∀ a x, ((![v96] : Fin 1 → IVec S16 32) a x).toNat < S16.size a := fun v96 k5_hw17 => k5_hw17.1
theorem k5_idx26_inb : ∀ (v96 : IVec S16 32) (k5_hw17 : k5_chk17 v96), ∀ a x, ((![v96] : Fin 1 → IVec S16 32) a x).toNat < S16.size a := fun v96 k5_hw17 => k5_hw17.2

def k5_chk13 (v7 : IVec S16 32) : Prop :=
  (∀ a x, ((![v7] : Fin 1 → IVec S16 32) a x).toNat < S16.size a) ∧
  (∀ a x, ((![v7] : Fin 1 → IVec S16 32) a x).toNat < S16.size a) ∧
  (∀ a x, ((![v7] : Fin 1 → IVec S16 32) a x).toNat < S16.size a) ∧
  (∀ a x, ((![v7] : Fin 1 → IVec S16 32) a x).toNat < S16.size a) ∧
  (∀ a x, ((![v7] : Fin 1 → IVec S16 32) a x).toNat < S16.size a) ∧
  (∀ a x, ((![v7] : Fin 1 → IVec S16 32) a x).toNat < S16.size a)
theorem k5_idx17_inb : ∀ (v7 : IVec S16 32) (k5_hw13 : k5_chk13 v7), ∀ a x, ((![v7] : Fin 1 → IVec S16 32) a x).toNat < S16.size a := fun v7 k5_hw13 => k5_hw13.1
theorem k5_idx18_inb : ∀ (v7 : IVec S16 32) (k5_hw13 : k5_chk13 v7), ∀ a x, ((![v7] : Fin 1 → IVec S16 32) a x).toNat < S16.size a := fun v7 k5_hw13 => k5_hw13.2.1
theorem k5_idx22_inb : ∀ (v7 : IVec S16 32) (k5_hw13 : k5_chk13 v7), ∀ a x, ((![v7] : Fin 1 → IVec S16 32) a x).toNat < S16.size a := fun v7 k5_hw13 => k5_hw13.2.2.1
theorem k5_idx23_inb : ∀ (v7 : IVec S16 32) (k5_hw13 : k5_chk13 v7), ∀ a x, ((![v7] : Fin 1 → IVec S16 32) a x).toNat < S16.size a := fun v7 k5_hw13 => k5_hw13.2.2.2.1
theorem k5_idx27_inb : ∀ (v7 : IVec S16 32) (k5_hw13 : k5_chk13 v7), ∀ a x, ((![v7] : Fin 1 → IVec S16 32) a x).toNat < S16.size a := fun v7 k5_hw13 => k5_hw13.2.2.2.2.1
theorem k5_idx28_inb : ∀ (v7 : IVec S16 32) (k5_hw13 : k5_chk13 v7), ∀ a x, ((![v7] : Fin 1 → IVec S16 32) a x).toNat < S16.size a := fun v7 k5_hw13 => k5_hw13.2.2.2.2.2
@[reducible] def k5_t9_loop : Scf.Loop 32 :=
  let c1_i32_76 : BitVec 32 := 1#32
  let c15_i32_77 : BitVec 32 := 15#32
  let v109 : BitVec 32 := Scalar.addi c1_i32_76 c15_i32_77
  let c1_i32_78 : BitVec 32 := 1#32
  ⟨c1_i32_76, v109, c1_i32_78⟩

def k5_chk18 (v126 : IVec S16 32) : Prop :=
  (∀ a x, ((![v126] : Fin 1 → IVec S16 32) a x).toNat < S16.size a)
theorem k5_idx29_inb : ∀ (v126 : IVec S16 32) (k5_hw18 : k5_chk18 v126), ∀ a x, ((![v126] : Fin 1 → IVec S16 32) a x).toNat < S16.size a := fun v126 k5_hw18 => k5_hw18

def k5_chk19 (v110 : IVec S16 32) : Prop :=
  (∀ a x, ((![v110] : Fin 1 → IVec S16 32) a x).toNat < S16.size a) ∧
  (∀ a x, ((![v110] : Fin 1 → IVec S16 32) a x).toNat < S16.size a)
theorem k5_idx30_inb : ∀ (v110 : IVec S16 32) (k5_hw19 : k5_chk19 v110), ∀ a x, ((![v110] : Fin 1 → IVec S16 32) a x).toNat < S16.size a := fun v110 k5_hw19 => k5_hw19.1
theorem k5_idx31_inb : ∀ (v110 : IVec S16 32) (k5_hw19 : k5_chk19 v110), ∀ a x, ((![v110] : Fin 1 → IVec S16 32) a x).toNat < S16.size a := fun v110 k5_hw19 => k5_hw19.2
@[reducible] def k5_t10_loop : Scf.Loop 32 :=
  let c0_i32_87 : BitVec 32 := 0#32
  let c16_i32_88 : BitVec 32 := 16#32
  let v120 : BitVec 32 := Scalar.addi c0_i32_87 c16_i32_88
  let c1_i32_89 : BitVec 32 := 1#32
  ⟨c0_i32_87, v120, c1_i32_89⟩

def k5_chk20 (v123 : IVec S16 32) : Prop :=
  (∀ a x, ((![v123] : Fin 1 → IVec S16 32) a x).toNat < S16.size a)
theorem k5_idx32_inb : ∀ (v123 : IVec S16 32) (k5_hw20 : k5_chk20 v123), ∀ a x, ((![v123] : Fin 1 → IVec S16 32) a x).toNat < S16.size a := fun v123 k5_hw20 => k5_hw20

def k5_chk21 (v15 : IVec S16 32) (v113 : IVec S16 32) : Prop :=
  (∀ a x, ((![v113, v15] : Fin 2 → IVec S16 32) a x).toNat < S64x256.size a)
theorem k5_idx33_inb : ∀ (v15 : IVec S16 32) (v113 : IVec S16 32) (k5_hw21 : k5_chk21 v15 v113), ∀ a x, ((![v113, v15] : Fin 2 → IVec S16 32) a x).toNat < S64x256.size a := fun v15 v113 k5_hw21 => k5_hw21

def k5_chk1 (v3 : IVec S16 32) (v9 : IVec S16 32) (v15 : IVec S16 32) : Prop :=
  (∀ a x, ((![v3, v15] : Fin 2 → IVec S16 32) a x).toNat < S64x256.size a) ∧
  (∀ a x, ((![v9, v15] : Fin 2 → IVec S16 32) a x).toNat < S8x256.size a)
theorem k5_idx1_inb : ∀ (v3 : IVec S16 32) (v9 : IVec S16 32) (v15 : IVec S16 32) (k5_hw1 : k5_chk1 v3 v9 v15), ∀ a x, ((![v3, v15] : Fin 2 → IVec S16 32) a x).toNat < S64x256.size a := fun v3 v9 v15 k5_hw1 => k5_hw1.1
theorem k5_idx34_inb : ∀ (v3 : IVec S16 32) (v9 : IVec S16 32) (v15 : IVec S16 32) (k5_hw1 : k5_chk1 v3 v9 v15), ∀ a x, ((![v9, v15] : Fin 2 → IVec S16 32) a x).toNat < S8x256.size a := fun v3 v9 v15 k5_hw1 => k5_hw1.2
def k5_off66 (i : grid5.Coords) : Fin 2 → Nat :=
  let c0_i32_6_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
def k5_off67 (i : grid5.Coords) : Fin 2 → Nat :=
  let c0_i32_6_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
abbrev grid6 : Pipeline.Grid := ⟨2, ![2, 16], ![false, false]⟩

def k6_off1 (i : grid6.Coords) : Fin 2 → Nat :=
  let c0_i32_6_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
@[reducible] def k6_t1_loop : Scf.Loop 32 :=
  let c0_i32 : BitVec 32 := 0#32
  let c16_i32 : BitVec 32 := 16#32
  let v11 : BitVec 32 := Scalar.addi c0_i32 c16_i32
  let c1_i32 : BitVec 32 := 1#32
  ⟨c0_i32, v11, c1_i32⟩
def k6_off2 (k6_t1 : Fin k6_t1_loop.trips) : Fin 2 → Nat :=
  let c0_i32_9 : BitVec 32 := 0#32
  let v16 : Index := Scalar.indexCast c0_i32_9
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v17 : Index := Scalar.indexCast v15
  ![0, v17.toNat]
def k6_off3 (k6_t1 : Fin k6_t1_loop.trips) : Fin 2 → Nat :=
  let c1_i32_10 : BitVec 32 := 1#32
  let v19 : Index := Scalar.indexCast c1_i32_10
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v20 : Index := Scalar.indexCast v15
  ![1, v20.toNat]
def k6_off4 (k6_t1 : Fin k6_t1_loop.trips) : Fin 2 → Nat :=
  let c2_i32_11 : BitVec 32 := 2#32
  let v22 : Index := Scalar.indexCast c2_i32_11
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v23 : Index := Scalar.indexCast v15
  ![2, v23.toNat]
def k6_off5 (k6_t1 : Fin k6_t1_loop.trips) : Fin 2 → Nat :=
  let c3_i32 : BitVec 32 := 3#32
  let v25 : Index := Scalar.indexCast c3_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v26 : Index := Scalar.indexCast v15
  ![3, v26.toNat]
def k6_off6 (k6_t1 : Fin k6_t1_loop.trips) : Fin 2 → Nat :=
  let c4_i32 : BitVec 32 := 4#32
  let v28 : Index := Scalar.indexCast c4_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v29 : Index := Scalar.indexCast v15
  ![4, v29.toNat]
def k6_off7 (k6_t1 : Fin k6_t1_loop.trips) : Fin 2 → Nat :=
  let c5_i32 : BitVec 32 := 5#32
  let v31 : Index := Scalar.indexCast c5_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v32 : Index := Scalar.indexCast v15
  ![5, v32.toNat]
def k6_off8 (k6_t1 : Fin k6_t1_loop.trips) : Fin 2 → Nat :=
  let c6_i32 : BitVec 32 := 6#32
  let v34 : Index := Scalar.indexCast c6_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v35 : Index := Scalar.indexCast v15
  ![6, v35.toNat]
def k6_off9 (k6_t1 : Fin k6_t1_loop.trips) : Fin 2 → Nat :=
  let c7_i32_12 : BitVec 32 := 7#32
  let v37 : Index := Scalar.indexCast c7_i32_12
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v38 : Index := Scalar.indexCast v15
  ![7, v38.toNat]
def k6_off10 (k6_t1 : Fin k6_t1_loop.trips) : Fin 2 → Nat :=
  let c8_i32_13 : BitVec 32 := 8#32
  let v40 : Index := Scalar.indexCast c8_i32_13
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v41 : Index := Scalar.indexCast v15
  ![8, v41.toNat]
def k6_off11 (k6_t1 : Fin k6_t1_loop.trips) : Fin 2 → Nat :=
  let c9_i32 : BitVec 32 := 9#32
  let v43 : Index := Scalar.indexCast c9_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v44 : Index := Scalar.indexCast v15
  ![9, v44.toNat]
def k6_off12 (k6_t1 : Fin k6_t1_loop.trips) : Fin 2 → Nat :=
  let c10_i32 : BitVec 32 := 10#32
  let v46 : Index := Scalar.indexCast c10_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v47 : Index := Scalar.indexCast v15
  ![10, v47.toNat]
def k6_off13 (k6_t1 : Fin k6_t1_loop.trips) : Fin 2 → Nat :=
  let c11_i32 : BitVec 32 := 11#32
  let v49 : Index := Scalar.indexCast c11_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v50 : Index := Scalar.indexCast v15
  ![11, v50.toNat]
def k6_off14 (k6_t1 : Fin k6_t1_loop.trips) : Fin 2 → Nat :=
  let c12_i32 : BitVec 32 := 12#32
  let v52 : Index := Scalar.indexCast c12_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v53 : Index := Scalar.indexCast v15
  ![12, v53.toNat]
def k6_off15 (k6_t1 : Fin k6_t1_loop.trips) : Fin 2 → Nat :=
  let c13_i32 : BitVec 32 := 13#32
  let v55 : Index := Scalar.indexCast c13_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v56 : Index := Scalar.indexCast v15
  ![13, v56.toNat]
def k6_off16 (k6_t1 : Fin k6_t1_loop.trips) : Fin 2 → Nat :=
  let c14_i32 : BitVec 32 := 14#32
  let v58 : Index := Scalar.indexCast c14_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v59 : Index := Scalar.indexCast v15
  ![14, v59.toNat]
def k6_off17 (k6_t1 : Fin k6_t1_loop.trips) : Fin 2 → Nat :=
  let c15_i32 : BitVec 32 := 15#32
  let v61 : Index := Scalar.indexCast c15_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v62 : Index := Scalar.indexCast v15
  ![15, v62.toNat]
def k6_off18 (k6_t1 : Fin k6_t1_loop.trips) : Fin 2 → Nat :=
  let c16_i32_14 : BitVec 32 := 16#32
  let v64 : Index := Scalar.indexCast c16_i32_14
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v65 : Index := Scalar.indexCast v15
  ![16, v65.toNat]
def k6_off19 (k6_t1 : Fin k6_t1_loop.trips) : Fin 2 → Nat :=
  let c17_i32 : BitVec 32 := 17#32
  let v67 : Index := Scalar.indexCast c17_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v68 : Index := Scalar.indexCast v15
  ![17, v68.toNat]
def k6_off20 (k6_t1 : Fin k6_t1_loop.trips) : Fin 2 → Nat :=
  let c18_i32 : BitVec 32 := 18#32
  let v70 : Index := Scalar.indexCast c18_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v71 : Index := Scalar.indexCast v15
  ![18, v71.toNat]
def k6_off21 (k6_t1 : Fin k6_t1_loop.trips) : Fin 2 → Nat :=
  let c19_i32 : BitVec 32 := 19#32
  let v73 : Index := Scalar.indexCast c19_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v74 : Index := Scalar.indexCast v15
  ![19, v74.toNat]
def k6_off22 (k6_t1 : Fin k6_t1_loop.trips) : Fin 2 → Nat :=
  let c20_i32 : BitVec 32 := 20#32
  let v76 : Index := Scalar.indexCast c20_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v77 : Index := Scalar.indexCast v15
  ![20, v77.toNat]
def k6_off23 (k6_t1 : Fin k6_t1_loop.trips) : Fin 2 → Nat :=
  let c21_i32 : BitVec 32 := 21#32
  let v79 : Index := Scalar.indexCast c21_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v80 : Index := Scalar.indexCast v15
  ![21, v80.toNat]
def k6_off24 (k6_t1 : Fin k6_t1_loop.trips) : Fin 2 → Nat :=
  let c22_i32 : BitVec 32 := 22#32
  let v82 : Index := Scalar.indexCast c22_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v83 : Index := Scalar.indexCast v15
  ![22, v83.toNat]
def k6_off25 (k6_t1 : Fin k6_t1_loop.trips) : Fin 2 → Nat :=
  let c23_i32 : BitVec 32 := 23#32
  let v85 : Index := Scalar.indexCast c23_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v86 : Index := Scalar.indexCast v15
  ![23, v86.toNat]
def k6_off26 (k6_t1 : Fin k6_t1_loop.trips) : Fin 2 → Nat :=
  let c24_i32 : BitVec 32 := 24#32
  let v88 : Index := Scalar.indexCast c24_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v89 : Index := Scalar.indexCast v15
  ![24, v89.toNat]
def k6_off27 (k6_t1 : Fin k6_t1_loop.trips) : Fin 2 → Nat :=
  let c25_i32 : BitVec 32 := 25#32
  let v91 : Index := Scalar.indexCast c25_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v92 : Index := Scalar.indexCast v15
  ![25, v92.toNat]
def k6_off28 (k6_t1 : Fin k6_t1_loop.trips) : Fin 2 → Nat :=
  let c26_i32 : BitVec 32 := 26#32
  let v94 : Index := Scalar.indexCast c26_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v95 : Index := Scalar.indexCast v15
  ![26, v95.toNat]
def k6_off29 (k6_t1 : Fin k6_t1_loop.trips) : Fin 2 → Nat :=
  let c27_i32 : BitVec 32 := 27#32
  let v97 : Index := Scalar.indexCast c27_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v98 : Index := Scalar.indexCast v15
  ![27, v98.toNat]
def k6_off30 (k6_t1 : Fin k6_t1_loop.trips) : Fin 2 → Nat :=
  let c28_i32 : BitVec 32 := 28#32
  let v100 : Index := Scalar.indexCast c28_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v101 : Index := Scalar.indexCast v15
  ![28, v101.toNat]
def k6_off31 (k6_t1 : Fin k6_t1_loop.trips) : Fin 2 → Nat :=
  let c29_i32 : BitVec 32 := 29#32
  let v103 : Index := Scalar.indexCast c29_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v104 : Index := Scalar.indexCast v15
  ![29, v104.toNat]
def k6_off32 (k6_t1 : Fin k6_t1_loop.trips) : Fin 2 → Nat :=
  let c30_i32 : BitVec 32 := 30#32
  let v106 : Index := Scalar.indexCast c30_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v107 : Index := Scalar.indexCast v15
  ![30, v107.toNat]
def k6_off33 (k6_t1 : Fin k6_t1_loop.trips) : Fin 2 → Nat :=
  let c31_i32 : BitVec 32 := 31#32
  let v109 : Index := Scalar.indexCast c31_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v110 : Index := Scalar.indexCast v15
  ![31, v110.toNat]
def k6_off34 (k6_t1 : Fin k6_t1_loop.trips) : Fin 2 → Nat :=
  let c32_i32 : BitVec 32 := 32#32
  let v112 : Index := Scalar.indexCast c32_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v113 : Index := Scalar.indexCast v15
  ![32, v113.toNat]
def k6_off35 (k6_t1 : Fin k6_t1_loop.trips) : Fin 2 → Nat :=
  let c33_i32 : BitVec 32 := 33#32
  let v115 : Index := Scalar.indexCast c33_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v116 : Index := Scalar.indexCast v15
  ![33, v116.toNat]
def k6_off36 (k6_t1 : Fin k6_t1_loop.trips) : Fin 2 → Nat :=
  let c34_i32 : BitVec 32 := 34#32
  let v118 : Index := Scalar.indexCast c34_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v119 : Index := Scalar.indexCast v15
  ![34, v119.toNat]
def k6_off37 (k6_t1 : Fin k6_t1_loop.trips) : Fin 2 → Nat :=
  let c35_i32 : BitVec 32 := 35#32
  let v121 : Index := Scalar.indexCast c35_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v122 : Index := Scalar.indexCast v15
  ![35, v122.toNat]
def k6_off38 (k6_t1 : Fin k6_t1_loop.trips) : Fin 2 → Nat :=
  let c36_i32 : BitVec 32 := 36#32
  let v124 : Index := Scalar.indexCast c36_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v125 : Index := Scalar.indexCast v15
  ![36, v125.toNat]
def k6_off39 (k6_t1 : Fin k6_t1_loop.trips) : Fin 2 → Nat :=
  let c37_i32 : BitVec 32 := 37#32
  let v127 : Index := Scalar.indexCast c37_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v128 : Index := Scalar.indexCast v15
  ![37, v128.toNat]
def k6_off40 (k6_t1 : Fin k6_t1_loop.trips) : Fin 2 → Nat :=
  let c38_i32 : BitVec 32 := 38#32
  let v130 : Index := Scalar.indexCast c38_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v131 : Index := Scalar.indexCast v15
  ![38, v131.toNat]
def k6_off41 (k6_t1 : Fin k6_t1_loop.trips) : Fin 2 → Nat :=
  let c39_i32 : BitVec 32 := 39#32
  let v133 : Index := Scalar.indexCast c39_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v134 : Index := Scalar.indexCast v15
  ![39, v134.toNat]
def k6_off42 (k6_t1 : Fin k6_t1_loop.trips) : Fin 2 → Nat :=
  let c40_i32 : BitVec 32 := 40#32
  let v136 : Index := Scalar.indexCast c40_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v137 : Index := Scalar.indexCast v15
  ![40, v137.toNat]
def k6_off43 (k6_t1 : Fin k6_t1_loop.trips) : Fin 2 → Nat :=
  let c41_i32 : BitVec 32 := 41#32
  let v139 : Index := Scalar.indexCast c41_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v140 : Index := Scalar.indexCast v15
  ![41, v140.toNat]
def k6_off44 (k6_t1 : Fin k6_t1_loop.trips) : Fin 2 → Nat :=
  let c42_i32 : BitVec 32 := 42#32
  let v142 : Index := Scalar.indexCast c42_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v143 : Index := Scalar.indexCast v15
  ![42, v143.toNat]
def k6_off45 (k6_t1 : Fin k6_t1_loop.trips) : Fin 2 → Nat :=
  let c43_i32 : BitVec 32 := 43#32
  let v145 : Index := Scalar.indexCast c43_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v146 : Index := Scalar.indexCast v15
  ![43, v146.toNat]
def k6_off46 (k6_t1 : Fin k6_t1_loop.trips) : Fin 2 → Nat :=
  let c44_i32 : BitVec 32 := 44#32
  let v148 : Index := Scalar.indexCast c44_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v149 : Index := Scalar.indexCast v15
  ![44, v149.toNat]
def k6_off47 (k6_t1 : Fin k6_t1_loop.trips) : Fin 2 → Nat :=
  let c45_i32 : BitVec 32 := 45#32
  let v151 : Index := Scalar.indexCast c45_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v152 : Index := Scalar.indexCast v15
  ![45, v152.toNat]
def k6_off48 (k6_t1 : Fin k6_t1_loop.trips) : Fin 2 → Nat :=
  let c46_i32 : BitVec 32 := 46#32
  let v154 : Index := Scalar.indexCast c46_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v155 : Index := Scalar.indexCast v15
  ![46, v155.toNat]
def k6_off49 (k6_t1 : Fin k6_t1_loop.trips) : Fin 2 → Nat :=
  let c47_i32 : BitVec 32 := 47#32
  let v157 : Index := Scalar.indexCast c47_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v158 : Index := Scalar.indexCast v15
  ![47, v158.toNat]
def k6_off50 (k6_t1 : Fin k6_t1_loop.trips) : Fin 2 → Nat :=
  let c48_i32 : BitVec 32 := 48#32
  let v160 : Index := Scalar.indexCast c48_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v161 : Index := Scalar.indexCast v15
  ![48, v161.toNat]
def k6_off51 (k6_t1 : Fin k6_t1_loop.trips) : Fin 2 → Nat :=
  let c49_i32 : BitVec 32 := 49#32
  let v163 : Index := Scalar.indexCast c49_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v164 : Index := Scalar.indexCast v15
  ![49, v164.toNat]
def k6_off52 (k6_t1 : Fin k6_t1_loop.trips) : Fin 2 → Nat :=
  let c50_i32 : BitVec 32 := 50#32
  let v166 : Index := Scalar.indexCast c50_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v167 : Index := Scalar.indexCast v15
  ![50, v167.toNat]
def k6_off53 (k6_t1 : Fin k6_t1_loop.trips) : Fin 2 → Nat :=
  let c51_i32 : BitVec 32 := 51#32
  let v169 : Index := Scalar.indexCast c51_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v170 : Index := Scalar.indexCast v15
  ![51, v170.toNat]
def k6_off54 (k6_t1 : Fin k6_t1_loop.trips) : Fin 2 → Nat :=
  let c52_i32 : BitVec 32 := 52#32
  let v172 : Index := Scalar.indexCast c52_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v173 : Index := Scalar.indexCast v15
  ![52, v173.toNat]
def k6_off55 (k6_t1 : Fin k6_t1_loop.trips) : Fin 2 → Nat :=
  let c53_i32 : BitVec 32 := 53#32
  let v175 : Index := Scalar.indexCast c53_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v176 : Index := Scalar.indexCast v15
  ![53, v176.toNat]
def k6_off56 (k6_t1 : Fin k6_t1_loop.trips) : Fin 2 → Nat :=
  let c54_i32 : BitVec 32 := 54#32
  let v178 : Index := Scalar.indexCast c54_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v179 : Index := Scalar.indexCast v15
  ![54, v179.toNat]
def k6_off57 (k6_t1 : Fin k6_t1_loop.trips) : Fin 2 → Nat :=
  let c55_i32 : BitVec 32 := 55#32
  let v181 : Index := Scalar.indexCast c55_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v182 : Index := Scalar.indexCast v15
  ![55, v182.toNat]
def k6_off58 (k6_t1 : Fin k6_t1_loop.trips) : Fin 2 → Nat :=
  let c56_i32 : BitVec 32 := 56#32
  let v184 : Index := Scalar.indexCast c56_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v185 : Index := Scalar.indexCast v15
  ![56, v185.toNat]
def k6_off59 (k6_t1 : Fin k6_t1_loop.trips) : Fin 2 → Nat :=
  let c57_i32 : BitVec 32 := 57#32
  let v187 : Index := Scalar.indexCast c57_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v188 : Index := Scalar.indexCast v15
  ![57, v188.toNat]
def k6_off60 (k6_t1 : Fin k6_t1_loop.trips) : Fin 2 → Nat :=
  let c58_i32 : BitVec 32 := 58#32
  let v190 : Index := Scalar.indexCast c58_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v191 : Index := Scalar.indexCast v15
  ![58, v191.toNat]
def k6_off61 (k6_t1 : Fin k6_t1_loop.trips) : Fin 2 → Nat :=
  let c59_i32 : BitVec 32 := 59#32
  let v193 : Index := Scalar.indexCast c59_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v194 : Index := Scalar.indexCast v15
  ![59, v194.toNat]
def k6_off62 (k6_t1 : Fin k6_t1_loop.trips) : Fin 2 → Nat :=
  let c60_i32 : BitVec 32 := 60#32
  let v196 : Index := Scalar.indexCast c60_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v197 : Index := Scalar.indexCast v15
  ![60, v197.toNat]
def k6_off63 (k6_t1 : Fin k6_t1_loop.trips) : Fin 2 → Nat :=
  let c61_i32 : BitVec 32 := 61#32
  let v199 : Index := Scalar.indexCast c61_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v200 : Index := Scalar.indexCast v15
  ![61, v200.toNat]
def k6_off64 (k6_t1 : Fin k6_t1_loop.trips) : Fin 2 → Nat :=
  let c62_i32 : BitVec 32 := 62#32
  let v202 : Index := Scalar.indexCast c62_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v203 : Index := Scalar.indexCast v15
  ![62, v203.toNat]
def k6_off65 (k6_t1 : Fin k6_t1_loop.trips) : Fin 2 → Nat :=
  let c63_i32 : BitVec 32 := 63#32
  let v205 : Index := Scalar.indexCast c63_i32
  let c0_i32_7 : BitVec 32 := 0#32
  let c0_i32 : BitVec 32 := 0#32
  let c1_i32 : BitVec 32 := 1#32
  let arg10 : BitVec 32 := Scf.iv c0_i32 c1_i32 k6_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v206 : Index := Scalar.indexCast v15
  ![63, v206.toNat]
@[reducible] def k6_t2_loop : Scf.Loop 32 :=
  let c0_i32_2 : BitVec 32 := 0#32
  let c256_i32_3 : BitVec 32 := 256#32
  let v12 : BitVec 32 := Scalar.addi c0_i32_2 c256_i32_3
  let c1_i32_4 : BitVec 32 := 1#32
  ⟨c0_i32_2, v12, c1_i32_4⟩
@[reducible] def k6_t3_loop : Scf.Loop 32 :=
  let c1_i32_10 : BitVec 32 := 1#32
  let c15_i32 : BitVec 32 := 15#32
  let v22 : BitVec 32 := Scalar.addi c1_i32_10 c15_i32
  let c1_i32_11 : BitVec 32 := 1#32
  ⟨c1_i32_10, v22, c1_i32_11⟩

def k6_chk2 (v126 : IVec S16 32) : Prop :=
  (∀ a x, ((![v126] : Fin 1 → IVec S16 32) a x).toNat < S16.size a)
theorem k6_idx2_inb : ∀ (v126 : IVec S16 32) (k6_hw2 : k6_chk2 v126), ∀ a x, ((![v126] : Fin 1 → IVec S16 32) a x).toNat < S16.size a := fun v126 k6_hw2 => k6_hw2

def k6_chk3 (v23 : IVec S16 32) : Prop :=
  (∀ a x, ((![v23] : Fin 1 → IVec S16 32) a x).toNat < S16.size a) ∧
  (∀ a x, ((![v23] : Fin 1 → IVec S16 32) a x).toNat < S16.size a)
theorem k6_idx3_inb : ∀ (v23 : IVec S16 32) (k6_hw3 : k6_chk3 v23), ∀ a x, ((![v23] : Fin 1 → IVec S16 32) a x).toNat < S16.size a := fun v23 k6_hw3 => k6_hw3.1
theorem k6_idx4_inb : ∀ (v23 : IVec S16 32) (k6_hw3 : k6_chk3 v23), ∀ a x, ((![v23] : Fin 1 → IVec S16 32) a x).toNat < S16.size a := fun v23 k6_hw3 => k6_hw3.2

def k6_chk4 (v15 : IVec S16 32) (v28 : IVec S16 32) : Prop :=
  (∀ a x, ((![v28, v15] : Fin 2 → IVec S16 32) a x).toNat < S64x256.size a)
theorem k6_idx5_inb : ∀ (v15 : IVec S16 32) (v28 : IVec S16 32) (k6_hw4 : k6_chk4 v15 v28), ∀ a x, ((![v28, v15] : Fin 2 → IVec S16 32) a x).toNat < S64x256.size a := fun v15 v28 k6_hw4 => k6_hw4
@[reducible] def k6_t4_loop : Scf.Loop 32 :=
  let c1_i32_21 : BitVec 32 := 1#32
  let c15_i32_22 : BitVec 32 := 15#32
  let v37 : BitVec 32 := Scalar.addi c1_i32_21 c15_i32_22
  let c1_i32_23 : BitVec 32 := 1#32
  ⟨c1_i32_21, v37, c1_i32_23⟩

def k6_chk5 (v126 : IVec S16 32) : Prop :=
  (∀ a x, ((![v126] : Fin 1 → IVec S16 32) a x).toNat < S16.size a)
theorem k6_idx6_inb : ∀ (v126 : IVec S16 32) (k6_hw5 : k6_chk5 v126), ∀ a x, ((![v126] : Fin 1 → IVec S16 32) a x).toNat < S16.size a := fun v126 k6_hw5 => k6_hw5

def k6_chk6 (v38 : IVec S16 32) : Prop :=
  (∀ a x, ((![v38] : Fin 1 → IVec S16 32) a x).toNat < S16.size a) ∧
  (∀ a x, ((![v38] : Fin 1 → IVec S16 32) a x).toNat < S16.size a)
theorem k6_idx7_inb : ∀ (v38 : IVec S16 32) (k6_hw6 : k6_chk6 v38), ∀ a x, ((![v38] : Fin 1 → IVec S16 32) a x).toNat < S16.size a := fun v38 k6_hw6 => k6_hw6.1
theorem k6_idx8_inb : ∀ (v38 : IVec S16 32) (k6_hw6 : k6_chk6 v38), ∀ a x, ((![v38] : Fin 1 → IVec S16 32) a x).toNat < S16.size a := fun v38 k6_hw6 => k6_hw6.2

def k6_chk7 (v15 : IVec S16 32) (v43 : IVec S16 32) : Prop :=
  (∀ a x, ((![v43, v15] : Fin 2 → IVec S16 32) a x).toNat < S64x256.size a)
theorem k6_idx9_inb : ∀ (v15 : IVec S16 32) (v43 : IVec S16 32) (k6_hw7 : k6_chk7 v15 v43), ∀ a x, ((![v43, v15] : Fin 2 → IVec S16 32) a x).toNat < S64x256.size a := fun v15 v43 k6_hw7 => k6_hw7
@[reducible] def k6_t5_loop : Scf.Loop 32 :=
  let c1_i32_32 : BitVec 32 := 1#32
  let c15_i32_33 : BitVec 32 := 15#32
  let v52 : BitVec 32 := Scalar.addi c1_i32_32 c15_i32_33
  let c1_i32_34 : BitVec 32 := 1#32
  ⟨c1_i32_32, v52, c1_i32_34⟩

def k6_chk8 (v126 : IVec S16 32) : Prop :=
  (∀ a x, ((![v126] : Fin 1 → IVec S16 32) a x).toNat < S16.size a)
theorem k6_idx10_inb : ∀ (v126 : IVec S16 32) (k6_hw8 : k6_chk8 v126), ∀ a x, ((![v126] : Fin 1 → IVec S16 32) a x).toNat < S16.size a := fun v126 k6_hw8 => k6_hw8

def k6_chk9 (v53 : IVec S16 32) : Prop :=
  (∀ a x, ((![v53] : Fin 1 → IVec S16 32) a x).toNat < S16.size a) ∧
  (∀ a x, ((![v53] : Fin 1 → IVec S16 32) a x).toNat < S16.size a)
theorem k6_idx11_inb : ∀ (v53 : IVec S16 32) (k6_hw9 : k6_chk9 v53), ∀ a x, ((![v53] : Fin 1 → IVec S16 32) a x).toNat < S16.size a := fun v53 k6_hw9 => k6_hw9.1
theorem k6_idx12_inb : ∀ (v53 : IVec S16 32) (k6_hw9 : k6_chk9 v53), ∀ a x, ((![v53] : Fin 1 → IVec S16 32) a x).toNat < S16.size a := fun v53 k6_hw9 => k6_hw9.2

def k6_chk10 (v15 : IVec S16 32) (v58 : IVec S16 32) : Prop :=
  (∀ a x, ((![v58, v15] : Fin 2 → IVec S16 32) a x).toNat < S64x256.size a)
theorem k6_idx13_inb : ∀ (v15 : IVec S16 32) (v58 : IVec S16 32) (k6_hw10 : k6_chk10 v15 v58), ∀ a x, ((![v58, v15] : Fin 2 → IVec S16 32) a x).toNat < S64x256.size a := fun v15 v58 k6_hw10 => k6_hw10
@[reducible] def k6_t6_loop : Scf.Loop 32 :=
  let c1_i32_43 : BitVec 32 := 1#32
  let c15_i32_44 : BitVec 32 := 15#32
  let v67 : BitVec 32 := Scalar.addi c1_i32_43 c15_i32_44
  let c1_i32_45 : BitVec 32 := 1#32
  ⟨c1_i32_43, v67, c1_i32_45⟩

def k6_chk11 (v126 : IVec S16 32) : Prop :=
  (∀ a x, ((![v126] : Fin 1 → IVec S16 32) a x).toNat < S16.size a)
theorem k6_idx14_inb : ∀ (v126 : IVec S16 32) (k6_hw11 : k6_chk11 v126), ∀ a x, ((![v126] : Fin 1 → IVec S16 32) a x).toNat < S16.size a := fun v126 k6_hw11 => k6_hw11

def k6_chk12 (v68 : IVec S16 32) : Prop :=
  (∀ a x, ((![v68] : Fin 1 → IVec S16 32) a x).toNat < S16.size a) ∧
  (∀ a x, ((![v68] : Fin 1 → IVec S16 32) a x).toNat < S16.size a)
theorem k6_idx15_inb : ∀ (v68 : IVec S16 32) (k6_hw12 : k6_chk12 v68), ∀ a x, ((![v68] : Fin 1 → IVec S16 32) a x).toNat < S16.size a := fun v68 k6_hw12 => k6_hw12.1
theorem k6_idx16_inb : ∀ (v68 : IVec S16 32) (k6_hw12 : k6_chk12 v68), ∀ a x, ((![v68] : Fin 1 → IVec S16 32) a x).toNat < S16.size a := fun v68 k6_hw12 => k6_hw12.2
@[reducible] def k6_t7_loop : Scf.Loop 32 :=
  let c1_i32_54 : BitVec 32 := 1#32
  let c15_i32_55 : BitVec 32 := 15#32
  let v81 : BitVec 32 := Scalar.addi c1_i32_54 c15_i32_55
  let c1_i32_56 : BitVec 32 := 1#32
  ⟨c1_i32_54, v81, c1_i32_56⟩

def k6_chk14 (v126 : IVec S16 32) : Prop :=
  (∀ a x, ((![v126] : Fin 1 → IVec S16 32) a x).toNat < S16.size a)
theorem k6_idx19_inb : ∀ (v126 : IVec S16 32) (k6_hw14 : k6_chk14 v126), ∀ a x, ((![v126] : Fin 1 → IVec S16 32) a x).toNat < S16.size a := fun v126 k6_hw14 => k6_hw14

def k6_chk15 (v82 : IVec S16 32) : Prop :=
  (∀ a x, ((![v82] : Fin 1 → IVec S16 32) a x).toNat < S16.size a) ∧
  (∀ a x, ((![v82] : Fin 1 → IVec S16 32) a x).toNat < S16.size a)
theorem k6_idx20_inb : ∀ (v82 : IVec S16 32) (k6_hw15 : k6_chk15 v82), ∀ a x, ((![v82] : Fin 1 → IVec S16 32) a x).toNat < S16.size a := fun v82 k6_hw15 => k6_hw15.1
theorem k6_idx21_inb : ∀ (v82 : IVec S16 32) (k6_hw15 : k6_chk15 v82), ∀ a x, ((![v82] : Fin 1 → IVec S16 32) a x).toNat < S16.size a := fun v82 k6_hw15 => k6_hw15.2
@[reducible] def k6_t8_loop : Scf.Loop 32 :=
  let c1_i32_65 : BitVec 32 := 1#32
  let c15_i32_66 : BitVec 32 := 15#32
  let v95 : BitVec 32 := Scalar.addi c1_i32_65 c15_i32_66
  let c1_i32_67 : BitVec 32 := 1#32
  ⟨c1_i32_65, v95, c1_i32_67⟩

def k6_chk16 (v126 : IVec S16 32) : Prop :=
  (∀ a x, ((![v126] : Fin 1 → IVec S16 32) a x).toNat < S16.size a)
theorem k6_idx24_inb : ∀ (v126 : IVec S16 32) (k6_hw16 : k6_chk16 v126), ∀ a x, ((![v126] : Fin 1 → IVec S16 32) a x).toNat < S16.size a := fun v126 k6_hw16 => k6_hw16

def k6_chk17 (v96 : IVec S16 32) : Prop :=
  (∀ a x, ((![v96] : Fin 1 → IVec S16 32) a x).toNat < S16.size a) ∧
  (∀ a x, ((![v96] : Fin 1 → IVec S16 32) a x).toNat < S16.size a)
theorem k6_idx25_inb : ∀ (v96 : IVec S16 32) (k6_hw17 : k6_chk17 v96), ∀ a x, ((![v96] : Fin 1 → IVec S16 32) a x).toNat < S16.size a := fun v96 k6_hw17 => k6_hw17.1
theorem k6_idx26_inb : ∀ (v96 : IVec S16 32) (k6_hw17 : k6_chk17 v96), ∀ a x, ((![v96] : Fin 1 → IVec S16 32) a x).toNat < S16.size a := fun v96 k6_hw17 => k6_hw17.2

def k6_chk13 (v7 : IVec S16 32) : Prop :=
  (∀ a x, ((![v7] : Fin 1 → IVec S16 32) a x).toNat < S16.size a) ∧
  (∀ a x, ((![v7] : Fin 1 → IVec S16 32) a x).toNat < S16.size a) ∧
  (∀ a x, ((![v7] : Fin 1 → IVec S16 32) a x).toNat < S16.size a) ∧
  (∀ a x, ((![v7] : Fin 1 → IVec S16 32) a x).toNat < S16.size a) ∧
  (∀ a x, ((![v7] : Fin 1 → IVec S16 32) a x).toNat < S16.size a) ∧
  (∀ a x, ((![v7] : Fin 1 → IVec S16 32) a x).toNat < S16.size a)
theorem k6_idx17_inb : ∀ (v7 : IVec S16 32) (k6_hw13 : k6_chk13 v7), ∀ a x, ((![v7] : Fin 1 → IVec S16 32) a x).toNat < S16.size a := fun v7 k6_hw13 => k6_hw13.1
theorem k6_idx18_inb : ∀ (v7 : IVec S16 32) (k6_hw13 : k6_chk13 v7), ∀ a x, ((![v7] : Fin 1 → IVec S16 32) a x).toNat < S16.size a := fun v7 k6_hw13 => k6_hw13.2.1
theorem k6_idx22_inb : ∀ (v7 : IVec S16 32) (k6_hw13 : k6_chk13 v7), ∀ a x, ((![v7] : Fin 1 → IVec S16 32) a x).toNat < S16.size a := fun v7 k6_hw13 => k6_hw13.2.2.1
theorem k6_idx23_inb : ∀ (v7 : IVec S16 32) (k6_hw13 : k6_chk13 v7), ∀ a x, ((![v7] : Fin 1 → IVec S16 32) a x).toNat < S16.size a := fun v7 k6_hw13 => k6_hw13.2.2.2.1
theorem k6_idx27_inb : ∀ (v7 : IVec S16 32) (k6_hw13 : k6_chk13 v7), ∀ a x, ((![v7] : Fin 1 → IVec S16 32) a x).toNat < S16.size a := fun v7 k6_hw13 => k6_hw13.2.2.2.2.1
theorem k6_idx28_inb : ∀ (v7 : IVec S16 32) (k6_hw13 : k6_chk13 v7), ∀ a x, ((![v7] : Fin 1 → IVec S16 32) a x).toNat < S16.size a := fun v7 k6_hw13 => k6_hw13.2.2.2.2.2
@[reducible] def k6_t9_loop : Scf.Loop 32 :=
  let c1_i32_76 : BitVec 32 := 1#32
  let c15_i32_77 : BitVec 32 := 15#32
  let v109 : BitVec 32 := Scalar.addi c1_i32_76 c15_i32_77
  let c1_i32_78 : BitVec 32 := 1#32
  ⟨c1_i32_76, v109, c1_i32_78⟩

def k6_chk18 (v126 : IVec S16 32) : Prop :=
  (∀ a x, ((![v126] : Fin 1 → IVec S16 32) a x).toNat < S16.size a)
theorem k6_idx29_inb : ∀ (v126 : IVec S16 32) (k6_hw18 : k6_chk18 v126), ∀ a x, ((![v126] : Fin 1 → IVec S16 32) a x).toNat < S16.size a := fun v126 k6_hw18 => k6_hw18

def k6_chk19 (v110 : IVec S16 32) : Prop :=
  (∀ a x, ((![v110] : Fin 1 → IVec S16 32) a x).toNat < S16.size a) ∧
  (∀ a x, ((![v110] : Fin 1 → IVec S16 32) a x).toNat < S16.size a)
theorem k6_idx30_inb : ∀ (v110 : IVec S16 32) (k6_hw19 : k6_chk19 v110), ∀ a x, ((![v110] : Fin 1 → IVec S16 32) a x).toNat < S16.size a := fun v110 k6_hw19 => k6_hw19.1
theorem k6_idx31_inb : ∀ (v110 : IVec S16 32) (k6_hw19 : k6_chk19 v110), ∀ a x, ((![v110] : Fin 1 → IVec S16 32) a x).toNat < S16.size a := fun v110 k6_hw19 => k6_hw19.2
@[reducible] def k6_t10_loop : Scf.Loop 32 :=
  let c0_i32_87 : BitVec 32 := 0#32
  let c16_i32_88 : BitVec 32 := 16#32
  let v120 : BitVec 32 := Scalar.addi c0_i32_87 c16_i32_88
  let c1_i32_89 : BitVec 32 := 1#32
  ⟨c0_i32_87, v120, c1_i32_89⟩

def k6_chk20 (v123 : IVec S16 32) : Prop :=
  (∀ a x, ((![v123] : Fin 1 → IVec S16 32) a x).toNat < S16.size a)
theorem k6_idx32_inb : ∀ (v123 : IVec S16 32) (k6_hw20 : k6_chk20 v123), ∀ a x, ((![v123] : Fin 1 → IVec S16 32) a x).toNat < S16.size a := fun v123 k6_hw20 => k6_hw20

def k6_chk21 (v15 : IVec S16 32) (v113 : IVec S16 32) : Prop :=
  (∀ a x, ((![v113, v15] : Fin 2 → IVec S16 32) a x).toNat < S64x256.size a)
theorem k6_idx33_inb : ∀ (v15 : IVec S16 32) (v113 : IVec S16 32) (k6_hw21 : k6_chk21 v15 v113), ∀ a x, ((![v113, v15] : Fin 2 → IVec S16 32) a x).toNat < S64x256.size a := fun v15 v113 k6_hw21 => k6_hw21

def k6_chk1 (v3 : IVec S16 32) (v9 : IVec S16 32) (v15 : IVec S16 32) : Prop :=
  (∀ a x, ((![v3, v15] : Fin 2 → IVec S16 32) a x).toNat < S64x256.size a) ∧
  (∀ a x, ((![v9, v15] : Fin 2 → IVec S16 32) a x).toNat < S8x256.size a)
theorem k6_idx1_inb : ∀ (v3 : IVec S16 32) (v9 : IVec S16 32) (v15 : IVec S16 32) (k6_hw1 : k6_chk1 v3 v9 v15), ∀ a x, ((![v3, v15] : Fin 2 → IVec S16 32) a x).toNat < S64x256.size a := fun v3 v9 v15 k6_hw1 => k6_hw1.1
theorem k6_idx34_inb : ∀ (v3 : IVec S16 32) (v9 : IVec S16 32) (v15 : IVec S16 32) (k6_hw1 : k6_chk1 v3 v9 v15), ∀ a x, ((![v9, v15] : Fin 2 → IVec S16 32) a x).toNat < S8x256.size a := fun v3 v9 v15 k6_hw1 => k6_hw1.2
def k6_off66 (i : grid6.Coords) : Fin 2 → Nat :=
  let c0_i32_6_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
def k6_off67 (i : grid6.Coords) : Fin 2 → Nat :=
  let c0_i32_6_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
abbrev grid7 : Pipeline.Grid := ⟨2, ![2, 16], ![false, false]⟩

def k7_off1 (i : grid7.Coords) : Fin 2 → Nat :=
  let c0_i32_6_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
@[reducible] def k7_t1_loop : Scf.Loop 32 :=
  let c0_i32 : BitVec 32 := 0#32
  let c16_i32 : BitVec 32 := 16#32
  let v11 : BitVec 32 := Scalar.addi c0_i32 c16_i32
  let c1_i32 : BitVec 32 := 1#32
  ⟨c0_i32, v11, c1_i32⟩
def k7_off2 (k7_t1 : Fin k7_t1_loop.trips) : Fin 2 → Nat :=
  let c0_i32_9 : BitVec 32 := 0#32
  let v16 : Index := Scalar.indexCast c0_i32_9
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v17 : Index := Scalar.indexCast v15
  ![0, v17.toNat]
def k7_off3 (k7_t1 : Fin k7_t1_loop.trips) : Fin 2 → Nat :=
  let c1_i32_10 : BitVec 32 := 1#32
  let v19 : Index := Scalar.indexCast c1_i32_10
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v20 : Index := Scalar.indexCast v15
  ![1, v20.toNat]
def k7_off4 (k7_t1 : Fin k7_t1_loop.trips) : Fin 2 → Nat :=
  let c2_i32_11 : BitVec 32 := 2#32
  let v22 : Index := Scalar.indexCast c2_i32_11
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v23 : Index := Scalar.indexCast v15
  ![2, v23.toNat]
def k7_off5 (k7_t1 : Fin k7_t1_loop.trips) : Fin 2 → Nat :=
  let c3_i32 : BitVec 32 := 3#32
  let v25 : Index := Scalar.indexCast c3_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v26 : Index := Scalar.indexCast v15
  ![3, v26.toNat]
def k7_off6 (k7_t1 : Fin k7_t1_loop.trips) : Fin 2 → Nat :=
  let c4_i32 : BitVec 32 := 4#32
  let v28 : Index := Scalar.indexCast c4_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v29 : Index := Scalar.indexCast v15
  ![4, v29.toNat]
def k7_off7 (k7_t1 : Fin k7_t1_loop.trips) : Fin 2 → Nat :=
  let c5_i32 : BitVec 32 := 5#32
  let v31 : Index := Scalar.indexCast c5_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v32 : Index := Scalar.indexCast v15
  ![5, v32.toNat]
def k7_off8 (k7_t1 : Fin k7_t1_loop.trips) : Fin 2 → Nat :=
  let c6_i32 : BitVec 32 := 6#32
  let v34 : Index := Scalar.indexCast c6_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v35 : Index := Scalar.indexCast v15
  ![6, v35.toNat]
def k7_off9 (k7_t1 : Fin k7_t1_loop.trips) : Fin 2 → Nat :=
  let c7_i32_12 : BitVec 32 := 7#32
  let v37 : Index := Scalar.indexCast c7_i32_12
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v38 : Index := Scalar.indexCast v15
  ![7, v38.toNat]
def k7_off10 (k7_t1 : Fin k7_t1_loop.trips) : Fin 2 → Nat :=
  let c8_i32_13 : BitVec 32 := 8#32
  let v40 : Index := Scalar.indexCast c8_i32_13
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v41 : Index := Scalar.indexCast v15
  ![8, v41.toNat]
def k7_off11 (k7_t1 : Fin k7_t1_loop.trips) : Fin 2 → Nat :=
  let c9_i32 : BitVec 32 := 9#32
  let v43 : Index := Scalar.indexCast c9_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v44 : Index := Scalar.indexCast v15
  ![9, v44.toNat]
def k7_off12 (k7_t1 : Fin k7_t1_loop.trips) : Fin 2 → Nat :=
  let c10_i32 : BitVec 32 := 10#32
  let v46 : Index := Scalar.indexCast c10_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v47 : Index := Scalar.indexCast v15
  ![10, v47.toNat]
def k7_off13 (k7_t1 : Fin k7_t1_loop.trips) : Fin 2 → Nat :=
  let c11_i32 : BitVec 32 := 11#32
  let v49 : Index := Scalar.indexCast c11_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v50 : Index := Scalar.indexCast v15
  ![11, v50.toNat]
def k7_off14 (k7_t1 : Fin k7_t1_loop.trips) : Fin 2 → Nat :=
  let c12_i32 : BitVec 32 := 12#32
  let v52 : Index := Scalar.indexCast c12_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v53 : Index := Scalar.indexCast v15
  ![12, v53.toNat]
def k7_off15 (k7_t1 : Fin k7_t1_loop.trips) : Fin 2 → Nat :=
  let c13_i32 : BitVec 32 := 13#32
  let v55 : Index := Scalar.indexCast c13_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v56 : Index := Scalar.indexCast v15
  ![13, v56.toNat]
def k7_off16 (k7_t1 : Fin k7_t1_loop.trips) : Fin 2 → Nat :=
  let c14_i32 : BitVec 32 := 14#32
  let v58 : Index := Scalar.indexCast c14_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v59 : Index := Scalar.indexCast v15
  ![14, v59.toNat]
def k7_off17 (k7_t1 : Fin k7_t1_loop.trips) : Fin 2 → Nat :=
  let c15_i32 : BitVec 32 := 15#32
  let v61 : Index := Scalar.indexCast c15_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v62 : Index := Scalar.indexCast v15
  ![15, v62.toNat]
def k7_off18 (k7_t1 : Fin k7_t1_loop.trips) : Fin 2 → Nat :=
  let c16_i32_14 : BitVec 32 := 16#32
  let v64 : Index := Scalar.indexCast c16_i32_14
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v65 : Index := Scalar.indexCast v15
  ![16, v65.toNat]
def k7_off19 (k7_t1 : Fin k7_t1_loop.trips) : Fin 2 → Nat :=
  let c17_i32 : BitVec 32 := 17#32
  let v67 : Index := Scalar.indexCast c17_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v68 : Index := Scalar.indexCast v15
  ![17, v68.toNat]
def k7_off20 (k7_t1 : Fin k7_t1_loop.trips) : Fin 2 → Nat :=
  let c18_i32 : BitVec 32 := 18#32
  let v70 : Index := Scalar.indexCast c18_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v71 : Index := Scalar.indexCast v15
  ![18, v71.toNat]
def k7_off21 (k7_t1 : Fin k7_t1_loop.trips) : Fin 2 → Nat :=
  let c19_i32 : BitVec 32 := 19#32
  let v73 : Index := Scalar.indexCast c19_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v74 : Index := Scalar.indexCast v15
  ![19, v74.toNat]
def k7_off22 (k7_t1 : Fin k7_t1_loop.trips) : Fin 2 → Nat :=
  let c20_i32 : BitVec 32 := 20#32
  let v76 : Index := Scalar.indexCast c20_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v77 : Index := Scalar.indexCast v15
  ![20, v77.toNat]
def k7_off23 (k7_t1 : Fin k7_t1_loop.trips) : Fin 2 → Nat :=
  let c21_i32 : BitVec 32 := 21#32
  let v79 : Index := Scalar.indexCast c21_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v80 : Index := Scalar.indexCast v15
  ![21, v80.toNat]
def k7_off24 (k7_t1 : Fin k7_t1_loop.trips) : Fin 2 → Nat :=
  let c22_i32 : BitVec 32 := 22#32
  let v82 : Index := Scalar.indexCast c22_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v83 : Index := Scalar.indexCast v15
  ![22, v83.toNat]
def k7_off25 (k7_t1 : Fin k7_t1_loop.trips) : Fin 2 → Nat :=
  let c23_i32 : BitVec 32 := 23#32
  let v85 : Index := Scalar.indexCast c23_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v86 : Index := Scalar.indexCast v15
  ![23, v86.toNat]
def k7_off26 (k7_t1 : Fin k7_t1_loop.trips) : Fin 2 → Nat :=
  let c24_i32 : BitVec 32 := 24#32
  let v88 : Index := Scalar.indexCast c24_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v89 : Index := Scalar.indexCast v15
  ![24, v89.toNat]
def k7_off27 (k7_t1 : Fin k7_t1_loop.trips) : Fin 2 → Nat :=
  let c25_i32 : BitVec 32 := 25#32
  let v91 : Index := Scalar.indexCast c25_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v92 : Index := Scalar.indexCast v15
  ![25, v92.toNat]
def k7_off28 (k7_t1 : Fin k7_t1_loop.trips) : Fin 2 → Nat :=
  let c26_i32 : BitVec 32 := 26#32
  let v94 : Index := Scalar.indexCast c26_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v95 : Index := Scalar.indexCast v15
  ![26, v95.toNat]
def k7_off29 (k7_t1 : Fin k7_t1_loop.trips) : Fin 2 → Nat :=
  let c27_i32 : BitVec 32 := 27#32
  let v97 : Index := Scalar.indexCast c27_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v98 : Index := Scalar.indexCast v15
  ![27, v98.toNat]
def k7_off30 (k7_t1 : Fin k7_t1_loop.trips) : Fin 2 → Nat :=
  let c28_i32 : BitVec 32 := 28#32
  let v100 : Index := Scalar.indexCast c28_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v101 : Index := Scalar.indexCast v15
  ![28, v101.toNat]
def k7_off31 (k7_t1 : Fin k7_t1_loop.trips) : Fin 2 → Nat :=
  let c29_i32 : BitVec 32 := 29#32
  let v103 : Index := Scalar.indexCast c29_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v104 : Index := Scalar.indexCast v15
  ![29, v104.toNat]
def k7_off32 (k7_t1 : Fin k7_t1_loop.trips) : Fin 2 → Nat :=
  let c30_i32 : BitVec 32 := 30#32
  let v106 : Index := Scalar.indexCast c30_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v107 : Index := Scalar.indexCast v15
  ![30, v107.toNat]
def k7_off33 (k7_t1 : Fin k7_t1_loop.trips) : Fin 2 → Nat :=
  let c31_i32 : BitVec 32 := 31#32
  let v109 : Index := Scalar.indexCast c31_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v110 : Index := Scalar.indexCast v15
  ![31, v110.toNat]
def k7_off34 (k7_t1 : Fin k7_t1_loop.trips) : Fin 2 → Nat :=
  let c32_i32 : BitVec 32 := 32#32
  let v112 : Index := Scalar.indexCast c32_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v113 : Index := Scalar.indexCast v15
  ![32, v113.toNat]
def k7_off35 (k7_t1 : Fin k7_t1_loop.trips) : Fin 2 → Nat :=
  let c33_i32 : BitVec 32 := 33#32
  let v115 : Index := Scalar.indexCast c33_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v116 : Index := Scalar.indexCast v15
  ![33, v116.toNat]
def k7_off36 (k7_t1 : Fin k7_t1_loop.trips) : Fin 2 → Nat :=
  let c34_i32 : BitVec 32 := 34#32
  let v118 : Index := Scalar.indexCast c34_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v119 : Index := Scalar.indexCast v15
  ![34, v119.toNat]
def k7_off37 (k7_t1 : Fin k7_t1_loop.trips) : Fin 2 → Nat :=
  let c35_i32 : BitVec 32 := 35#32
  let v121 : Index := Scalar.indexCast c35_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v122 : Index := Scalar.indexCast v15
  ![35, v122.toNat]
def k7_off38 (k7_t1 : Fin k7_t1_loop.trips) : Fin 2 → Nat :=
  let c36_i32 : BitVec 32 := 36#32
  let v124 : Index := Scalar.indexCast c36_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v125 : Index := Scalar.indexCast v15
  ![36, v125.toNat]
def k7_off39 (k7_t1 : Fin k7_t1_loop.trips) : Fin 2 → Nat :=
  let c37_i32 : BitVec 32 := 37#32
  let v127 : Index := Scalar.indexCast c37_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v128 : Index := Scalar.indexCast v15
  ![37, v128.toNat]
def k7_off40 (k7_t1 : Fin k7_t1_loop.trips) : Fin 2 → Nat :=
  let c38_i32 : BitVec 32 := 38#32
  let v130 : Index := Scalar.indexCast c38_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v131 : Index := Scalar.indexCast v15
  ![38, v131.toNat]
def k7_off41 (k7_t1 : Fin k7_t1_loop.trips) : Fin 2 → Nat :=
  let c39_i32 : BitVec 32 := 39#32
  let v133 : Index := Scalar.indexCast c39_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v134 : Index := Scalar.indexCast v15
  ![39, v134.toNat]
def k7_off42 (k7_t1 : Fin k7_t1_loop.trips) : Fin 2 → Nat :=
  let c40_i32 : BitVec 32 := 40#32
  let v136 : Index := Scalar.indexCast c40_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v137 : Index := Scalar.indexCast v15
  ![40, v137.toNat]
def k7_off43 (k7_t1 : Fin k7_t1_loop.trips) : Fin 2 → Nat :=
  let c41_i32 : BitVec 32 := 41#32
  let v139 : Index := Scalar.indexCast c41_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v140 : Index := Scalar.indexCast v15
  ![41, v140.toNat]
def k7_off44 (k7_t1 : Fin k7_t1_loop.trips) : Fin 2 → Nat :=
  let c42_i32 : BitVec 32 := 42#32
  let v142 : Index := Scalar.indexCast c42_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v143 : Index := Scalar.indexCast v15
  ![42, v143.toNat]
def k7_off45 (k7_t1 : Fin k7_t1_loop.trips) : Fin 2 → Nat :=
  let c43_i32 : BitVec 32 := 43#32
  let v145 : Index := Scalar.indexCast c43_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v146 : Index := Scalar.indexCast v15
  ![43, v146.toNat]
def k7_off46 (k7_t1 : Fin k7_t1_loop.trips) : Fin 2 → Nat :=
  let c44_i32 : BitVec 32 := 44#32
  let v148 : Index := Scalar.indexCast c44_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v149 : Index := Scalar.indexCast v15
  ![44, v149.toNat]
def k7_off47 (k7_t1 : Fin k7_t1_loop.trips) : Fin 2 → Nat :=
  let c45_i32 : BitVec 32 := 45#32
  let v151 : Index := Scalar.indexCast c45_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v152 : Index := Scalar.indexCast v15
  ![45, v152.toNat]
def k7_off48 (k7_t1 : Fin k7_t1_loop.trips) : Fin 2 → Nat :=
  let c46_i32 : BitVec 32 := 46#32
  let v154 : Index := Scalar.indexCast c46_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v155 : Index := Scalar.indexCast v15
  ![46, v155.toNat]
def k7_off49 (k7_t1 : Fin k7_t1_loop.trips) : Fin 2 → Nat :=
  let c47_i32 : BitVec 32 := 47#32
  let v157 : Index := Scalar.indexCast c47_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v158 : Index := Scalar.indexCast v15
  ![47, v158.toNat]
def k7_off50 (k7_t1 : Fin k7_t1_loop.trips) : Fin 2 → Nat :=
  let c48_i32 : BitVec 32 := 48#32
  let v160 : Index := Scalar.indexCast c48_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v161 : Index := Scalar.indexCast v15
  ![48, v161.toNat]
def k7_off51 (k7_t1 : Fin k7_t1_loop.trips) : Fin 2 → Nat :=
  let c49_i32 : BitVec 32 := 49#32
  let v163 : Index := Scalar.indexCast c49_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v164 : Index := Scalar.indexCast v15
  ![49, v164.toNat]
def k7_off52 (k7_t1 : Fin k7_t1_loop.trips) : Fin 2 → Nat :=
  let c50_i32 : BitVec 32 := 50#32
  let v166 : Index := Scalar.indexCast c50_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v167 : Index := Scalar.indexCast v15
  ![50, v167.toNat]
def k7_off53 (k7_t1 : Fin k7_t1_loop.trips) : Fin 2 → Nat :=
  let c51_i32 : BitVec 32 := 51#32
  let v169 : Index := Scalar.indexCast c51_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v170 : Index := Scalar.indexCast v15
  ![51, v170.toNat]
def k7_off54 (k7_t1 : Fin k7_t1_loop.trips) : Fin 2 → Nat :=
  let c52_i32 : BitVec 32 := 52#32
  let v172 : Index := Scalar.indexCast c52_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v173 : Index := Scalar.indexCast v15
  ![52, v173.toNat]
def k7_off55 (k7_t1 : Fin k7_t1_loop.trips) : Fin 2 → Nat :=
  let c53_i32 : BitVec 32 := 53#32
  let v175 : Index := Scalar.indexCast c53_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v176 : Index := Scalar.indexCast v15
  ![53, v176.toNat]
def k7_off56 (k7_t1 : Fin k7_t1_loop.trips) : Fin 2 → Nat :=
  let c54_i32 : BitVec 32 := 54#32
  let v178 : Index := Scalar.indexCast c54_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v179 : Index := Scalar.indexCast v15
  ![54, v179.toNat]
def k7_off57 (k7_t1 : Fin k7_t1_loop.trips) : Fin 2 → Nat :=
  let c55_i32 : BitVec 32 := 55#32
  let v181 : Index := Scalar.indexCast c55_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v182 : Index := Scalar.indexCast v15
  ![55, v182.toNat]
def k7_off58 (k7_t1 : Fin k7_t1_loop.trips) : Fin 2 → Nat :=
  let c56_i32 : BitVec 32 := 56#32
  let v184 : Index := Scalar.indexCast c56_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v185 : Index := Scalar.indexCast v15
  ![56, v185.toNat]
def k7_off59 (k7_t1 : Fin k7_t1_loop.trips) : Fin 2 → Nat :=
  let c57_i32 : BitVec 32 := 57#32
  let v187 : Index := Scalar.indexCast c57_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v188 : Index := Scalar.indexCast v15
  ![57, v188.toNat]
def k7_off60 (k7_t1 : Fin k7_t1_loop.trips) : Fin 2 → Nat :=
  let c58_i32 : BitVec 32 := 58#32
  let v190 : Index := Scalar.indexCast c58_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v191 : Index := Scalar.indexCast v15
  ![58, v191.toNat]
def k7_off61 (k7_t1 : Fin k7_t1_loop.trips) : Fin 2 → Nat :=
  let c59_i32 : BitVec 32 := 59#32
  let v193 : Index := Scalar.indexCast c59_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v194 : Index := Scalar.indexCast v15
  ![59, v194.toNat]
def k7_off62 (k7_t1 : Fin k7_t1_loop.trips) : Fin 2 → Nat :=
  let c60_i32 : BitVec 32 := 60#32
  let v196 : Index := Scalar.indexCast c60_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v197 : Index := Scalar.indexCast v15
  ![60, v197.toNat]
def k7_off63 (k7_t1 : Fin k7_t1_loop.trips) : Fin 2 → Nat :=
  let c61_i32 : BitVec 32 := 61#32
  let v199 : Index := Scalar.indexCast c61_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v200 : Index := Scalar.indexCast v15
  ![61, v200.toNat]
def k7_off64 (k7_t1 : Fin k7_t1_loop.trips) : Fin 2 → Nat :=
  let c62_i32 : BitVec 32 := 62#32
  let v202 : Index := Scalar.indexCast c62_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v203 : Index := Scalar.indexCast v15
  ![62, v203.toNat]
def k7_off65 (k7_t1 : Fin k7_t1_loop.trips) : Fin 2 → Nat :=
  let c63_i32 : BitVec 32 := 63#32
  let v205 : Index := Scalar.indexCast c63_i32
  let c0_i32_7 : BitVec 32 := 0#32
  let c0_i32 : BitVec 32 := 0#32
  let c1_i32 : BitVec 32 := 1#32
  let arg10 : BitVec 32 := Scf.iv c0_i32 c1_i32 k7_t1
  let c1_i32_6 : BitVec 32 := 1#32
  let v13 : BitVec 32 := Scalar.muli arg10 c1_i32_6
  let v14 : BitVec 32 := Scalar.addi c0_i32_7 v13
  let c16_i32_8 : BitVec 32 := 16#32
  let v15 : BitVec 32 := Scalar.muli v14 c16_i32_8
  let v206 : Index := Scalar.indexCast v15
  ![63, v206.toNat]
@[reducible] def k7_t2_loop : Scf.Loop 32 :=
  let c0_i32_2 : BitVec 32 := 0#32
  let c256_i32_3 : BitVec 32 := 256#32
  let v12 : BitVec 32 := Scalar.addi c0_i32_2 c256_i32_3
  let c1_i32_4 : BitVec 32 := 1#32
  ⟨c0_i32_2, v12, c1_i32_4⟩
@[reducible] def k7_t3_loop : Scf.Loop 32 :=
  let c1_i32_10 : BitVec 32 := 1#32
  let c15_i32 : BitVec 32 := 15#32
  let v22 : BitVec 32 := Scalar.addi c1_i32_10 c15_i32
  let c1_i32_11 : BitVec 32 := 1#32
  ⟨c1_i32_10, v22, c1_i32_11⟩

def k7_chk2 (v126 : IVec S16 32) : Prop :=
  (∀ a x, ((![v126] : Fin 1 → IVec S16 32) a x).toNat < S16.size a)
theorem k7_idx2_inb : ∀ (v126 : IVec S16 32) (k7_hw2 : k7_chk2 v126), ∀ a x, ((![v126] : Fin 1 → IVec S16 32) a x).toNat < S16.size a := fun v126 k7_hw2 => k7_hw2

def k7_chk3 (v23 : IVec S16 32) : Prop :=
  (∀ a x, ((![v23] : Fin 1 → IVec S16 32) a x).toNat < S16.size a) ∧
  (∀ a x, ((![v23] : Fin 1 → IVec S16 32) a x).toNat < S16.size a)
theorem k7_idx3_inb : ∀ (v23 : IVec S16 32) (k7_hw3 : k7_chk3 v23), ∀ a x, ((![v23] : Fin 1 → IVec S16 32) a x).toNat < S16.size a := fun v23 k7_hw3 => k7_hw3.1
theorem k7_idx4_inb : ∀ (v23 : IVec S16 32) (k7_hw3 : k7_chk3 v23), ∀ a x, ((![v23] : Fin 1 → IVec S16 32) a x).toNat < S16.size a := fun v23 k7_hw3 => k7_hw3.2

def k7_chk4 (v15 : IVec S16 32) (v28 : IVec S16 32) : Prop :=
  (∀ a x, ((![v28, v15] : Fin 2 → IVec S16 32) a x).toNat < S64x256.size a)
theorem k7_idx5_inb : ∀ (v15 : IVec S16 32) (v28 : IVec S16 32) (k7_hw4 : k7_chk4 v15 v28), ∀ a x, ((![v28, v15] : Fin 2 → IVec S16 32) a x).toNat < S64x256.size a := fun v15 v28 k7_hw4 => k7_hw4
@[reducible] def k7_t4_loop : Scf.Loop 32 :=
  let c1_i32_21 : BitVec 32 := 1#32
  let c15_i32_22 : BitVec 32 := 15#32
  let v37 : BitVec 32 := Scalar.addi c1_i32_21 c15_i32_22
  let c1_i32_23 : BitVec 32 := 1#32
  ⟨c1_i32_21, v37, c1_i32_23⟩

def k7_chk5 (v126 : IVec S16 32) : Prop :=
  (∀ a x, ((![v126] : Fin 1 → IVec S16 32) a x).toNat < S16.size a)
theorem k7_idx6_inb : ∀ (v126 : IVec S16 32) (k7_hw5 : k7_chk5 v126), ∀ a x, ((![v126] : Fin 1 → IVec S16 32) a x).toNat < S16.size a := fun v126 k7_hw5 => k7_hw5

def k7_chk6 (v38 : IVec S16 32) : Prop :=
  (∀ a x, ((![v38] : Fin 1 → IVec S16 32) a x).toNat < S16.size a) ∧
  (∀ a x, ((![v38] : Fin 1 → IVec S16 32) a x).toNat < S16.size a)
theorem k7_idx7_inb : ∀ (v38 : IVec S16 32) (k7_hw6 : k7_chk6 v38), ∀ a x, ((![v38] : Fin 1 → IVec S16 32) a x).toNat < S16.size a := fun v38 k7_hw6 => k7_hw6.1
theorem k7_idx8_inb : ∀ (v38 : IVec S16 32) (k7_hw6 : k7_chk6 v38), ∀ a x, ((![v38] : Fin 1 → IVec S16 32) a x).toNat < S16.size a := fun v38 k7_hw6 => k7_hw6.2

def k7_chk7 (v15 : IVec S16 32) (v43 : IVec S16 32) : Prop :=
  (∀ a x, ((![v43, v15] : Fin 2 → IVec S16 32) a x).toNat < S64x256.size a)
theorem k7_idx9_inb : ∀ (v15 : IVec S16 32) (v43 : IVec S16 32) (k7_hw7 : k7_chk7 v15 v43), ∀ a x, ((![v43, v15] : Fin 2 → IVec S16 32) a x).toNat < S64x256.size a := fun v15 v43 k7_hw7 => k7_hw7
@[reducible] def k7_t5_loop : Scf.Loop 32 :=
  let c1_i32_32 : BitVec 32 := 1#32
  let c15_i32_33 : BitVec 32 := 15#32
  let v52 : BitVec 32 := Scalar.addi c1_i32_32 c15_i32_33
  let c1_i32_34 : BitVec 32 := 1#32
  ⟨c1_i32_32, v52, c1_i32_34⟩

def k7_chk8 (v126 : IVec S16 32) : Prop :=
  (∀ a x, ((![v126] : Fin 1 → IVec S16 32) a x).toNat < S16.size a)
theorem k7_idx10_inb : ∀ (v126 : IVec S16 32) (k7_hw8 : k7_chk8 v126), ∀ a x, ((![v126] : Fin 1 → IVec S16 32) a x).toNat < S16.size a := fun v126 k7_hw8 => k7_hw8

def k7_chk9 (v53 : IVec S16 32) : Prop :=
  (∀ a x, ((![v53] : Fin 1 → IVec S16 32) a x).toNat < S16.size a) ∧
  (∀ a x, ((![v53] : Fin 1 → IVec S16 32) a x).toNat < S16.size a)
theorem k7_idx11_inb : ∀ (v53 : IVec S16 32) (k7_hw9 : k7_chk9 v53), ∀ a x, ((![v53] : Fin 1 → IVec S16 32) a x).toNat < S16.size a := fun v53 k7_hw9 => k7_hw9.1
theorem k7_idx12_inb : ∀ (v53 : IVec S16 32) (k7_hw9 : k7_chk9 v53), ∀ a x, ((![v53] : Fin 1 → IVec S16 32) a x).toNat < S16.size a := fun v53 k7_hw9 => k7_hw9.2

def k7_chk10 (v15 : IVec S16 32) (v58 : IVec S16 32) : Prop :=
  (∀ a x, ((![v58, v15] : Fin 2 → IVec S16 32) a x).toNat < S64x256.size a)
theorem k7_idx13_inb : ∀ (v15 : IVec S16 32) (v58 : IVec S16 32) (k7_hw10 : k7_chk10 v15 v58), ∀ a x, ((![v58, v15] : Fin 2 → IVec S16 32) a x).toNat < S64x256.size a := fun v15 v58 k7_hw10 => k7_hw10
@[reducible] def k7_t6_loop : Scf.Loop 32 :=
  let c1_i32_43 : BitVec 32 := 1#32
  let c15_i32_44 : BitVec 32 := 15#32
  let v67 : BitVec 32 := Scalar.addi c1_i32_43 c15_i32_44
  let c1_i32_45 : BitVec 32 := 1#32
  ⟨c1_i32_43, v67, c1_i32_45⟩

def k7_chk11 (v126 : IVec S16 32) : Prop :=
  (∀ a x, ((![v126] : Fin 1 → IVec S16 32) a x).toNat < S16.size a)
theorem k7_idx14_inb : ∀ (v126 : IVec S16 32) (k7_hw11 : k7_chk11 v126), ∀ a x, ((![v126] : Fin 1 → IVec S16 32) a x).toNat < S16.size a := fun v126 k7_hw11 => k7_hw11

def k7_chk12 (v68 : IVec S16 32) : Prop :=
  (∀ a x, ((![v68] : Fin 1 → IVec S16 32) a x).toNat < S16.size a) ∧
  (∀ a x, ((![v68] : Fin 1 → IVec S16 32) a x).toNat < S16.size a)
theorem k7_idx15_inb : ∀ (v68 : IVec S16 32) (k7_hw12 : k7_chk12 v68), ∀ a x, ((![v68] : Fin 1 → IVec S16 32) a x).toNat < S16.size a := fun v68 k7_hw12 => k7_hw12.1
theorem k7_idx16_inb : ∀ (v68 : IVec S16 32) (k7_hw12 : k7_chk12 v68), ∀ a x, ((![v68] : Fin 1 → IVec S16 32) a x).toNat < S16.size a := fun v68 k7_hw12 => k7_hw12.2
@[reducible] def k7_t7_loop : Scf.Loop 32 :=
  let c1_i32_54 : BitVec 32 := 1#32
  let c15_i32_55 : BitVec 32 := 15#32
  let v81 : BitVec 32 := Scalar.addi c1_i32_54 c15_i32_55
  let c1_i32_56 : BitVec 32 := 1#32
  ⟨c1_i32_54, v81, c1_i32_56⟩

def k7_chk14 (v126 : IVec S16 32) : Prop :=
  (∀ a x, ((![v126] : Fin 1 → IVec S16 32) a x).toNat < S16.size a)
theorem k7_idx19_inb : ∀ (v126 : IVec S16 32) (k7_hw14 : k7_chk14 v126), ∀ a x, ((![v126] : Fin 1 → IVec S16 32) a x).toNat < S16.size a := fun v126 k7_hw14 => k7_hw14

def k7_chk15 (v82 : IVec S16 32) : Prop :=
  (∀ a x, ((![v82] : Fin 1 → IVec S16 32) a x).toNat < S16.size a) ∧
  (∀ a x, ((![v82] : Fin 1 → IVec S16 32) a x).toNat < S16.size a)
theorem k7_idx20_inb : ∀ (v82 : IVec S16 32) (k7_hw15 : k7_chk15 v82), ∀ a x, ((![v82] : Fin 1 → IVec S16 32) a x).toNat < S16.size a := fun v82 k7_hw15 => k7_hw15.1
theorem k7_idx21_inb : ∀ (v82 : IVec S16 32) (k7_hw15 : k7_chk15 v82), ∀ a x, ((![v82] : Fin 1 → IVec S16 32) a x).toNat < S16.size a := fun v82 k7_hw15 => k7_hw15.2
@[reducible] def k7_t8_loop : Scf.Loop 32 :=
  let c1_i32_65 : BitVec 32 := 1#32
  let c15_i32_66 : BitVec 32 := 15#32
  let v95 : BitVec 32 := Scalar.addi c1_i32_65 c15_i32_66
  let c1_i32_67 : BitVec 32 := 1#32
  ⟨c1_i32_65, v95, c1_i32_67⟩

def k7_chk16 (v126 : IVec S16 32) : Prop :=
  (∀ a x, ((![v126] : Fin 1 → IVec S16 32) a x).toNat < S16.size a)
theorem k7_idx24_inb : ∀ (v126 : IVec S16 32) (k7_hw16 : k7_chk16 v126), ∀ a x, ((![v126] : Fin 1 → IVec S16 32) a x).toNat < S16.size a := fun v126 k7_hw16 => k7_hw16

def k7_chk17 (v96 : IVec S16 32) : Prop :=
  (∀ a x, ((![v96] : Fin 1 → IVec S16 32) a x).toNat < S16.size a) ∧
  (∀ a x, ((![v96] : Fin 1 → IVec S16 32) a x).toNat < S16.size a)
theorem k7_idx25_inb : ∀ (v96 : IVec S16 32) (k7_hw17 : k7_chk17 v96), ∀ a x, ((![v96] : Fin 1 → IVec S16 32) a x).toNat < S16.size a := fun v96 k7_hw17 => k7_hw17.1
theorem k7_idx26_inb : ∀ (v96 : IVec S16 32) (k7_hw17 : k7_chk17 v96), ∀ a x, ((![v96] : Fin 1 → IVec S16 32) a x).toNat < S16.size a := fun v96 k7_hw17 => k7_hw17.2

def k7_chk13 (v7 : IVec S16 32) : Prop :=
  (∀ a x, ((![v7] : Fin 1 → IVec S16 32) a x).toNat < S16.size a) ∧
  (∀ a x, ((![v7] : Fin 1 → IVec S16 32) a x).toNat < S16.size a) ∧
  (∀ a x, ((![v7] : Fin 1 → IVec S16 32) a x).toNat < S16.size a) ∧
  (∀ a x, ((![v7] : Fin 1 → IVec S16 32) a x).toNat < S16.size a) ∧
  (∀ a x, ((![v7] : Fin 1 → IVec S16 32) a x).toNat < S16.size a) ∧
  (∀ a x, ((![v7] : Fin 1 → IVec S16 32) a x).toNat < S16.size a)
theorem k7_idx17_inb : ∀ (v7 : IVec S16 32) (k7_hw13 : k7_chk13 v7), ∀ a x, ((![v7] : Fin 1 → IVec S16 32) a x).toNat < S16.size a := fun v7 k7_hw13 => k7_hw13.1
theorem k7_idx18_inb : ∀ (v7 : IVec S16 32) (k7_hw13 : k7_chk13 v7), ∀ a x, ((![v7] : Fin 1 → IVec S16 32) a x).toNat < S16.size a := fun v7 k7_hw13 => k7_hw13.2.1
theorem k7_idx22_inb : ∀ (v7 : IVec S16 32) (k7_hw13 : k7_chk13 v7), ∀ a x, ((![v7] : Fin 1 → IVec S16 32) a x).toNat < S16.size a := fun v7 k7_hw13 => k7_hw13.2.2.1
theorem k7_idx23_inb : ∀ (v7 : IVec S16 32) (k7_hw13 : k7_chk13 v7), ∀ a x, ((![v7] : Fin 1 → IVec S16 32) a x).toNat < S16.size a := fun v7 k7_hw13 => k7_hw13.2.2.2.1
theorem k7_idx27_inb : ∀ (v7 : IVec S16 32) (k7_hw13 : k7_chk13 v7), ∀ a x, ((![v7] : Fin 1 → IVec S16 32) a x).toNat < S16.size a := fun v7 k7_hw13 => k7_hw13.2.2.2.2.1
theorem k7_idx28_inb : ∀ (v7 : IVec S16 32) (k7_hw13 : k7_chk13 v7), ∀ a x, ((![v7] : Fin 1 → IVec S16 32) a x).toNat < S16.size a := fun v7 k7_hw13 => k7_hw13.2.2.2.2.2
@[reducible] def k7_t9_loop : Scf.Loop 32 :=
  let c1_i32_76 : BitVec 32 := 1#32
  let c15_i32_77 : BitVec 32 := 15#32
  let v109 : BitVec 32 := Scalar.addi c1_i32_76 c15_i32_77
  let c1_i32_78 : BitVec 32 := 1#32
  ⟨c1_i32_76, v109, c1_i32_78⟩

def k7_chk18 (v126 : IVec S16 32) : Prop :=
  (∀ a x, ((![v126] : Fin 1 → IVec S16 32) a x).toNat < S16.size a)
theorem k7_idx29_inb : ∀ (v126 : IVec S16 32) (k7_hw18 : k7_chk18 v126), ∀ a x, ((![v126] : Fin 1 → IVec S16 32) a x).toNat < S16.size a := fun v126 k7_hw18 => k7_hw18

def k7_chk19 (v110 : IVec S16 32) : Prop :=
  (∀ a x, ((![v110] : Fin 1 → IVec S16 32) a x).toNat < S16.size a) ∧
  (∀ a x, ((![v110] : Fin 1 → IVec S16 32) a x).toNat < S16.size a)
theorem k7_idx30_inb : ∀ (v110 : IVec S16 32) (k7_hw19 : k7_chk19 v110), ∀ a x, ((![v110] : Fin 1 → IVec S16 32) a x).toNat < S16.size a := fun v110 k7_hw19 => k7_hw19.1
theorem k7_idx31_inb : ∀ (v110 : IVec S16 32) (k7_hw19 : k7_chk19 v110), ∀ a x, ((![v110] : Fin 1 → IVec S16 32) a x).toNat < S16.size a := fun v110 k7_hw19 => k7_hw19.2
@[reducible] def k7_t10_loop : Scf.Loop 32 :=
  let c0_i32_87 : BitVec 32 := 0#32
  let c16_i32_88 : BitVec 32 := 16#32
  let v120 : BitVec 32 := Scalar.addi c0_i32_87 c16_i32_88
  let c1_i32_89 : BitVec 32 := 1#32
  ⟨c0_i32_87, v120, c1_i32_89⟩

def k7_chk20 (v123 : IVec S16 32) : Prop :=
  (∀ a x, ((![v123] : Fin 1 → IVec S16 32) a x).toNat < S16.size a)
theorem k7_idx32_inb : ∀ (v123 : IVec S16 32) (k7_hw20 : k7_chk20 v123), ∀ a x, ((![v123] : Fin 1 → IVec S16 32) a x).toNat < S16.size a := fun v123 k7_hw20 => k7_hw20

def k7_chk21 (v15 : IVec S16 32) (v113 : IVec S16 32) : Prop :=
  (∀ a x, ((![v113, v15] : Fin 2 → IVec S16 32) a x).toNat < S64x256.size a)
theorem k7_idx33_inb : ∀ (v15 : IVec S16 32) (v113 : IVec S16 32) (k7_hw21 : k7_chk21 v15 v113), ∀ a x, ((![v113, v15] : Fin 2 → IVec S16 32) a x).toNat < S64x256.size a := fun v15 v113 k7_hw21 => k7_hw21

def k7_chk1 (v3 : IVec S16 32) (v9 : IVec S16 32) (v15 : IVec S16 32) : Prop :=
  (∀ a x, ((![v3, v15] : Fin 2 → IVec S16 32) a x).toNat < S64x256.size a) ∧
  (∀ a x, ((![v9, v15] : Fin 2 → IVec S16 32) a x).toNat < S8x256.size a)
theorem k7_idx1_inb : ∀ (v3 : IVec S16 32) (v9 : IVec S16 32) (v15 : IVec S16 32) (k7_hw1 : k7_chk1 v3 v9 v15), ∀ a x, ((![v3, v15] : Fin 2 → IVec S16 32) a x).toNat < S64x256.size a := fun v3 v9 v15 k7_hw1 => k7_hw1.1
theorem k7_idx34_inb : ∀ (v3 : IVec S16 32) (v9 : IVec S16 32) (v15 : IVec S16 32) (k7_hw1 : k7_chk1 v3 v9 v15), ∀ a x, ((![v9, v15] : Fin 2 → IVec S16 32) a x).toNat < S8x256.size a := fun v3 v9 v15 k7_hw1 => k7_hw1.2
def k7_off66 (i : grid7.Coords) : Fin 2 → Nat :=
  let c0_i32_6_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
def k7_off67 (i : grid7.Coords) : Fin 2 → Nat :=
  let c0_i32_6_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S4x8192x768 : Shape := ⟨3, ![4, 8192, 768]⟩
abbrev S64x768 : Shape := ⟨2, ![64, 768]⟩
abbrev S64 : Shape := ⟨1, ![64]⟩
abbrev S4x8192x64 : Shape := ⟨3, ![4, 8192, 64]⟩
abbrev S_ : Shape := ⟨0, ![]⟩
abbrev S4x8192 : Shape := ⟨2, ![4, 8192]⟩
abbrev S4x8192x1 : Shape := ⟨3, ![4, 8192, 1]⟩
abbrev S32768x64 : Shape := ⟨2, ![32768, 64]⟩
abbrev S4x8192x8 : Shape := ⟨3, ![4, 8192, 8]⟩
abbrev S32768x8 : Shape := ⟨2, ![32768, 8]⟩
abbrev S32768 : Shape := ⟨1, ![32768]⟩
abbrev S32768x1 : Shape := ⟨2, ![32768, 1]⟩
abbrev S32768x8x1 : Shape := ⟨3, ![32768, 8, 1]⟩
abbrev S32768x8x2 : Shape := ⟨3, ![32768, 8, 2]⟩

abbrev nBuf : Space → Nat
  | .hbm => 79
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S64x768, .f32⟩
  | .hbm, ⟨2, _⟩ => ⟨S64, .f32⟩
  | .hbm, ⟨3, _⟩ => ⟨S4x8192x64, .f32⟩
  | .hbm, ⟨4, _⟩ => ⟨S_, .f32⟩
  | .hbm, ⟨5, _⟩ => ⟨S4x8192, .f32⟩
  | .hbm, ⟨6, _⟩ => ⟨S_, .f32⟩
  | .hbm, ⟨7, _⟩ => ⟨S4x8192, .f32⟩
  | .hbm, ⟨8, _⟩ => ⟨S4x8192, .f32⟩
  | .hbm, ⟨9, _⟩ => ⟨S4x8192x1, .f32⟩
  | .hbm, ⟨10, _⟩ => ⟨S4x8192x64, .f32⟩
  | .hbm, ⟨11, _⟩ => ⟨S4x8192x64, .f32⟩
  | .hbm, ⟨12, _⟩ => ⟨S4x8192x64, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x64, .f32⟩
  | .hbm, ⟨17, _⟩ => ⟨S4x8192x64, .f32⟩
  | .hbm, ⟨18, _⟩ => ⟨S32768x64, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4x8192x8, .f32⟩
  | .hbm, ⟨38, _⟩ => ⟨S4x8192x8, .i32⟩
  | .hbm, ⟨39, _⟩ => ⟨S32768x8, .f32⟩
  | .hbm, ⟨40, _⟩ => ⟨S32768x8, .i32⟩
  | .hbm, ⟨41, _⟩ => ⟨S_, .f32⟩
  | .hbm, ⟨42, _⟩ => ⟨S32768x64, .f32⟩
  | .hbm, ⟨43, _⟩ => ⟨S32768, .i32⟩
  | .hbm, ⟨44, _⟩ => ⟨S32768x1, .i32⟩
  | .hbm, ⟨45, _⟩ => ⟨S_, .i32⟩
  | .hbm, ⟨46, _⟩ => ⟨S32768x1, .i32⟩
  | .hbm, ⟨47, _⟩ => ⟨S32768x1, .i1⟩
  | .hbm, ⟨48, _⟩ => ⟨S_, .i32⟩
  | .hbm, ⟨49, _⟩ => ⟨S32768x1, .i32⟩
  | .hbm, ⟨50, _⟩ => ⟨S32768x1, .i32⟩
  | .hbm, ⟨51, _⟩ => ⟨S32768x1, .i32⟩
  | .hbm, ⟨52, _⟩ => ⟨S_, .i32⟩
  | .hbm, ⟨53, _⟩ => ⟨S32768x8, .i32⟩
  | .hbm, ⟨54, _⟩ => ⟨S32768x8, .i1⟩
  | .hbm, ⟨55, _⟩ => ⟨S_, .i32⟩
  | .hbm, ⟨56, _⟩ => ⟨S32768x8, .i32⟩
  | .hbm, ⟨57, _⟩ => ⟨S32768x8, .i32⟩
  | .hbm, ⟨58, _⟩ => ⟨S32768x8, .i32⟩
  | .hbm, ⟨59, _⟩ => ⟨S32768x8, .i32⟩
  | .hbm, ⟨60, _⟩ => ⟨S32768x8x1, .i32⟩
  | .hbm, ⟨61, _⟩ => ⟨S32768x8x1, .i32⟩
  | .hbm, ⟨62, _⟩ => ⟨S32768x8x2, .i32⟩
  | .hbm, ⟨63, _⟩ => ⟨S32768x64, .f32⟩
  | .hbm, ⟨64, _⟩ => ⟨S4x8192x64, .f32⟩
  | .hbm, ⟨65, _⟩ => ⟨S_, .f32⟩
  | .hbm, ⟨66, _⟩ => ⟨S4x8192, .f32⟩
  | .hbm, ⟨67, _⟩ => ⟨S_, .f32⟩
  | .hbm, ⟨68, _⟩ => ⟨S4x8192, .f32⟩
  | .hbm, ⟨69, _⟩ => ⟨S4x8192, .f32⟩
  | .hbm, ⟨70, _⟩ => ⟨S4x8192x1, .f32⟩
  | .hbm, ⟨71, _⟩ => ⟨S4x8192x64, .f32⟩
  | .hbm, ⟨72, _⟩ => ⟨S4x8192x64, .f32⟩
  | .hbm, ⟨73, _⟩ => ⟨S4x8192x64, .f32⟩
  | .hbm, ⟨74, _⟩ => ⟨S_, .f32⟩
  | .hbm, ⟨75, _⟩ => ⟨S4x8192, .f32⟩
  | .hbm, ⟨76, _⟩ => ⟨S4x8192x1, .f32⟩
  | .hbm, ⟨77, _⟩ => ⟨S4x8192x64, .f32⟩
  | .hbm, ⟨78, _⟩ => ⟨S4x8192x64, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_cst_8 : Ref sig .tc := ⟨.hbm, 35, rfl⟩
abbrev main_v23 : Ref sig .tc := ⟨.hbm, 36, rfl⟩
abbrev main_values : Ref sig .tc := ⟨.hbm, 37, rfl⟩
abbrev main_indices : Ref sig .tc := ⟨.hbm, 38, rfl⟩
abbrev main_v24 : Ref sig .tc := ⟨.hbm, 39, rfl⟩
abbrev main_v25 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c : Ref sig .tc := ⟨.hbm, 45, rfl⟩
abbrev main_v29 : Ref sig .tc := ⟨.hbm, 46, rfl⟩
abbrev main_v30 : Ref sig .tc := ⟨.hbm, 47, rfl⟩
abbrev main_c_10 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_11 : Ref sig .tc := ⟨.hbm, 52, rfl⟩
abbrev main_v34 : Ref sig .tc := ⟨.hbm, 53, rfl⟩
abbrev main_v35 : Ref sig .tc := ⟨.hbm, 54, rfl⟩
abbrev main_c_12 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Proof.Spec.lean ====
/-
  What one tile of the SparseCore's top-8 kernel computes for one token, as plain functions of lanes: the rank of a
  key among sixteen, the scatter by rank, the merge of two sorted halves, and from the sixty-four probabilities of a
  token its eight experts and their weights.
-/
module

public import Idealize.ShloMosaic.PureOps

@[expose] public section

noncomputable section

namespace Cert.Proof.Tile

open Idealize.ShloMosaic

variable {F : FTy → Type} [FloatOps F]

/-- The lane `d` places after lane `i`, around sixteen. -/
def turn (i : Fin 16) (d : ℕ) : Fin 16 := ⟨(i.val + d) % 16, Nat.mod_lt _ (by decide)⟩

/-- Key `j` goes before key `i`: it is less, or equal and in a lower lane. -/
def Before (k : Fin 16 → F .f32) (j i : Fin 16) : Prop :=
  FloatOps.cmpf .olt (k j) (k i) = 1#1 ∨ (FloatOps.cmpf .oeq (k j) (k i) = 1#1 ∧ j < i)

instance (k : Fin 16 → F .f32) (j i : Fin 16) : Decidable (Before k j i) := by unfold Before; infer_instance

/-- How many of the `n` lanes after lane `i` hold a key that goes before its own. -/
def countBefore (k : Fin 16 → F .f32) (n : ℕ) (i : Fin 16) : ℕ :=
  ((Finset.range n).filter fun d => Before k (turn i (d + 1)) i).card

theorem countBefore_le (k : Fin 16 → F .f32) (n : ℕ) (i : Fin 16) : countBefore k n i ≤ n :=
  (Finset.card_filter_le _ _).trans (Finset.card_range n).le

theorem countBefore_succ (k : Fin 16 → F .f32) (n : ℕ) (i : Fin 16) :
    countBefore k (n + 1) i = countBefore k n i + if Before k (turn i (n + 1)) i then 1 else 0 := by
  unfold countBefore
  rw [Finset.range_add_one, Finset.filter_insert]
  split
  · rw [Finset.card_insert_of_notMem (by simp)]
  · rfl

/-- The rank of lane `i`'s key among the sixteen. -/
def rank (k : Fin 16 → F .f32) (i : Fin 16) : Fin 16 := ⟨countBefore k 15 i, Nat.lt_succ_of_le (countBefore_le k 15 i)⟩

/-- Lanes of `v` scattered to the places `r` names, over `f`: the highest lane naming a place is the one that stays. -/
def scatter {α ι : Type} [DecidableEq ι] (r : Fin 16 → ι) (mask : Fin 16 → Bool) (v : Fin 16 → α) (f : ι → α) : ι → α :=
  (List.finRange 16).foldl (fun g j => if mask j then fun p => if p = r j then v j else g p else g) f

/-- `v` in the order of the keys `k`. -/
def srt {α : Type} (k : Fin 16 → F .f32) (v : Fin 16 → α) : Fin 16 → α := scatter (rank k) (fun _ => true) v v

/-- The lower halves of two sorted vectors, side by side. -/
def half {α : Type} (a b : Fin 16 → α) (i : Fin 16) : α := if i.val < 8 then a i else b ⟨i.val - 8, by omega⟩

/-- The keys of quarter `b` of a token's experts: the probabilities negated. -/
def key (p : Fin 64 → F .f32) (b : Fin 4) (i : Fin 16) : F .f32 :=
  FloatOps.subf (Scalar.ofBits .f32 0x00000000#32) (p ⟨16 * b.val + i.val, by omega⟩)

/-- The numbers of quarter `b` of the experts. -/
def eid (b : Fin 4) (i : Fin 16) : BitVec 32 := BitVec.ofNat 32 (16 * b.val + i.val)

/-- The keys, and the experts, of quarter `b` in order. -/
def qk (p : Fin 64 → F .f32) (b : Fin 4) : Fin 16 → F .f32 := srt (key p b) (key p b)
def qv (p : Fin 64 → F .f32) (b : Fin 4) : Fin 16 → BitVec 32 := srt (key p b) (eid b)
/-- Two quarters' best eights, side by side and then in order: the keys and the experts. -/
def hk (p : Fin 64 → F .f32) (a b : Fin 4) : Fin 16 → F .f32 := srt (half (qk p a) (qk p b)) (half (qk p a) (qk p b))
def hv (p : Fin 64 → F .f32) (a b : Fin 4) : Fin 16 → BitVec 32 := srt (half (qk p a) (qk p b)) (half (qv p a) (qv p b))
/-- The best eight of all, in order, in the lower half: the keys and the experts. -/
def tk (p : Fin 64 → F .f32) : Fin 16 → F .f32 :=
  srt (half (hk p 0 1) (hk p 2 3)) (half (hk p 0 1) (hk p 2 3))
def tv (p : Fin 64 → F .f32) : Fin 16 → BitVec 32 :=
  srt (half (hk p 0 1) (hk p 2 3)) (half (hv p 0 1) (hv p 2 3))

/-- The best eight probabilities, and zeros after them. -/
def top (p : Fin 64 → F .f32) (i : Fin 16) : F .f32 :=
  if i.val < 8 then FloatOps.subf (Scalar.ofBits .f32 0x00000000#32) (tk p i) else Scalar.ofBits .f32 0x00000000#32

/-- The sum of the first `n` lanes, added in order onto zero. -/
def sumTo (x : Fin 16 → F .f32) : ℕ → F .f32
  | 0 => Scalar.ofBits .f32 0x00000000#32
  | n + 1 => FloatOps.addf (sumTo x n) (x ⟨n % 16, Nat.mod_lt _ (by decide)⟩)

/-- The weight of lane `i`'s expert: its share of the best eights' sum. -/
def wgt (p : Fin 64 → F .f32) (i : Fin 16) : F .f32 := FloatOps.divf (top p i) (sumTo (top p) 16)

/-! ## Every scattered value is one of the lanes' -/

theorem foldl_scatter_mem {α ι : Type} [DecidableEq ι] (r : Fin 16 → ι) (mask : Fin 16 → Bool) (v : Fin 16 → α) (P : α → Prop) (hv : ∀ j, P (v j))
    (l : List (Fin 16)) (f : ι → α) (hf : ∀ p, P (f p)) (p : ι) :
    P (l.foldl (fun g j => if mask j then fun p => if p = r j then v j else g p else g) f p) := by
  induction l generalizing f with
  | nil => exact hf p
  | cons j l ih =>
    refine ih _ fun q => ?_
    dsimp only
    split
    · dsimp only
      split
      · exact hv j
      · exact hf q
    · exact hf q

theorem srt_mem {α : Type} (k : Fin 16 → F .f32) (v : Fin 16 → α) (P : α → Prop) (hv : ∀ j, P (v j)) (i : Fin 16) : P (srt k v i) :=
  foldl_scatter_mem _ _ v P hv _ v hv i

theorem half_mem {α : Type} (a b : Fin 16 → α) (P : α → Prop) (ha : ∀ j, P (a j)) (hb : ∀ j, P (b j)) (i : Fin 16) : P (half a b i) := by
  unfold half; split
  · exact ha _
  · exact hb _

theorem tv_lt (p : Fin 64 → F .f32) (i : Fin 16) : (tv p i).toNat < 64 := by
  have hq : ∀ b j, (qv p b j).toNat < 64 := fun b j => srt_mem _ _ (fun x : BitVec 32 => x.toNat < 64) (fun i => by
    unfold eid; rw [BitVec.toNat_ofNat]; omega) j
  have hh : ∀ a b j, (hv p a b j).toNat < 64 := fun a b j => srt_mem _ _ (fun x : BitVec 32 => x.toNat < 64)
    (half_mem _ _ (fun x : BitVec 32 => x.toNat < 64) (hq a) (hq b)) j
  exact srt_mem _ _ (fun x : BitVec 32 => x.toNat < 64) (half_mem _ _ (fun x : BitVec 32 => x.toNat < 64) (hh 0 1) (hh 2 3)) i

/-- Token `p`'s weights over all the experts: zero at every expert but its eight. -/
def gated (p : Fin 64 → F .f32) : Fin 64 → F .f32 :=
  scatter (fun j => (⟨(tv p j).toNat, tv_lt p j⟩ : Fin 64)) (fun j => decide (j.val < 8)) (wgt p) fun _ => Scalar.ofBits .f32 0x00000000#32

/-- Token `p`'s eight experts. -/
def ids (p : Fin 64 → F .f32) (r : Fin 8) : BitVec 32 := tv p ⟨r.val, by omega⟩

end Cert.Proof.Tile

end
-- ==== Proof.Step.lean ====
/-
  Rules for the steps the SparseCore's top-8 body is made of, over memrefs owned at what they read, and the rule of its
  counting loop: sixteen keys in a row, each lane counting the keys that go before its own.
-/
module

public import proofs.«01_k».proof.Proof.Spec
public import proofs.«01_k».proof.Proof.Gen.KernelIdeal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Memref
public import Idealize.ShloMosaic.Lib.Tactic

@[expose] public section

noncomputable section

namespace Cert.Proof.Tile

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

/-! ## Steps -/

section Steps

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} {𝒱 : Variants} {c : Thread nD τ} {bd : Option 𝒱.V}
variable {s t : Shape} {e : EltTy} {α : Type} {Q : α → sProp (MT nD τ sig Ix (Elt F) Name U Lvl)}

local notation "𝕄" => MT nD τ sig Ix (Elt F) Name U Lvl

theorem read_slice_whole {κ : Kind} {sp : Space} (v : View sig κ sp s e) (f : v.ty.Contents (Elt F)) :
    (v.slice (Rect.whole s)).read (Elt F) f = v.read (Elt F) f := by
  funext x
  show v.read (Elt F) f ((Rect.whole s).emb x) = _
  rw [Rect.emb_whole_apply]

theorem read_write_whole {κ : Kind} {sp : Space} (v : View sig κ sp s e) (f : v.ty.Contents (Elt F)) (w : Vec F s e) :
    v.read (Elt F) ((v.slice (Rect.whole s)).write (Elt F) f w Finset.univ) = w := by
  funext x
  have := v.read_writes_cons_emb (Val := Elt F) (f := f) (Rect.whole s) w [] x
  rw [Rect.emb_whole_apply] at this
  rw [← this, View.writes_singleton]

theorem st_ret {a : α} : Q a ⊢ wp (M := 𝕄) frame (wpE defs 𝒱 c bd) Set.univ (pure a) Q := by
  show _ ⊢ wp frame (wpE defs 𝒱 c bd) Set.univ (Prog.ret a) Q
  rw [wp_ret]
  iintro H
  imodintro
  iexact H

theorem st_assume {P : Prop} {d : Decidable P} {k : PLift P → Prog (TpuEff nD τ sig (Elt F) Λ c.2) α} (h : P) :
    wp (M := 𝕄) frame (wpE defs 𝒱 c bd) Set.univ (k ⟨h⟩) Q
      ⊢ wp frame (wpE defs 𝒱 c bd) Set.univ (Prog.lift (.assume P d) >>= k) Q :=
  wp_assume 𝒱 c bd Set.univ h

theorem st_load {m : Memref sig c.2.kind .vmem s e} {X : Vec F s e} {off : Fin s.rank → ℕ} {inb : ∀ a, off a + s.size a ≤ s.size a}
    {hl : m.view.LoadsAt (Rect.unit off s.size inb).toLoadRect} {k : Vec F s e → Prog (TpuEff nD τ sig (Elt F) Λ c.2) α}
    (h0 : off = fun _ => 0) :
    owns c m fullShare X ⊢ iprop((owns c m fullShare X -∗ wp (M := 𝕄) frame (wpE defs 𝒱 c bd) Set.univ (k X) Q)
      -∗ wp frame (wpE defs 𝒱 c bd) Set.univ (Prog.lift (.load m (Rect.unit off s.size inb).toLoadRect hl) >>= k) Q) := by
  unfold owns
  iintro ⟨%f, %hf, H⟩ Hk
  iapply (wp_load (defs := defs) 𝒱 c bd Set.univ (Q := Q) (m := m) (hl := hl) (k := k) (S := m.view.set) (q := fullShare) (f := f)
    (m.view.setOn_subset_set _)) $$ H
  iintro H
  have e : m.view.readAt (Elt F) (Rect.unit off s.size inb).toLoadRect f = X := by
    rw [View.readAt_eq_ld, View.ld_unit_zero h0, hf]
  rw [e]
  iapply Hk
  iexists f; isplitr
  · ipureintro; exact hf
  · iexact H

theorem st_store {m : Memref sig c.2.kind .vmem s e} {X w : Vec F s e} {off : Fin s.rank → ℕ} {inb : ∀ a, off a + s.size a ≤ s.size a}
    {hx : (m.access (Rect.unit off s.size inb)).Stores Finset.univ} {hm}
    {k : PUnit → Prog (TpuEff nD τ sig (Elt F) Λ c.2) α}
    (h0 : off = fun _ => 0) :
    owns c m fullShare X ⊢ iprop((owns c m fullShare w -∗ wp (M := 𝕄) frame (wpE defs 𝒱 c bd) Set.univ (k ⟨⟩) Q)
      -∗ wp frame (wpE defs 𝒱 c bd) Set.univ (Prog.lift (.store m (Rect.unit off s.size inb) w Finset.univ hx hm) >>= k) Q) := by
  subst h0
  unfold owns
  iintro ⟨%f, %hf, H⟩ Hk
  iapply (wp_store (defs := defs) 𝒱 c bd Set.univ (Q := Q) (m := m) (r := Rect.whole s) (hx := hx) (hm := hm) (k := k) (S := m.view.set) (f := f)
    (m.setOn_access_subset _ _)) $$ H
  iintro H
  iapply Hk
  iexists _; isplitr
  rotate_left 1
  · iexact H
  · ipureintro
    exact read_write_whole m.view f w

theorem st_scatter {d : Fin 1 → Nat} {m : Memref sig c.2.kind .vmem s e} {X : Vec F s e} {idxs : Fin s.rank → IVec ⟨1, d⟩ 32} {v : Vec F ⟨1, d⟩ e}
    {mask : IVec ⟨1, d⟩ 1} {h : ∀ a x, (idxs a x).toNat < s.size a} {hs : (m.access (.whole s)).Stores Finset.univ}
    {k : PUnit → Prog (TpuEff nD τ sig (Elt F) Λ c.2) α} (Y : Vec F s e) (hY : storeIdx X idxs v mask false h = Y) :
    owns c m fullShare X ⊢ iprop((owns c m fullShare Y -∗ wp (M := 𝕄) frame (wpE defs 𝒱 c bd) Set.univ (k ⟨⟩) Q)
      -∗ wp frame (wpE defs 𝒱 c bd) Set.univ (SparseCore.vectorStoreIdx m idxs v mask false h hs >>= k) Q) := by
  subst hY
  unfold owns
  iintro ⟨%f, %hf, H⟩ Hk
  have hset : (m.access (.whole s)).set = m.view.set := by
    rw [View.set_slice, Rect.set_whole]; rfl
  have e : (m.access (.whole s)).read (Elt F) f = X := by
    rw [← hf]; exact read_slice_whole m.view f
  rw [← hset]
  iapply (SparseCore.wp_vectorStoreIdx (defs := defs) 𝒱 c bd Set.univ (Q := Q) (base := m) (h := h) (hs := hs) (k := k) (f := f)) $$ H
  rw [e]
  iintro H
  iapply Hk
  iexists _; isplitr
  rotate_left 1
  · iexact H
  · ipureintro
    exact read_write_whole m.view f _

theorem st_gather {m : Memref sig c.2.kind .vmem s e} {X : Vec F s e} {idxs : Fin s.rank → IVec t 32}
    {h : ∀ a x, (idxs a x).toNat < s.size a} {hl : m.view.Loads} {k : Vec F t e → Prog (TpuEff nD τ sig (Elt F) Λ c.2) α} (Y : Vec F t e)
    (hY : loadIdx X idxs h = Y) :
    owns c m fullShare X ⊢ iprop((owns c m fullShare X -∗ wp (M := 𝕄) frame (wpE defs 𝒱 c bd) Set.univ (k Y) Q)
      -∗ wp frame (wpE defs 𝒱 c bd) Set.univ (SparseCore.vectorLoadIdx m idxs h hl >>= k) Q) := by
  subst hY
  unfold owns
  iintro ⟨%f, %hf, H⟩ Hk
  iapply (SparseCore.wp_vectorLoadIdx (defs := defs) 𝒱 c bd Set.univ (Q := Q) (base := m) (h := h) (hl := hl) (k := k) (S := m.view.set) (q := fullShare) (f := f)
    (View.set_slice_subset _ _)) $$ H
  iintro H
  have e : (m.access (.whole s)).read (Elt F) f = X := by
    rw [← hf]; exact read_slice_whole m.view f
  rw [e]
  iapply Hk
  iexists f; isplitr
  · ipureintro; exact hf
  · iexact H

end Steps

end Cert.Proof.Tile

end
-- ==== Proof.Sort.lean ====
/-
  The counting loop and the summing loop of the SparseCore's top-8 body, and its indexed stores, over the plain
  functions of lanes of Spec.lean.
-/
module

public import proofs.«01_k».proof.Proof.Step
public import Idealize.ShloMosaic.Lib.Pointwise.Index

@[expose] public section

noncomputable section

namespace Cert.Proof.Tile

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

/-- A function of lanes as a vector of sixteen. -/
def vec {α : Type} (f : Fin 16 → α) : S16.Idx → α := fun x => f (x (0 : Fin 1))

theorem vec_ofLane {α : Type} (f : Fin 16 → α) (k : Fin 16) : vec f (Shape.ofLane (d := ![16]) k) = f k := rfl

theorem vec_ext {α : Type} {g : S16.Idx → α} {f : Fin 16 → α} (h : ∀ k : Fin 16, g (Shape.ofLane (d := ![16]) k) = f k) : g = vec f := by
  funext x
  have hx : x = Shape.ofLane (d := ![16]) (x (0 : Fin 1)) := by
    funext a; obtain rfl := Fin.eq_zero a; rfl
  rw [hx]; exact h _

variable {F : FTy → Type} [FloatOps F]

/-! ## Indexed stores -/

theorem storeIdx_apply {s : Shape} {e : EltTy} {d : Fin 1 → Nat} (f : Vec F s e) (idxs : Fin s.rank → IVec ⟨1, d⟩ 32) (v : Vec F ⟨1, d⟩ e)
    (mask : IVec ⟨1, d⟩ 1) (h : ∀ a x, (idxs a x).toNat < s.size a) (j : s.Idx) :
    storeIdx f idxs v mask false h j
      = (List.finRange (d 0)).foldl (fun acc k => if mask (Shape.ofLane k) = 1 then
          (if ∀ a, (j a).val = (idxs a (Shape.ofLane k)).toNat then v (Shape.ofLane k) else acc) else acc) (f j) := by
  unfold storeIdx
  generalize List.finRange (d 0) = l
  induction l generalizing f with
  | nil => rfl
  | cons k l ih =>
    rw [List.foldl_cons, List.foldl_cons, ih]
    congr 1
    split
    · simp only [Bool.false_eq_true, if_false]; rfl
    · rfl

theorem scatter_apply {α ι : Type} [DecidableEq ι] (r : Fin 16 → ι) (mask : Fin 16 → Bool) (v : Fin 16 → α) (f : ι → α) (p : ι) :
    scatter r mask v f p = (List.finRange 16).foldl (fun acc j => if mask j then (if p = r j then v j else acc) else acc) (f p) := by
  unfold scatter
  generalize List.finRange 16 = l
  induction l generalizing f with
  | nil => rfl
  | cons k l ih =>
    rw [List.foldl_cons, List.foldl_cons, ih]
    congr 1
    split <;> rfl

theorem store16 {e : EltTy} {f v : Fin 16 → Elt F e} {r : Fin 16 → Fin 16} {iv : IVec S16 32} {h}
    (hr : ∀ k : Fin 16, (iv (Shape.ofLane (d := ![16]) k)).toNat = (r k).val) :
    storeIdx (F := F) (s := S16) (e := e) (d := ![16]) (vec f) ![iv] (vec v) (fun _ => 1#1) false h = vec (scatter r (fun _ => true) v f) := by
  refine vec_ext fun k => ?_
  rw [storeIdx_apply, scatter_apply]
  refine List.foldl_ext _ _ _ fun acc j _ => ?_
  refine (if_pos rfl).trans (Eq.trans ?_ (if_pos rfl).symm)
  have : (∀ a : Fin 1, ((Shape.ofLane (d := ![16]) k) a).val = ((![iv] : Fin 1 → IVec S16 32) a (Shape.ofLane (d := ![16]) j)).toNat) ↔ k = r j := by
    constructor
    · intro h'; exact Fin.ext ((h' 0).trans (hr j))
    · rintro rfl a; obtain rfl := Fin.eq_zero a; exact (hr j).symm
  exact if_congr this rfl rfl

theorem store2 {e : EltTy} {n : ℕ} {f : Vec F ⟨2, ![n, 256]⟩ e} {v : Fin 16 → Elt F e} {r : Fin 16 → Fin n} {iv tv : IVec S16 32} {m : IVec S16 1}
    {t : Fin 256} {mask : Fin 16 → Bool} {h}
    (hr : ∀ k : Fin 16, (iv (Shape.ofLane (d := ![16]) k)).toNat = (r k).val) (ht : ∀ x, (tv x).toNat = t.val)
    (hm : ∀ k : Fin 16, m (Shape.ofLane (d := ![16]) k) = 1 ↔ mask k = true) (y : Fin n) (u : Fin 256) :
    storeIdx (F := F) (s := ⟨2, ![n, 256]⟩) (e := e) (d := ![16]) f ![iv, tv] (vec v) m false h (ix2 y u)
      = if u = t then scatter r mask v (fun p => f (ix2 p t)) y else f (ix2 y u) := by
  rw [storeIdx_apply]
  split
  next hj =>
    subst hj
    rw [scatter_apply]
    refine List.foldl_ext _ _ _ fun acc k _ => ?_
    refine if_congr (hm k) ?_ rfl
    refine if_congr ?_ rfl rfl
    constructor
    · intro h'; exact Fin.ext ((h' 0).trans (hr k))
    · intro h' a
      refine Fin.cases ?_ (fun a => ?_) a
      · exact (congrArg Fin.val h').trans (hr k).symm
      · obtain rfl := Fin.eq_zero a; exact (ht _).symm
  next hj =>
    refine (List.foldl_ext _ (fun acc _ => acc) _ fun acc k _ => ?_).trans ?_
    · refine ite_eq_right_iff.mpr fun _ => if_neg fun h' => hj (Fin.ext ((h' 1).trans (ht _)))
    · induction List.finRange (![16] 0) with
      | nil => rfl
      | cons k l ih => exact ih

/-! ## The counting loop -/

section Loops

variable {nD : Nat} {τ : Topo} {sig : RefSig} {Ix : Type} [DecidableEq Ix] {Name : Type} [DecidableEq Name]
variable {U : Type} [URA U] {Lvl : Type} [Preorder Lvl] {Λ : Labels}
variable {defs : Defs nD τ sig (Elt F) Λ} {𝒱 : Variants} {c : Thread nD τ} {bd : Option 𝒱.V}
variable {α : Type} {Q : α → sProp (MT nD τ sig Ix (Elt F) Name U Lvl)}

local notation "𝕄" => MT nD τ sig Ix (Elt F) Name U Lvl

theorem iota_lane (k : Fin 16) : iota .scVector S16 32 [0] Facts₀.iota_S16_d0_w32_scVector (Shape.ofLane (d := ![16]) k) = BitVec.ofNat 32 k.val := by
  show BitVec.ofNat 32 (0 * 16 + k.val) = _
  rw [Nat.zero_mul, Nat.zero_add]

theorem toNat_turn (k : Fin 16) (n : ℕ) (hn : n < 15) :
    (IntOp.andi (IntOp.addi (BitVec.ofNat 32 k.val) (Scf.iv 1#32 1#32 n)) 15#32).toNat = (turn k (n + 1)).val := by
  have : ∀ n : Fin 15, ∀ k : Fin 16, (IntOp.andi (IntOp.addi (BitVec.ofNat 32 k.val) (Scf.iv 1#32 1#32 n.val)) 15#32).toNat = (turn k (n.val + 1)).val := by
    decide +kernel
  exact this ⟨n, hn⟩ k

/-- The vector of counts after `n` trips. -/
def counts (κ : Fin 16 → F .f32) (n : ℕ) : IVec S16 32 := vec fun i => BitVec.ofNat 32 (countBefore κ n i)

theorem cmp_lane (j i : Fin 16) : IntOp.cmpi .slt (BitVec.ofNat 32 j.val) (BitVec.ofNat 32 i.val) = if j < i then 1#1 else 0#1 := by
  revert j i; decide +kernel

theorem step_counts (κ : Fin 16 → F .f32) (n : ℕ) (hn : n < 15) (A : IVec S16 32) (hA : A = vec fun i => BitVec.ofNat 32 (turn i (n + 1)).val) :
    addi (counts κ n) (select (ori (cmpf .olt (vec fun i => κ (turn i (n + 1))) (vec κ)) (andi (cmpf .oeq (vec fun i => κ (turn i (n + 1))) (vec κ))
      (cmpi .slt A (iota .scVector S16 32 [0] Facts₀.iota_S16_d0_w32_scVector))))
        (broadcast S16 1#32) (broadcast S16 0#32)) = counts κ (n + 1) := by
  subst hA
  refine vec_ext fun i => ?_
  show IntOp.addi (BitVec.ofNat 32 (countBefore κ n i)) (if (IntOp.ori (FloatOps.cmpf .olt (κ (turn i (n + 1))) (κ i)) (IntOp.andi (FloatOps.cmpf .oeq (κ (turn i (n + 1))) (κ i))
    (IntOp.cmpi .slt (BitVec.ofNat 32 (turn i (n + 1)).val) (iota .scVector S16 32 [0] Facts₀.iota_S16_d0_w32_scVector (Shape.ofLane (d := ![16]) i))))) = 1#1 then 1#32 else 0#32)
    = BitVec.ofNat 32 (countBefore κ (n + 1) i)
  rw [iota_lane, countBefore_succ, cmp_lane]
  have hc : (IntOp.ori (FloatOps.cmpf .olt (κ (turn i (n + 1))) (κ i)) (IntOp.andi (FloatOps.cmpf .oeq (κ (turn i (n + 1))) (κ i))
      (if turn i (n + 1) < i then 1#1 else 0#1))) = 1#1 ↔ Before κ (turn i (n + 1)) i := by
    unfold Before
    generalize FloatOps.cmpf .olt (κ (turn i (n + 1))) (κ i) = a
    generalize FloatOps.cmpf .oeq (κ (turn i (n + 1))) (κ i) = b
    have : ∀ a b : BitVec 1, ∀ p : Bool, IntOp.ori a (IntOp.andi b (if p = true then 1#1 else 0#1)) = 1#1 ↔ a = 1#1 ∨ b = 1#1 ∧ p = true := by decide
    simpa using this a b (decide (turn i (n + 1) < i))
  by_cases hB : Before κ (turn i (n + 1)) i
  · rw [if_pos (hc.mpr hB), if_pos hB]
    exact (BitVec.ofNat_add ..).symm
  · rw [if_neg (fun h => hB (hc.mp h)), if_neg hB]
    exact (BitVec.ofNat_add ..).symm

theorem st_rank {m : Memref sig c.2.kind .vmem S16 .f32} (κ : Fin 16 → F .f32) (κv : FVec F S16 .f32) (hκ : κv = vec κ) {hl : m.view.Loads}
    {kk : IVec S16 32 → Prog (TpuEff nD τ sig (Elt F) Λ c.2) α} :
    owns c m fullShare κv ⊢ iprop((owns c m fullShare κv -∗ wp (M := 𝕄) frame (wpE defs 𝒱 c bd) Set.univ (kk (counts κ 15)) Q)
      -∗ wp frame (wpE defs 𝒱 c bd) Set.univ (Scf.Loop.for k4_t3_loop k4_t3_ok (broadcast S16 0#32) (fun k4_t3 arg12 => do
          have v126 : IVec S16 32 := andi (addi (iota .scVector S16 32 [0] Facts₀.iota_S16_d0_w32_scVector) (broadcast S16 (Scf.iv 1#32 1#32 k4_t3))) (broadcast S16 15#32)
          have k4_hw2 : k4_chk2 v126 := (← Prog.lift (TpuEff.assume (k4_chk2 v126) (k4_chk2.dec v126))).down
          let v127 : Vec F S16 .f32 ← SparseCore.vectorLoadIdx m ![v126] (k4_idx2_inb v126 k4_hw2) hl
          pure (addi arg12 (select (ori (cmpf .olt v127 κv) (andi (cmpf .oeq v127 κv) (cmpi .slt v126 (iota .scVector S16 32 [0] Facts₀.iota_S16_d0_w32_scVector))))
            (broadcast S16 1#32) (broadcast S16 0#32)))) >>= kk) Q) := by
  subst hκ
  iintro H Hk
  iapply (Scf.wp_for_bind (M := 𝕄) frame (wpE defs 𝒱 c bd) Set.univ _ _ _ k4_t3_ok (broadcast S16 0#32) _
    (fun n acc => iprop(⌜acc = counts κ n⌝ ∗ owns c m fullShare (vec κ))) ?_) $$ [H]
  · intro k acc
    iintro ⟨%hacc, H⟩
    subst hacc
    have hk : k.val < 15 := k.isLt
    have hv : andi (addi (iota .scVector S16 32 [0] Facts₀.iota_S16_d0_w32_scVector) (broadcast S16 (Scf.iv 1#32 1#32 k.val))) (broadcast S16 15#32)
        = vec fun i => BitVec.ofNat 32 (turn i (k.val + 1)).val := vec_ext fun i => by
      refine BitVec.eq_of_toNat_eq ?_
      show (IntOp.andi (IntOp.addi (iota .scVector S16 32 [0] Facts₀.iota_S16_d0_w32_scVector (Shape.ofLane (d := ![16]) i)) (Scf.iv 1#32 1#32 k.val)) 15#32).toNat = _
      rw [iota_lane, toNat_turn i k.val hk]
      rw [BitVec.toNat_ofNat, Nat.mod_eq_of_lt (by have := (turn i (k.val + 1)).isLt; omega)]
    have hlt : k4_chk2 (andi (addi (iota .scVector S16 32 [0] Facts₀.iota_S16_d0_w32_scVector) (broadcast S16 (Scf.iv 1#32 1#32 k.val))) (broadcast S16 15#32)) := by
      rw [hv]; intro a x; obtain rfl := Fin.eq_zero a
      show (BitVec.ofNat 32 (turn (x 0) (k.val + 1)).val).toNat < 16
      have := (turn (x 0) (k.val + 1)).isLt
      rw [BitVec.toNat_ofNat]; omega
    iapply (st_assume hlt)
    iapply (st_gather (vec fun i => κ (turn i (k.val + 1))) (vec_ext fun i => ?_)) $$ H
    · have h1 := congrArg (fun v => (v (Shape.ofLane (d := ![16]) i)).toNat) hv
      refine congrArg κ (Fin.ext (h1.trans ?_))
      show (BitVec.ofNat 32 (turn i (k.val + 1)).val).toNat = _
      rw [BitVec.toNat_ofNat, Nat.mod_eq_of_lt (by have := (turn i (k.val + 1)).isLt; omega)]
    iintro H
    iapply st_ret
    isplitr
    · ipureintro; exact step_counts κ _ hk _ hv
    · iexact H
  · isplitr
    · ipureintro; rfl
    · iexact H
  · iintro %acc ⟨%hacc, H⟩
    rw [hacc]
    iapply Hk $$ H

theorem st_sum {m : Memref sig c.2.kind .vmem S16 .f32} (x : Fin 16 → F .f32) (xv : FVec F S16 .f32) (hx : xv = vec x) {hl : m.view.Loads}
    {kk : FVec F S16 .f32 → Prog (TpuEff nD τ sig (Elt F) Λ c.2) α} :
    owns c m fullShare xv ⊢ iprop((owns c m fullShare xv -∗ wp (M := 𝕄) frame (wpE defs 𝒱 c bd) Set.univ (kk (vec fun _ => sumTo x 16)) Q)
      -∗ wp frame (wpE defs 𝒱 c bd) Set.univ (Scf.Loop.for k4_t10_loop k4_t10_ok (broadcast S16 (Scalar.ofBits .f32 0x00000000#32)) (fun k4_t10 arg12 => do
          have v123 : IVec S16 32 := broadcast S16 (Scf.iv 0#32 1#32 k4_t10)
          have k4_hw20 : k4_chk20 v123 := (← Prog.lift (TpuEff.assume (k4_chk20 v123) (k4_chk20.dec v123))).down
          let v124 : Vec F S16 .f32 ← SparseCore.vectorLoadIdx m ![v123] (k4_idx32_inb v123 k4_hw20) hl
          pure (addf arg12 v124)) >>= kk) Q) := by
  subst hx
  iintro H Hk
  iapply (Scf.wp_for_bind (M := 𝕄) frame (wpE defs 𝒱 c bd) Set.univ _ _ _ k4_t10_ok (broadcast S16 (Scalar.ofBits .f32 0x00000000#32)) _
    (fun n acc => iprop(⌜acc = vec fun _ => sumTo x n⌝ ∗ owns c m fullShare (vec x))) ?_) $$ [H]
  · intro k acc
    iintro ⟨%hacc, H⟩
    subst hacc
    have hk : k.val < 16 := k.isLt
    have hv : (Scf.iv 0#32 1#32 k.val).toNat = k.val := by
      have : ∀ k : Fin 16, (Scf.iv 0#32 1#32 k.val).toNat = k.val := by decide +kernel
      exact this ⟨k.val, hk⟩
    have hlt : k4_chk20 (broadcast S16 (Scf.iv 0#32 1#32 k.val)) := by
      intro a x; obtain rfl := Fin.eq_zero a
      show (Scf.iv 0#32 1#32 k.val).toNat < 16
      rw [hv]; exact hk
    iapply (st_assume hlt)
    iapply (st_gather (vec fun _ => x ⟨k.val % 16, Nat.mod_lt _ (by decide)⟩) (vec_ext fun i => ?_)) $$ H
    · exact congrArg x (Fin.ext (hv.trans (Nat.mod_eq_of_lt hk).symm))
    iintro H
    iapply st_ret
    isplitr
    · ipureintro; rfl
    · iexact H
  · isplitr
    · ipureintro; rfl
    · iexact H
  · iintro %acc ⟨%hacc, H⟩
    rw [hacc]
    iapply Hk $$ H

end Loops

/-! ## The counts are ranks; halves; gathers -/

theorem counts_toNat (κ : Fin 16 → F .f32) (k : Fin 16) : (counts κ 15 (Shape.ofLane (d := ![16]) k)).toNat = (rank κ k).val := by
  have := countBefore_le κ 15 k
  exact (BitVec.toNat_ofNat _ _).trans (Nat.mod_eq_of_lt (this.trans_lt (by decide)))

theorem counts_lt (κ : Fin 16 → F .f32) : ∀ (a : Fin 1) (x : S16.Idx), ((![counts κ 15] : Fin 1 → IVec S16 32) a x).toNat < S16.size a := by
  intro a x
  obtain rfl := Fin.eq_zero a
  have := countBefore_le κ 15 (x 0)
  exact (BitVec.toNat_ofNat _ _).trans_lt ((Nat.mod_le _ _).trans_lt (Nat.lt_succ_of_le this))

theorem store_rank {e : EltTy} (κ : Fin 16 → F .f32) (v w : Fin 16 → Elt F e) (hw : srt κ v = w) {E : Vec F S16 e} (hE : E = vec v) {h} :
    storeIdx (F := F) (s := S16) (e := e) (d := ![16]) E ![counts κ 15] E (fun _ => 1#1) false h = vec w := by
  subst hE; subst hw
  exact store16 (counts_toNat κ)

/-- The mask of the lower eight lanes, as the body computes it. -/
abbrev low8 : IVec S16 1 := cmpi .slt (iota .scVector S16 32 [0] Facts₀.iota_S16_d0_w32_scVector) (broadcast S16 8#32)

/-- The lane eight places across, as the body computes it. -/
abbrev across : IVec S16 32 := xori (iota .scVector S16 32 [0] Facts₀.iota_S16_d0_w32_scVector) (broadcast S16 8#32)

/-- The lanes' numbers, and their remainders by eight. -/
abbrev lanes : IVec S16 32 := iota .scVector S16 32 [0] Facts₀.iota_S16_d0_w32_scVector
abbrev lanes8 : IVec S16 32 := andi lanes (broadcast S16 7#32)

theorem low8_lane (k : Fin 16) : low8 (Shape.ofLane (d := ![16]) k) = 1#1 ↔ k.val < 8 := by
  refine (Eq.congr_left (congrArg (fun x => IntOp.cmpi .slt x 8#32) (iota_lane k))).trans ?_
  revert k; decide +kernel

theorem across_toNat (k : Fin 16) : (across (Shape.ofLane (d := ![16]) k)).toNat = (k.val + 8) % 16 := by
  refine (congrArg (fun x => (IntOp.xori x 8#32).toNat) (iota_lane k)).trans ?_
  revert k; decide +kernel

theorem lanes8_toNat (k : Fin 16) : (lanes8 (Shape.ofLane (d := ![16]) k)).toNat = k.val % 8 := by
  refine (congrArg (fun x => (IntOp.andi x 7#32).toNat) (iota_lane k)).trans ?_
  revert k; decide +kernel

theorem ofLane_eta (x : S16.Idx) : Shape.ofLane (d := ![16]) (x (0 : Fin 1)) = x := by
  funext a; obtain rfl := Fin.eq_zero a; rfl

theorem across_lt : ∀ (a : Fin 1) (x : S16.Idx), ((![across] : Fin 1 → IVec S16 32) a x).toNat < S16.size a := by
  intro a x
  obtain rfl := Fin.eq_zero a
  rw [← ofLane_eta x]
  exact (across_toNat (x 0)).trans_lt (Nat.mod_lt _ (by decide))

theorem load_across {e : EltTy} (b : Fin 16 → Elt F e) {h} :
    loadIdx (F := F) (s := S16) (e := e) (t := S16) (vec b) ![across] h = vec fun i => b ⟨(i.val + 8) % 16, Nat.mod_lt _ (by decide)⟩ :=
  vec_ext fun i => congrArg b (Fin.ext (across_toNat i))

theorem select_half {α : Type} (a b : Fin 16 → α) :
    select low8 (vec a) (vec fun i => b ⟨(i.val + 8) % 16, Nat.mod_lt _ (by decide)⟩) = vec (half a b) := by
  refine vec_ext fun i => ?_
  refine (if_congr (low8_lane i) rfl rfl).trans ?_
  unfold half
  split
  · rfl
  next h => exact congrArg b (Fin.ext (by show (i.val + 8) % 16 = i.val - 8; omega))

abbrev lanes16 : IVec S16 32 := addi lanes (broadcast S16 16#32)
abbrev lanes32 : IVec S16 32 := addi lanes (broadcast S16 32#32)
abbrev lanes48 : IVec S16 32 := addi lanes (broadcast S16 48#32)

theorem lanes_eid : lanes = vec (eid 0) := vec_ext fun i => (iota_lane i).trans (by revert i; decide +kernel)
theorem eid_16 : lanes16 = vec (eid 1) := vec_ext fun i =>
  (congrArg (fun x => IntOp.addi x 16#32) (iota_lane i)).trans (by revert i; decide +kernel)
theorem eid_32 : lanes32 = vec (eid 2) := vec_ext fun i =>
  (congrArg (fun x => IntOp.addi x 32#32) (iota_lane i)).trans (by revert i; decide +kernel)
theorem eid_48 : lanes48 = vec (eid 3) := vec_ext fun i =>
  (congrArg (fun x => IntOp.addi x 48#32) (iota_lane i)).trans (by revert i; decide +kernel)

theorem eid_toNat (b : Fin 4) (i : Fin 16) : (eid b i).toNat = 16 * b.val + i.val := by
  revert b i; decide +kernel

/-- The number of token `t`, over the lanes, as the body computes it. -/
abbrev tok (t : ℕ) : IVec S16 32 := broadcast S16 (Scalar.addi 0#32 (Scalar.muli (Scf.iv 0#32 1#32 t) 1#32))

theorem tok_toNat (t : Fin 256) (x : S16.Idx) : (tok t.val x).toNat = t.val := by
  show (Scalar.addi 0#32 (Scalar.muli (Scf.iv 0#32 1#32 t.val) 1#32)).toNat = t.val
  revert t; decide +kernel

theorem eid_tok_lt (b : Fin 4) (t : Fin 256) {E : IVec S16 32} (hE : E = vec (eid b)) : ∀ (a : Fin 2) (x : S16.Idx), ((![E, tok t.val] : Fin 2 → IVec S16 32) a x).toNat < S64x256.size a := by
  subst hE
  intro a x
  refine Fin.cases ?_ (fun a => ?_) a
  · refine (eid_toNat b (x 0)).trans_lt ?_
    show _ < 64
    have := b.isLt; have : (x (0 : Fin 1)).val < 16 := (x (0 : Fin 1)).isLt; omega
  · obtain rfl := Fin.eq_zero a
    exact (tok_toNat t x).trans_lt t.isLt

theorem load_key (X : FVec F S64x256 .f32) (b : Fin 4) (t : Fin 256) {E : IVec S16 32} (hE : E = vec (eid b)) {h} :
    loadIdx (F := F) (s := S64x256) (e := .f32) (t := S16) X ![E, tok t.val] h
      = vec fun i : Fin 16 => X (ix2 (⟨16 * b.val + i.val, by omega⟩ : Fin 64) t) := by
  subst hE
  refine vec_ext fun i => congrArg X ?_
  funext a
  refine Fin.cases ?_ (fun a => ?_) a
  · exact Fin.ext (eid_toNat b i)
  · obtain rfl := Fin.eq_zero a
    exact Fin.ext (tok_toNat t (Shape.ofLane (d := ![16]) i))

end Cert.Proof.Tile

end
-- ==== Proof.Token.lean ====
/-
  One token of the SparseCore's top-8 body: the four sorted quarters, the merges, the weights, and the two stores.
-/
module

public import proofs.«01_k».proof.Proof.Sort

@[expose] public section

noncomputable section

namespace Cert.Proof.Tile

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]
variable {𝒱 : Variants} {bd : Option 𝒱.V} {α : Type}

/-- The sixty-four probabilities of token `t` of a tile's block. -/
def col (X : FVec F S64x256 .f32) (t : Fin 256) : Fin 64 → F .f32 := fun y => X (ix2 y t)

/-- The tile's thread. -/
abbrev thr4 (d : Dev nD) (i : grid4.Coords) : Thread nD τ := (d, .scVector ((i 0).castLE hcore4) ((i 1).castLE hsub4))

section
variable (d : Dev nD) (i : grid4.Coords) (arg2 : Memref sig .scVector .hbm S64x8192 .f32) (harg2 : arg2.IsWhole) (arg3 : Memref sig .scVector .hbm S64x8192 .f32) (harg3 : arg3.IsWhole) (arg4 : Memref sig .scVector .hbm S8x8192 .i32) (harg4 : arg4.IsWhole) (arg5 : Memref sig .scVector .vmem S64x256 .f32) (harg5 : arg5.IsWhole) (arg6 : Memref sig .scVector .vmem S64x256 .f32) (harg6 : arg6.IsWhole) (arg7 : Memref sig .scVector .vmem S8x256 .i32) (harg7 : arg7.IsWhole) (arg8 : Memref sig .scVector .vmem S16 .f32) (harg8 : arg8.IsWhole) (arg9 : Memref sig .scVector .vmem S16 .i32) (harg9 : arg9.IsWhole) (v13_r0 : DmaSems sig S_) (v13_r1 : DmaSems sig S_) (v13_r2 : DmaSems sig S_)
variable (defs : Defs nD τ sig (Elt F) Λ₀)
variable {Q : α → sProp (MT nD τ sig Ix (Elt F) Name U Lvl)}

local notation "𝕄" => MT nD τ sig Ix (Elt F) Name U Lvl

abbrev neg (v : FVec F S16 .f32) : FVec F S16 .f32 := subf (broadcast S16 (Scalar.ofBits .f32 0x00000000#32)) v

/-- The keys of quarter `b`, as the body computes them. -/
abbrev raw (X : FVec F S64x256 .f32) (b : Fin 4) (t : Fin 256) : FVec F S16 .f32 :=
  neg (vec fun i : Fin 16 => X (ix2 (⟨16 * b.val + i.val, by omega⟩ : Fin 64) t))

theorem raw_key (X : FVec F S64x256 .f32) (b : Fin 4) (t : Fin 256) : raw X b t = vec (key (col X t) b) := rfl

theorem off0 : (![0] : Fin 1 → ℕ) = fun _ => 0 := by funext a; obtain rfl := Fin.eq_zero a; rfl

theorem eid0_tok_lt (t : Fin 256) : k4_chk1 lanes lanes8 (tok t.val) := by
  refine ⟨eid_tok_lt 0 t lanes_eid, fun a x => ?_⟩
  refine Fin.cases ?_ (fun a => ?_) a
  · rw [← ofLane_eta x]
    exact (lanes8_toNat (x 0)).trans_lt (Nat.mod_lt _ (by decide))
  · obtain rfl := Fin.eq_zero a
    exact (tok_toNat t x).trans_lt t.isLt

theorem part7 (X : FVec F S64x256 .f32) (t : Fin k4_t2_loop.trips) {kk : _ → Prog (TpuEff nD τ sig (Elt F) Λ₀ (thr4 d i).2) α} (t' : Fin 256) (ht : t'.val = t.val) (A : Vec F S16 .f32) (B : Vec F S16 .i32) :
    iprop(owns (thr4 d i) arg5 fullShare X ∗ owns (thr4 d i) arg8 fullShare A ∗ owns (thr4 d i) arg9 fullShare B
      ∗ (∀ h1 h6, owns (thr4 d i) arg5 fullShare X -∗ owns (thr4 d i) arg8 fullShare (raw X 1 t') -∗ owns (thr4 d i) arg9 fullShare lanes16
        -∗ wp (M := 𝕄) frame (wpE defs 𝒱 (thr4 d i) bd) Set.univ (kk ⟨tok t'.val, h1, vec (qk (col X t') 0), vec (qv (col X t') 0), raw X 1 t', lanes16, counts (key (col X t') 1) 15, h6⟩) Q))
    ⊢ wp frame (wpE defs 𝒱 (thr4 d i) bd) Set.univ (k4_part7 i arg2 harg2 arg3 harg3 arg4 harg4 arg5 harg5 arg6 harg6 arg7 harg7 arg8 harg8 arg9 harg9 v13_r0 v13_r1 v13_r2 lanes lanes8 0#32 1#32 t >>= kk) Q := by
  rw [wp_bind]
  obtain ⟨t, htt⟩ := t
  obtain rfl : t'.val = t := ht
  iintro ⟨H5, H8, H9, Hk⟩
  unfold k4_part7
  iapply (st_assume (eid0_tok_lt t'))
  iapply (st_gather _ (load_key X 0 t' lanes_eid)) $$ H5; iintro H5
  iapply (st_load off0) $$ H8; iintro H8
  iapply (st_store off0) $$ H8; iintro H8
  iapply (st_rank (key (col X t') 0) (raw X 0 t') (raw_key X 0 t')) $$ H8; iintro H8
  iapply (st_assume ⟨counts_lt _, counts_lt _⟩)
  iapply (st_load off0) $$ H9; iintro H9
  iapply (st_store off0) $$ H9; iintro H9
  iapply (st_scatter _ (store_rank (e := .f32) (key (col X t') 0) (key (col X t') 0) (qk (col X t') 0) rfl (raw_key X 0 t'))) $$ H8; iintro H8
  iapply (st_scatter _ (store_rank (e := .i32) (key (col X t') 0) (eid 0) (qv (col X t') 0) rfl lanes_eid)) $$ H9; iintro H9
  iapply (st_load off0) $$ H8; iintro H8
  iapply (st_load off0) $$ H9; iintro H9
  iapply (st_assume (eid_tok_lt 1 t' eid_16))
  iapply (st_gather _ (load_key X 1 t' eid_16)) $$ H5; iintro H5
  iapply (st_load off0) $$ H8; iintro H8
  iapply (st_store off0) $$ H8; iintro H8
  iapply (st_rank (key (col X t') 1) (raw X 1 t') (raw_key X 1 t')) $$ H8; iintro H8
  iapply (st_assume ⟨counts_lt _, counts_lt _⟩)
  iapply (st_load off0) $$ H9; iintro H9
  iapply (st_store off0) $$ H9; iintro H9
  iapply st_ret
  iapply Hk $$ H5 H8 H9

/-- The two halves of a merge, as the body selects them. -/
abbrev mrg {α : Type} (a b : Fin 16 → α) : S16.Idx → α :=
  select low8 (vec a) (vec fun i => b ⟨(i.val + 8) % 16, Nat.mod_lt _ (by decide)⟩)

theorem mrg_half {α : Type} (a b : Fin 16 → α) : mrg a b = vec (half a b) := select_half a b

theorem part8 (X : FVec F S64x256 .f32) (t' : Fin 256) (h6) {kk : _ → Prog (TpuEff nD τ sig (Elt F) Λ₀ (thr4 d i).2) α} :
    iprop(owns (thr4 d i) arg5 fullShare X ∗ owns (thr4 d i) arg8 fullShare (raw X 1 t') ∗ owns (thr4 d i) arg9 fullShare lanes16
      ∗ (owns (thr4 d i) arg5 fullShare X -∗ owns (thr4 d i) arg8 fullShare (raw X 3 t') -∗ owns (thr4 d i) arg9 fullShare (vec (qv (col X t') 2) : Vec F S16 .i32)
        -∗ wp (M := 𝕄) frame (wpE defs 𝒱 (thr4 d i) bd) Set.univ (kk ⟨vec (qk (col X t') 1), vec (qv (col X t') 1), vec (qk (col X t') 2), vec (qv (col X t') 2), raw X 3 t', lanes48, lanes, broadcast S16 0#32, 1#32, 1#32⟩) Q))
    ⊢ wp frame (wpE defs 𝒱 (thr4 d i) bd) Set.univ (k4_part8 i arg2 harg2 arg3 harg3 arg4 harg4 arg5 harg5 arg6 harg6 arg7 harg7 arg8 harg8 arg9 harg9 v13_r0 v13_r1 v13_r2 lanes (tok t'.val) (raw X 1 t') lanes16 (counts (key (col X t') 1) 15) h6 >>= kk) Q := by
  rw [wp_bind]
  iintro ⟨H5, H8, H9, Hk⟩
  unfold k4_part8
  iapply (st_scatter _ (store_rank (e := .f32) (key (col X t') 1) (key (col X t') 1) (qk (col X t') 1) rfl (raw_key X 1 t'))) $$ H8; iintro H8
  iapply (st_scatter _ (store_rank (e := .i32) (key (col X t') 1) (eid 1) (qv (col X t') 1) rfl eid_16)) $$ H9; iintro H9
  iapply (st_load off0) $$ H8; iintro H8
  iapply (st_load off0) $$ H9; iintro H9
  iapply (st_assume (eid_tok_lt 2 t' eid_32))
  iapply (st_gather _ (load_key X 2 t' eid_32)) $$ H5; iintro H5
  iapply (st_load off0) $$ H8; iintro H8
  iapply (st_store off0) $$ H8; iintro H8
  iapply (st_rank (key (col X t') 2) (raw X 2 t') (raw_key X 2 t')) $$ H8; iintro H8
  iapply (st_assume ⟨counts_lt _, counts_lt _⟩)
  iapply (st_load off0) $$ H9; iintro H9
  iapply (st_store off0) $$ H9; iintro H9
  iapply (st_scatter _ (store_rank (e := .f32) (key (col X t') 2) (key (col X t') 2) (qk (col X t') 2) rfl (raw_key X 2 t'))) $$ H8; iintro H8
  iapply (st_scatter _ (store_rank (e := .i32) (key (col X t') 2) (eid 2) (qv (col X t') 2) rfl eid_32)) $$ H9; iintro H9
  iapply (st_load off0) $$ H8; iintro H8
  iapply (st_load off0) $$ H9; iintro H9
  iapply (st_assume (eid_tok_lt 3 t' eid_48))
  iapply (st_gather _ (load_key X 3 t' eid_48)) $$ H5; iintro H5
  iapply (st_load off0) $$ H8; iintro H8
  iapply (st_store off0) $$ H8; iintro H8
  iapply st_ret
  iapply Hk $$ H5 H8 H9

theorem part9 (X : FVec F S64x256 .f32) (t' : Fin 256) (h13) {kk : _ → Prog (TpuEff nD τ sig (Elt F) Λ₀ (thr4 d i).2) α} (B : Vec F S16 .i32) :
    iprop(owns (thr4 d i) arg8 fullShare (raw X 3 t') ∗ owns (thr4 d i) arg9 fullShare B
      ∗ (owns (thr4 d i) arg8 fullShare (mrg (qk (col X t') 2) (qk (col X t') 3)) -∗ owns (thr4 d i) arg9 fullShare (vec (qv (col X t') 3) : Vec F S16 .i32)
        -∗ wp (M := 𝕄) frame (wpE defs 𝒱 (thr4 d i) bd) Set.univ (kk ⟨vec (hk (col X t') 0 1), vec (hv (col X t') 0 1), mrg (qk (col X t') 2) (qk (col X t') 3), mrg (qv (col X t') 2) (qv (col X t') 3), lanes, broadcast S16 0#32⟩) Q))
    ⊢ wp frame (wpE defs 𝒱 (thr4 d i) bd) Set.univ (k4_part9 i arg2 harg2 arg3 harg3 arg4 harg4 arg5 harg5 arg6 harg6 arg7 harg7 arg8 harg8 arg9 harg9 v13_r0 v13_r1 v13_r2 low8 across h13 (vec (qk (col X t') 0)) (vec (qv (col X t') 0)) (vec (qk (col X t') 1)) (vec (qv (col X t') 1)) (vec (qk (col X t') 2)) (vec (qv (col X t') 2))
        (raw X 3 t') lanes48 lanes (broadcast S16 0#32) 1#32 1#32 >>= kk) Q := by
  rw [wp_bind]
  iintro ⟨H8, H9, Hk⟩
  unfold k4_part9
  iapply (st_rank (key (col X t') 3) (raw X 3 t') (raw_key X 3 t')) $$ H8; iintro H8
  iapply (st_assume ⟨counts_lt _, counts_lt _⟩)
  iapply (st_load off0) $$ H9; iintro H9
  iapply (st_store off0) $$ H9; iintro H9
  iapply (st_scatter _ (store_rank (e := .f32) (key (col X t') 3) (key (col X t') 3) (qk (col X t') 3) rfl (raw_key X 3 t'))) $$ H8; iintro H8
  iapply (st_scatter _ (store_rank (e := .i32) (key (col X t') 3) (eid 3) (qv (col X t') 3) rfl eid_48)) $$ H9; iintro H9
  iapply (st_load off0) $$ H8; iintro H8
  iapply (st_load off0) $$ H9; iintro H9
  iapply (st_load off0) $$ H8; iintro H8
  iapply (st_store off0) $$ H8; iintro H8
  iapply (st_gather _ (load_across (e := .f32) (qk (col X t') 1))) $$ H8; iintro H8
  iapply (st_load off0) $$ H9; iintro H9
  iapply (st_store off0) $$ H9; iintro H9
  iapply (st_gather _ (load_across (e := .i32) (qv (col X t') 1))) $$ H9; iintro H9
  iapply (st_load off0) $$ H8; iintro H8
  iapply (st_store off0) $$ H8; iintro H8
  iapply (st_rank (half (qk (col X t') 0) (qk (col X t') 1)) (mrg (qk (col X t') 0) (qk (col X t') 1)) (mrg_half _ _)) $$ H8; iintro H8
  iapply (st_assume ⟨counts_lt _, counts_lt _⟩)
  iapply (st_load off0) $$ H9; iintro H9
  iapply (st_store off0) $$ H9; iintro H9
  iapply (st_scatter _ (store_rank (e := .f32) (half (qk (col X t') 0) (qk (col X t') 1)) (half (qk (col X t') 0) (qk (col X t') 1)) (hk (col X t') 0 1) rfl (mrg_half _ _))) $$ H8; iintro H8
  iapply (st_scatter _ (store_rank (e := .i32) (half (qk (col X t') 0) (qk (col X t') 1)) (half (qv (col X t') 0) (qv (col X t') 1)) (hv (col X t') 0 1) rfl (mrg_half _ _))) $$ H9; iintro H9
  iapply (st_load off0) $$ H8; iintro H8
  iapply (st_load off0) $$ H9; iintro H9
  iapply (st_load off0) $$ H8; iintro H8
  iapply (st_store off0) $$ H8; iintro H8
  iapply (st_gather _ (load_across (e := .f32) (qk (col X t') 3))) $$ H8; iintro H8
  iapply (st_load off0) $$ H9; iintro H9
  iapply (st_store off0) $$ H9; iintro H9
  iapply (st_gather _ (load_across (e := .i32) (qv (col X t') 3))) $$ H9; iintro H9
  iapply (st_load off0) $$ H8; iintro H8
  iapply (st_store off0) $$ H8; iintro H8
  iapply st_ret
  iapply Hk $$ H8 H9

/-- The best eight probabilities and zeros after them, as the body computes them. -/
abbrev rawTop (p : Fin 64 → F .f32) : FVec F S16 .f32 := select low8 (neg (vec (tk p))) (broadcast S16 (Scalar.ofBits .f32 0x00000000#32))

theorem rawTop_top (p : Fin 64 → F .f32) : rawTop p = vec (top p) :=
  vec_ext fun i => by
    refine (if_congr (low8_lane i) rfl rfl).trans ?_
    unfold top
    rfl

theorem pair_tok_lt (v : Fin 16 → BitVec 32) (hv : ∀ i, (v i).toNat < 64) (t : Fin 256) : ∀ (a : Fin 2) (x : S16.Idx), ((![vec v, tok t.val] : Fin 2 → IVec S16 32) a x).toNat < S64x256.size a := by
  intro a x
  refine Fin.cases ?_ (fun a => ?_) a
  · exact hv (x (0 : Fin 1))
  · obtain rfl := Fin.eq_zero a
    exact (tok_toNat t x).trans_lt t.isLt

theorem part10 (X : FVec F S64x256 .f32) (t' : Fin 256) (h13) {kk : _ → Prog (TpuEff nD τ sig (Elt F) Λ₀ (thr4 d i).2) α} (B : Vec F S16 .i32) :
    iprop(owns (thr4 d i) arg8 fullShare (mrg (qk (col X t') 2) (qk (col X t') 3)) ∗ owns (thr4 d i) arg9 fullShare B
      ∗ (∀ h21, owns (thr4 d i) arg8 fullShare (rawTop (col X t')) -∗ owns (thr4 d i) arg9 fullShare (vec (tv (col X t')) : Vec F S16 .i32)
        -∗ wp (M := 𝕄) frame (wpE defs 𝒱 (thr4 d i) bd) Set.univ (kk ⟨vec (tv (col X t')), h21, rawTop (col X t'), broadcast S16 (Scalar.ofBits .f32 0x00000000#32)⟩) Q))
    ⊢ wp frame (wpE defs 𝒱 (thr4 d i) bd) Set.univ (k4_part10 i arg2 harg2 arg3 harg3 arg4 harg4 arg5 harg5 arg6 harg6 arg7 harg7 arg8 harg8 arg9 harg9 v13_r0 v13_r1 v13_r2 low8 across h13 (tok t'.val) (vec (hk (col X t') 0 1)) (vec (hv (col X t') 0 1))
        (mrg (qk (col X t') 2) (qk (col X t') 3)) (mrg (qv (col X t') 2) (qv (col X t') 3)) lanes (broadcast S16 0#32) >>= kk) Q := by
  rw [wp_bind]
  iintro ⟨H8, H9, Hk⟩
  unfold k4_part10
  iapply (st_rank (half (qk (col X t') 2) (qk (col X t') 3)) (mrg (qk (col X t') 2) (qk (col X t') 3)) (mrg_half _ _)) $$ H8; iintro H8
  iapply (st_assume ⟨counts_lt _, counts_lt _⟩)
  iapply (st_load off0) $$ H9; iintro H9
  iapply (st_store off0) $$ H9; iintro H9
  iapply (st_scatter _ (store_rank (e := .f32) (half (qk (col X t') 2) (qk (col X t') 3)) (half (qk (col X t') 2) (qk (col X t') 3)) (hk (col X t') 2 3) rfl (mrg_half _ _))) $$ H8; iintro H8
  iapply (st_scatter _ (store_rank (e := .i32) (half (qk (col X t') 2) (qk (col X t') 3)) (half (qv (col X t') 2) (qv (col X t') 3)) (hv (col X t') 2 3) rfl (mrg_half _ _))) $$ H9; iintro H9
  iapply (st_load off0) $$ H8; iintro H8
  iapply (st_load off0) $$ H9; iintro H9
  iapply (st_load off0) $$ H8; iintro H8
  iapply (st_store off0) $$ H8; iintro H8
  iapply (st_gather _ (load_across (e := .f32) (hk (col X t') 2 3))) $$ H8; iintro H8
  iapply (st_load off0) $$ H9; iintro H9
  iapply (st_store off0) $$ H9; iintro H9
  iapply (st_gather _ (load_across (e := .i32) (hv (col X t') 2 3))) $$ H9; iintro H9
  iapply (st_load off0) $$ H8; iintro H8
  iapply (st_store off0) $$ H8; iintro H8
  iapply (st_rank (half (hk (col X t') 0 1) (hk (col X t') 2 3)) (mrg (hk (col X t') 0 1) (hk (col X t') 2 3)) (mrg_half _ _)) $$ H8; iintro H8
  iapply (st_assume ⟨counts_lt _, counts_lt _⟩)
  iapply (st_load off0) $$ H9; iintro H9
  iapply (st_store off0) $$ H9; iintro H9
  iapply (st_scatter _ (store_rank (e := .f32) (half (hk (col X t') 0 1) (hk (col X t') 2 3)) (half (hk (col X t') 0 1) (hk (col X t') 2 3)) (tk (col X t')) rfl (mrg_half _ _))) $$ H8; iintro H8
  iapply (st_scatter _ (store_rank (e := .i32) (half (hk (col X t') 0 1) (hk (col X t') 2 3)) (half (hv (col X t') 0 1) (hv (col X t') 2 3)) (tv (col X t')) rfl (mrg_half _ _))) $$ H9; iintro H9
  iapply (st_load off0) $$ H8; iintro H8
  iapply (st_load off0) $$ H9; iintro H9
  iapply (st_assume (pair_tok_lt (tv (col X t')) (tv_lt _) t'))
  iapply (st_load off0) $$ H8; iintro H8
  iapply (st_store off0) $$ H8; iintro H8
  iapply st_ret
  iapply Hk $$ H8 H9

/-! ## The two stores -/

/-- The weights' scratch once the tokens before `n` are done, over zeros. -/
def wdone (X : FVec F S64x256 .f32) (n : ℕ) : FVec F S64x256 .f32 := fun j =>
  if (j (1 : Fin 2)).val < n then gated (col X (j (1 : Fin 2))) (j (0 : Fin 2)) else Scalar.ofBits .f32 0x00000000#32

theorem rawWgt (p : Fin 64 → F .f32) : divf (rawTop p) (vec fun _ => sumTo (top p) 16) = vec (wgt p) := by
  rw [rawTop_top]; rfl

theorem store_wgt (X : FVec F S64x256 .f32) (t : Fin 256) {w : FVec F S16 .f32} (hw : w = vec (wgt (col X t))) {h} :
    storeIdx (F := F) (s := S64x256) (e := .f32) (d := ![16]) (wdone X t.val) ![vec (tv (col X t)), tok t.val] w low8 false h = wdone X (t.val + 1) := by
  subst hw
  funext j
  rw [eq_ix2 j]
  refine (store2 (F := F) (e := .f32) (n := 64) (r := fun k => (⟨(tv (col X t) k).toNat, tv_lt _ k⟩ : Fin 64)) (t := t) (mask := fun k => decide (k.val < 8))
    (fun k => rfl) (fun x => tok_toNat t x) (fun k => (low8_lane k).trans (by simp)) _ _).trans ?_
  generalize (j 0 : Fin 64) = y
  generalize (j 1 : Fin 256) = u
  split
  next hu =>
    subst hu
    refine Eq.trans ?_ (if_pos (Nat.lt_succ_self u.val)).symm
    refine congrArg (fun f => scatter _ _ _ f y) (funext fun p => if_neg (Nat.lt_irrefl u.val))
  next hu =>
    have hne : u.val ≠ t.val := fun e => hu (Fin.ext e)
    refine if_congr ?_ rfl rfl
    show u.val < t.val ↔ u.val < t.val + 1
    omega

theorem scatter_low8 {α : Type} (v : Fin 16 → α) (f : Fin 8 → α) (y : Fin 8) :
    scatter (fun k : Fin 16 => (⟨k.val % 8, Nat.mod_lt _ (by decide)⟩ : Fin 8)) (fun k => decide (k.val < 8)) v f y = v ⟨y.val, by omega⟩ := by
  fin_cases y <;> rfl

theorem store_ids (X : FVec F S64x256 .f32) (t : Fin 256) (Y : Vec F S8x256 .i32) (hY : ∀ (y : Fin 8) (u : Fin 256), u.val < t.val → Y (ix2 y u) = ids (col X u) y) {h}
    (y : Fin 8) (u : Fin 256) (hu : u.val < t.val + 1) :
    storeIdx (F := F) (s := S8x256) (e := .i32) (d := ![16]) Y ![lanes8, tok t.val] (vec (tv (col X t))) low8 false h (ix2 y u) = ids (col X u) y := by
  refine (store2 (F := F) (e := .i32) (n := 8) (r := fun k : Fin 16 => (⟨k.val % 8, Nat.mod_lt _ (by decide)⟩ : Fin 8)) (t := t) (mask := fun k => decide (k.val < 8))
    (fun k => lanes8_toNat k) (fun x => tok_toNat t x) (fun k => (low8_lane k).trans (by simp)) _ _).trans ?_
  split
  next hu => subst hu; exact scatter_low8 _ _ _
  next hne => exact hY y u (by have : u.val ≠ t.val := fun e => hne (Fin.ext e); omega)

end

end Cert.Proof.Tile

end
-- ==== Proof.Zero.lean ====
/-
  Copies through a counter the tile holds at zero, and the loop that fills the tile's gated block with zeros.
-/
module

public import proofs.«01_k».proof.Proof.Token
public import Idealize.ShloMosaic.Lib.Transfers

@[expose] public section

noncomputable section

namespace Cert.Proof.Tile

open Cert.KernelIdeal Cert.KernelIdeal.Gen
open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem

section Copies

variable {nD : Nat} {τ : Topo} {sig : RefSig} {Ix : Type} [DecidableEq Ix]
variable {F : FTy → Type} [FloatOps F] {Name : Type} [DecidableEq Name] [Infinite Name]
variable {U : Type} [URA U] {Lvl : Type} [Preorder Lvl] {Λ : Labels}

local notation "𝕄" => MT nD τ sig Ix (Elt F) Name U Lvl

variable (EC : UEmb Counters (MT nD τ sig Ix (Elt F) Name U Lvl)) [EC.LandsIn (upEmb : UEmb _ (MT nD τ sig Ix (Elt F) Name U Lvl))]
variable {defs : Defs nD τ sig (Elt F) Λ} {𝒱 : Variants} {c : Thread nD τ} {bd : Option 𝒱.V}
variable {s : Shape} {e : EltTy} {α : Type} {Q : α → sProp (MT nD τ sig Ix (Elt F) Name U Lvl)}

/-- Starting a copy between two buffers the tile owns: it holds the copy in flight, which delivers both. -/
theorem st_dma {sp sp' : Space} {src : Memref sig c.2.kind sp s e} {dst : Memref sig c.2.kind sp' s e} {sm : SemLoc sig}
    {hsrc : src.view.WordExact} {hdst : (DmaTarget.here dst : DmaTarget nD τ sig c.2 sp' s e).view.WordExact} {hsem : DmaTarget.Typed (nD := nD) sp sm (.here dst)}
    {k : PUnit → Prog (TpuEff nD τ sig (Elt F) Λ c.2) α} {q : PosShare TreeShare} {X Y : Vec F s e} (ι : Ix)
    (hN0 : 0 < dst.view.amount sm) :
    iprop(owns c src q X ∗ owns c dst fullShare Y ∗ semVal (c, sm) 0)
      ⊢ iprop((Flight EC c sm ι (dst.view.amount sm) iprop(owns c dst fullShare X ∗ owns c src q X) -∗ wp (M := 𝕄) frame (wpE defs 𝒱 c bd) Set.univ (k ⟨⟩) Q)
          -∗ wp frame (wpE defs 𝒱 c bd) Set.univ (Prog.lift (.enqueueDma src (.here dst) sm hsrc hdst hsem) >>= k) Q) := by
  unfold owns
  iintro ⟨⟨%f, %hf, Hs⟩, ⟨%g, %hg, Hd⟩, Hv⟩ Hk
  iapply (wp_dmaLocal EC 𝒱 c bd (defs := defs) (Q := Q) (src := src) (dst := dst) (via := .same) (k := k) ι _ rfl hN0 (subset_refl _)) $$ [Hs Hd Hv]
  · isplitl [Hs]; · iexact Hs
    isplitl [Hd] <;> iassumption
  iintro Hf
  iapply Hk
  iapply (Flight_mono EC c (ι := ι) ?_) $$ Hf
  iintro ⟨Hd, Hs⟩
  isplitl [Hd]
  · iexists _; isplitr
    rotate_left 1
    · iexact Hd
    · ipureintro
      rw [← hf]
      exact View.read_write_univ _ _
  · iexists f; isplitr
    · ipureintro; exact hf
    · iexact Hs

/-- Waiting for it. -/
theorem st_wait {sp sp' : Space} {κ' : Kind} {s' : Shape} {e' : EltTy} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} (ι : Ix) {N : ℕ} (hN : dstw.view.dmaCredit = N) {D : sProp 𝕄}
    {O : CellTallies nD τ sig Ix} {W : Waits sig Ix} :
    iprop(Flight EC c (.dma sem) ι N D ∗ owes c O W ∗ MayWaits c ι O)
      ⊢ iprop((D -∗ semVal (c, .dma sem) 0 -∗ owes c O (insert (SemLoc.dma sem, ι) W) -∗ wp frame (wpE defs 𝒱 c bd) Set.univ (k ⟨⟩) Q)
          -∗ wp frame (wpE defs 𝒱 c bd) Set.univ (Prog.lift (.waitDma2 sem srcw dstw hsrc hdst) >>= k) Q) := by
  iintro ⟨Hf, HO, #Hm⟩ Hk
  iapply (wp_waitLocalO EC 𝒱 c bd (defs := defs) (Q := Q) (srcw := srcw) (dstw := dstw) (k := k) ι hN) $$ [Hf HO]
  · isplitl [Hf]; · iexact Hf
    isplitl [HO]; · iexact HO
    iapply (MayWaits.elim (.dma sem)) $$ Hm
  iintro ⟨HD, Hv, HO⟩
  iapply Hk $$ HD Hv HO

end Copies

section Zero

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} {𝒱 : Variants} {c : Thread nD τ} {bd : Option 𝒱.V}
variable {α : Type} {Q : α → sProp (MT nD τ sig Ix (Elt F) Name U Lvl)}

local notation "𝕄" => MT nD τ sig Ix (Elt F) Name U Lvl

/-- The first `16 · t` columns are zero, and of the next sixteen the first `r` rows. -/
def Zeroed (t r : ℕ) (X : FVec F S64x256 .f32) : Prop :=
  ∀ (y : Fin 64) (u : Fin 256), (u.val < 16 * t ∨ (u.val < 16 * t + 16 ∧ y.val < r)) → X (ix2 y u) = Scalar.ofBits .f32 0x00000000#32

/-- A buffer that far zeroed. -/
def zst (c : Thread nD τ) (m : Memref sig c.2.kind .vmem S64x256 .f32) (t r : ℕ) : sProp 𝕄 :=
  iprop(∃ X : FVec F S64x256 .f32, ⌜Zeroed t r X⌝ ∗ owns c m fullShare X)

theorem st_zskip {m : Memref sig c.2.kind .vmem S64x256 .f32} {t r : ℕ} {off : Fin S64x256.rank → ℕ} {inb : ∀ a, off a + S1x16.size a ≤ S64x256.size a}
    {hl : m.view.LoadsAt (Rect.unit off S1x16.size inb).toLoadRect} {k : Vec F S1x16 .f32 → Prog (TpuEff nD τ sig (Elt F) Λ c.2) α} :
    zst c m t r ⊢ iprop((∀ v, zst c m t r -∗ wp (M := 𝕄) frame (wpE defs 𝒱 c bd) Set.univ (k v) Q)
      -∗ wp frame (wpE defs 𝒱 c bd) Set.univ (Prog.lift (.load m (Rect.unit off S1x16.size inb).toLoadRect hl) >>= k) Q) := by
  unfold zst owns
  iintro ⟨%X, %hX, %f, %hf, H⟩ Hk
  iapply (wp_load (defs := defs) 𝒱 c bd Set.univ (Q := Q) (m := m) (hl := hl) (k := k) (S := m.view.set) (q := fullShare) (f := f)
    (m.view.setOn_subset_set _)) $$ H
  iintro H
  iapply Hk
  iexists X; isplitr
  · ipureintro; exact hX
  iexists f; isplitr
  · ipureintro; exact hf
  · iexact H

theorem st_zrow {m : Memref sig c.2.kind .vmem S64x256 .f32} {t r : ℕ} {off : Fin S64x256.rank → ℕ} {inb : ∀ a, off a + S1x16.size a ≤ S64x256.size a}
    {hx : (m.access (Rect.unit off S1x16.size inb)).Stores Finset.univ} {hm} {hc}
    {k : PUnit → Prog (TpuEff nD τ sig (Elt F) Λ c.2) α} (h0 : off = ![r, 16 * t]) :
    zst c m t r ⊢ iprop((zst c m t (r + 1) -∗ wp (M := 𝕄) frame (wpE defs 𝒱 c bd) Set.univ (k ⟨⟩) Q)
      -∗ wp frame (wpE defs 𝒱 c bd) Set.univ (Prog.lift (.store m (Rect.unit off S1x16.size inb) (shapeCast S1x16 (broadcast S16 (Scalar.ofBits .f32 0x00000000#32)) hc) Finset.univ hx hm) >>= k) Q) := by
  subst h0
  obtain ⟨w, hwe, hw⟩ : ∃ w : FVec F S1x16 .f32, shapeCast S1x16 (broadcast S16 (Scalar.ofBits .f32 0x00000000#32)) hc = w ∧ ∀ x, w x = Scalar.ofBits .f32 0x00000000#32 :=
    ⟨_, rfl, fun _ => rfl⟩
  rw [hwe]
  unfold zst owns
  iintro ⟨%X, %hX, %f, %hf, H⟩ Hk
  iapply (wp_store (defs := defs) 𝒱 c bd Set.univ (Q := Q) (m := m) (r := Rect.unit ![r, 16 * t] S1x16.size inb) (hx := hx) (hm := hm) (k := k) (S := m.view.set) (f := f)
    (m.setOn_access_subset _ _)) $$ H
  iintro H
  iapply Hk
  iexists (m.view.read (Elt F) ((m.view.slice (Rect.unit (s := S64x256) ![r, 16 * t] S1x16.size inb)).write (Elt F) f w Finset.univ)); isplitr
  rotate_left 1
  · iexists _; isplitr
    rotate_left 1
    · iexact H
    · ipureintro; rfl
  · ipureintro
    intro y u h
    rw [← View.writes_singleton]
    by_cases hs : ix2 y u ∈ (Rect.unit (s := S64x256) ![r, 16 * t] S1x16.size inb).set
    · rw [← Rect.map_emb_univ, Finset.mem_map] at hs
      obtain ⟨x, -, hx'⟩ := hs
      exact (View.read_writes_cons_hit m.view f (Rect.unit (s := S64x256) ![r, 16 * t] S1x16.size inb) w [] x _ hx').trans (hw x)
    · refine (View.read_writes_cons_miss m.view f ⟨Rect.unit (s := S64x256) ![r, 16 * t] S1x16.size inb, w⟩ [] _ hs).trans ((congrFun hf _).trans (hX y u ?_))
      rcases h with h | ⟨h, h'⟩
      · exact .inl h
      · by_cases hu : u.val < 16 * t
        · exact .inl hu
        · refine .inr ⟨h, ?_⟩
          by_contra hc'
          refine hs (((Rect.unit (s := S64x256) ![r, 16 * t] S1x16.size inb).mem_set).mpr fun a => ?_)
          refine Fin.cases ⟨0, by show 0 < 1; omega, ?_⟩ (fun a => ?_) a
          · show y.val = r + 1 * 0; omega
          · obtain rfl := Fin.eq_zero a
            refine ⟨u.val - 16 * t, by show _ < 16; omega, ?_⟩
            show u.val = 16 * t + 1 * (u.val - 16 * t); omega

end Zero

variable {F : FTy → Type} [FloatOps F]
variable {Ix : Type} [DecidableEq Ix] {Name : Type} [DecidableEq Name] {U : Type} [URA U] {Lvl : Type} [Preorder Lvl]
variable {𝒱 : Variants} {bd : Option 𝒱.V} {α : Type}

variable (d : Dev nD) (i : grid4.Coords) (arg2 : Memref sig .scVector .hbm S64x8192 .f32) (harg2 : arg2.IsWhole) (arg3 : Memref sig .scVector .hbm S64x8192 .f32) (harg3 : arg3.IsWhole) (arg4 : Memref sig .scVector .hbm S8x8192 .i32) (harg4 : arg4.IsWhole) (arg5 : Memref sig .scVector .vmem S64x256 .f32) (harg5 : arg5.IsWhole) (arg6 : Memref sig .scVector .vmem S64x256 .f32) (harg6 : arg6.IsWhole) (arg7 : Memref sig .scVector .vmem S8x256 .i32) (harg7 : arg7.IsWhole) (arg8 : Memref sig .scVector .vmem S16 .f32) (harg8 : arg8.IsWhole) (arg9 : Memref sig .scVector .vmem S16 .i32) (harg9 : arg9.IsWhole) (v13_r0 : DmaSems sig S_) (v13_r1 : DmaSems sig S_) (v13_r2 : DmaSems sig S_)
variable (defs : Defs nD τ sig (Elt F) Λ₀)
variable {Q : α → sProp (MT nD τ sig Ix (Elt F) Name U Lvl)}

local notation "𝕄" => MT nD τ sig Ix (Elt F) Name U Lvl

theorem zpart1 (t : Fin k4_t1_loop.trips) {kk : BitVec 32 → Prog (TpuEff nD τ sig (Elt F) Λ₀ (thr4 d i).2) α} :
    iprop(zst (thr4 d i) arg6 t.val 0 ∗ (∀ a, zst (thr4 d i) arg6 t.val 8 -∗ wp (M := 𝕄) frame (wpE defs 𝒱 (thr4 d i) bd) Set.univ (kk a) Q))
    ⊢ wp frame (wpE defs 𝒱 (thr4 d i) bd) Set.univ (k4_part1 i arg2 harg2 arg3 harg3 arg4 harg4 arg5 harg5 arg6 harg6 arg7 harg7 arg8 harg8 arg9 harg9 v13_r0 v13_r1 v13_r2 (broadcast S16 (Scalar.ofBits .f32 0x00000000#32)) 0#32 1#32 t >>= kk) Q := by
  rw [wp_bind]
  iintro ⟨H, Hk⟩
  unfold k4_part1
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply st_ret
  iapply Hk $$ H

theorem zpart2 (t : Fin k4_t1_loop.trips) (v : BitVec 32) {kk : PUnit → Prog (TpuEff nD τ sig (Elt F) Λ₀ (thr4 d i).2) α} :
    iprop(zst (thr4 d i) arg6 t.val 8 ∗ (zst (thr4 d i) arg6 t.val 18 -∗ wp (M := 𝕄) frame (wpE defs 𝒱 (thr4 d i) bd) Set.univ (kk ⟨⟩) Q))
    ⊢ wp frame (wpE defs 𝒱 (thr4 d i) bd) Set.univ (k4_part2 i arg2 harg2 arg3 harg3 arg4 harg4 arg5 harg5 arg6 harg6 arg7 harg7 arg8 harg8 arg9 harg9 v13_r0 v13_r1 v13_r2 (broadcast S16 (Scalar.ofBits .f32 0x00000000#32)) t v >>= kk) Q := by
  rw [wp_bind]
  iintro ⟨H, Hk⟩
  unfold k4_part2
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply st_ret
  iapply Hk $$ H

theorem zpart3 (t : Fin k4_t1_loop.trips) (v : BitVec 32) {kk : PUnit → Prog (TpuEff nD τ sig (Elt F) Λ₀ (thr4 d i).2) α} :
    iprop(zst (thr4 d i) arg6 t.val 18 ∗ (zst (thr4 d i) arg6 t.val 28 -∗ wp (M := 𝕄) frame (wpE defs 𝒱 (thr4 d i) bd) Set.univ (kk ⟨⟩) Q))
    ⊢ wp frame (wpE defs 𝒱 (thr4 d i) bd) Set.univ (k4_part3 i arg2 harg2 arg3 harg3 arg4 harg4 arg5 harg5 arg6 harg6 arg7 harg7 arg8 harg8 arg9 harg9 v13_r0 v13_r1 v13_r2 (broadcast S16 (Scalar.ofBits .f32 0x00000000#32)) t v >>= kk) Q := by
  rw [wp_bind]
  iintro ⟨H, Hk⟩
  unfold k4_part3
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply st_ret
  iapply Hk $$ H

theorem zpart4 (t : Fin k4_t1_loop.trips) (v : BitVec 32) {kk : PUnit → Prog (TpuEff nD τ sig (Elt F) Λ₀ (thr4 d i).2) α} :
    iprop(zst (thr4 d i) arg6 t.val 28 ∗ (zst (thr4 d i) arg6 t.val 38 -∗ wp (M := 𝕄) frame (wpE defs 𝒱 (thr4 d i) bd) Set.univ (kk ⟨⟩) Q))
    ⊢ wp frame (wpE defs 𝒱 (thr4 d i) bd) Set.univ (k4_part4 i arg2 harg2 arg3 harg3 arg4 harg4 arg5 harg5 arg6 harg6 arg7 harg7 arg8 harg8 arg9 harg9 v13_r0 v13_r1 v13_r2 (broadcast S16 (Scalar.ofBits .f32 0x00000000#32)) t v >>= kk) Q := by
  rw [wp_bind]
  iintro ⟨H, Hk⟩
  unfold k4_part4
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply st_ret
  iapply Hk $$ H

theorem zpart5 (t : Fin k4_t1_loop.trips) (v : BitVec 32) {kk : PUnit → Prog (TpuEff nD τ sig (Elt F) Λ₀ (thr4 d i).2) α} :
    iprop(zst (thr4 d i) arg6 t.val 38 ∗ (zst (thr4 d i) arg6 t.val 48 -∗ wp (M := 𝕄) frame (wpE defs 𝒱 (thr4 d i) bd) Set.univ (kk ⟨⟩) Q))
    ⊢ wp frame (wpE defs 𝒱 (thr4 d i) bd) Set.univ (k4_part5 i arg2 harg2 arg3 harg3 arg4 harg4 arg5 harg5 arg6 harg6 arg7 harg7 arg8 harg8 arg9 harg9 v13_r0 v13_r1 v13_r2 (broadcast S16 (Scalar.ofBits .f32 0x00000000#32)) t v >>= kk) Q := by
  rw [wp_bind]
  iintro ⟨H, Hk⟩
  unfold k4_part5
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply st_ret
  iapply Hk $$ H

theorem zpart6 (t : Fin k4_t1_loop.trips) (v : BitVec 32) {kk : PUnit → Prog (TpuEff nD τ sig (Elt F) Λ₀ (thr4 d i).2) α} :
    iprop(zst (thr4 d i) arg6 t.val 48 ∗ (zst (thr4 d i) arg6 t.val 58 -∗ wp (M := 𝕄) frame (wpE defs 𝒱 (thr4 d i) bd) Set.univ (kk ⟨⟩) Q))
    ⊢ wp frame (wpE defs 𝒱 (thr4 d i) bd) Set.univ (k4_part6 i arg2 harg2 arg3 harg3 arg4 harg4 arg5 harg5 arg6 harg6 arg7 harg7 arg8 harg8 arg9 harg9 v13_r0 v13_r1 v13_r2 (broadcast S16 (Scalar.ofBits .f32 0x00000000#32)) t v >>= kk) Q := by
  rw [wp_bind]
  iintro ⟨H, Hk⟩
  unfold k4_part6
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply st_ret
  iapply Hk $$ H

/-- One trip of the zero loop. -/
abbrev ztrip (t : Fin k4_t1_loop.trips) : Prog (TpuEff nD τ sig (Elt F) Λ₀ (thr4 d i).2) PUnit := do
  let v10 : FVec F S16 .f32 := broadcast S16 (Scalar.ofBits .f32 0x00000000#32)
  let v15 : BitVec 32 ← k4_part1 i arg2 harg2 arg3 harg3 arg4 harg4 arg5 harg5 arg6 harg6 arg7 harg7 arg8 harg8 arg9 harg9 v13_r0 v13_r1 v13_r2 v10 0#32 1#32 t
  k4_part2 i arg2 harg2 arg3 harg3 arg4 harg4 arg5 harg5 arg6 harg6 arg7 harg7 arg8 harg8 arg9 harg9 v13_r0 v13_r1 v13_r2 v10 t v15
  k4_part3 i arg2 harg2 arg3 harg3 arg4 harg4 arg5 harg5 arg6 harg6 arg7 harg7 arg8 harg8 arg9 harg9 v13_r0 v13_r1 v13_r2 v10 t v15
  k4_part4 i arg2 harg2 arg3 harg3 arg4 harg4 arg5 harg5 arg6 harg6 arg7 harg7 arg8 harg8 arg9 harg9 v13_r0 v13_r1 v13_r2 v10 t v15
  k4_part5 i arg2 harg2 arg3 harg3 arg4 harg4 arg5 harg5 arg6 harg6 arg7 harg7 arg8 harg8 arg9 harg9 v13_r0 v13_r1 v13_r2 v10 t v15
  k4_part6 i arg2 harg2 arg3 harg3 arg4 harg4 arg5 harg5 arg6 harg6 arg7 harg7 arg8 harg8 arg9 harg9 v13_r0 v13_r1 v13_r2 v10 t v15
  Prog.lift (.store arg6 (Rect.unit (s := S64x256) (k4_off60 t) S1x16.size (k4_off60_inb t)) (shapeCast S1x16 v10 shapeCasts_S16_S1x16) Finset.univ (View.stores_vmem_bits_univ h_S1x16 rfl) (.inl rfl))
  let _ ← Prog.lift (.load arg6 (Rect.unit (s := S64x256) (k4_off61 t) S1x16.size (k4_off61_inb t)).toLoadRect (View.loadsAt_vmem h_S1x16))
  Prog.lift (.store arg6 (Rect.unit (s := S64x256) (k4_off61 t) S1x16.size (k4_off61_inb t)) (shapeCast S1x16 v10 shapeCasts_S16_S1x16) Finset.univ (View.stores_vmem_bits_univ h_S1x16 rfl) (.inl rfl))
  let _ ← Prog.lift (.load arg6 (Rect.unit (s := S64x256) (k4_off62 t) S1x16.size (k4_off62_inb t)).toLoadRect (View.loadsAt_vmem h_S1x16))
  Prog.lift (.store arg6 (Rect.unit (s := S64x256) (k4_off62 t) S1x16.size (k4_off62_inb t)) (shapeCast S1x16 v10 shapeCasts_S16_S1x16) Finset.univ (View.stores_vmem_bits_univ h_S1x16 rfl) (.inl rfl))
  let _ ← Prog.lift (.load arg6 (Rect.unit (s := S64x256) (k4_off63 t) S1x16.size (k4_off63_inb t)).toLoadRect (View.loadsAt_vmem h_S1x16))
  Prog.lift (.store arg6 (Rect.unit (s := S64x256) (k4_off63 t) S1x16.size (k4_off63_inb t)) (shapeCast S1x16 v10 shapeCasts_S16_S1x16) Finset.univ (View.stores_vmem_bits_univ h_S1x16 rfl) (.inl rfl))
  let _ ← Prog.lift (.load arg6 (Rect.unit (s := S64x256) (k4_off64 t) S1x16.size (k4_off64_inb t)).toLoadRect (View.loadsAt_vmem h_S1x16))
  Prog.lift (.store arg6 (Rect.unit (s := S64x256) (k4_off64 t) S1x16.size (k4_off64_inb t)) (shapeCast S1x16 v10 shapeCasts_S16_S1x16) Finset.univ (View.stores_vmem_bits_univ h_S1x16 rfl) (.inl rfl))
  let _ ← Prog.lift (.load arg6 (Rect.unit (s := S64x256) (k4_off65 t) S1x16.size (k4_off65_inb t)).toLoadRect (View.loadsAt_vmem h_S1x16))
  Prog.lift (.store arg6 (Rect.unit (s := S64x256) (k4_off65 t) S1x16.size (k4_off65_inb t)) (shapeCast S1x16 v10 shapeCasts_S16_S1x16) Finset.univ (View.stores_vmem_bits_univ h_S1x16 rfl) (.inl rfl))
  pure ⟨⟩

theorem run_ztrip (t : Fin k4_t1_loop.trips) {Q : PUnit → sProp 𝕄} :
    iprop(zst (thr4 d i) arg6 t.val 0 ∗ (zst (thr4 d i) arg6 (t.val + 1) 0 -∗ Q ⟨⟩))
    ⊢ wp frame (wpE defs 𝒱 (thr4 d i) bd) Set.univ (ztrip d i arg2 harg2 arg3 harg3 arg4 harg4 arg5 harg5 arg6 harg6 arg7 harg7 arg8 harg8 arg9 harg9 v13_r0 v13_r1 v13_r2 t) Q := by
  iintro ⟨H, Hk⟩
  unfold ztrip
  iapply (zpart1 d i arg2 harg2 arg3 harg3 arg4 harg4 arg5 harg5 arg6 harg6 arg7 harg7 arg8 harg8 arg9 harg9 v13_r0 v13_r1 v13_r2 defs t)
  isplitl [H]; · iexact H
  iintro %v H
  iapply (zpart2 d i arg2 harg2 arg3 harg3 arg4 harg4 arg5 harg5 arg6 harg6 arg7 harg7 arg8 harg8 arg9 harg9 v13_r0 v13_r1 v13_r2 defs t v)
  isplitl [H]; · iexact H
  iintro H
  iapply (zpart3 d i arg2 harg2 arg3 harg3 arg4 harg4 arg5 harg5 arg6 harg6 arg7 harg7 arg8 harg8 arg9 harg9 v13_r0 v13_r1 v13_r2 defs t v)
  isplitl [H]; · iexact H
  iintro H
  iapply (zpart4 d i arg2 harg2 arg3 harg3 arg4 harg4 arg5 harg5 arg6 harg6 arg7 harg7 arg8 harg8 arg9 harg9 v13_r0 v13_r1 v13_r2 defs t v)
  isplitl [H]; · iexact H
  iintro H
  iapply (zpart5 d i arg2 harg2 arg3 harg3 arg4 harg4 arg5 harg5 arg6 harg6 arg7 harg7 arg8 harg8 arg9 harg9 v13_r0 v13_r1 v13_r2 defs t v)
  isplitl [H]; · iexact H
  iintro H
  iapply (zpart6 d i arg2 harg2 arg3 harg3 arg4 harg4 arg5 harg5 arg6 harg6 arg7 harg7 arg8 harg8 arg9 harg9 v13_r0 v13_r1 v13_r2 defs t v)
  isplitl [H]; · iexact H
  iintro H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_zskip $$ H; iintro %_ H
  iapply (st_zrow ClosedOff.eq) $$ H; iintro H
  iapply st_ret
  iapply Hk
  unfold zst
  icases H with ⟨%X, %hX, H⟩
  iexists X; isplitr
  · ipureintro
    intro y u h
    refine hX y u ?_
    have := y.isLt
    omega
  · iexact H

/-- The zero loop. -/
theorem run_zero {kk : PUnit → Prog (TpuEff nD τ sig (Elt F) Λ₀ (thr4 d i).2) α} (A : FVec F S64x256 .f32) (X : FVec F S64x256 .f32) :
    owns (thr4 d i) arg6 fullShare A ⊢ iprop((owns (thr4 d i) arg6 fullShare (wdone X 0) -∗ wp (M := 𝕄) frame (wpE defs 𝒱 (thr4 d i) bd) Set.univ (kk ⟨⟩) Q)
      -∗ wp frame (wpE defs 𝒱 (thr4 d i) bd) Set.univ (Scf.Loop.for k4_t1_loop k4_t1_ok ⟨⟩ (fun t _ => ztrip d i arg2 harg2 arg3 harg3 arg4 harg4 arg5 harg5 arg6 harg6 arg7 harg7 arg8 harg8 arg9 harg9 v13_r0 v13_r1 v13_r2 t) >>= kk) Q) := by
  iintro H Hk
  iapply (Scf.wp_for_bind (M := 𝕄) frame (wpE defs 𝒱 (thr4 d i) bd) Set.univ _ _ _ k4_t1_ok ⟨⟩ _
    (fun n _ => zst (thr4 d i) arg6 n 0) ?_) $$ [H]
  · intro t _
    iintro H
    iapply (run_ztrip d i arg2 harg2 arg3 harg3 arg4 harg4 arg5 harg5 arg6 harg6 arg7 harg7 arg8 harg8 arg9 harg9 v13_r0 v13_r1 v13_r2 defs t)
    isplitl [H]; · iexact H
    iintro H; iexact H
  · unfold zst
    iexists A; isplitr
    · ipureintro; intro y u h; omega
    · iexact H
  · iintro %acc H
    iapply Hk
    unfold zst
    icases H with ⟨%Z, %hZ, H⟩
    have : Z = wdone X 0 := by
      funext j
      rw [eq_ix2 j]
      exact hZ (j 0) (j 1) (.inl (by show _ < 16 * 16; exact (j 1).isLt))
    rw [← this]
    iexact H

end Cert.Proof.Tile

end
-- ==== Proof.Body.lean ====
/-
  The whole body of the SparseCore's top-8 kernel at one tile: the block copied in, the gated block zeroed, one trip per
  token, and the two blocks copied out.
-/
module

public import proofs.«01_k».proof.Proof.Zero

@[expose] public section

noncomputable section

namespace Cert.Proof.Tile

open Cert.KernelIdeal Cert.KernelIdeal.Gen
open Idealize.ShloMosaic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] [Infinite Name] {U : Type} [URA U] {Lvl : Type} [Preorder Lvl]
variable {𝒱 : Variants} {bd : Option 𝒱.V} {α : Type}

variable (d : Dev nD) (i : grid4.Coords) (arg2 : Memref sig .scVector .hbm S64x8192 .f32) (harg2 : arg2.IsWhole) (arg3 : Memref sig .scVector .hbm S64x8192 .f32) (harg3 : arg3.IsWhole) (arg4 : Memref sig .scVector .hbm S8x8192 .i32) (harg4 : arg4.IsWhole) (arg5 : Memref sig .scVector .vmem S64x256 .f32) (harg5 : arg5.IsWhole) (arg6 : Memref sig .scVector .vmem S64x256 .f32) (harg6 : arg6.IsWhole) (arg7 : Memref sig .scVector .vmem S8x256 .i32) (harg7 : arg7.IsWhole) (arg8 : Memref sig .scVector .vmem S16 .f32) (harg8 : arg8.IsWhole) (arg9 : Memref sig .scVector .vmem S16 .i32) (harg9 : arg9.IsWhole) (v13_r0 : DmaSems sig S_) (v13_r1 : DmaSems sig S_) (v13_r2 : DmaSems sig S_)
variable (defs : Defs nD τ sig (Elt F) Λ₀)
variable {Q : α → sProp (MT nD τ sig Ix (Elt F) Name U Lvl)}

local notation "𝕄" => MT nD τ sig Ix (Elt F) Name U Lvl

/-- What the token loop holds before token `n`. -/
def tokSt (X : FVec F S64x256 .f32) (n : ℕ) : sProp 𝕄 :=
  iprop(owns (thr4 d i) arg5 fullShare X ∗ owns (thr4 d i) arg6 fullShare (wdone X n)
    ∗ (∃ Y : Vec F S8x256 .i32, ⌜∀ (y : Fin 8) (u : Fin 256), u.val < n → Y (ix2 y u) = ids (col X u) y⌝ ∗ owns (thr4 d i) arg7 fullShare Y)
    ∗ (∃ A, owns (thr4 d i) arg8 fullShare A) ∗ (∃ B, owns (thr4 d i) arg9 fullShare B))

/-- The body's trip for one token. -/
abbrev trip (k4_hw13 : k4_chk13 across) (k4_t2 : Fin k4_t2_loop.trips) : Prog (TpuEff nD τ sig (Elt F) Λ₀ (thr4 d i).2) PUnit := do
  let ⟨v15, k4_hw1, v25, v26, v31, v33, v38, k4_hw6⟩ : Σ' (v15 : IVec S16 32) (k4_hw1 : k4_chk1 lanes lanes8 v15) (v25 : Vec F S16 .f32) (v26 : Vec F S16 .i32) (v31 : FVec F S16 .f32) (v33 : IVec S16 32) (v38 : IVec S16 32), k4_chk6 v38 ← k4_part7 i arg2 harg2 arg3 harg3 arg4 harg4 arg5 harg5 arg6 harg6 arg7 harg7 arg8 harg8 arg9 harg9 v13_r0 v13_r1 v13_r2 lanes lanes8 0#32 1#32 k4_t2
  let ⟨v40, v41, v55, v56, v61, v63, v64, v66, c1_i32_43, c1_i32_45⟩ : Σ' (v40 : Vec F S16 .f32) (v41 : Vec F S16 .i32) (v55 : Vec F S16 .f32) (v56 : Vec F S16 .i32) (v61 : FVec F S16 .f32) (v63 : IVec S16 32) (v64 : IVec S16 32) (v66 : IVec S16 32) (c1_i32_43 : BitVec 32), BitVec 32 ← k4_part8 i arg2 harg2 arg3 harg3 arg4 harg4 arg5 harg5 arg6 harg6 arg7 harg7 arg8 harg8 arg9 harg9 v13_r0 v13_r1 v13_r2 lanes v15 v31 v33 v38 k4_hw6
  let ⟨v84, v85, v90, v91, v92, v94⟩ : Σ' (v84 : Vec F S16 .f32) (v85 : Vec F S16 .i32) (v90 : Vec F S16 .f32) (v91 : Vec F S16 .i32) (v92 : IVec S16 32), IVec S16 32 ← k4_part9 i arg2 harg2 arg3 harg3 arg4 harg4 arg5 harg5 arg6 harg6 arg7 harg7 arg8 harg8 arg9 harg9 v13_r0 v13_r1 v13_r2 low8 across k4_hw13 v25 v26 v40 v41 v55 v56 v61 v63 v64 v66 c1_i32_43 c1_i32_45
  let ⟨v113, k4_hw21, v117, v119⟩ : Σ' (v113 : Vec F S16 .i32) (k4_hw21 : k4_chk21 v15 v113) (v117 : FVec F S16 .f32), FVec F S16 .f32 ← k4_part10 i arg2 harg2 arg3 harg3 arg4 harg4 arg5 harg5 arg6 harg6 arg7 harg7 arg8 harg8 arg9 harg9 v13_r0 v13_r1 v13_r2 low8 across k4_hw13 v15 v84 v85 v90 v91 v92 v94
  let v121 : FVec F S16 .f32 ← Scf.Loop.for k4_t10_loop k4_t10_ok v119 fun k4_t10 arg12 => do
    have v123 : IVec S16 32 := broadcast S16 (Scf.iv 0#32 1#32 k4_t10)
    have k4_hw20 : k4_chk20 v123 := (← Prog.lift (TpuEff.assume (k4_chk20 v123) (k4_chk20.dec v123))).down
    let v124 : Vec F S16 .f32 ← SparseCore.vectorLoadIdx arg8 ![v123] (k4_idx32_inb v123 k4_hw20) (View.loads_vmem h_S16)
    pure (addf arg12 v124)
  have v122 : FVec F S16 .f32 := divf v117 v121
  SparseCore.vectorStoreIdx arg6 ![v113, v15] v122 low8 false (k4_idx33_inb v15 v113 k4_hw21) (View.stores_vmem_bits_univ h_S64x256 rfl)
  SparseCore.vectorStoreIdx arg7 ![lanes8, v15] v113 low8 false (k4_idx34_inb lanes lanes8 v15 k4_hw1) (View.stores_vmem_bits_univ h_S8x256 rfl)
  pure ⟨⟩

theorem run_trip (X : FVec F S64x256 .f32) (h13 : k4_chk13 across) (t : Fin k4_t2_loop.trips) :
    tokSt d i arg5 arg6 arg7 arg8 arg9 X t.val
    ⊢ wp frame (wpE defs 𝒱 (thr4 d i) bd) Set.univ (trip d i arg2 harg2 arg3 harg3 arg4 harg4 arg5 harg5 arg6 harg6 arg7 harg7 arg8 harg8 arg9 harg9 v13_r0 v13_r1 v13_r2 h13 t) (fun _ => (tokSt d i arg5 arg6 arg7 arg8 arg9 X (t.val + 1) : sProp 𝕄)) := by
  obtain ⟨t', ht⟩ : ∃ t' : Fin 256, t'.val = t.val := ⟨⟨t.val, t.isLt⟩, rfl⟩
  rw [← ht]
  unfold tokSt
  iintro ⟨H5, H6, ⟨%Y, %hY, H7⟩, ⟨%A, H8⟩, ⟨%B, H9⟩⟩
  unfold trip
  iapply (part7 d i arg2 harg2 arg3 harg3 arg4 harg4 arg5 harg5 arg6 harg6 arg7 harg7 arg8 harg8 arg9 harg9 v13_r0 v13_r1 v13_r2 defs X t t' ht A B)
  isplitl [H5]; · iexact H5
  isplitl [H8]; · iexact H8
  isplitl [H9]; · iexact H9
  iintro %h1 %h6 H5 H8 H9
  iapply (part8 d i arg2 harg2 arg3 harg3 arg4 harg4 arg5 harg5 arg6 harg6 arg7 harg7 arg8 harg8 arg9 harg9 v13_r0 v13_r1 v13_r2 defs X t' h6)
  isplitl [H5]; · iexact H5
  isplitl [H8]; · iexact H8
  isplitl [H9]; · iexact H9
  iintro H5 H8 H9
  iapply (part9 d i arg2 harg2 arg3 harg3 arg4 harg4 arg5 harg5 arg6 harg6 arg7 harg7 arg8 harg8 arg9 harg9 v13_r0 v13_r1 v13_r2 defs X t' h13 _)
  isplitl [H8]; · iexact H8
  isplitl [H9]; · iexact H9
  iintro H8 H9
  iapply (part10 d i arg2 harg2 arg3 harg3 arg4 harg4 arg5 harg5 arg6 harg6 arg7 harg7 arg8 harg8 arg9 harg9 v13_r0 v13_r1 v13_r2 defs X t' h13 _)
  isplitl [H8]; · iexact H8
  isplitl [H9]; · iexact H9
  iintro %h21 H8 H9
  iapply (st_sum (top (col X t')) (rawTop (col X t')) (rawTop_top _)) $$ H8; iintro H8
  iapply (st_scatter _ (store_wgt X t' (rawWgt _))) $$ H6; iintro H6
  iapply (st_scatter _ rfl) $$ H7; iintro H7
  iapply st_ret
  isplitl [H5]; · iexact H5
  isplitl [H6]; · iexact H6
  isplitl [H7]
  · iexists _; isplitr
    rotate_left 1
    · iexact H7
    · ipureintro
      intro y u hu
      exact store_ids X t' Y hY y u hu
  isplitl [H8]
  · iexists _; iexact H8
  · iexists _; iexact H9

/-- The ids of a block. -/
def idsOf (X : FVec F S64x256 .f32) : Vec F S8x256 .i32 := fun j => ids (col X (j (1 : Fin 2))) (j (0 : Fin 2))

theorem run_toks {kk : PUnit → Prog (TpuEff nD τ sig (Elt F) Λ₀ (thr4 d i).2) α} (X : FVec F S64x256 .f32) (h13 : k4_chk13 across) :
    tokSt d i arg5 arg6 arg7 arg8 arg9 X 0 ⊢ iprop((owns (thr4 d i) arg5 fullShare X -∗ owns (thr4 d i) arg6 fullShare (wdone X 256) -∗ owns (thr4 d i) arg7 fullShare (idsOf X)
        -∗ (∃ A, owns (thr4 d i) arg8 fullShare A) -∗ (∃ B, owns (thr4 d i) arg9 fullShare B) -∗ wp (M := 𝕄) frame (wpE defs 𝒱 (thr4 d i) bd) Set.univ (kk ⟨⟩) Q)
      -∗ wp frame (wpE defs 𝒱 (thr4 d i) bd) Set.univ (Scf.Loop.for k4_t2_loop k4_t2_ok ⟨⟩ (fun t _ => trip d i arg2 harg2 arg3 harg3 arg4 harg4 arg5 harg5 arg6 harg6 arg7 harg7 arg8 harg8 arg9 harg9 v13_r0 v13_r1 v13_r2 h13 t) >>= kk) Q) := by
  iintro H Hk
  iapply (Scf.wp_for_bind (M := 𝕄) frame (wpE defs 𝒱 (thr4 d i) bd) Set.univ _ _ _ k4_t2_ok ⟨⟩ _
    (fun n _ => tokSt d i arg5 arg6 arg7 arg8 arg9 X n) ?_) $$ H
  · intro t _
    exact run_trip d i arg2 harg2 arg3 harg3 arg4 harg4 arg5 harg5 arg6 harg6 arg7 harg7 arg8 harg8 arg9 harg9 v13_r0 v13_r1 v13_r2 defs X h13 t
  · iintro %acc H
    unfold tokSt
    icases H with ⟨H5, H6, ⟨%Y, %hY, H7⟩, H8, H9⟩
    have : Y = idsOf X := by
      funext j
      rw [eq_ix2 j]
      exact hY (j 0) (j 1) (j 1).isLt
    subst this
    rw [show Scf.trips k4_t2_loop.lb k4_t2_loop.ub k4_t2_loop.st = 256 from by decide +kernel]
    iapply Hk $$ H5 H6 H7 H8 H9

variable (EC : UEmb Counters (MT nD τ sig Ix (Elt F) Name U Lvl)) [EC.LandsIn (upEmb : UEmb _ (MT nD τ sig Ix (Elt F) Name U Lvl))]

theorem across_chk : k4_chk13 across := by
  refine ⟨?_, ?_, ?_, ?_, ?_, ?_⟩ <;> exact across_lt

include EC in
/-- The body at one tile: from its block of the probabilities, its blocks of the two results and its five buffers, to
    the results written with the block's gated columns and ids. -/
theorem run_body (q : PosShare TreeShare) (X A3 : FVec F S64x256 .f32) (A4 : Vec F S8x256 .i32) (A5 A6 : FVec F S64x256 .f32) (A7 : Vec F S8x256 .i32)
    (A8 : FVec F S16 .f32) (A9 : Vec F S16 .i32) (ι : Ix) (O : CellTallies nD τ sig Ix) (W : Waits sig Ix) {Q : PUnit → sProp 𝕄} :
    iprop(MayWaits (thr4 d i) ι O
      ∗ owns (thr4 d i) (arg2.slice (Rect.unit (s := S64x8192) (k4_off1 i) S64x256.size (k4_off1_inb i)) (fun _ => rfl)) q X
      ∗ owns (thr4 d i) (arg3.slice (Rect.unit (s := S64x8192) (k4_off66 i) S64x256.size (k4_off66_inb i)) (fun _ => rfl)) fullShare A3
      ∗ owns (thr4 d i) (arg4.slice (Rect.unit (s := S8x8192) (k4_off67 i) S8x256.size (k4_off67_inb i)) (fun _ => rfl)) fullShare A4
      ∗ owns (thr4 d i) arg5 fullShare A5 ∗ owns (thr4 d i) arg6 fullShare A6 ∗ owns (thr4 d i) arg7 fullShare A7
      ∗ owns (thr4 d i) arg8 fullShare A8 ∗ owns (thr4 d i) arg9 fullShare A9
      ∗ semVal (thr4 d i, .dma v13_r0.sem) 0 ∗ semVal (thr4 d i, .dma v13_r1.sem) 0 ∗ semVal (thr4 d i, .dma v13_r2.sem) 0
      ∗ owes (thr4 d i) O W
      ∗ (owns (thr4 d i) (arg2.slice (Rect.unit (s := S64x8192) (k4_off1 i) S64x256.size (k4_off1_inb i)) (fun _ => rfl)) q X
        -∗ owns (thr4 d i) (arg3.slice (Rect.unit (s := S64x8192) (k4_off66 i) S64x256.size (k4_off66_inb i)) (fun _ => rfl)) fullShare (wdone X 256)
        -∗ owns (thr4 d i) (arg4.slice (Rect.unit (s := S8x8192) (k4_off67 i) S8x256.size (k4_off67_inb i)) (fun _ => rfl)) fullShare (idsOf X)
        -∗ (∃ A, owns (thr4 d i) arg5 fullShare A) -∗ (∃ A, owns (thr4 d i) arg6 fullShare A) -∗ (∃ A, owns (thr4 d i) arg7 fullShare A)
        -∗ (∃ A, owns (thr4 d i) arg8 fullShare A) -∗ (∃ A, owns (thr4 d i) arg9 fullShare A)
        -∗ semVal (thr4 d i, .dma v13_r0.sem) 0 -∗ semVal (thr4 d i, .dma v13_r1.sem) 0 -∗ semVal (thr4 d i, .dma v13_r2.sem) 0
        -∗ owes (thr4 d i) O (insert (SemLoc.dma v13_r2.sem, ι) (insert (SemLoc.dma v13_r1.sem, ι) (insert (SemLoc.dma v13_r0.sem, ι) W)))
        -∗ Q ⟨⟩))
    ⊢ wp frame (wpE defs 𝒱 (thr4 d i) bd) Set.univ (cc4__sc_topk_body i arg2 harg2 arg3 harg3 arg4 harg4 arg5 harg5 arg6 harg6 arg7 harg7 arg8 harg8 arg9 harg9 v13_r0 v13_r1 v13_r2) Q := by
  iintro ⟨#Hm, H2, H3, H4, H5, H6, H7, H8, H9, S0, S1, S2, HO, Hk⟩
  unfold cc4__sc_topk_body
  rw [wp_bind]
  unfold k4_part11
  iapply (st_assume across_chk)
  iapply (st_dma EC ι (View.amount_pos _ _ (show 0 < S64x256.numel by decide))) $$ [H2 H5 S0]
  · isplitl [H2]; · iexact H2
    isplitl [H5] <;> iassumption
  iintro Hf
  iapply (st_wait EC ι rfl) $$ [Hf HO]
  · isplitl [Hf]; · iexact Hf
    isplitl [HO]; · iexact HO
    iexact Hm
  iintro ⟨H5, H2⟩ S0 HO
  iapply (run_zero d i arg2 harg2 arg3 harg3 arg4 harg4 arg5 harg5 arg6 harg6 arg7 harg7 arg8 harg8 arg9 harg9 v13_r0 v13_r1 v13_r2 defs A6 X) $$ H6; iintro H6
  iapply (run_toks d i arg2 harg2 arg3 harg3 arg4 harg4 arg5 harg5 arg6 harg6 arg7 harg7 arg8 harg8 arg9 harg9 v13_r0 v13_r1 v13_r2 defs X across_chk) $$ [H5 H6 H7 H8 H9]
  · unfold tokSt
    isplitl [H5]; · iexact H5
    isplitl [H6]; · iexact H6
    isplitl [H7]
    · iexists A7; isplitr
      · ipureintro; intro y u hu; omega
      · iexact H7
    isplitl [H8]
    · iexists A8; iexact H8
    · iexists A9; iexact H9
  iintro H5 H6 H7 H8 H9
  iapply (st_dma EC ι (View.amount_pos _ _ (show 0 < S64x256.numel by decide))) $$ [H3 H6 S1]
  · isplitl [H6]; · iexact H6
    isplitl [H3] <;> iassumption
  iintro Hf
  iapply (st_wait EC ι rfl) $$ [Hf HO]
  · isplitl [Hf]; · iexact Hf
    isplitl [HO]; · iexact HO
    iexact Hm
  iintro ⟨H3, H6⟩ S1 HO
  iapply (st_dma EC ι (View.amount_pos _ _ (show 0 < S8x256.numel by decide))) $$ [H4 H7 S2]
  · isplitl [H7]; · iexact H7
    isplitl [H4] <;> iassumption
  iintro Hf
  iapply st_ret
  iapply (st_wait EC ι rfl) $$ [Hf HO]
  · isplitl [Hf]; · iexact Hf
    isplitl [HO]; · iexact HO
    iexact Hm
  iintro ⟨H4, H7⟩ S2 HO
  iapply st_ret
  iapply Hk $$ H2 H3 H4 [H5] [H6] [H7] H8 H9 S0 S1 S2 HO
  · iexists _; iexact H5
  · iexists _; iexact H6
  · iexists _; iexact H7

end Cert.Proof.Tile

end
-- ==== Proof.Gate.lean ====
/-
  The TensorCore's body of the router: softmax over the experts of one block of tokens, and the block's column of sums,
  stored at the first block and added to what is there at the later ones.
-/
module

public import proofs.«01_k».proof.Proof.Step

@[expose] public section

noncomputable section

namespace Cert.Proof.Tile

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The logits of a block of tokens, experts first. -/
def logit (w : FVec F S64x768 .f32) (x : FVec F S1024x768 .f32) : FVec F S64x1024 .f32 :=
  matmul dot_S64x768_S1024x768_S64x1024_1_1_0_0_n_n none w (shapeCast S1024x768 x shapeCasts_S1024x768_S1024x768) (constant S64x1024 .f32 0x00000000#32)

/-- The exponentials of the logits less their greatest, per token. -/
def expo (v3 : FVec F S64x1024 .f32) : FVec F S64x1024 .f32 :=
  exp (subf v3 (broadcastTo S64x1024 (shapeCast S1x1024 (multiReduction .maximumf [0] S1024 v3 0xFF800000#32 reduces_S64x1024_S1024 (.inl rfl) rfl) shapeCasts_S1024_S1x1024) broadcasts_S1x1024_S64x1024))

/-- Each exponential over its token's sum of them. -/
def norm (v8 : FVec F S64x1024 .f32) : FVec F S64x1024 .f32 :=
  divf v8 (broadcastTo S64x1024 (shapeCast S1x1024 (multiReduction .add [0] S1024 v8 0x00000000#32 reduces_S64x1024_S1024 (.inl rfl) rfl) shapeCasts_S1024_S1x1024) broadcasts_S1x1024_S64x1024)

/-- The block's probabilities. -/
def smx (w : FVec F S64x768 .f32) (x : FVec F S1024x768 .f32) : FVec F S64x1024 .f32 := norm (expo (logit w x))

/-- The column of each expert's sum over the block's tokens. -/
def colS (p : FVec F S64x1024 .f32) : FVec F S64x1 .f32 :=
  shapeCast S64x1 (multiReduction .add [1] S64 p 0x00000000#32 reduces_S64x1024_S64 (.inl rfl) rfl) shapeCasts_S64_S64x1

/-- That column added to what was there. -/
def addS (a : FVec F S64x1 .f32) (p : FVec F S64x1024 .f32) : FVec F S64x1 .f32 :=
  addf (shapeCast S64x1 a shapeCasts_S64x1_S64x1) (colS p)

variable {Ix : Type} [DecidableEq Ix] {Name : Type} [DecidableEq Name] {U : Type} [URA U] {Lvl : Type} [Preorder Lvl]
variable {𝒱 : Variants} {bd : Option 𝒱.V}

local notation "𝕄" => MT nD τ sig Ix (Elt F) Name U Lvl

section Body

variable (c : Dev nD) (i : grid0.Coords) (arg1 : Memref sig .tc .vmem S1024x768 .f32) (harg1 : arg1.IsWhole) (arg2 : Memref sig .tc .vmem S64x768 .f32) (harg2 : arg2.IsWhole) (arg3 : Memref sig .tc .vmem S64x1024 .f32) (harg3 : arg3.IsWhole) (arg4 : Memref sig .tc .vmem S64x1 .f32) (harg4 : arg4.IsWhole)
variable (defs : Defs nD τ sig (Elt F) Λ₀)

theorem off2 : (![0, 0] : Fin 2 → ℕ) = fun _ => 0 := by funext a; fin_cases a <;> rfl

theorem gate_first (h1 : k0_cond1 i = 1#1) (h2 : ¬ k0_cond2 i = 1#1) (x : Vec F S1024x768 .f32) (w : Vec F S64x768 .f32) (A : Vec F S64x1024 .f32) (B : Vec F S64x1 .f32) {Q : PUnit → sProp 𝕄} :
    iprop((owns (c : Thread nD τ) arg1 fullShare x : sProp 𝕄) ∗ owns (c : Thread nD τ) arg2 fullShare w ∗ owns (c : Thread nD τ) arg3 fullShare A ∗ owns (c : Thread nD τ) arg4 fullShare B
      ∗ (owns (c : Thread nD τ) arg1 fullShare x -∗ owns (c : Thread nD τ) arg2 fullShare w -∗ owns (c : Thread nD τ) arg3 fullShare (smx w x) -∗ owns (c : Thread nD τ) arg4 fullShare (colS (smx w x)) -∗ Q ⟨⟩))
    ⊢ wp frame (wpE defs 𝒱 (c : Thread nD τ) bd) Set.univ (cc0__gate_softmax_block i arg1 harg1 arg2 harg2 arg3 harg3 arg4 harg4) Q := by
  unfold colS smx norm expo logit
  iintro ⟨H1, H2, H3, H4, Hk⟩
  unfold cc0__gate_softmax_block
  iapply (st_load off2) $$ H1; iintro H1
  iapply (st_load off2) $$ H2; iintro H2
  iapply (st_load off2) $$ H3; iintro H3
  iapply (st_store off2) $$ H3; iintro H3
  rw [dif_pos h1, dif_neg h2]
  iapply (st_load off2) $$ H4; iintro H4
  iapply (st_store off2) $$ H4; iintro H4
  iapply (st_ret (defs := defs) (𝒱 := 𝒱) (bd := bd) (c := (c : Thread nD τ)))
  iapply Hk $$ H1 H2 H3 H4

theorem gate_next (h1 : ¬ k0_cond1 i = 1#1) (h2 : k0_cond2 i = 1#1) (x : Vec F S1024x768 .f32) (w : Vec F S64x768 .f32) (A : Vec F S64x1024 .f32) (B : Vec F S64x1 .f32) {Q : PUnit → sProp 𝕄} :
    iprop((owns (c : Thread nD τ) arg1 fullShare x : sProp 𝕄) ∗ owns (c : Thread nD τ) arg2 fullShare w ∗ owns (c : Thread nD τ) arg3 fullShare A ∗ owns (c : Thread nD τ) arg4 fullShare B
      ∗ (owns (c : Thread nD τ) arg1 fullShare x -∗ owns (c : Thread nD τ) arg2 fullShare w -∗ owns (c : Thread nD τ) arg3 fullShare (smx w x) -∗ owns (c : Thread nD τ) arg4 fullShare (addS B (smx w x)) -∗ Q ⟨⟩))
    ⊢ wp frame (wpE defs 𝒱 (c : Thread nD τ) bd) Set.univ (cc0__gate_softmax_block i arg1 harg1 arg2 harg2 arg3 harg3 arg4 harg4) Q := by
  unfold addS colS smx norm expo logit
  iintro ⟨H1, H2, H3, H4, Hk⟩
  unfold cc0__gate_softmax_block
  iapply (st_load off2) $$ H1; iintro H1
  iapply (st_load off2) $$ H2; iintro H2
  iapply (st_load off2) $$ H3; iintro H3
  iapply (st_store off2) $$ H3; iintro H3
  rw [dif_neg h1, dif_pos h2]
  iapply (st_load off2) $$ H4; iintro H4
  iapply (st_load off2) $$ H4; iintro H4
  iapply (st_store off2) $$ H4; iintro H4
  iapply (st_ret (defs := defs) (𝒱 := 𝒱) (bd := bd) (c := (c : Thread nD τ)))
  iapply Hk $$ H1 H2 H3 H4

end Body

/-- The four calls run one body. -/
theorem gate1 : @cc1__gate_softmax_block F _ = @cc0__gate_softmax_block F _ := rfl
theorem gate2 : @cc2__gate_softmax_block F _ = @cc0__gate_softmax_block F _ := rfl
theorem gate3 : @cc3__gate_softmax_block F _ = @cc0__gate_softmax_block F _ := rfl

end Cert.Proof.Tile

end
-- ==== Proof.Names.lean ====
/-
  The program as its launch sees it: the calls, the algebra of the handshakes, of the pipelines and of the transfers,
  and the parts of the arrays that one tile works on.
-/
module

public import proofs.«01_k».proof.Defs
public import proofs.«01_k».proof.Proof.Body
public import proofs.«01_k».proof.Proof.Gate
public import proofs.«01_k».proof.Proof.Gen.KernelIdeal
public import proofs.«01_k».proof.Proof.Gen.KernelIdeal.Launch
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

noncomputable section

namespace Cert.Proof.Tile

open Cert.KernelIdeal Cert.KernelIdeal.Gen
open Idealize.ShloMosaic Idealize.ShloMosaic.Transfers
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The calls -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra: the handshakes' rounds, the pipelines' rounds, the transfers' counters -/

abbrev UH : Type := URounds (GSem nD τ sig) ℕ
abbrev UP : Type := UR sig nD τ × Counters
abbrev UU : Type := UH × UP

local notation "𝕄" => MT nD τ sig (HIx 4) (Elt F) ℕ UU ℕ

abbrev EH : Emb UH (MT nD τ sig (HIx 4) (Elt F) ℕ UU ℕ) := embL
abbrev ER : Emb UP (MT nD τ sig (HIx 4) (Elt F) ℕ UU ℕ) := embR
def EP : Emb (UR sig nD τ) (MT nD τ sig (HIx 4) (Elt F) ℕ UU ℕ) := (Emb.inl : Emb (UR sig nD τ) UP).trans ER
instance EP_landsIn : (EP : Emb (UR sig nD τ) 𝕄).LandsIn (upEmb : UEmb _ 𝕄) := by unfold EP; infer_instance

abbrev EC : UEmb Counters (MT nD τ sig (HIx 4) (Elt F) ℕ UU ℕ) := countersEmb

/-! ## One tile's part of the arrays -/

variable [FloatOps F]

/-- Tile `s` of SparseCore `c`. -/
def crd (c : Fin 2) (s : Fin 16) : grid4.Coords := fun | 0 => c | 1 => s | ⟨_ + 2, h⟩ => absurd h (Nat.not_lt.2 (Nat.le_add_left _ _))

abbrev rP (i : grid4.Coords) : Rect S64x8192 := Rect.unit (s := S64x8192) (k4_off1 i) S64x256.size (k4_off1_inb i)
abbrev rG (i : grid4.Coords) : Rect S64x8192 := Rect.unit (s := S64x8192) (k4_off66 i) S64x256.size (k4_off66_inb i)
abbrev rO (i : grid4.Coords) : Rect S8x8192 := Rect.unit (s := S8x8192) (k4_off67 i) S8x256.size (k4_off67_inb i)

theorem off1_eq : ∀ i : grid4.Coords, k4_off1 i = ![0, 256 * (2 * (i 1).val + (i 0).val)] := by decide +kernel
theorem off66_eq : ∀ i : grid4.Coords, k4_off66 i = ![0, 256 * (2 * (i 1).val + (i 0).val)] := by decide +kernel
theorem off67_eq : ∀ i : grid4.Coords, k4_off67 i = ![0, 256 * (2 * (i 1).val + (i 0).val)] := by decide +kernel

theorem mem_rP (c : Fin 2) (s : Fin 16) (x : S64x8192.Idx) : x ∈ (rP (crd c s)).set ↔ (x (1 : Fin 2)).val / 256 = 2 * s.val + c.val := by
  refine Rect.mem_set_unit.trans ?_
  rw [off1_eq]
  have h1 : (x (1 : Fin 2)).val < 8192 := (x (1 : Fin 2)).isLt
  have h0 : (x (0 : Fin 2)).val < 64 := (x (0 : Fin 2)).isLt
  refine (Fin.forall_fin_two).trans ?_
  show (0 ≤ (x (0 : Fin 2)).val ∧ (x (0 : Fin 2)).val < 0 + 64) ∧ (256 * (2 * s.val + c.val) ≤ (x (1 : Fin 2)).val ∧ (x (1 : Fin 2)).val < 256 * (2 * s.val + c.val) + 256) ↔ _
  omega
theorem mem_rG (c : Fin 2) (s : Fin 16) (x : S64x8192.Idx) : x ∈ (rG (crd c s)).set ↔ (x (1 : Fin 2)).val / 256 = 2 * s.val + c.val := by
  refine Rect.mem_set_unit.trans ?_
  rw [off66_eq]
  have h1 : (x (1 : Fin 2)).val < 8192 := (x (1 : Fin 2)).isLt
  have h0 : (x (0 : Fin 2)).val < 64 := (x (0 : Fin 2)).isLt
  refine (Fin.forall_fin_two).trans ?_
  show (0 ≤ (x (0 : Fin 2)).val ∧ (x (0 : Fin 2)).val < 0 + 64) ∧ (256 * (2 * s.val + c.val) ≤ (x (1 : Fin 2)).val ∧ (x (1 : Fin 2)).val < 256 * (2 * s.val + c.val) + 256) ↔ _
  omega
theorem mem_rO (c : Fin 2) (s : Fin 16) (x : S8x8192.Idx) : x ∈ (rO (crd c s)).set ↔ (x (1 : Fin 2)).val / 256 = 2 * s.val + c.val := by
  refine Rect.mem_set_unit.trans ?_
  rw [off67_eq]
  have h1 : (x (1 : Fin 2)).val < 8192 := (x (1 : Fin 2)).isLt
  have h0 : (x (0 : Fin 2)).val < 8 := (x (0 : Fin 2)).isLt
  refine (Fin.forall_fin_two).trans ?_
  show (0 ≤ (x (0 : Fin 2)).val ∧ (x (0 : Fin 2)).val < 0 + 8) ∧ (256 * (2 * s.val + c.val) ≤ (x (1 : Fin 2)).val ∧ (x (1 : Fin 2)).val < 256 * (2 * s.val + c.val) + 256) ↔ _
  omega

/-- Column blocks told apart by their number part an array of 8192 columns. -/
theorem cols_parts {s : Shape} (cl : s.Idx → ℕ) (hcl : ∀ x, cl x < 8192) (R : Fin 2 → Fin 16 → Finset s.Idx) (h : ∀ c t x, x ∈ R c t ↔ cl x / 256 = 2 * t.val + c.val) :
    (∀ a ∈ (Finset.univ : Finset (Fin 2 × Fin 16)), ∀ b ∈ (Finset.univ : Finset (Fin 2 × Fin 16)), a ≠ b → Disjoint (R a.1 a.2) (R b.1 b.2))
      ∧ (Finset.univ : Finset (Fin 2 × Fin 16)).biUnion (fun a => R a.1 a.2) = Finset.univ := by
  constructor
  · rintro ⟨c, t⟩ - ⟨c', t'⟩ - hne
    refine Finset.disjoint_left.mpr fun x hx hx' => hne ?_
    have h1 := (h c t x).mp hx
    have h2 := (h c' t' x).mp hx'
    have := c.isLt; have := c'.isLt
    exact Prod.ext (Fin.ext (by show c.val = c'.val; omega)) (Fin.ext (by show t.val = t'.val; omega))
  · refine Finset.eq_univ_of_forall fun x => Finset.mem_biUnion.mpr ?_
    have hx := hcl x
    exact ⟨(⟨cl x / 256 % 2, by omega⟩, ⟨cl x / 512, by omega⟩), Finset.mem_univ _, (h _ _ x).mpr (by show _ = 2 * (cl x / 512) + cl x / 256 % 2; omega)⟩

/-- The gated weights and the ids of a whole array of probabilities, column by column. -/
def gatedArr (X : FVec F S64x8192 .f32) : FVec F S64x8192 .f32 := fun j => gated (fun y => X (ix2 y (j (1 : Fin 2)))) (j (0 : Fin 2))
def idsArr (X : FVec F S64x8192 .f32) : Vec F S8x8192 .i32 := fun j => ids (fun y => X (ix2 y (j (1 : Fin 2)))) (j (0 : Fin 2))

theorem wdone_arr (i : grid4.Coords) (X : FVec F S64x8192 .f32) :
    wdone (fun j => X ((rP i).emb j)) 256 = fun j => gatedArr X ((rG i).emb j) := by
  funext j
  unfold wdone gatedArr
  rw [if_pos (show (j (1 : Fin 2)).val < 256 from (j (1 : Fin 2)).isLt)]
  have e1 : ((rG i).emb j (1 : Fin 2)).val = k4_off66 i 1 + 1 * (j (1 : Fin 2)).val := rfl
  have e0 : ((rG i).emb j (0 : Fin 2)).val = k4_off66 i 0 + 1 * (j (0 : Fin 2)).val := rfl
  have hj : (rG i).emb j (0 : Fin 2) = (j (0 : Fin 2) : Fin 64) := Fin.ext (by rw [e0, off66_eq]; show 0 + 1 * _ = _; omega)
  rw [hj]
  refine congrArg (fun f => gated f (j (0 : Fin 2))) (funext fun y => ?_)
  show X ((rP i).emb (ix2 y (j (1 : Fin 2)))) = _
  refine congrArg X (funext fun a => Fin.ext ?_)
  match a with
  | ⟨0, _⟩ => show k4_off1 i 0 + 1 * y.val = y.val; rw [off1_eq]; show 0 + 1 * _ = _; omega
  | ⟨1, _⟩ => show k4_off1 i 1 + 1 * (j (1 : Fin 2)).val = ((rG i).emb j (1 : Fin 2)).val; rw [e1, off1_eq, off66_eq]

theorem ids_arr (i : grid4.Coords) (X : FVec F S64x8192 .f32) :
    idsOf (fun j => X ((rP i).emb j)) = fun j => idsArr X ((rO i).emb j) := by
  funext j
  unfold idsOf idsArr
  have e1 : ((rO i).emb j (1 : Fin 2)).val = k4_off67 i 1 + 1 * (j (1 : Fin 2)).val := rfl
  have e0 : ((rO i).emb j (0 : Fin 2)).val = k4_off67 i 0 + 1 * (j (0 : Fin 2)).val := rfl
  have hj : (rO i).emb j (0 : Fin 2) = (j (0 : Fin 2) : Fin 8) := Fin.ext (by rw [e0, off67_eq]; show 0 + 1 * _ = _; omega)
  rw [hj]
  refine congrArg (fun f => ids f (j (0 : Fin 2))) (funext fun y => ?_)
  show X ((rP i).emb (ix2 y (j (1 : Fin 2)))) = _
  refine congrArg X (funext fun a => Fin.ext ?_)
  match a with
  | ⟨0, _⟩ => show k4_off1 i 0 + 1 * y.val = y.val; rw [off1_eq]; show 0 + 1 * _ = _; omega
  | ⟨1, _⟩ => show k4_off1 i 1 + 1 * (j (1 : Fin 2)).val = ((rO i).emb j (1 : Fin 2)).val; rw [e1, off1_eq, off67_eq]

/-! What a tile is handed and what it hands back, over the arrays as its memrefs name them. -/
section Tile
variable (d : Dev nD) (i : grid4.Coords) (arg2 : Memref sig .scVector .hbm S64x8192 .f32) (arg3 : Memref sig .scVector .hbm S64x8192 .f32) (arg4 : Memref sig .scVector .hbm S8x8192 .i32)

def goAt (X : FVec F S64x8192 .f32) : sProp 𝕄 :=
  iprop(owns (thr4 d i) (arg2.slice (rP i) (fun _ => rfl)) fullShare (fun j => X ((rP i).emb j))
    ∗ (∃ A : FVec F S64x256 .f32, owns (thr4 d i) (arg3.slice (rG i) (fun _ => rfl)) fullShare A)
    ∗ ∃ A : Vec F S8x256 .i32, owns (thr4 d i) (arg4.slice (rO i) (fun _ => rfl)) fullShare A)
def tdAt (X : FVec F S64x8192 .f32) : sProp 𝕄 :=
  iprop(owns (thr4 d i) (arg2.slice (rP i) (fun _ => rfl)) fullShare (fun j => X ((rP i).emb j))
    ∗ owns (thr4 d i) (arg3.slice (rG i) (fun _ => rfl)) fullShare (fun j => gatedArr X ((rG i).emb j))
    ∗ owns (thr4 d i) (arg4.slice (rO i) (fun _ => rfl)) fullShare (fun j => idsArr X ((rO i).emb j)))

instance goAt_storable (X : FVec F S64x8192 .f32) : BI.Storable (upEmb : UEmb _ 𝕄) (goAt d i arg2 arg3 arg4 X) := by unfold goAt; infer_instance
instance tdAt_storable (X : FVec F S64x8192 .f32) : BI.Storable (upEmb : UEmb _ 𝕄) (tdAt d i arg2 arg3 arg4 X) := by unfold tdAt; infer_instance

end Tile

/-! ## A tile's own buffers and semaphores -/

theorem take3 {I : Type} [DecidableEq I] (s : Finset I) (a b c : I) (ha : a ∈ s) (hb : b ∈ s) (hc : c ∈ s) (hab : b ≠ a) (hac : c ≠ a) (hbc : c ≠ b) (Φ : I → sProp 𝕄) :
    bigSep s Φ = iprop(Φ a ∗ Φ b ∗ Φ c ∗ bigSep (((s.erase a).erase b).erase c) Φ) := by
  rw [SparseCore.bigSep_erase' ha, SparseCore.bigSep_erase' (Finset.mem_erase.mpr ⟨hab, hb⟩),
    SparseCore.bigSep_erase' (Finset.mem_erase.mpr ⟨hbc, Finset.mem_erase.mpr ⟨hac, hc⟩⟩)]

theorem own3 (thr : Thread nD τ) (a b c : SemLoc sig) (ha : a.isScoped thr.2.kind = true) (hb : b.isScoped thr.2.kind = true) (hc : c.isScoped thr.2.kind = true)
    (hab : b ≠ a) (hac : c ≠ a) (hbc : c ≠ b) :
    ∃ Z : sProp 𝕄, (ownSems0 thr : sProp 𝕄) = iprop(semVal (thr, a) 0 ∗ semVal (thr, b) 0 ∗ semVal (thr, c) 0 ∗ Z) := by
  refine ⟨bigSep ((((ownCells thr).erase (thr, a)).erase (thr, b)).erase (thr, c)) fun g => semVal g 0, ?_⟩
  unfold SparseCore.Cfg.ownSems0
  exact take3 (ownCells thr) (thr, a) (thr, b) (thr, c) (mem_ownCells.mpr ⟨rfl, ha⟩) (mem_ownCells.mpr ⟨rfl, hb⟩) (mem_ownCells.mpr ⟨rfl, hc⟩)
    (fun e => hab (congrArg Prod.snd e)) (fun e => hac (congrArg Prod.snd e)) (fun e => hbc (congrArg Prod.snd e)) (fun g => semVal g 0)

theorem take5 {I : Type} [DecidableEq I] (s : Finset I) (a b c e f : I) (ha : a ∈ s) (hb : b ∈ s) (hc : c ∈ s) (he : e ∈ s) (hf : f ∈ s)
    (hba : b ≠ a) (hca : c ≠ a) (hcb : c ≠ b) (hea : e ≠ a) (heb : e ≠ b) (hec : e ≠ c) (hfa : f ≠ a) (hfb : f ≠ b) (hfc : f ≠ c) (hfe : f ≠ e) (Φ : I → sProp 𝕄) :
    bigSep s Φ = iprop(Φ a ∗ Φ b ∗ Φ c ∗ Φ e ∗ Φ f ∗ bigSep (((((s.erase a).erase b).erase c).erase e).erase f) Φ) := by
  rw [take3 s a b c ha hb hc hba hca hcb,
    SparseCore.bigSep_erase' (i := e) (Finset.mem_erase.mpr ⟨hec, Finset.mem_erase.mpr ⟨heb, Finset.mem_erase.mpr ⟨hea, he⟩⟩⟩),
    SparseCore.bigSep_erase' (i := f) (Finset.mem_erase.mpr ⟨hfe, Finset.mem_erase.mpr ⟨hfc, Finset.mem_erase.mpr ⟨hfb, Finset.mem_erase.mpr ⟨hfa, hf⟩⟩⟩⟩)]

theorem own5 (d : Dev nD) (c : Fin τ.nSC) (t : Fin τ.nSub) (r0 r1 r2 r3 r4 : Ref sig .scVector)
    (h0 : ((Proc.scVector (τ := τ) c t).devRef r0).owner = Owner.proc (Proc.scVector c t)) (h1 : ((Proc.scVector (τ := τ) c t).devRef r1).owner = Owner.proc (Proc.scVector c t))
    (h2 : ((Proc.scVector (τ := τ) c t).devRef r2).owner = Owner.proc (Proc.scVector c t)) (h3 : ((Proc.scVector (τ := τ) c t).devRef r3).owner = Owner.proc (Proc.scVector c t))
    (h4 : ((Proc.scVector (τ := τ) c t).devRef r4).owner = Owner.proc (Proc.scVector c t))
    (n10 : r1 ≠ r0) (n20 : r2 ≠ r0) (n21 : r2 ≠ r1) (n30 : r3 ≠ r0) (n31 : r3 ≠ r1) (n32 : r3 ≠ r2) (n40 : r4 ≠ r0) (n41 : r4 ≠ r1) (n42 : r4 ≠ r2) (n43 : r4 ≠ r3) :
    ∃ Z : sProp 𝕄, (ownBufs (V d c t) : sProp 𝕄) = iprop((∃ f, (V d c t).loc r0 ↦{fullShare} f) ∗ (∃ f, (V d c t).loc r1 ↦{fullShare} f)
      ∗ (∃ f, (V d c t).loc r2 ↦{fullShare} f) ∗ (∃ f, (V d c t).loc r3 ↦{fullShare} f) ∗ (∃ f, (V d c t).loc r4 ↦{fullShare} f) ∗ Z) := by
  have inj := fun (a b : Ref sig .scVector) (h : a ≠ b) (e : (Proc.scVector (τ := τ) c t).devRef a = (Proc.scVector c t).devRef b) => h (Proc.devRef_injective _ e)
  have mem := fun (a : Ref sig .scVector) h => SparseCore.Cfg.mem_ownRefs_of_owner (p := Proc.scVector (τ := τ) c t) (b := (Proc.scVector c t).devRef a) h
  refine ⟨bigSep ((((((ownRefs (Proc.scVector c t)).erase ((Proc.scVector c t).devRef r0)).erase ((Proc.scVector c t).devRef r1)).erase ((Proc.scVector c t).devRef r2)).erase
    ((Proc.scVector c t).devRef r3)).erase ((Proc.scVector c t).devRef r4)) (fun b => iprop(∃ f, ((d, b) : Loc nD τ sig) ↦{fullShare} f)), ?_⟩
  unfold SparseCore.Cfg.ownBufs
  exact take5 (ownRefs (Proc.scVector c t)) ((Proc.scVector c t).devRef r0) ((Proc.scVector c t).devRef r1) ((Proc.scVector c t).devRef r2) ((Proc.scVector c t).devRef r3) ((Proc.scVector c t).devRef r4)
    (mem _ h0) (mem _ h1) (mem _ h2) (mem _ h3) (mem _ h4) (inj _ _ n10) (inj _ _ n20) (inj _ _ n21) (inj _ _ n30) (inj _ _ n31) (inj _ _ n32)
    (inj _ _ n40) (inj _ _ n41) (inj _ _ n42) (inj _ _ n43) (fun b => iprop(∃ f, ((d, b) : Loc nD τ sig) ↦{fullShare} f))

end Cert.Proof.Tile

end
-- ==== Proof.Tile.lean ====
/-
  The four SparseCore calls: what each hands to a tile and takes back, one tile's run of the body, and the arrays as the
  tiles' column blocks.
-/
module

public import proofs.«01_k».proof.Proof.Names

@[expose] public section

noncomputable section

namespace Cert.Proof.Tile

open Cert.KernelIdeal Cert.KernelIdeal.Gen
open Idealize.ShloMosaic Idealize.ShloMosaic.Transfers
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ

theorem body5 : @cc5__sc_topk_body F _ = @cc4__sc_topk_body F _ := rfl
theorem body6 : @cc6__sc_topk_body F _ = @cc4__sc_topk_body F _ := rfl
theorem body7 : @cc7__sc_topk_body F _ = @cc4__sc_topk_body F _ := rfl

omit [FloatOps F] in
theorem regroup (A B C : sProp 𝕄) : iprop((A ∗ B) ∗ C) = iprop(A ∗ B ∗ C) := equiv_iff.mp ⟨BI.sep_assoc, BI.sep_assoc'⟩

omit [FloatOps F] in
theorem frame_run {α : Type} {thr : Thread nD τ} {defs : Defs nD τ sig (Elt F) Λ₀} {p : Prog (TpuEff nD τ sig (Elt F) Λ₀ thr.2) α} {A A' R : sProp 𝕄} {B B' : α → sProp 𝕄}
    (h : A ⊢ wp frame (wpE defs 𝒱₀ thr none) Set.univ p B) (hA : A' ⊢ iprop(A ∗ R)) (hB : ∀ a, iprop(B a ∗ R) ⊢ B' a) :
    A' ⊢ wp frame (wpE defs 𝒱₀ thr none) Set.univ p B' :=
  hA.trans ((sep_mono_left h).trans ((wp_frame_r _ _ _).trans (wp_mono frame _ _ hB)))

section Run
variable (d : Dev nD) (i : grid4.Coords) (arg2 : Memref sig .scVector .hbm S64x8192 .f32) (harg2 : arg2.IsWhole) (arg3 : Memref sig .scVector .hbm S64x8192 .f32) (harg3 : arg3.IsWhole) (arg4 : Memref sig .scVector .hbm S8x8192 .i32) (harg4 : arg4.IsWhole)
  (arg5 : Memref sig .scVector .vmem S64x256 .f32) (harg5 : arg5.IsWhole) (arg6 : Memref sig .scVector .vmem S64x256 .f32) (harg6 : arg6.IsWhole) (arg7 : Memref sig .scVector .vmem S8x256 .i32) (harg7 : arg7.IsWhole)
  (arg8 : Memref sig .scVector .vmem S16 .f32) (harg8 : arg8.IsWhole) (arg9 : Memref sig .scVector .vmem S16 .i32) (harg9 : arg9.IsWhole) (r0 r1 r2 : DmaSems sig S_)

/-- A tile's scratches at some contents and its semaphores at zero. -/
def scr : sProp 𝕄 :=
  iprop((∃ A, owns (thr4 d i) arg5 fullShare A) ∗ (∃ A, owns (thr4 d i) arg6 fullShare A) ∗ (∃ A, owns (thr4 d i) arg7 fullShare A)
    ∗ (∃ A, owns (thr4 d i) arg8 fullShare A) ∗ ∃ A, owns (thr4 d i) arg9 fullShare A)
def sems0 : sProp 𝕄 := iprop(semVal (thr4 d i, .dma r0.sem) 0 ∗ semVal (thr4 d i, .dma r1.sem) 0 ∗ semVal (thr4 d i, .dma r2.sem) 0)

theorem tile_gen (X : FVec F S64x8192 .f32) (O : CellTallies nD τ sig (HIx 4)) (W : Waits sig (HIx 4)) (hO : ∀ g, O g none = 0) :
    iprop(levAts (K (F := F)).L (K (F := F)).lev ∗ goAt d i arg2 arg3 arg4 X ∗ scr d i arg5 arg6 arg7 arg8 arg9 ∗ sems0 d i r0 r1 r2 ∗ owes (thr4 d i) O W)
      ⊢ wp (M := 𝕄) frame (wpE (defs₀ (F := F)) 𝒱₀ (thr4 d i) none) Set.univ
          (cc4__sc_topk_body i arg2 harg2 arg3 harg3 arg4 harg4 arg5 harg5 arg6 harg6 arg7 harg7 arg8 harg8 arg9 harg9 r0 r1 r2)
          fun _ => iprop(tdAt d i arg2 arg3 arg4 X ∗ scr d i arg5 arg6 arg7 arg8 arg9 ∗ sems0 d i r0 r1 r2
            ∗ ∃ W', ⌜∀ p ∈ W', p ∈ W ∨ p.2 = none⌝ ∗ owes (thr4 d i) O W') := by
  unfold goAt tdAt scr sems0
  iintro ⟨#Hlv, ⟨H2, ⟨%A3, H3⟩, %A4, H4⟩, ⟨⟨%A5, H5⟩, ⟨%A6, H6⟩, ⟨%A7, H7⟩, ⟨%A8, H8⟩, %A9, H9⟩, ⟨S0, S1, S2⟩, HO⟩
  iapply (run_body d i arg2 harg2 arg3 harg3 arg4 harg4 arg5 harg5 arg6 harg6 arg7 harg7 arg8 harg8 arg9 harg9 r0 r1 r2 defs₀ (EC (F := F)) fullShare
    (fun j => X ((rP i).emb j)) A3 A4 A5 A6 A7 A8 A9 none O W)
  isplitr; · iapply ((K (F := F)).mayWaits_none hO); iexact Hlv
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [HO]; · iexact HO
  rw [wdone_arr i X, ids_arr i X]
  iintro H2 H3 H4 H5 H6 H7 H8 H9 S0 S1 S2 HO
  isplitl [H2 H3 H4]
  · isplitl [H2]; · iexact H2
    isplitl [H3]; · iexact H3
    iexact H4
  isplitl [H5 H6 H7 H8 H9]
  · isplitl [H5]; · iexact H5
    isplitl [H6]; · iexact H6
    isplitl [H7]; · iexact H7
    isplitl [H8]; · iexact H8
    iexact H9
  isplitl [S0 S1 S2]
  · isplitl [S0]; · iexact S0
    isplitl [S1]; · iexact S1
    iexact S2
  iexists (insert (SemLoc.dma r2.sem, none) (insert (SemLoc.dma r1.sem, none) (insert (SemLoc.dma r0.sem, none) W)))
  isplitr
  · ipureintro
    intro p hp
    rcases Finset.mem_insert.mp hp with rfl | hp; · exact Or.inr rfl
    rcases Finset.mem_insert.mp hp with rfl | hp; · exact Or.inr rfl
    rcases Finset.mem_insert.mp hp with rfl | hp; · exact Or.inr rfl
    exact Or.inl hp
  · iexact HO

end Run

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'
  isplitr
  · ipureintro; exact fun p hp => (h p hp).imp_right Or.inl
  · iexact HO

/-! ## What the calls carry -/

variable (pt : Fin 4 → Dev nD → FVec F S64x8192 .f32)

abbrev go0 (d : Dev nD) (c : Fin 2) (s : Fin 16) : sProp 𝕄 := goAt d (crd c s) (Memref.whole main_v1_0_scv) (Memref.whole main_v5_0_scv) (Memref.whole main_v5_1_scv) (pt 0 d)
abbrev td0 (d : Dev nD) (c : Fin 2) (s : Fin 16) : sProp 𝕄 := tdAt d (crd c s) (Memref.whole main_v1_0_scv) (Memref.whole main_v5_0_scv) (Memref.whole main_v5_1_scv) (pt 0 d)
abbrev go1 (d : Dev nD) (c : Fin 2) (s : Fin 16) : sProp 𝕄 := goAt d (crd c s) (Memref.whole main_v2_0_scv) (Memref.whole main_v6_0_scv) (Memref.whole main_v6_1_scv) (pt 1 d)
abbrev td1 (d : Dev nD) (c : Fin 2) (s : Fin 16) : sProp 𝕄 := tdAt d (crd c s) (Memref.whole main_v2_0_scv) (Memref.whole main_v6_0_scv) (Memref.whole main_v6_1_scv) (pt 1 d)
abbrev go2 (d : Dev nD) (c : Fin 2) (s : Fin 16) : sProp 𝕄 := goAt d (crd c s) (Memref.whole main_v3_0_scv) (Memref.whole main_v7_0_scv) (Memref.whole main_v7_1_scv) (pt 2 d)
abbrev td2 (d : Dev nD) (c : Fin 2) (s : Fin 16) : sProp 𝕄 := tdAt d (crd c s) (Memref.whole main_v3_0_scv) (Memref.whole main_v7_0_scv) (Memref.whole main_v7_1_scv) (pt 2 d)
abbrev go3 (d : Dev nD) (c : Fin 2) (s : Fin 16) : sProp 𝕄 := goAt d (crd c s) (Memref.whole main_v4_0_scv) (Memref.whole main_v8_0_scv) (Memref.whole main_v8_1_scv) (pt 3 d)
abbrev td3 (d : Dev nD) (c : Fin 2) (s : Fin 16) : sProp 𝕄 := tdAt d (crd c s) (Memref.whole main_v4_0_scv) (Memref.whole main_v8_0_scv) (Memref.whole main_v8_1_scv) (pt 3 d)

/-- What a tile of call `q` is handed, and what it hands back. -/
def goQ : (q : Fin 4) → Dev nD → Fin 2 → Fin 16 → sProp 𝕄 := fun | 0 => fun d c s => go0 pt d c s | 1 => fun d c s => go1 pt d c s | 2 => fun d c s => go2 pt d c s | 3 => fun d c s => go3 pt d c s | ⟨_ + 4, h⟩ => absurd h (Nat.not_lt.2 (Nat.le_add_left _ _))
def tdQ : (q : Fin 4) → Dev nD → Fin 2 → Fin 16 → sProp 𝕄 := fun | 0 => fun d c s => td0 pt d c s | 1 => fun d c s => td1 pt d c s | 2 => fun d c s => td2 pt d c s | 3 => fun d c s => td3 pt d c s | ⟨_ + 4, h⟩ => absurd h (Nat.not_lt.2 (Nat.le_add_left _ _))

theorem goQ0 (d c s) : goQ pt 0 d c s = go0 pt d c s := rfl
theorem tdQ0 (d c s) : tdQ pt 0 d c s = td0 pt d c s := rfl
theorem goQ1 (d c s) : goQ pt 1 d c s = go1 pt d c s := rfl
theorem tdQ1 (d c s) : tdQ pt 1 d c s = td1 pt d c s := rfl
theorem goQ2 (d c s) : goQ pt 2 d c s = go2 pt d c s := rfl
theorem tdQ2 (d c s) : tdQ pt 2 d c s = td2 pt d c s := rfl
theorem goQ3 (d c s) : goQ pt 3 d c s = go3 pt d c s := rfl
theorem tdQ3 (d c s) : tdQ pt 3 d c s = td3 pt d c s := rfl

instance goQ_storable (q d c s) : BI.Storable (upEmb : UEmb _ 𝕄) (goQ pt q d c s) := by
  match q with
  | 0 => exact goAt_storable d (crd c s) _ _ _ _
  | 1 => exact goAt_storable d (crd c s) _ _ _ _
  | 2 => exact goAt_storable d (crd c s) _ _ _ _
  | 3 => exact goAt_storable d (crd c s) _ _ _ _
instance tdQ_storable (q d c s) : BI.Storable (upEmb : UEmb _ 𝕄) (tdQ pt q d c s) := by
  match q with
  | 0 => exact tdAt_storable d (crd c s) _ _ _ _
  | 1 => exact tdAt_storable d (crd c s) _ _ _ _
  | 2 => exact tdAt_storable d (crd c s) _ _ _ _
  | 3 => exact tdAt_storable d (crd c s) _ _ _ _

theorem nCore_eq (q : Fin 4) : (K (F := F)).nCore q = 2 := by match q with | 0 => rfl | 1 => rfl | 2 => rfl | 3 => rfl
theorem nSub_eq (q : Fin 4) : (K (F := F)).nSub q = 16 := by match q with | 0 => rfl | 1 => rfl | 2 => rfl | 3 => rfl

def P : (K (F := F)).Pay (nD := nD) (Val := Elt F) (Name := ℕ) (U := UU) where
  st := fun q d c => bigSep Finset.univ fun i : Fin ((K (F := F)).nSub q) => goQ pt q d (c.cast (nCore_eq q)) (i.cast (nSub_eq q))
  dn := fun q d c => bigSep Finset.univ fun i : Fin ((K (F := F)).nSub q) => tdQ pt q d (c.cast (nCore_eq q)) (i.cast (nSub_eq q))
  go := fun q d c i => goQ pt q d (c.cast (nCore_eq q)) (i.cast (nSub_eq q))
  td := fun q d c i => tdQ pt q d (c.cast (nCore_eq q)) (i.cast (nSub_eq q))
  x := fun _ _ => iprop(emp)

instance P_storable : (P (F := F) pt).IsStorable where
  st _ _ _ := by unfold P; infer_instance
  dn _ _ _ := by unfold P; infer_instance
  go _ _ _ _ := by unfold P; infer_instance
  td _ _ _ _ := by unfold P; infer_instance

theorem vecSplit (q : Fin 4) : (K (F := F)).VecSplit' (P pt) q := by
  intro d c
  show (P pt).st q d c ⊢ |={Set.univ}=> iprop((P pt).st q d c ∗ ((P pt).dn q d c -∗ (P pt).dn q d c))
  iintro H
  imodintro
  isplitl [H]; · iexact H
  iintro H; iexact H

/-! ## Call 0 -/

theorem scr0 (d : Dev nD) (c : Fin 2) (s : Fin 16) : ∃ Z : sProp 𝕄, (ownBufs (thr4 d (crd c s)) : sProp 𝕄) = iprop(scr d (crd c s) (Memref.whole cc4_scratch0) (Memref.whole cc4_scratch1) (Memref.whole cc4_scratch2) (Memref.whole cc4_scratch3) (Memref.whole cc4_scratch4) ∗ Z) := by
  obtain ⟨Z, hZ⟩ := own5 (F := F) d (c.castLE hcore4) (s.castLE hsub4) cc4_scratch0 cc4_scratch1 cc4_scratch2 cc4_scratch3 cc4_scratch4 rfl rfl rfl rfl rfl
    (show (cc4_scratch1 : Ref sig .scVector) ≠ cc4_scratch0 by decide) (show (cc4_scratch2 : Ref sig .scVector) ≠ cc4_scratch0 by decide) (show (cc4_scratch2 : Ref sig .scVector) ≠ cc4_scratch1 by decide) (show (cc4_scratch3 : Ref sig .scVector) ≠ cc4_scratch0 by decide) (show (cc4_scratch3 : Ref sig .scVector) ≠ cc4_scratch1 by decide) (show (cc4_scratch3 : Ref sig .scVector) ≠ cc4_scratch2 by decide) (show (cc4_scratch4 : Ref sig .scVector) ≠ cc4_scratch0 by decide) (show (cc4_scratch4 : Ref sig .scVector) ≠ cc4_scratch1 by decide) (show (cc4_scratch4 : Ref sig .scVector) ≠ cc4_scratch2 by decide) (show (cc4_scratch4 : Ref sig .scVector) ≠ cc4_scratch3 by decide)
  refine ⟨Z, Eq.trans (show _ = ownBufs (V d (c.castLE hcore4) (s.castLE hsub4)) from rfl) (hZ.trans ?_)⟩
  unfold scr
  simp only [owns_whole, regroup]
  rfl
theorem semsZ0 (d : Dev nD) (c : Fin 2) (s : Fin 16) : ∃ Z : sProp 𝕄, (ownSems0 (thr4 d (crd c s)) : sProp 𝕄) = iprop(sems0 d (crd c s) cc4_scoped0 cc4_scoped1 cc4_scoped2 ∗ Z) := by
  obtain ⟨Z, hZ⟩ := own3 (F := F) (thr4 d (crd c s)) (.dma cc4_scoped0.sem) (.dma cc4_scoped1.sem) (.dma cc4_scoped2.sem)
    (show (SemLoc.dma cc4_scoped0.sem : SemLoc sig).isScoped .scVector = true by decide) (show (SemLoc.dma cc4_scoped1.sem : SemLoc sig).isScoped .scVector = true by decide)
    (show (SemLoc.dma cc4_scoped2.sem : SemLoc sig).isScoped .scVector = true by decide) (show (SemLoc.dma cc4_scoped1.sem : SemLoc sig) ≠ SemLoc.dma cc4_scoped0.sem by decide) (show (SemLoc.dma cc4_scoped2.sem : SemLoc sig) ≠ SemLoc.dma cc4_scoped0.sem by decide) (show (SemLoc.dma cc4_scoped2.sem : SemLoc sig) ≠ SemLoc.dma cc4_scoped1.sem by decide)
  refine ⟨Z, hZ.trans ?_⟩
  unfold sems0
  simp only [regroup]

theorem tile0 (d : Dev nD) (c : Fin 2) (s : Fin 16) (O : CellTallies nD τ sig (HIx 4)) (W : Waits sig (HIx 4)) (hO : ∀ g, O g none = 0) :
    iprop(levAts (K (F := F)).L (K (F := F)).lev ∗ emp ∗ goQ pt 0 d c s ∗ scopedBufs (thr4 d (crd c s)) ∗ scopedSems0 (thr4 d (crd c s)) ∗ owes (thr4 d (crd c s)) O W)
      ⊢ wp (M := 𝕄) frame (wpE (defs₀ (F := F)) 𝒱₀ (thr4 d (crd c s)) none) Set.univ
          (cc4__sc_topk_body (crd c s) (Memref.whole main_v1_0_scv) (Memref.isWhole_whole _) (Memref.whole main_v5_0_scv) (Memref.isWhole_whole _) (Memref.whole main_v5_1_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) (Memref.whole cc4_scratch4) (Memref.isWhole_whole _) cc4_scoped0 cc4_scoped1 cc4_scoped2)
          fun _ => iprop(tdQ pt 0 d c s ∗ scopedBufs (thr4 d (crd c s)) ∗ scopedSems0 (thr4 d (crd c s))
            ∗ ∃ W', ⌜∀ p ∈ W', p ∈ W ∨ p.2 = none⌝ ∗ owes (thr4 d (crd c s)) O W') := by
  obtain ⟨Z, hZ⟩ := scr0 (F := F) d c s
  obtain ⟨Y, hY⟩ := semsZ0 (F := F) d c s
  have eB : (scopedBufs (thr4 d (crd c s)) : sProp 𝕄) = ownBufs (thr4 d (crd c s)) := (K (F := F)).scopedBufs_V facts d _ _
  have eS : (scopedSems0 (thr4 d (crd c s)) : sProp 𝕄) = ownSems0 (thr4 d (crd c s)) := SparseCore.Cfg.scopedSems0_V (Val := Elt F) d _ _
  rw [eB, eS, hZ, hY, goQ0, tdQ0]
  refine frame_run (R := iprop(Z ∗ Y)) (tile_gen d (crd c s) (Memref.whole main_v1_0_scv) (Memref.isWhole_whole _) (Memref.whole main_v5_0_scv) (Memref.isWhole_whole _) (Memref.whole main_v5_1_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) (Memref.whole cc4_scratch4) (Memref.isWhole_whole _) cc4_scoped0 cc4_scoped1 cc4_scoped2 (pt 0 d) O W hO) ?_ fun _ => ?_
  · iintro ⟨Hl, -, Hg, ⟨HB, HZ⟩, ⟨HS, HY⟩, HO⟩
    isplitr [HZ HY]
    · isplitl [Hl]; · iexact Hl
      isplitl [Hg]; · iexact Hg
      isplitl [HB]; · iexact HB
      isplitl [HS]; · iexact HS
      iexact HO
    · isplitl [HZ]; · iexact HZ
      iexact HY
  · iintro ⟨⟨Hg, HB, HS, HO⟩, HZ, HY⟩
    isplitl [Hg]; · iexact Hg
    isplitl [HB HZ]
    · isplitl [HB]; · iexact HB
      iexact HZ
    isplitl [HS HY]
    · isplitl [HS]; · iexact HS
      iexact HY
    iexact HO

theorem tileObl0 : (K (F := F)).TileObl (D (F := F)) 𝒱 (P pt) v₀ 0 := by
  intro d c i O W hO _ _
  simp only [show (P pt).ox = fun _ _ => 0 from rfl, add_zero]
  change _ ⊢ wp _ _ _ (Pipeline.liftProg (defs₀ (F := F) (.scVector ((K (F := F)).core 0 c) ((K (F := F)).sub 0 i)) 4 ())) _
  refine BI.Entails.trans ?_ (Pipeline.wp_liftProg (D (F := F)) (Pipeline.defs_kernel pcfgs defs₀) 𝒱₀ _ Set.univ none _ _)
  have hc : ((K (F := F)).core 0 c).val < grid4.bound 0 ∧ ((K (F := F)).sub 0 i).val < grid4.bound 1 := ⟨c.isLt, i.isLt⟩
  change _ ⊢ wp _ _ _ (SparseCore.onTile hcore4 hsub4 (fun c s => cc4__sc_topk_body (fun | 0 => c | 1 => s | ⟨_ + 2, h⟩ => absurd h (Nat.not_lt.2 (Nat.le_add_left _ _))) (Memref.whole main_v1_0_scv) (Memref.isWhole_whole _) (Memref.whole main_v5_0_scv) (Memref.isWhole_whole _) (Memref.whole main_v5_1_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) (Memref.whole cc4_scratch4) (Memref.isWhole_whole _) cc4_scoped0 cc4_scoped1 cc4_scoped2) ⟨⟩ ((K (F := F)).core 0 c) ((K (F := F)).sub 0 i)) _
  simp only [SparseCore.onTile, hc, and_self, ↓reduceDIte]
  exact (tile0 pt d (c.cast (nCore_eq 0)) (i.cast (nSub_eq 0)) O W hO).trans (wp_mono frame _ _ fun _ => obl_post)

/-! ## Call 1 -/

theorem scr1 (d : Dev nD) (c : Fin 2) (s : Fin 16) : ∃ Z : sProp 𝕄, (ownBufs (thr4 d (crd c s)) : sProp 𝕄) = iprop(scr d (crd c s) (Memref.whole cc5_scratch0) (Memref.whole cc5_scratch1) (Memref.whole cc5_scratch2) (Memref.whole cc5_scratch3) (Memref.whole cc5_scratch4) ∗ Z) := by
  obtain ⟨Z, hZ⟩ := own5 (F := F) d (c.castLE hcore5) (s.castLE hsub5) cc5_scratch0 cc5_scratch1 cc5_scratch2 cc5_scratch3 cc5_scratch4 rfl rfl rfl rfl rfl
    (show (cc5_scratch1 : Ref sig .scVector) ≠ cc5_scratch0 by decide) (show (cc5_scratch2 : Ref sig .scVector) ≠ cc5_scratch0 by decide) (show (cc5_scratch2 : Ref sig .scVector) ≠ cc5_scratch1 by decide) (show (cc5_scratch3 : Ref sig .scVector) ≠ cc5_scratch0 by decide) (show (cc5_scratch3 : Ref sig .scVector) ≠ cc5_scratch1 by decide) (show (cc5_scratch3 : Ref sig .scVector) ≠ cc5_scratch2 by decide) (show (cc5_scratch4 : Ref sig .scVector) ≠ cc5_scratch0 by decide) (show (cc5_scratch4 : Ref sig .scVector) ≠ cc5_scratch1 by decide) (show (cc5_scratch4 : Ref sig .scVector) ≠ cc5_scratch2 by decide) (show (cc5_scratch4 : Ref sig .scVector) ≠ cc5_scratch3 by decide)
  refine ⟨Z, Eq.trans (show _ = ownBufs (V d (c.castLE hcore5) (s.castLE hsub5)) from rfl) (hZ.trans ?_)⟩
  unfold scr
  simp only [owns_whole, regroup]
  rfl
theorem semsZ1 (d : Dev nD) (c : Fin 2) (s : Fin 16) : ∃ Z : sProp 𝕄, (ownSems0 (thr4 d (crd c s)) : sProp 𝕄) = iprop(sems0 d (crd c s) cc5_scoped0 cc5_scoped1 cc5_scoped2 ∗ Z) := by
  obtain ⟨Z, hZ⟩ := own3 (F := F) (thr4 d (crd c s)) (.dma cc5_scoped0.sem) (.dma cc5_scoped1.sem) (.dma cc5_scoped2.sem)
    (show (SemLoc.dma cc5_scoped0.sem : SemLoc sig).isScoped .scVector = true by decide) (show (SemLoc.dma cc5_scoped1.sem : SemLoc sig).isScoped .scVector = true by decide)
    (show (SemLoc.dma cc5_scoped2.sem : SemLoc sig).isScoped .scVector = true by decide) (show (SemLoc.dma cc5_scoped1.sem : SemLoc sig) ≠ SemLoc.dma cc5_scoped0.sem by decide) (show (SemLoc.dma cc5_scoped2.sem : SemLoc sig) ≠ SemLoc.dma cc5_scoped0.sem by decide) (show (SemLoc.dma cc5_scoped2.sem : SemLoc sig) ≠ SemLoc.dma cc5_scoped1.sem by decide)
  refine ⟨Z, hZ.trans ?_⟩
  unfold sems0
  simp only [regroup]

theorem tile1 (d : Dev nD) (c : Fin 2) (s : Fin 16) (O : CellTallies nD τ sig (HIx 4)) (W : Waits sig (HIx 4)) (hO : ∀ g, O g none = 0) :
    iprop(levAts (K (F := F)).L (K (F := F)).lev ∗ emp ∗ goQ pt 1 d c s ∗ scopedBufs (thr4 d (crd c s)) ∗ scopedSems0 (thr4 d (crd c s)) ∗ owes (thr4 d (crd c s)) O W)
      ⊢ wp (M := 𝕄) frame (wpE (defs₀ (F := F)) 𝒱₀ (thr4 d (crd c s)) none) Set.univ
          (cc4__sc_topk_body (crd c s) (Memref.whole main_v2_0_scv) (Memref.isWhole_whole _) (Memref.whole main_v6_0_scv) (Memref.isWhole_whole _) (Memref.whole main_v6_1_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) cc5_scoped0 cc5_scoped1 cc5_scoped2)
          fun _ => iprop(tdQ pt 1 d c s ∗ scopedBufs (thr4 d (crd c s)) ∗ scopedSems0 (thr4 d (crd c s))
            ∗ ∃ W', ⌜∀ p ∈ W', p ∈ W ∨ p.2 = none⌝ ∗ owes (thr4 d (crd c s)) O W') := by
  obtain ⟨Z, hZ⟩ := scr1 (F := F) d c s
  obtain ⟨Y, hY⟩ := semsZ1 (F := F) d c s
  have eB : (scopedBufs (thr4 d (crd c s)) : sProp 𝕄) = ownBufs (thr4 d (crd c s)) := (K (F := F)).scopedBufs_V facts d _ _
  have eS : (scopedSems0 (thr4 d (crd c s)) : sProp 𝕄) = ownSems0 (thr4 d (crd c s)) := SparseCore.Cfg.scopedSems0_V (Val := Elt F) d _ _
  rw [eB, eS, hZ, hY, goQ1, tdQ1]
  refine frame_run (R := iprop(Z ∗ Y)) (tile_gen d (crd c s) (Memref.whole main_v2_0_scv) (Memref.isWhole_whole _) (Memref.whole main_v6_0_scv) (Memref.isWhole_whole _) (Memref.whole main_v6_1_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) cc5_scoped0 cc5_scoped1 cc5_scoped2 (pt 1 d) O W hO) ?_ fun _ => ?_
  · iintro ⟨Hl, -, Hg, ⟨HB, HZ⟩, ⟨HS, HY⟩, HO⟩
    isplitr [HZ HY]
    · isplitl [Hl]; · iexact Hl
      isplitl [Hg]; · iexact Hg
      isplitl [HB]; · iexact HB
      isplitl [HS]; · iexact HS
      iexact HO
    · isplitl [HZ]; · iexact HZ
      iexact HY
  · iintro ⟨⟨Hg, HB, HS, HO⟩, HZ, HY⟩
    isplitl [Hg]; · iexact Hg
    isplitl [HB HZ]
    · isplitl [HB]; · iexact HB
      iexact HZ
    isplitl [HS HY]
    · isplitl [HS]; · iexact HS
      iexact HY
    iexact HO

theorem tileObl1 : (K (F := F)).TileObl (D (F := F)) 𝒱 (P pt) v₀ 1 := by
  intro d c i O W hO _ _
  simp only [show (P pt).ox = fun _ _ => 0 from rfl, add_zero]
  change _ ⊢ wp _ _ _ (Pipeline.liftProg (defs₀ (F := F) (.scVector ((K (F := F)).core 1 c) ((K (F := F)).sub 1 i)) 5 ())) _
  refine BI.Entails.trans ?_ (Pipeline.wp_liftProg (D (F := F)) (Pipeline.defs_kernel pcfgs defs₀) 𝒱₀ _ Set.univ none _ _)
  have hc : ((K (F := F)).core 1 c).val < grid5.bound 0 ∧ ((K (F := F)).sub 1 i).val < grid5.bound 1 := ⟨c.isLt, i.isLt⟩
  change _ ⊢ wp _ _ _ (SparseCore.onTile hcore5 hsub5 (fun c s => cc5__sc_topk_body (fun | 0 => c | 1 => s | ⟨_ + 2, h⟩ => absurd h (Nat.not_lt.2 (Nat.le_add_left _ _))) (Memref.whole main_v2_0_scv) (Memref.isWhole_whole _) (Memref.whole main_v6_0_scv) (Memref.isWhole_whole _) (Memref.whole main_v6_1_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) cc5_scoped0 cc5_scoped1 cc5_scoped2) ⟨⟩ ((K (F := F)).core 1 c) ((K (F := F)).sub 1 i)) _
  simp only [SparseCore.onTile, hc, and_self, ↓reduceDIte]
  exact (tile1 pt d (c.cast (nCore_eq 1)) (i.cast (nSub_eq 1)) O W hO).trans (wp_mono frame _ _ fun _ => obl_post)

/-! ## Call 2 -/

theorem scr2 (d : Dev nD) (c : Fin 2) (s : Fin 16) : ∃ Z : sProp 𝕄, (ownBufs (thr4 d (crd c s)) : sProp 𝕄) = iprop(scr d (crd c s) (Memref.whole cc6_scratch0) (Memref.whole cc6_scratch1) (Memref.whole cc6_scratch2) (Memref.whole cc6_scratch3) (Memref.whole cc6_scratch4) ∗ Z) := by
  obtain ⟨Z, hZ⟩ := own5 (F := F) d (c.castLE hcore6) (s.castLE hsub6) cc6_scratch0 cc6_scratch1 cc6_scratch2 cc6_scratch3 cc6_scratch4 rfl rfl rfl rfl rfl
    (show (cc6_scratch1 : Ref sig .scVector) ≠ cc6_scratch0 by decide) (show (cc6_scratch2 : Ref sig .scVector) ≠ cc6_scratch0 by decide) (show (cc6_scratch2 : Ref sig .scVector) ≠ cc6_scratch1 by decide) (show (cc6_scratch3 : Ref sig .scVector) ≠ cc6_scratch0 by decide) (show (cc6_scratch3 : Ref sig .scVector) ≠ cc6_scratch1 by decide) (show (cc6_scratch3 : Ref sig .scVector) ≠ cc6_scratch2 by decide) (show (cc6_scratch4 : Ref sig .scVector) ≠ cc6_scratch0 by decide) (show (cc6_scratch4 : Ref sig .scVector) ≠ cc6_scratch1 by decide) (show (cc6_scratch4 : Ref sig .scVector) ≠ cc6_scratch2 by decide) (show (cc6_scratch4 : Ref sig .scVector) ≠ cc6_scratch3 by decide)
  refine ⟨Z, Eq.trans (show _ = ownBufs (V d (c.castLE hcore6) (s.castLE hsub6)) from rfl) (hZ.trans ?_)⟩
  unfold scr
  simp only [owns_whole, regroup]
  rfl
theorem semsZ2 (d : Dev nD) (c : Fin 2) (s : Fin 16) : ∃ Z : sProp 𝕄, (ownSems0 (thr4 d (crd c s)) : sProp 𝕄) = iprop(sems0 d (crd c s) cc6_scoped0 cc6_scoped1 cc6_scoped2 ∗ Z) := by
  obtain ⟨Z, hZ⟩ := own3 (F := F) (thr4 d (crd c s)) (.dma cc6_scoped0.sem) (.dma cc6_scoped1.sem) (.dma cc6_scoped2.sem)
    (show (SemLoc.dma cc6_scoped0.sem : SemLoc sig).isScoped .scVector = true by decide) (show (SemLoc.dma cc6_scoped1.sem : SemLoc sig).isScoped .scVector = true by decide)
    (show (SemLoc.dma cc6_scoped2.sem : SemLoc sig).isScoped .scVector = true by decide) (show (SemLoc.dma cc6_scoped1.sem : SemLoc sig) ≠ SemLoc.dma cc6_scoped0.sem by decide) (show (SemLoc.dma cc6_scoped2.sem : SemLoc sig) ≠ SemLoc.dma cc6_scoped0.sem by decide) (show (SemLoc.dma cc6_scoped2.sem : SemLoc sig) ≠ SemLoc.dma cc6_scoped1.sem by decide)
  refine ⟨Z, hZ.trans ?_⟩
  unfold sems0
  simp only [regroup]

theorem tile2 (d : Dev nD) (c : Fin 2) (s : Fin 16) (O : CellTallies nD τ sig (HIx 4)) (W : Waits sig (HIx 4)) (hO : ∀ g, O g none = 0) :
    iprop(levAts (K (F := F)).L (K (F := F)).lev ∗ emp ∗ goQ pt 2 d c s ∗ scopedBufs (thr4 d (crd c s)) ∗ scopedSems0 (thr4 d (crd c s)) ∗ owes (thr4 d (crd c s)) O W)
      ⊢ wp (M := 𝕄) frame (wpE (defs₀ (F := F)) 𝒱₀ (thr4 d (crd c s)) none) Set.univ
          (cc4__sc_topk_body (crd c s) (Memref.whole main_v3_0_scv) (Memref.isWhole_whole _) (Memref.whole main_v7_0_scv) (Memref.isWhole_whole _) (Memref.whole main_v7_1_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) (Memref.whole cc6_scratch4) (Memref.isWhole_whole _) cc6_scoped0 cc6_scoped1 cc6_scoped2)
          fun _ => iprop(tdQ pt 2 d c s ∗ scopedBufs (thr4 d (crd c s)) ∗ scopedSems0 (thr4 d (crd c s))
            ∗ ∃ W', ⌜∀ p ∈ W', p ∈ W ∨ p.2 = none⌝ ∗ owes (thr4 d (crd c s)) O W') := by
  obtain ⟨Z, hZ⟩ := scr2 (F := F) d c s
  obtain ⟨Y, hY⟩ := semsZ2 (F := F) d c s
  have eB : (scopedBufs (thr4 d (crd c s)) : sProp 𝕄) = ownBufs (thr4 d (crd c s)) := (K (F := F)).scopedBufs_V facts d _ _
  have eS : (scopedSems0 (thr4 d (crd c s)) : sProp 𝕄) = ownSems0 (thr4 d (crd c s)) := SparseCore.Cfg.scopedSems0_V (Val := Elt F) d _ _
  rw [eB, eS, hZ, hY, goQ2, tdQ2]
  refine frame_run (R := iprop(Z ∗ Y)) (tile_gen d (crd c s) (Memref.whole main_v3_0_scv) (Memref.isWhole_whole _) (Memref.whole main_v7_0_scv) (Memref.isWhole_whole _) (Memref.whole main_v7_1_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) (Memref.whole cc6_scratch4) (Memref.isWhole_whole _) cc6_scoped0 cc6_scoped1 cc6_scoped2 (pt 2 d) O W hO) ?_ fun _ => ?_
  · iintro ⟨Hl, -, Hg, ⟨HB, HZ⟩, ⟨HS, HY⟩, HO⟩
    isplitr [HZ HY]
    · isplitl [Hl]; · iexact Hl
      isplitl [Hg]; · iexact Hg
      isplitl [HB]; · iexact HB
      isplitl [HS]; · iexact HS
      iexact HO
    · isplitl [HZ]; · iexact HZ
      iexact HY
  · iintro ⟨⟨Hg, HB, HS, HO⟩, HZ, HY⟩
    isplitl [Hg]; · iexact Hg
    isplitl [HB HZ]
    · isplitl [HB]; · iexact HB
      iexact HZ
    isplitl [HS HY]
    · isplitl [HS]; · iexact HS
      iexact HY
    iexact HO

theorem tileObl2 : (K (F := F)).TileObl (D (F := F)) 𝒱 (P pt) v₀ 2 := by
  intro d c i O W hO _ _
  simp only [show (P pt).ox = fun _ _ => 0 from rfl, add_zero]
  change _ ⊢ wp _ _ _ (Pipeline.liftProg (defs₀ (F := F) (.scVector ((K (F := F)).core 2 c) ((K (F := F)).sub 2 i)) 6 ())) _
  refine BI.Entails.trans ?_ (Pipeline.wp_liftProg (D (F := F)) (Pipeline.defs_kernel pcfgs defs₀) 𝒱₀ _ Set.univ none _ _)
  have hc : ((K (F := F)).core 2 c).val < grid6.bound 0 ∧ ((K (F := F)).sub 2 i).val < grid6.bound 1 := ⟨c.isLt, i.isLt⟩
  change _ ⊢ wp _ _ _ (SparseCore.onTile hcore6 hsub6 (fun c s => cc6__sc_topk_body (fun | 0 => c | 1 => s | ⟨_ + 2, h⟩ => absurd h (Nat.not_lt.2 (Nat.le_add_left _ _))) (Memref.whole main_v3_0_scv) (Memref.isWhole_whole _) (Memref.whole main_v7_0_scv) (Memref.isWhole_whole _) (Memref.whole main_v7_1_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) (Memref.whole cc6_scratch4) (Memref.isWhole_whole _) cc6_scoped0 cc6_scoped1 cc6_scoped2) ⟨⟩ ((K (F := F)).core 2 c) ((K (F := F)).sub 2 i)) _
  simp only [SparseCore.onTile, hc, and_self, ↓reduceDIte]
  exact (tile2 pt d (c.cast (nCore_eq 2)) (i.cast (nSub_eq 2)) O W hO).trans (wp_mono frame _ _ fun _ => obl_post)

/-! ## Call 3 -/

theorem scr3 (d : Dev nD) (c : Fin 2) (s : Fin 16) : ∃ Z : sProp 𝕄, (ownBufs (thr4 d (crd c s)) : sProp 𝕄) = iprop(scr d (crd c s) (Memref.whole cc7_scratch0) (Memref.whole cc7_scratch1) (Memref.whole cc7_scratch2) (Memref.whole cc7_scratch3) (Memref.whole cc7_scratch4) ∗ Z) := by
  obtain ⟨Z, hZ⟩ := own5 (F := F) d (c.castLE hcore7) (s.castLE hsub7) cc7_scratch0 cc7_scratch1 cc7_scratch2 cc7_scratch3 cc7_scratch4 rfl rfl rfl rfl rfl
    (show (cc7_scratch1 : Ref sig .scVector) ≠ cc7_scratch0 by decide) (show (cc7_scratch2 : Ref sig .scVector) ≠ cc7_scratch0 by decide) (show (cc7_scratch2 : Ref sig .scVector) ≠ cc7_scratch1 by decide) (show (cc7_scratch3 : Ref sig .scVector) ≠ cc7_scratch0 by decide) (show (cc7_scratch3 : Ref sig .scVector) ≠ cc7_scratch1 by decide) (show (cc7_scratch3 : Ref sig .scVector) ≠ cc7_scratch2 by decide) (show (cc7_scratch4 : Ref sig .scVector) ≠ cc7_scratch0 by decide) (show (cc7_scratch4 : Ref sig .scVector) ≠ cc7_scratch1 by decide) (show (cc7_scratch4 : Ref sig .scVector) ≠ cc7_scratch2 by decide) (show (cc7_scratch4 : Ref sig .scVector) ≠ cc7_scratch3 by decide)
  refine ⟨Z, Eq.trans (show _ = ownBufs (V d (c.castLE hcore7) (s.castLE hsub7)) from rfl) (hZ.trans ?_)⟩
  unfold scr
  simp only [owns_whole, regroup]
  rfl
theorem semsZ3 (d : Dev nD) (c : Fin 2) (s : Fin 16) : ∃ Z : sProp 𝕄, (ownSems0 (thr4 d (crd c s)) : sProp 𝕄) = iprop(sems0 d (crd c s) cc7_scoped0 cc7_scoped1 cc7_scoped2 ∗ Z) := by
  obtain ⟨Z, hZ⟩ := own3 (F := F) (thr4 d (crd c s)) (.dma cc7_scoped0.sem) (.dma cc7_scoped1.sem) (.dma cc7_scoped2.sem)
    (show (SemLoc.dma cc7_scoped0.sem : SemLoc sig).isScoped .scVector = true by decide) (show (SemLoc.dma cc7_scoped1.sem : SemLoc sig).isScoped .scVector = true by decide)
    (show (SemLoc.dma cc7_scoped2.sem : SemLoc sig).isScoped .scVector = true by decide) (show (SemLoc.dma cc7_scoped1.sem : SemLoc sig) ≠ SemLoc.dma cc7_scoped0.sem by decide) (show (SemLoc.dma cc7_scoped2.sem : SemLoc sig) ≠ SemLoc.dma cc7_scoped0.sem by decide) (show (SemLoc.dma cc7_scoped2.sem : SemLoc sig) ≠ SemLoc.dma cc7_scoped1.sem by decide)
  refine ⟨Z, hZ.trans ?_⟩
  unfold sems0
  simp only [regroup]

theorem tile3 (d : Dev nD) (c : Fin 2) (s : Fin 16) (O : CellTallies nD τ sig (HIx 4)) (W : Waits sig (HIx 4)) (hO : ∀ g, O g none = 0) :
    iprop(levAts (K (F := F)).L (K (F := F)).lev ∗ emp ∗ goQ pt 3 d c s ∗ scopedBufs (thr4 d (crd c s)) ∗ scopedSems0 (thr4 d (crd c s)) ∗ owes (thr4 d (crd c s)) O W)
      ⊢ wp (M := 𝕄) frame (wpE (defs₀ (F := F)) 𝒱₀ (thr4 d (crd c s)) none) Set.univ
          (cc4__sc_topk_body (crd c s) (Memref.whole main_v4_0_scv) (Memref.isWhole_whole _) (Memref.whole main_v8_0_scv) (Memref.isWhole_whole _) (Memref.whole main_v8_1_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) (Memref.whole cc7_scratch4) (Memref.isWhole_whole _) cc7_scoped0 cc7_scoped1 cc7_scoped2)
          fun _ => iprop(tdQ pt 3 d c s ∗ scopedBufs (thr4 d (crd c s)) ∗ scopedSems0 (thr4 d (crd c s))
            ∗ ∃ W', ⌜∀ p ∈ W', p ∈ W ∨ p.2 = none⌝ ∗ owes (thr4 d (crd c s)) O W') := by
  obtain ⟨Z, hZ⟩ := scr3 (F := F) d c s
  obtain ⟨Y, hY⟩ := semsZ3 (F := F) d c s
  have eB : (scopedBufs (thr4 d (crd c s)) : sProp 𝕄) = ownBufs (thr4 d (crd c s)) := (K (F := F)).scopedBufs_V facts d _ _
  have eS : (scopedSems0 (thr4 d (crd c s)) : sProp 𝕄) = ownSems0 (thr4 d (crd c s)) := SparseCore.Cfg.scopedSems0_V (Val := Elt F) d _ _
  rw [eB, eS, hZ, hY, goQ3, tdQ3]
  refine frame_run (R := iprop(Z ∗ Y)) (tile_gen d (crd c s) (Memref.whole main_v4_0_scv) (Memref.isWhole_whole _) (Memref.whole main_v8_0_scv) (Memref.isWhole_whole _) (Memref.whole main_v8_1_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) (Memref.whole cc7_scratch4) (Memref.isWhole_whole _) cc7_scoped0 cc7_scoped1 cc7_scoped2 (pt 3 d) O W hO) ?_ fun _ => ?_
  · iintro ⟨Hl, -, Hg, ⟨HB, HZ⟩, ⟨HS, HY⟩, HO⟩
    isplitr [HZ HY]
    · isplitl [Hl]; · iexact Hl
      isplitl [Hg]; · iexact Hg
      isplitl [HB]; · iexact HB
      isplitl [HS]; · iexact HS
      iexact HO
    · isplitl [HZ]; · iexact HZ
      iexact HY
  · iintro ⟨⟨Hg, HB, HS, HO⟩, HZ, HY⟩
    isplitl [Hg]; · iexact Hg
    isplitl [HB HZ]
    · isplitl [HB]; · iexact HB
      iexact HZ
    isplitl [HS HY]
    · isplitl [HS]; · iexact HS
      iexact HY
    iexact HO

theorem tileObl3 : (K (F := F)).TileObl (D (F := F)) 𝒱 (P pt) v₀ 3 := by
  intro d c i O W hO _ _
  simp only [show (P pt).ox = fun _ _ => 0 from rfl, add_zero]
  change _ ⊢ wp _ _ _ (Pipeline.liftProg (defs₀ (F := F) (.scVector ((K (F := F)).core 3 c) ((K (F := F)).sub 3 i)) 7 ())) _
  refine BI.Entails.trans ?_ (Pipeline.wp_liftProg (D (F := F)) (Pipeline.defs_kernel pcfgs defs₀) 𝒱₀ _ Set.univ none _ _)
  have hc : ((K (F := F)).core 3 c).val < grid7.bound 0 ∧ ((K (F := F)).sub 3 i).val < grid7.bound 1 := ⟨c.isLt, i.isLt⟩
  change _ ⊢ wp _ _ _ (SparseCore.onTile hcore7 hsub7 (fun c s => cc7__sc_topk_body (fun | 0 => c | 1 => s | ⟨_ + 2, h⟩ => absurd h (Nat.not_lt.2 (Nat.le_add_left _ _))) (Memref.whole main_v4_0_scv) (Memref.isWhole_whole _) (Memref.whole main_v8_0_scv) (Memref.isWhole_whole _) (Memref.whole main_v8_1_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) (Memref.whole cc7_scratch4) (Memref.isWhole_whole _) cc7_scoped0 cc7_scoped1 cc7_scoped2) ⟨⟩ ((K (F := F)).core 3 c) ((K (F := F)).sub 3 i)) _
  simp only [SparseCore.onTile, hc, and_self, ↓reduceDIte]
  exact (tile3 pt d (c.cast (nCore_eq 3)) (i.cast (nSub_eq 3)) O W hO).trans (wp_mono frame _ _ fun _ => obl_post)

end Cert.Proof.Tile

end
-- ==== Proof.Parts.lean ====
/-
  A whole array as its tiles' parts, and each SparseCore call's operands and results so split and joined.
-/
module

public import proofs.«01_k».proof.Proof.Tile

@[expose] public section

noncomputable section

namespace Cert.Proof.Tile

open Cert.KernelIdeal Cert.KernelIdeal.Gen
open Idealize.ShloMosaic Idealize.ShloMosaic.Transfers Idealize.ShloMosaic.TcCoe Idealize.ShloMosaic.Tactic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

theorem cast_sep {n m : ℕ} (h : n = 2) (h' : m = 16) (f : Fin 2 → Fin 16 → sProp 𝕄) :
    (bigSep (Finset.univ : Finset (Fin n)) fun c => bigSep (Finset.univ : Finset (Fin m)) fun i => f (c.cast h) (i.cast h'))
      = bigSep (Finset.univ : Finset (Fin 2)) fun c => bigSep (Finset.univ : Finset (Fin 16)) fun s => f c s := by
  subst h h'; rfl

theorem in_parts0 (d : Dev nD) (X : FVec F S64x8192 .f32) :
    (((d, Proc.devRef .tc main_v1_0) : Loc nD τ sig) ↦{fullShare} X : sProp 𝕄)
      = bigSep Finset.univ fun c : Fin 2 => bigSep Finset.univ fun s : Fin 16 =>
          owns (thr4 d (crd c s)) ((Memref.whole main_v1_0_scv).slice (rP (crd c s)) (fun _ => rfl)) fullShare (fun j => X ((rP (crd c s)).emb j)) := by
  have h := cols_parts (fun x : S64x8192.Idx => (x (1 : Fin 2)).val) (fun x => (x (1 : Fin 2)).isLt) (fun c s => (rP (crd c s)).set) mem_rP
  have e1 : (((d, Proc.devRef .tc main_v1_0) : Loc nD τ sig) ↦{fullShare} X : sProp 𝕄)
      = ((d, Proc.devRef .tc main_v1_0) : Loc nD τ sig) ↦[(Finset.univ : Finset (Fin 2 × Fin 16)).biUnion (fun a => (rP (crd a.1 a.2)).set)]{fullShare} X := by rw [h.2]
  rw [e1, pointsTo_biUnion _ _ h.1, bigSep_univ_prod]
  refine bigSep_congr fun c _ => bigSep_congr fun s _ => ?_
  have h2 : (owns (thr4 d (crd c s)) ((Memref.whole main_v1_0_scv).slice (rP (crd c s)) (fun _ => rfl)) fullShare (fun j => X ((rP (crd c s)).emb j)) : sProp 𝕄)
      = ((Memref.whole main_v1_0_scv).view.loc (thr4 d (crd c s)) ↦[((Memref.whole main_v1_0_scv).view.slice (rP (crd c s))).set]{fullShare} X) :=
    owns_slice_read (Val := Elt F) (thr4 d (crd c s)) (Memref.whole main_v1_0_scv) fullShare (rP (crd c s)) (fun _ => rfl) X
  rw [h2, show ((Memref.whole main_v1_0_scv).view.slice (rP (crd c s))).set = (rP (crd c s)).set from View.set_slice_whole main_v1_0_scv (rP (crd c s))]

theorem gt_parts0 (d : Dev nD) (X : FVec F S64x8192 .f32) :
    (((d, Proc.devRef .tc main_v5_0) : Loc nD τ sig) ↦{fullShare} X : sProp 𝕄)
      = bigSep Finset.univ fun c : Fin 2 => bigSep Finset.univ fun s : Fin 16 =>
          owns (thr4 d (crd c s)) ((Memref.whole main_v5_0_scv).slice (rG (crd c s)) (fun _ => rfl)) fullShare (fun j => X ((rG (crd c s)).emb j)) := by
  have h := cols_parts (fun x : S64x8192.Idx => (x (1 : Fin 2)).val) (fun x => (x (1 : Fin 2)).isLt) (fun c s => (rG (crd c s)).set) mem_rG
  have e1 : (((d, Proc.devRef .tc main_v5_0) : Loc nD τ sig) ↦{fullShare} X : sProp 𝕄)
      = ((d, Proc.devRef .tc main_v5_0) : Loc nD τ sig) ↦[(Finset.univ : Finset (Fin 2 × Fin 16)).biUnion (fun a => (rG (crd a.1 a.2)).set)]{fullShare} X := by rw [h.2]
  rw [e1, pointsTo_biUnion _ _ h.1, bigSep_univ_prod]
  refine bigSep_congr fun c _ => bigSep_congr fun s _ => ?_
  have h2 : (owns (thr4 d (crd c s)) ((Memref.whole main_v5_0_scv).slice (rG (crd c s)) (fun _ => rfl)) fullShare (fun j => X ((rG (crd c s)).emb j)) : sProp 𝕄)
      = ((Memref.whole main_v5_0_scv).view.loc (thr4 d (crd c s)) ↦[((Memref.whole main_v5_0_scv).view.slice (rG (crd c s))).set]{fullShare} X) :=
    owns_slice_read (Val := Elt F) (thr4 d (crd c s)) (Memref.whole main_v5_0_scv) fullShare (rG (crd c s)) (fun _ => rfl) X
  rw [h2, show ((Memref.whole main_v5_0_scv).view.slice (rG (crd c s))).set = (rG (crd c s)).set from View.set_slice_whole main_v5_0_scv (rG (crd c s))]

theorem id_parts0 (d : Dev nD) (X : Vec F S8x8192 .i32) :
    (((d, Proc.devRef .tc main_v5_1) : Loc nD τ sig) ↦{fullShare} X : sProp 𝕄)
      = bigSep Finset.univ fun c : Fin 2 => bigSep Finset.univ fun s : Fin 16 =>
          owns (thr4 d (crd c s)) ((Memref.whole main_v5_1_scv).slice (rO (crd c s)) (fun _ => rfl)) fullShare (fun j => X ((rO (crd c s)).emb j)) := by
  have h := cols_parts (fun x : S8x8192.Idx => (x (1 : Fin 2)).val) (fun x => (x (1 : Fin 2)).isLt) (fun c s => (rO (crd c s)).set) mem_rO
  have e1 : (((d, Proc.devRef .tc main_v5_1) : Loc nD τ sig) ↦{fullShare} X : sProp 𝕄)
      = ((d, Proc.devRef .tc main_v5_1) : Loc nD τ sig) ↦[(Finset.univ : Finset (Fin 2 × Fin 16)).biUnion (fun a => (rO (crd a.1 a.2)).set)]{fullShare} X := by rw [h.2]
  rw [e1, pointsTo_biUnion _ _ h.1, bigSep_univ_prod]
  refine bigSep_congr fun c _ => bigSep_congr fun s _ => ?_
  have h2 : (owns (thr4 d (crd c s)) ((Memref.whole main_v5_1_scv).slice (rO (crd c s)) (fun _ => rfl)) fullShare (fun j => X ((rO (crd c s)).emb j)) : sProp 𝕄)
      = ((Memref.whole main_v5_1_scv).view.loc (thr4 d (crd c s)) ↦[((Memref.whole main_v5_1_scv).view.slice (rO (crd c s))).set]{fullShare} X) :=
    owns_slice_read (Val := Elt F) (thr4 d (crd c s)) (Memref.whole main_v5_1_scv) fullShare (rO (crd c s)) (fun _ => rfl) X
  rw [h2, show ((Memref.whole main_v5_1_scv).view.slice (rO (crd c s))).set = (rO (crd c s)).set from View.set_slice_whole main_v5_1_scv (rO (crd c s))]

theorem go_intro0 (pt : Fin 4 → Dev nD → FVec F S64x8192 .f32) (d : Dev nD) (c : Fin 2) (s : Fin 16) (G : FVec F S64x8192 .f32) (O : Vec F S8x8192 .i32) :
    (iprop(owns (thr4 d (crd c s)) ((Memref.whole main_v1_0_scv).slice (rP (crd c s)) (fun _ => rfl)) fullShare (fun j => pt 0 d ((rP (crd c s)).emb j))
      ∗ owns (thr4 d (crd c s)) ((Memref.whole main_v5_0_scv).slice (rG (crd c s)) (fun _ => rfl)) fullShare (fun j => G ((rG (crd c s)).emb j))
      ∗ owns (thr4 d (crd c s)) ((Memref.whole main_v5_1_scv).slice (rO (crd c s)) (fun _ => rfl)) fullShare (fun j => O ((rO (crd c s)).emb j))) : sProp 𝕄)
      ⊢ goQ pt 0 d c s := by
  rw [goQ0]
  unfold go0 goAt
  iintro ⟨H0, H1, H2⟩
  isplitl [H0]; · iexact H0
  isplitl [H1]
  · iexists (fun j => G ((rG (crd c s)).emb j)); iexact H1
  · iexists (fun j => O ((rO (crd c s)).emb j)); iexact H2

theorem dn_open0 (pt : Fin 4 → Dev nD → FVec F S64x8192 .f32) (d : Dev nD) :
    (bigSep Finset.univ fun c : Fin ((K (F := F)).nCore 0) => (P pt).dn 0 d c)
      ⊢ bigSep (Finset.univ : Finset (Fin 2)) fun c => bigSep (Finset.univ : Finset (Fin 16)) fun s => (tdQ pt 0 d c s : sProp 𝕄) := by
  unfold P
  exact Entails.of_eq (cast_sep (nCore_eq 0) (nSub_eq 0) (fun c s => tdQ pt 0 d c s))

theorem st_intro0 (pt : Fin 4 → Dev nD → FVec F S64x8192 .f32) (d : Dev nD) (G : FVec F S64x8192 .f32) (O : Vec F S8x8192 .i32) :
    (iprop((((d, Proc.devRef .tc main_v1_0) : Loc nD τ sig) ↦{fullShare} pt 0 d) ∗ (((d, Proc.devRef .tc main_v5_0) : Loc nD τ sig) ↦{fullShare} G)
      ∗ (((d, Proc.devRef .tc main_v5_1) : Loc nD τ sig) ↦{fullShare} O)) : sProp 𝕄)
      ⊢ bigSep Finset.univ fun c : Fin ((K (F := F)).nCore 0) => (P pt).st 0 d c := by
  refine BI.Entails.trans ?_ (Entails.of_eq (show (bigSep (Finset.univ : Finset (Fin 2)) fun c => bigSep (Finset.univ : Finset (Fin 16)) fun s => goQ pt 0 d c s) = _ from rfl))
  rw [in_parts0 d (pt 0 d), gt_parts0 d G, id_parts0 d O, ← bigSep_sep', ← bigSep_sep']
  refine bigSep_mono fun c _ => ?_
  rw [← bigSep_sep', ← bigSep_sep']
  refine bigSep_mono fun s _ => ?_
  exact go_intro0 pt d c s G O

theorem dn_elim0 (pt : Fin 4 → Dev nD → FVec F S64x8192 .f32) (d : Dev nD) :
    (bigSep Finset.univ fun c : Fin ((K (F := F)).nCore 0) => (P pt).dn 0 d c)
      ⊢ (iprop((((d, Proc.devRef .tc main_v1_0) : Loc nD τ sig) ↦{fullShare} pt 0 d) ∗ (((d, Proc.devRef .tc main_v5_0) : Loc nD τ sig) ↦{fullShare} gatedArr (pt 0 d))
      ∗ (((d, Proc.devRef .tc main_v5_1) : Loc nD τ sig) ↦{fullShare} idsArr (pt 0 d))) : sProp 𝕄) := by
  refine BI.Entails.trans (dn_open0 pt d) ?_
  rw [in_parts0 d (pt 0 d), gt_parts0 d (gatedArr (pt 0 d)), id_parts0 d (idsArr (pt 0 d)), ← bigSep_sep', ← bigSep_sep']
  refine bigSep_mono fun c _ => ?_
  rw [← bigSep_sep', ← bigSep_sep']
  refine bigSep_mono fun s _ => ?_
  rw [tdQ0]
  unfold td0 tdAt
  exact BI.Entails.refl _

theorem in_parts1 (d : Dev nD) (X : FVec F S64x8192 .f32) :
    (((d, Proc.devRef .tc main_v2_0) : Loc nD τ sig) ↦{fullShare} X : sProp 𝕄)
      = bigSep Finset.univ fun c : Fin 2 => bigSep Finset.univ fun s : Fin 16 =>
          owns (thr4 d (crd c s)) ((Memref.whole main_v2_0_scv).slice (rP (crd c s)) (fun _ => rfl)) fullShare (fun j => X ((rP (crd c s)).emb j)) := by
  have h := cols_parts (fun x : S64x8192.Idx => (x (1 : Fin 2)).val) (fun x => (x (1 : Fin 2)).isLt) (fun c s => (rP (crd c s)).set) mem_rP
  have e1 : (((d, Proc.devRef .tc main_v2_0) : Loc nD τ sig) ↦{fullShare} X : sProp 𝕄)
      = ((d, Proc.devRef .tc main_v2_0) : Loc nD τ sig) ↦[(Finset.univ : Finset (Fin 2 × Fin 16)).biUnion (fun a => (rP (crd a.1 a.2)).set)]{fullShare} X := by rw [h.2]
  rw [e1, pointsTo_biUnion _ _ h.1, bigSep_univ_prod]
  refine bigSep_congr fun c _ => bigSep_congr fun s _ => ?_
  have h2 : (owns (thr4 d (crd c s)) ((Memref.whole main_v2_0_scv).slice (rP (crd c s)) (fun _ => rfl)) fullShare (fun j => X ((rP (crd c s)).emb j)) : sProp 𝕄)
      = ((Memref.whole main_v2_0_scv).view.loc (thr4 d (crd c s)) ↦[((Memref.whole main_v2_0_scv).view.slice (rP (crd c s))).set]{fullShare} X) :=
    owns_slice_read (Val := Elt F) (thr4 d (crd c s)) (Memref.whole main_v2_0_scv) fullShare (rP (crd c s)) (fun _ => rfl) X
  rw [h2, show ((Memref.whole main_v2_0_scv).view.slice (rP (crd c s))).set = (rP (crd c s)).set from View.set_slice_whole main_v2_0_scv (rP (crd c s))]

theorem gt_parts1 (d : Dev nD) (X : FVec F S64x8192 .f32) :
    (((d, Proc.devRef .tc main_v6_0) : Loc nD τ sig) ↦{fullShare} X : sProp 𝕄)
      = bigSep Finset.univ fun c : Fin 2 => bigSep Finset.univ fun s : Fin 16 =>
          owns (thr4 d (crd c s)) ((Memref.whole main_v6_0_scv).slice (rG (crd c s)) (fun _ => rfl)) fullShare (fun j => X ((rG (crd c s)).emb j)) := by
  have h := cols_parts (fun x : S64x8192.Idx => (x (1 : Fin 2)).val) (fun x => (x (1 : Fin 2)).isLt) (fun c s => (rG (crd c s)).set) mem_rG
  have e1 : (((d, Proc.devRef .tc main_v6_0) : Loc nD τ sig) ↦{fullShare} X : sProp 𝕄)
      = ((d, Proc.devRef .tc main_v6_0) : Loc nD τ sig) ↦[(Finset.univ : Finset (Fin 2 × Fin 16)).biUnion (fun a => (rG (crd a.1 a.2)).set)]{fullShare} X := by rw [h.2]
  rw [e1, pointsTo_biUnion _ _ h.1, bigSep_univ_prod]
  refine bigSep_congr fun c _ => bigSep_congr fun s _ => ?_
  have h2 : (owns (thr4 d (crd c s)) ((Memref.whole main_v6_0_scv).slice (rG (crd c s)) (fun _ => rfl)) fullShare (fun j => X ((rG (crd c s)).emb j)) : sProp 𝕄)
      = ((Memref.whole main_v6_0_scv).view.loc (thr4 d (crd c s)) ↦[((Memref.whole main_v6_0_scv).view.slice (rG (crd c s))).set]{fullShare} X) :=
    owns_slice_read (Val := Elt F) (thr4 d (crd c s)) (Memref.whole main_v6_0_scv) fullShare (rG (crd c s)) (fun _ => rfl) X
  rw [h2, show ((Memref.whole main_v6_0_scv).view.slice (rG (crd c s))).set = (rG (crd c s)).set from View.set_slice_whole main_v6_0_scv (rG (crd c s))]

theorem id_parts1 (d : Dev nD) (X : Vec F S8x8192 .i32) :
    (((d, Proc.devRef .tc main_v6_1) : Loc nD τ sig) ↦{fullShare} X : sProp 𝕄)
      = bigSep Finset.univ fun c : Fin 2 => bigSep Finset.univ fun s : Fin 16 =>
          owns (thr4 d (crd c s)) ((Memref.whole main_v6_1_scv).slice (rO (crd c s)) (fun _ => rfl)) fullShare (fun j => X ((rO (crd c s)).emb j)) := by
  have h := cols_parts (fun x : S8x8192.Idx => (x (1 : Fin 2)).val) (fun x => (x (1 : Fin 2)).isLt) (fun c s => (rO (crd c s)).set) mem_rO
  have e1 : (((d, Proc.devRef .tc main_v6_1) : Loc nD τ sig) ↦{fullShare} X : sProp 𝕄)
      = ((d, Proc.devRef .tc main_v6_1) : Loc nD τ sig) ↦[(Finset.univ : Finset (Fin 2 × Fin 16)).biUnion (fun a => (rO (crd a.1 a.2)).set)]{fullShare} X := by rw [h.2]
  rw [e1, pointsTo_biUnion _ _ h.1, bigSep_univ_prod]
  refine bigSep_congr fun c _ => bigSep_congr fun s _ => ?_
  have h2 : (owns (thr4 d (crd c s)) ((Memref.whole main_v6_1_scv).slice (rO (crd c s)) (fun _ => rfl)) fullShare (fun j => X ((rO (crd c s)).emb j)) : sProp 𝕄)
      = ((Memref.whole main_v6_1_scv).view.loc (thr4 d (crd c s)) ↦[((Memref.whole main_v6_1_scv).view.slice (rO (crd c s))).set]{fullShare} X) :=
    owns_slice_read (Val := Elt F) (thr4 d (crd c s)) (Memref.whole main_v6_1_scv) fullShare (rO (crd c s)) (fun _ => rfl) X
  rw [h2, show ((Memref.whole main_v6_1_scv).view.slice (rO (crd c s))).set = (rO (crd c s)).set from View.set_slice_whole main_v6_1_scv (rO (crd c s))]

theorem go_intro1 (pt : Fin 4 → Dev nD → FVec F S64x8192 .f32) (d : Dev nD) (c : Fin 2) (s : Fin 16) (G : FVec F S64x8192 .f32) (O : Vec F S8x8192 .i32) :
    (iprop(owns (thr4 d (crd c s)) ((Memref.whole main_v2_0_scv).slice (rP (crd c s)) (fun _ => rfl)) fullShare (fun j => pt 1 d ((rP (crd c s)).emb j))
      ∗ owns (thr4 d (crd c s)) ((Memref.whole main_v6_0_scv).slice (rG (crd c s)) (fun _ => rfl)) fullShare (fun j => G ((rG (crd c s)).emb j))
      ∗ owns (thr4 d (crd c s)) ((Memref.whole main_v6_1_scv).slice (rO (crd c s)) (fun _ => rfl)) fullShare (fun j => O ((rO (crd c s)).emb j))) : sProp 𝕄)
      ⊢ goQ pt 1 d c s := by
  rw [goQ1]
  unfold go1 goAt
  iintro ⟨H0, H1, H2⟩
  isplitl [H0]; · iexact H0
  isplitl [H1]
  · iexists (fun j => G ((rG (crd c s)).emb j)); iexact H1
  · iexists (fun j => O ((rO (crd c s)).emb j)); iexact H2

theorem dn_open1 (pt : Fin 4 → Dev nD → FVec F S64x8192 .f32) (d : Dev nD) :
    (bigSep Finset.univ fun c : Fin ((K (F := F)).nCore 1) => (P pt).dn 1 d c)
      ⊢ bigSep (Finset.univ : Finset (Fin 2)) fun c => bigSep (Finset.univ : Finset (Fin 16)) fun s => (tdQ pt 1 d c s : sProp 𝕄) := by
  unfold P
  exact Entails.of_eq (cast_sep (nCore_eq 1) (nSub_eq 1) (fun c s => tdQ pt 1 d c s))

theorem st_intro1 (pt : Fin 4 → Dev nD → FVec F S64x8192 .f32) (d : Dev nD) (G : FVec F S64x8192 .f32) (O : Vec F S8x8192 .i32) :
    (iprop((((d, Proc.devRef .tc main_v2_0) : Loc nD τ sig) ↦{fullShare} pt 1 d) ∗ (((d, Proc.devRef .tc main_v6_0) : Loc nD τ sig) ↦{fullShare} G)
      ∗ (((d, Proc.devRef .tc main_v6_1) : Loc nD τ sig) ↦{fullShare} O)) : sProp 𝕄)
      ⊢ bigSep Finset.univ fun c : Fin ((K (F := F)).nCore 1) => (P pt).st 1 d c := by
  refine BI.Entails.trans ?_ (Entails.of_eq (show (bigSep (Finset.univ : Finset (Fin 2)) fun c => bigSep (Finset.univ : Finset (Fin 16)) fun s => goQ pt 1 d c s) = _ from rfl))
  rw [in_parts1 d (pt 1 d), gt_parts1 d G, id_parts1 d O, ← bigSep_sep', ← bigSep_sep']
  refine bigSep_mono fun c _ => ?_
  rw [← bigSep_sep', ← bigSep_sep']
  refine bigSep_mono fun s _ => ?_
  exact go_intro1 pt d c s G O

theorem dn_elim1 (pt : Fin 4 → Dev nD → FVec F S64x8192 .f32) (d : Dev nD) :
    (bigSep Finset.univ fun c : Fin ((K (F := F)).nCore 1) => (P pt).dn 1 d c)
      ⊢ (iprop((((d, Proc.devRef .tc main_v2_0) : Loc nD τ sig) ↦{fullShare} pt 1 d) ∗ (((d, Proc.devRef .tc main_v6_0) : Loc nD τ sig) ↦{fullShare} gatedArr (pt 1 d))
      ∗ (((d, Proc.devRef .tc main_v6_1) : Loc nD τ sig) ↦{fullShare} idsArr (pt 1 d))) : sProp 𝕄) := by
  refine BI.Entails.trans (dn_open1 pt d) ?_
  rw [in_parts1 d (pt 1 d), gt_parts1 d (gatedArr (pt 1 d)), id_parts1 d (idsArr (pt 1 d)), ← bigSep_sep', ← bigSep_sep']
  refine bigSep_mono fun c _ => ?_
  rw [← bigSep_sep', ← bigSep_sep']
  refine bigSep_mono fun s _ => ?_
  rw [tdQ1]
  unfold td1 tdAt
  exact BI.Entails.refl _

theorem in_parts2 (d : Dev nD) (X : FVec F S64x8192 .f32) :
    (((d, Proc.devRef .tc main_v3_0) : Loc nD τ sig) ↦{fullShare} X : sProp 𝕄)
      = bigSep Finset.univ fun c : Fin 2 => bigSep Finset.univ fun s : Fin 16 =>
          owns (thr4 d (crd c s)) ((Memref.whole main_v3_0_scv).slice (rP (crd c s)) (fun _ => rfl)) fullShare (fun j => X ((rP (crd c s)).emb j)) := by
  have h := cols_parts (fun x : S64x8192.Idx => (x (1 : Fin 2)).val) (fun x => (x (1 : Fin 2)).isLt) (fun c s => (rP (crd c s)).set) mem_rP
  have e1 : (((d, Proc.devRef .tc main_v3_0) : Loc nD τ sig) ↦{fullShare} X : sProp 𝕄)
      = ((d, Proc.devRef .tc main_v3_0) : Loc nD τ sig) ↦[(Finset.univ : Finset (Fin 2 × Fin 16)).biUnion (fun a => (rP (crd a.1 a.2)).set)]{fullShare} X := by rw [h.2]
  rw [e1, pointsTo_biUnion _ _ h.1, bigSep_univ_prod]
  refine bigSep_congr fun c _ => bigSep_congr fun s _ => ?_
  have h2 : (owns (thr4 d (crd c s)) ((Memref.whole main_v3_0_scv).slice (rP (crd c s)) (fun _ => rfl)) fullShare (fun j => X ((rP (crd c s)).emb j)) : sProp 𝕄)
      = ((Memref.whole main_v3_0_scv).view.loc (thr4 d (crd c s)) ↦[((Memref.whole main_v3_0_scv).view.slice (rP (crd c s))).set]{fullShare} X) :=
    owns_slice_read (Val := Elt F) (thr4 d (crd c s)) (Memref.whole main_v3_0_scv) fullShare (rP (crd c s)) (fun _ => rfl) X
  rw [h2, show ((Memref.whole main_v3_0_scv).view.slice (rP (crd c s))).set = (rP (crd c s)).set from View.set_slice_whole main_v3_0_scv (rP (crd c s))]

theorem gt_parts2 (d : Dev nD) (X : FVec F S64x8192 .f32) :
    (((d, Proc.devRef .tc main_v7_0) : Loc nD τ sig) ↦{fullShare} X : sProp 𝕄)
      = bigSep Finset.univ fun c : Fin 2 => bigSep Finset.univ fun s : Fin 16 =>
          owns (thr4 d (crd c s)) ((Memref.whole main_v7_0_scv).slice (rG (crd c s)) (fun _ => rfl)) fullShare (fun j => X ((rG (crd c s)).emb j)) := by
  have h := cols_parts (fun x : S64x8192.Idx => (x (1 : Fin 2)).val) (fun x => (x (1 : Fin 2)).isLt) (fun c s => (rG (crd c s)).set) mem_rG
  have e1 : (((d, Proc.devRef .tc main_v7_0) : Loc nD τ sig) ↦{fullShare} X : sProp 𝕄)
      = ((d, Proc.devRef .tc main_v7_0) : Loc nD τ sig) ↦[(Finset.univ : Finset (Fin 2 × Fin 16)).biUnion (fun a => (rG (crd a.1 a.2)).set)]{fullShare} X := by rw [h.2]
  rw [e1, pointsTo_biUnion _ _ h.1, bigSep_univ_prod]
  refine bigSep_congr fun c _ => bigSep_congr fun s _ => ?_
  have h2 : (owns (thr4 d (crd c s)) ((Memref.whole main_v7_0_scv).slice (rG (crd c s)) (fun _ => rfl)) fullShare (fun j => X ((rG (crd c s)).emb j)) : sProp 𝕄)
      = ((Memref.whole main_v7_0_scv).view.loc (thr4 d (crd c s)) ↦[((Memref.whole main_v7_0_scv).view.slice (rG (crd c s))).set]{fullShare} X) :=
    owns_slice_read (Val := Elt F) (thr4 d (crd c s)) (Memref.whole main_v7_0_scv) fullShare (rG (crd c s)) (fun _ => rfl) X
  rw [h2, show ((Memref.whole main_v7_0_scv).view.slice (rG (crd c s))).set = (rG (crd c s)).set from View.set_slice_whole main_v7_0_scv (rG (crd c s))]

theorem id_parts2 (d : Dev nD) (X : Vec F S8x8192 .i32) :
    (((d, Proc.devRef .tc main_v7_1) : Loc nD τ sig) ↦{fullShare} X : sProp 𝕄)
      = bigSep Finset.univ fun c : Fin 2 => bigSep Finset.univ fun s : Fin 16 =>
          owns (thr4 d (crd c s)) ((Memref.whole main_v7_1_scv).slice (rO (crd c s)) (fun _ => rfl)) fullShare (fun j => X ((rO (crd c s)).emb j)) := by
  have h := cols_parts (fun x : S8x8192.Idx => (x (1 : Fin 2)).val) (fun x => (x (1 : Fin 2)).isLt) (fun c s => (rO (crd c s)).set) mem_rO
  have e1 : (((d, Proc.devRef .tc main_v7_1) : Loc nD τ sig) ↦{fullShare} X : sProp 𝕄)
      = ((d, Proc.devRef .tc main_v7_1) : Loc nD τ sig) ↦[(Finset.univ : Finset (Fin 2 × Fin 16)).biUnion (fun a => (rO (crd a.1 a.2)).set)]{fullShare} X := by rw [h.2]
  rw [e1, pointsTo_biUnion _ _ h.1, bigSep_univ_prod]
  refine bigSep_congr fun c _ => bigSep_congr fun s _ => ?_
  have h2 : (owns (thr4 d (crd c s)) ((Memref.whole main_v7_1_scv).slice (rO (crd c s)) (fun _ => rfl)) fullShare (fun j => X ((rO (crd c s)).emb j)) : sProp 𝕄)
      = ((Memref.whole main_v7_1_scv).view.loc (thr4 d (crd c s)) ↦[((Memref.whole main_v7_1_scv).view.slice (rO (crd c s))).set]{fullShare} X) :=
    owns_slice_read (Val := Elt F) (thr4 d (crd c s)) (Memref.whole main_v7_1_scv) fullShare (rO (crd c s)) (fun _ => rfl) X
  rw [h2, show ((Memref.whole main_v7_1_scv).view.slice (rO (crd c s))).set = (rO (crd c s)).set from View.set_slice_whole main_v7_1_scv (rO (crd c s))]

theorem go_intro2 (pt : Fin 4 → Dev nD → FVec F S64x8192 .f32) (d : Dev nD) (c : Fin 2) (s : Fin 16) (G : FVec F S64x8192 .f32) (O : Vec F S8x8192 .i32) :
    (iprop(owns (thr4 d (crd c s)) ((Memref.whole main_v3_0_scv).slice (rP (crd c s)) (fun _ => rfl)) fullShare (fun j => pt 2 d ((rP (crd c s)).emb j))
      ∗ owns (thr4 d (crd c s)) ((Memref.whole main_v7_0_scv).slice (rG (crd c s)) (fun _ => rfl)) fullShare (fun j => G ((rG (crd c s)).emb j))
      ∗ owns (thr4 d (crd c s)) ((Memref.whole main_v7_1_scv).slice (rO (crd c s)) (fun _ => rfl)) fullShare (fun j => O ((rO (crd c s)).emb j))) : sProp 𝕄)
      ⊢ goQ pt 2 d c s := by
  rw [goQ2]
  unfold go2 goAt
  iintro ⟨H0, H1, H2⟩
  isplitl [H0]; · iexact H0
  isplitl [H1]
  · iexists (fun j => G ((rG (crd c s)).emb j)); iexact H1
  · iexists (fun j => O ((rO (crd c s)).emb j)); iexact H2

theorem dn_open2 (pt : Fin 4 → Dev nD → FVec F S64x8192 .f32) (d : Dev nD) :
    (bigSep Finset.univ fun c : Fin ((K (F := F)).nCore 2) => (P pt).dn 2 d c)
      ⊢ bigSep (Finset.univ : Finset (Fin 2)) fun c => bigSep (Finset.univ : Finset (Fin 16)) fun s => (tdQ pt 2 d c s : sProp 𝕄) := by
  unfold P
  exact Entails.of_eq (cast_sep (nCore_eq 2) (nSub_eq 2) (fun c s => tdQ pt 2 d c s))

theorem st_intro2 (pt : Fin 4 → Dev nD → FVec F S64x8192 .f32) (d : Dev nD) (G : FVec F S64x8192 .f32) (O : Vec F S8x8192 .i32) :
    (iprop((((d, Proc.devRef .tc main_v3_0) : Loc nD τ sig) ↦{fullShare} pt 2 d) ∗ (((d, Proc.devRef .tc main_v7_0) : Loc nD τ sig) ↦{fullShare} G)
      ∗ (((d, Proc.devRef .tc main_v7_1) : Loc nD τ sig) ↦{fullShare} O)) : sProp 𝕄)
      ⊢ bigSep Finset.univ fun c : Fin ((K (F := F)).nCore 2) => (P pt).st 2 d c := by
  refine BI.Entails.trans ?_ (Entails.of_eq (show (bigSep (Finset.univ : Finset (Fin 2)) fun c => bigSep (Finset.univ : Finset (Fin 16)) fun s => goQ pt 2 d c s) = _ from rfl))
  rw [in_parts2 d (pt 2 d), gt_parts2 d G, id_parts2 d O, ← bigSep_sep', ← bigSep_sep']
  refine bigSep_mono fun c _ => ?_
  rw [← bigSep_sep', ← bigSep_sep']
  refine bigSep_mono fun s _ => ?_
  exact go_intro2 pt d c s G O

theorem dn_elim2 (pt : Fin 4 → Dev nD → FVec F S64x8192 .f32) (d : Dev nD) :
    (bigSep Finset.univ fun c : Fin ((K (F := F)).nCore 2) => (P pt).dn 2 d c)
      ⊢ (iprop((((d, Proc.devRef .tc main_v3_0) : Loc nD τ sig) ↦{fullShare} pt 2 d) ∗ (((d, Proc.devRef .tc main_v7_0) : Loc nD τ sig) ↦{fullShare} gatedArr (pt 2 d))
      ∗ (((d, Proc.devRef .tc main_v7_1) : Loc nD τ sig) ↦{fullShare} idsArr (pt 2 d))) : sProp 𝕄) := by
  refine BI.Entails.trans (dn_open2 pt d) ?_
  rw [in_parts2 d (pt 2 d), gt_parts2 d (gatedArr (pt 2 d)), id_parts2 d (idsArr (pt 2 d)), ← bigSep_sep', ← bigSep_sep']
  refine bigSep_mono fun c _ => ?_
  rw [← bigSep_sep', ← bigSep_sep']
  refine bigSep_mono fun s _ => ?_
  rw [tdQ2]
  unfold td2 tdAt
  exact BI.Entails.refl _

theorem in_parts3 (d : Dev nD) (X : FVec F S64x8192 .f32) :
    (((d, Proc.devRef .tc main_v4_0) : Loc nD τ sig) ↦{fullShare} X : sProp 𝕄)
      = bigSep Finset.univ fun c : Fin 2 => bigSep Finset.univ fun s : Fin 16 =>
          owns (thr4 d (crd c s)) ((Memref.whole main_v4_0_scv).slice (rP (crd c s)) (fun _ => rfl)) fullShare (fun j => X ((rP (crd c s)).emb j)) := by
  have h := cols_parts (fun x : S64x8192.Idx => (x (1 : Fin 2)).val) (fun x => (x (1 : Fin 2)).isLt) (fun c s => (rP (crd c s)).set) mem_rP
  have e1 : (((d, Proc.devRef .tc main_v4_0) : Loc nD τ sig) ↦{fullShare} X : sProp 𝕄)
      = ((d, Proc.devRef .tc main_v4_0) : Loc nD τ sig) ↦[(Finset.univ : Finset (Fin 2 × Fin 16)).biUnion (fun a => (rP (crd a.1 a.2)).set)]{fullShare} X := by rw [h.2]
  rw [e1, pointsTo_biUnion _ _ h.1, bigSep_univ_prod]
  refine bigSep_congr fun c _ => bigSep_congr fun s _ => ?_
  have h2 : (owns (thr4 d (crd c s)) ((Memref.whole main_v4_0_scv).slice (rP (crd c s)) (fun _ => rfl)) fullShare (fun j => X ((rP (crd c s)).emb j)) : sProp 𝕄)
      = ((Memref.whole main_v4_0_scv).view.loc (thr4 d (crd c s)) ↦[((Memref.whole main_v4_0_scv).view.slice (rP (crd c s))).set]{fullShare} X) :=
    owns_slice_read (Val := Elt F) (thr4 d (crd c s)) (Memref.whole main_v4_0_scv) fullShare (rP (crd c s)) (fun _ => rfl) X
  rw [h2, show ((Memref.whole main_v4_0_scv).view.slice (rP (crd c s))).set = (rP (crd c s)).set from View.set_slice_whole main_v4_0_scv (rP (crd c s))]

theorem gt_parts3 (d : Dev nD) (X : FVec F S64x8192 .f32) :
    (((d, Proc.devRef .tc main_v8_0) : Loc nD τ sig) ↦{fullShare} X : sProp 𝕄)
      = bigSep Finset.univ fun c : Fin 2 => bigSep Finset.univ fun s : Fin 16 =>
          owns (thr4 d (crd c s)) ((Memref.whole main_v8_0_scv).slice (rG (crd c s)) (fun _ => rfl)) fullShare (fun j => X ((rG (crd c s)).emb j)) := by
  have h := cols_parts (fun x : S64x8192.Idx => (x (1 : Fin 2)).val) (fun x => (x (1 : Fin 2)).isLt) (fun c s => (rG (crd c s)).set) mem_rG
  have e1 : (((d, Proc.devRef .tc main_v8_0) : Loc nD τ sig) ↦{fullShare} X : sProp 𝕄)
      = ((d, Proc.devRef .tc main_v8_0) : Loc nD τ sig) ↦[(Finset.univ : Finset (Fin 2 × Fin 16)).biUnion (fun a => (rG (crd a.1 a.2)).set)]{fullShare} X := by rw [h.2]
  rw [e1, pointsTo_biUnion _ _ h.1, bigSep_univ_prod]
  refine bigSep_congr fun c _ => bigSep_congr fun s _ => ?_
  have h2 : (owns (thr4 d (crd c s)) ((Memref.whole main_v8_0_scv).slice (rG (crd c s)) (fun _ => rfl)) fullShare (fun j => X ((rG (crd c s)).emb j)) : sProp 𝕄)
      = ((Memref.whole main_v8_0_scv).view.loc (thr4 d (crd c s)) ↦[((Memref.whole main_v8_0_scv).view.slice (rG (crd c s))).set]{fullShare} X) :=
    owns_slice_read (Val := Elt F) (thr4 d (crd c s)) (Memref.whole main_v8_0_scv) fullShare (rG (crd c s)) (fun _ => rfl) X
  rw [h2, show ((Memref.whole main_v8_0_scv).view.slice (rG (crd c s))).set = (rG (crd c s)).set from View.set_slice_whole main_v8_0_scv (rG (crd c s))]

theorem id_parts3 (d : Dev nD) (X : Vec F S8x8192 .i32) :
    (((d, Proc.devRef .tc main_v8_1) : Loc nD τ sig) ↦{fullShare} X : sProp 𝕄)
      = bigSep Finset.univ fun c : Fin 2 => bigSep Finset.univ fun s : Fin 16 =>
          owns (thr4 d (crd c s)) ((Memref.whole main_v8_1_scv).slice (rO (crd c s)) (fun _ => rfl)) fullShare (fun j => X ((rO (crd c s)).emb j)) := by
  have h := cols_parts (fun x : S8x8192.Idx => (x (1 : Fin 2)).val) (fun x => (x (1 : Fin 2)).isLt) (fun c s => (rO (crd c s)).set) mem_rO
  have e1 : (((d, Proc.devRef .tc main_v8_1) : Loc nD τ sig) ↦{fullShare} X : sProp 𝕄)
      = ((d, Proc.devRef .tc main_v8_1) : Loc nD τ sig) ↦[(Finset.univ : Finset (Fin 2 × Fin 16)).biUnion (fun a => (rO (crd a.1 a.2)).set)]{fullShare} X := by rw [h.2]
  rw [e1, pointsTo_biUnion _ _ h.1, bigSep_univ_prod]
  refine bigSep_congr fun c _ => bigSep_congr fun s _ => ?_
  have h2 : (owns (thr4 d (crd c s)) ((Memref.whole main_v8_1_scv).slice (rO (crd c s)) (fun _ => rfl)) fullShare (fun j => X ((rO (crd c s)).emb j)) : sProp 𝕄)
      = ((Memref.whole main_v8_1_scv).view.loc (thr4 d (crd c s)) ↦[((Memref.whole main_v8_1_scv).view.slice (rO (crd c s))).set]{fullShare} X) :=
    owns_slice_read (Val := Elt F) (thr4 d (crd c s)) (Memref.whole main_v8_1_scv) fullShare (rO (crd c s)) (fun _ => rfl) X
  rw [h2, show ((Memref.whole main_v8_1_scv).view.slice (rO (crd c s))).set = (rO (crd c s)).set from View.set_slice_whole main_v8_1_scv (rO (crd c s))]

theorem go_intro3 (pt : Fin 4 → Dev nD → FVec F S64x8192 .f32) (d : Dev nD) (c : Fin 2) (s : Fin 16) (G : FVec F S64x8192 .f32) (O : Vec F S8x8192 .i32) :
    (iprop(owns (thr4 d (crd c s)) ((Memref.whole main_v4_0_scv).slice (rP (crd c s)) (fun _ => rfl)) fullShare (fun j => pt 3 d ((rP (crd c s)).emb j))
      ∗ owns (thr4 d (crd c s)) ((Memref.whole main_v8_0_scv).slice (rG (crd c s)) (fun _ => rfl)) fullShare (fun j => G ((rG (crd c s)).emb j))
      ∗ owns (thr4 d (crd c s)) ((Memref.whole main_v8_1_scv).slice (rO (crd c s)) (fun _ => rfl)) fullShare (fun j => O ((rO (crd c s)).emb j))) : sProp 𝕄)
      ⊢ goQ pt 3 d c s := by
  rw [goQ3]
  unfold go3 goAt
  iintro ⟨H0, H1, H2⟩
  isplitl [H0]; · iexact H0
  isplitl [H1]
  · iexists (fun j => G ((rG (crd c s)).emb j)); iexact H1
  · iexists (fun j => O ((rO (crd c s)).emb j)); iexact H2

theorem dn_open3 (pt : Fin 4 → Dev nD → FVec F S64x8192 .f32) (d : Dev nD) :
    (bigSep Finset.univ fun c : Fin ((K (F := F)).nCore 3) => (P pt).dn 3 d c)
      ⊢ bigSep (Finset.univ : Finset (Fin 2)) fun c => bigSep (Finset.univ : Finset (Fin 16)) fun s => (tdQ pt 3 d c s : sProp 𝕄) := by
  unfold P
  exact Entails.of_eq (cast_sep (nCore_eq 3) (nSub_eq 3) (fun c s => tdQ pt 3 d c s))

theorem st_intro3 (pt : Fin 4 → Dev nD → FVec F S64x8192 .f32) (d : Dev nD) (G : FVec F S64x8192 .f32) (O : Vec F S8x8192 .i32) :
    (iprop((((d, Proc.devRef .tc main_v4_0) : Loc nD τ sig) ↦{fullShare} pt 3 d) ∗ (((d, Proc.devRef .tc main_v8_0) : Loc nD τ sig) ↦{fullShare} G)
      ∗ (((d, Proc.devRef .tc main_v8_1) : Loc nD τ sig) ↦{fullShare} O)) : sProp 𝕄)
      ⊢ bigSep Finset.univ fun c : Fin ((K (F := F)).nCore 3) => (P pt).st 3 d c := by
  refine BI.Entails.trans ?_ (Entails.of_eq (show (bigSep (Finset.univ : Finset (Fin 2)) fun c => bigSep (Finset.univ : Finset (Fin 16)) fun s => goQ pt 3 d c s) = _ from rfl))
  rw [in_parts3 d (pt 3 d), gt_parts3 d G, id_parts3 d O, ← bigSep_sep', ← bigSep_sep']
  refine bigSep_mono fun c _ => ?_
  rw [← bigSep_sep', ← bigSep_sep']
  refine bigSep_mono fun s _ => ?_
  exact go_intro3 pt d c s G O

theorem dn_elim3 (pt : Fin 4 → Dev nD → FVec F S64x8192 .f32) (d : Dev nD) :
    (bigSep Finset.univ fun c : Fin ((K (F := F)).nCore 3) => (P pt).dn 3 d c)
      ⊢ (iprop((((d, Proc.devRef .tc main_v4_0) : Loc nD τ sig) ↦{fullShare} pt 3 d) ∗ (((d, Proc.devRef .tc main_v8_0) : Loc nD τ sig) ↦{fullShare} gatedArr (pt 3 d))
      ∗ (((d, Proc.devRef .tc main_v8_1) : Loc nD τ sig) ↦{fullShare} idsArr (pt 3 d))) : sProp 𝕄) := by
  refine BI.Entails.trans (dn_open3 pt d) ?_
  rw [in_parts3 d (pt 3 d), gt_parts3 d (gatedArr (pt 3 d)), id_parts3 d (idsArr (pt 3 d)), ← bigSep_sep', ← bigSep_sep']
  refine bigSep_mono fun c _ => ?_
  rw [← bigSep_sep', ← bigSep_sep']
  refine bigSep_mono fun s _ => ?_
  rw [tdQ3]
  unfold td3 tdAt
  exact BI.Entails.refl _

end Cert.Proof.Tile

end
-- ==== Proof.Region.lean ====
/-
  A TensorCore call of the program as a region entered between the SparseCore calls: the thread holds its unscoped
  buffers and the tallies it owes the SparseCores, and has the same after it.
-/
module

public import proofs.«01_k».proof.Proof.Names
public import Idealize.ShloMosaic.Lib.Pipeline.FrameBody
public import Idealize.ShloMosaic.Lib.Pipeline.FrameTail
public import Idealize.ShloMosaic.Lib.Pipeline.TableIdle
public import Idealize.ShloMosaic.Lib.Pipeline.Regions
public import Idealize.ShloMosaic.Lib.Pipeline.RegionArrays
public import Idealize.ShloMosaic.Lib.Pipeline.RegionArraysS
public import Idealize.ShloMosaic.Lib.Tactic

@[expose] public section

noncomputable section

namespace Cert.Proof.Tile

open Cert.KernelIdeal Cert.KernelIdeal.Gen
open Idealize.ShloMosaic Idealize.ShloMosaic.Transfers Idealize.ShloMosaic.TcCoe Idealize.ShloMosaic.Tactic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-- No call has a prefetched table. -/
abbrev aP : (p : Fin 4) → (pcfgs (F := F) p).Adm := fun p => (cfgs p).toPCfg_adm

/-- The thread's state between the regions. -/
def between (c : Dev nD) (W : Valuation τ sig (Elt F)) : sProp 𝕄 :=
  iprop(StableHlo.held (T c) (Pipeline.ucRefs τ sig) W ∗ ∃ Wt, ⌜(K (F := F)).WBelow (T c) Wt 0⌝ ∗ owes (T c) ((K (F := F)).Otc c 0) Wt)

theorem Otc_none (c : Dev nD) (g : GSem nD τ sig) : (K (F := F)).Otc c 0 g none = 0 := by
  by_contra h
  have h1 := (K (F := F)).lev_of_Otc_pos (Nat.pos_of_ne_zero h)
  have h2 : (K (F := F)).lev g none = 0 := rfl
  omega

def region (pdats : (p : Fin 4) → (c : Dev nD) → Dat τ (Elt F) (HIx 4) ℕ UU ℕ (Pipeline.pin (pcfgs (F := F)) aP p) c) (p : Fin 4) (kit : Pipeline.PLaunchFacts (nD := nD) (τ := τ) (pcfgs (F := F)) p)
    (hK : (pcfgs (F := F) p).pre.K = 0) (hbody : ∀ c, BodyObligationLoose (pdats p c) (defs₀ (F := F)) 𝒱₀ none Set.univ)
    (howed : ∀ c t, (pdats p c).owed t = (K (F := F)).Otc c 0) (hrec : ∀ c t, (pdats p c).recorded t = {q | (K (F := F)).lev (T c, q.1) q.2 ≤ 0})
    (hΦ : ∀ c t, (pdats p c).Φ t = Pipeline.scopedRest (Pipeline.pin (pcfgs (F := F)) aP p).spec c) (hshare : ∀ c w, (pdats p c).share w = fullShare)
    (W : Dev nD → Valuation τ sig (Elt F)) (hW : ∀ c w, (pdats p c).arrAt w 0 = W c (Proc.devRef .tc (Pipeline.arrRef (Pipeline.pin (pcfgs (F := F)) aP p).spec w))) :
    Pipeline.RegionSeg pcfgs aP pdats none (defs₀ (F := F)) 𝒱₀ (K (F := F)).L (K (F := F)).lev p where
  win := kit.to₀.win
  block_pos := kit.block_pos
  stage_whole := kit.stage_whole
  K := PEmpty
  osem k := k.elim
  ho := Pipeline.OwnSemFacts.none _
  hbody := hbody
  hwaits c := Pipeline.cellsWaits_intro (Pipeline.pin (pcfgs (F := F)) aP) pdats none p c fun w s t => by
    rw [howed c t]; exact (K (F := F)).mayWait_none _ (Otc_none c)
  pre c := between c (W c)
  post c := between c (Pipeline.afterRegion (pdats p c) (W c))
  X c := iprop(emp)
  Y c := iprop(emp)
  Z c := StableHlo.held (T c) (Pipeline.ucRefs τ sig \ Pipeline.arrRefs (pcfgs (F := F) p).spec) (W c)
  hentry c := by
    rw [Pipeline.ownSems0_none, Pipeline.prefHeld_of_none _ hK]
    unfold between
    rw [StableHlo.held_sub_split (T c) (Pipeline.arrRefs_sub_ucRefs (pcfgs (F := F) p).spec kit.win.arr_unscoped) (W c),
      ← Pipeline.arrays_held pcfgs aP pdats p kit c (hshare c) ((pdats p c).arrAt · 0) (W c) (hW c)]
    iintro ⟨⟨⟨Ha, Hu⟩, %Wt, %hWt, HO⟩, -, -⟩
    imodintro
    isplitl [Ha]; · iexact Ha
    isplitr; · iempintro
    isplitl [HO]
    · unfold Dat.owesAt Pipeline.owesWithin Dat.bound
      rw [howed c 0, hrec c 0]
      iexists Wt; isplitr; · ipureintro; exact fun q hq => Or.inl (hWt q hq)
      iexact HO
    isplitr; · iempintro
    iexact Hu
  hin c := by
    rw [hΦ c 0]
    iintro ⟨-, -, H⟩
    iexact H
  hout c := by
    rw [hΦ c, Pipeline.ownSems0_none]
    iintro H
    isplitr; · iempintro
    isplitr; · iempintro
    iexact H
  hexit c := by
    unfold between
    rw [StableHlo.held_sub_split (T c) (Pipeline.arrRefs_sub_ucRefs (pcfgs (F := F) p).spec kit.win.arr_unscoped) (Pipeline.afterRegion (pdats p c) (W c)),
      StableHlo.held_congr (T c) (S := Pipeline.ucRefs τ sig \ Pipeline.arrRefs (pcfgs (F := F) p).spec) (V := Pipeline.afterRegion (pdats p c) (W c)) (V' := W c)
        (Pipeline.afterRegion_off (pdats p c) (W c) _),
      ← Pipeline.arrays_held pcfgs aP pdats p kit c (hshare c) ((pdats p c).arrAt · (Pipeline.pin (pcfgs (F := F)) aP p).N) (Pipeline.afterRegion (pdats p c) (W c))
        (fun w => (Pipeline.afterRegion_arr (pdats p c) (W c) kit.win.arr_inj w).symm)]
    iintro ⟨Ha, HO, -, Hu⟩
    imodintro
    isplitl [Ha Hu]
    · isplitl [Ha]; · iexact Ha
      iexact Hu
    unfold Dat.owesAt Pipeline.owesWithin Dat.bound
    rw [howed c, hrec c]
    icases HO with ⟨%Wt, %hWt, HO⟩
    iexists Wt; isplitr
    · ipureintro
      intro q hq
      rcases hWt hq with h | ⟨w, s, e⟩
      · exact h
      · rw [e]; exact le_refl 0
    iexact HO

end Cert.Proof.Tile

end
-- ==== Proof.Gate0.lean ====
/-
  TensorCore call 0: what its buffers hold point by point, and its body's run at any point.
-/
module

public import proofs.«01_k».proof.Proof.Region

@[expose] public section

noncomputable section

namespace Cert.Proof.Tile

open Cert.KernelIdeal Cert.KernelIdeal.Gen
open Idealize.ShloMosaic Idealize.ShloMosaic.Transfers Idealize.ShloMosaic.TcCoe Idealize.ShloMosaic.Tactic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-- Window `w`'s block at point `t`, read off its array. -/
def iblk0 (V : Valuation τ sig (Elt F)) (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

def pnt0 (n : ℕ) : Fin cfg0.N := ⟨n % 8, by rw [show cfg0.N = 8 from N_0]; omega⟩
theorem pnt0_val (t : Fin cfg0.N) : pnt0 t.val = t := Fin.ext (Nat.mod_eq_of_lt (lt_of_lt_of_eq t.isLt (show cfg0.N = 8 from N_0)))

/-- The block of probabilities written at point `n`, and the running sums of their rows. -/
def prob0 (V : Valuation τ sig (Elt F)) (n : ℕ) : FVec F S64x1024 .f32 := smx (iblk0 V 1 (pnt0 n)) (iblk0 V 0 (pnt0 n))
def sums0 (V : Valuation τ sig (Elt F)) : ℕ → FVec F S64x1 .f32
  | 0 => colS (prob0 V 0)
  | n + 1 => addS (sums0 V n) (prob0 V (n + 1))

def dat0 (V : Valuation τ sig (Elt F)) (c : Dev nD) : Dat τ (Elt F) (HIx 4) ℕ UU ℕ cfg0 c where
  A w := V (Proc.devRef .tc (Pipeline.arrRef spec0 w))
  after w t := match w with
    | ⟨0, _⟩ => iblk0 V 0 t
    | ⟨1, _⟩ => iblk0 V 1 t
    | ⟨2, _⟩ => prob0 V t.val
    | ⟨3, _⟩ => sums0 V t.val
  Φ _ := Pipeline.scopedRest spec0 c
  q _ := fullShare
  owed _ := (K (F := F)).Otc c 0
  recorded _ := {q | (K (F := F)).lev (T c, q.1) q.2 ≤ 0}

variable (V : Valuation τ sig (Elt F)) (c : Dev nD)

theorem A0_eq (w : Fin cfg0.W) : (dat0 V c).A w = V (Proc.devRef .tc (Pipeline.arrRef spec0 w)) := by dsimp only [dat0]
theorem after0_0 (t : Fin cfg0.N) : (dat0 V c).after 0 t = iblk0 V 0 t := by dsimp only [dat0]
theorem after0_1 (t : Fin cfg0.N) : (dat0 V c).after 1 t = iblk0 V 1 t := by dsimp only [dat0]
theorem after0_2 (t : Fin cfg0.N) : (dat0 V c).after 2 t = prob0 V t.val := by dsimp only [dat0]
theorem after0_3 (t : Fin cfg0.N) : (dat0 V c).after 3 t = sums0 V t.val := by dsimp only [dat0]

theorem before0_0 (t : Fin cfg0.N) (d) : (dat0 V c).before 0 t d = iblk0 V 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (t : Fin cfg0.N) (d) : (dat0 V c).before 1 t d = iblk0 V 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)

theorem cond0_1 : ∀ t : Fin cfg0.N, k0_cond1 (grid0.coords t) = 1#1 ↔ t.val = 0 := by decide +kernel
theorem cond0_2 : ∀ t : Fin cfg0.N, k0_cond2 (grid0.coords t) = 1#1 ↔ 1 ≤ t.val := by decide +kernel
theorem live0 : ∀ (w : Fin cfg0.W) (t : Fin cfg0.N), cfg0.idle w (grid0.coords t) = false := by decide +kernel

/-- Whether the running sums' buffer holds nothing stored since the last write-back. -/
def fresh0 : ℕ → Bool
  | 0 => true
  | n + 1 => (0x80 : ℕ).testBit n
theorem fresh0_step : ∀ t : Fin cfg0.N,
    fresh0 (t.val + 1) = ((cfg0.win 3).flush t || (cfg0.idle 3 (cfg0.grid.coords t) && fresh0 t.val)) := by decide +kernel
theorem notFresh0 : ∀ t : Fin cfg0.N, 1 ≤ t.val → cfg0.fresh 3 t.val = false := by
  intro t; rw [Pipeline.Cfg.fresh_tab cfg0 3 fresh0 rfl fresh0_step t.val (Nat.le_of_lt t.isLt)]; revert t; decide +kernel

theorem carry0 : ∀ (t : Fin cfg0.N) (_ : t.val ≠ 0), cfg0.idle 3 (grid0.coords t) = true → cfg0.fresh 3 t.val = false →
    (dat0 V c).after 3 t = (dat0 V c).after 3 ⟨t.val - 1, by omega⟩ := by
  intro t _ hi _
  rw [live0 3 t] at hi
  exact absurd hi Bool.false_ne_true
theorem before0_3 (t : Fin cfg0.N) (h1 : 1 ≤ t.val) (d) : (dat0 V c).before 3 t d = sums0 V (t.val - 1) := by
  rw [Dat.before_out_traj _ 3 rfl (fun _ _ => rfl) (carry0 V c) t.val t rfl d, if_neg (by rw [notFresh0 t h1]; exact Bool.false_ne_true)]
  dsimp only [dat0]

abbrev ms0_0 (t : Fin cfg0.N) : Memref sig .tc .vmem S1024x768 .f32 := win0_0.stage (cfg0.slots t 0)
abbrev ms0_1 (t : Fin cfg0.N) : Memref sig .tc .vmem S64x768 .f32 := win0_1.stage (cfg0.slots t 1)
abbrev ms0_2 (t : Fin cfg0.N) : Memref sig .tc .vmem S64x1024 .f32 := win0_2.stage (cfg0.slots t 2)
abbrev ms0_3 (t : Fin cfg0.N) : Memref sig .tc .vmem S64x1 .f32 := win0_3.stage (cfg0.slots t 3)

def bodyPre0 (t : Fin cfg0.N) : sProp 𝕄 :=
  iprop((dat0 V c).Φ t.castSucc ∗ (dat0 V c).owesAt none t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))
def bodyPost0 (t : Fin cfg0.N) : sProp 𝕄 :=
  iprop((dat0 V c).Φ t.succ ∗ (dat0 V c).owesAt none t.succ
    ∗ (dat0 V c).leavesExact 0 t ∗ (dat0 V c).leavesExact 1 t ∗ (dat0 V c).leavesExact 2 t ∗ (dat0 V c).leavesExact 3 t)

theorem leaves0_0 (t : Fin cfg0.N) : (dat0 V c).leavesExact 0 t = (owns (c : Thread nD τ) (ms0_0 t) fullShare (iblk0 V 0 t) : sProp 𝕄) := by
  rw [show (dat0 V c).leavesExact 0 t = owns (c : Thread nD τ) (ms0_0 t) fullShare ((dat0 V c).after 0 t) from by unfold Dat.leavesExact; rw [live0 0 t], after0_0]
theorem leaves0_1 (t : Fin cfg0.N) : (dat0 V c).leavesExact 1 t = (owns (c : Thread nD τ) (ms0_1 t) fullShare (iblk0 V 1 t) : sProp 𝕄) := by
  rw [show (dat0 V c).leavesExact 1 t = owns (c : Thread nD τ) (ms0_1 t) fullShare ((dat0 V c).after 1 t) from by unfold Dat.leavesExact; rw [live0 1 t], after0_1]
theorem leaves0_2 (t : Fin cfg0.N) : (dat0 V c).leavesExact 2 t = (owns (c : Thread nD τ) (ms0_2 t) fullShare (prob0 V t.val) : sProp 𝕄) := by
  rw [show (dat0 V c).leavesExact 2 t = owns (c : Thread nD τ) (ms0_2 t) fullShare ((dat0 V c).after 2 t) from by unfold Dat.leavesExact; rw [live0 2 t], after0_2]
theorem leaves0_3 (t : Fin cfg0.N) : (dat0 V c).leavesExact 3 t = (owns (c : Thread nD τ) (ms0_3 t) fullShare (sums0 V t.val) : sProp 𝕄) := by
  rw [show (dat0 V c).leavesExact 3 t = owns (c : Thread nD τ) (ms0_3 t) fullShare ((dat0 V c).after 3 t) from by unfold Dat.leavesExact; rw [live0 3 t], after0_3]

abbrev bodyAt0' (t : Fin cfg0.N) : Prog (TpuEff nD τ sig (Elt F) Λ₀ .tc) PUnit :=
  cc0__gate_softmax_block (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))

theorem sound0 (t : Fin cfg0.N) :
    bodyPre0 V c t ⊢ wp frame (wpE (defs₀ (F := F)) 𝒱₀ (c : Thread nD τ) none) Set.univ (bodyAt0' t) (fun _ => bodyPost0 V c t) := by
  unfold bodyPre0 bodyPost0
  simp only [before0_0, before0_1]
  rw [show (dat0 V c).Φ t.succ = (dat0 V c).Φ t.castSucc from rfl,
    show (dat0 V c).owesAt none t.succ = (dat0 V c).owesAt none t.castSucc from rfl,
    leaves0_0, leaves0_1, leaves0_2, leaves0_3]
  have hp : prob0 V t.val = smx (iblk0 V 1 t) (iblk0 V 0 t) := by unfold prob0; rw [pnt0_val]
  by_cases h1 : 1 ≤ t.val
  · obtain ⟨n, hn⟩ : ∃ n, t.val = n + 1 := ⟨t.val - 1, by omega⟩
    have hs : sums0 V t.val = addS (sums0 V (t.val - 1)) (smx (iblk0 V 1 t) (iblk0 V 0 t)) := by rw [← hp, hn]; rfl
    simp only [before0_3 V c t h1]
    rw [hs, hp]
    iintro ⟨HΦ, Ho, ⟨%d0, H0⟩, ⟨%d1, H1⟩, ⟨%d2, H2⟩, ⟨%d3, H3⟩⟩
    iapply (gate_next c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (defs₀ (F := F))
      (fun h => by have := (cond0_1 t).mp h; omega) ((cond0_2 t).mpr h1) (iblk0 V 0 t) (iblk0 V 1 t) _ _)
    isplitl [H0]; · iexact H0
    isplitl [H1]; · iexact H1
    isplitl [H2]; · iexact H2
    isplitl [H3]; · iexact H3
    iintro H0 H1 H2 H3
    isplitl [HΦ]; · iexact HΦ
    isplitl [Ho]; · iexact Ho
    isplitl [H0]; · iexact H0
    isplitl [H1]; · iexact H1
    isplitl [H2]; · iexact H2
    iexact H3
  · have h0 : t.val = 0 := by omega
    have hs : sums0 V t.val = colS (smx (iblk0 V 1 t) (iblk0 V 0 t)) := by rw [← hp, h0]; rfl
    rw [hs, hp]
    iintro ⟨HΦ, Ho, ⟨%d0, H0⟩, ⟨%d1, H1⟩, ⟨%d2, H2⟩, ⟨%d3, H3⟩⟩
    iapply (gate_first c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (defs₀ (F := F))
      ((cond0_1 t).mpr h0) (fun h => h1 ((cond0_2 t).mp h)) (iblk0 V 0 t) (iblk0 V 1 t) _ _)
    isplitl [H0]; · iexact H0
    isplitl [H1]; · iexact H1
    isplitl [H2]; · iexact H2
    isplitl [H3]; · iexact H3
    iintro H0 H1 H2 H3
    isplitl [HΦ]; · iexact HΦ
    isplitl [Ho]; · iexact Ho
    isplitl [H0]; · iexact H0
    isplitl [H1]; · iexact H1
    isplitl [H2]; · iexact H2
    iexact H3

theorem row0 (t : Fin cfg0.N) : defs₀ (F := F) .tc cfg0.body (cfg0.bodyArgs t (cfg0.slots t)) = bodyAt0' t := rfl

theorem oblig0 : BodyObligation (dat0 V c) (defs₀ (F := F)) 𝒱₀ none Set.univ := fun t => by
  rw [bigSep_W0, bigSep_W0, row0]
  exact triple_restated (sound0 V c t) rfl .rfl fun _ => .rfl

end Cert.Proof.Tile

end
-- ==== Proof.Gate1.lean ====
/-
  TensorCore call 1: what its buffers hold point by point, and its body's run at any point.
-/
module

public import proofs.«01_k».proof.Proof.Region

@[expose] public section

noncomputable section

namespace Cert.Proof.Tile

open Cert.KernelIdeal Cert.KernelIdeal.Gen
open Idealize.ShloMosaic Idealize.ShloMosaic.Transfers Idealize.ShloMosaic.TcCoe Idealize.ShloMosaic.Tactic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-- Window `w`'s block at point `t`, read off its array. -/
def iblk1 (V : Valuation τ sig (Elt F)) (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

def pnt1 (n : ℕ) : Fin cfg1.N := ⟨n % 8, by rw [show cfg1.N = 8 from N_1]; omega⟩
theorem pnt1_val (t : Fin cfg1.N) : pnt1 t.val = t := Fin.ext (Nat.mod_eq_of_lt (lt_of_lt_of_eq t.isLt (show cfg1.N = 8 from N_1)))

/-- The block of probabilities written at point `n`, and the running sums of their rows. -/
def prob1 (V : Valuation τ sig (Elt F)) (n : ℕ) : FVec F S64x1024 .f32 := smx (iblk1 V 1 (pnt1 n)) (iblk1 V 0 (pnt1 n))
def sums1 (V : Valuation τ sig (Elt F)) : ℕ → FVec F S64x1 .f32
  | 0 => colS (prob1 V 0)
  | n + 1 => addS (sums1 V n) (prob1 V (n + 1))

def dat1 (V : Valuation τ sig (Elt F)) (c : Dev nD) : Dat τ (Elt F) (HIx 4) ℕ UU ℕ cfg1 c where
  A w := V (Proc.devRef .tc (Pipeline.arrRef spec1 w))
  after w t := match w with
    | ⟨0, _⟩ => iblk1 V 0 t
    | ⟨1, _⟩ => iblk1 V 1 t
    | ⟨2, _⟩ => prob1 V t.val
    | ⟨3, _⟩ => sums1 V t.val
  Φ _ := Pipeline.scopedRest spec1 c
  q _ := fullShare
  owed _ := (K (F := F)).Otc c 0
  recorded _ := {q | (K (F := F)).lev (T c, q.1) q.2 ≤ 0}

variable (V : Valuation τ sig (Elt F)) (c : Dev nD)

theorem A1_eq (w : Fin cfg1.W) : (dat1 V c).A w = V (Proc.devRef .tc (Pipeline.arrRef spec1 w)) := by dsimp only [dat1]
theorem after1_0 (t : Fin cfg1.N) : (dat1 V c).after 0 t = iblk1 V 0 t := by dsimp only [dat1]
theorem after1_1 (t : Fin cfg1.N) : (dat1 V c).after 1 t = iblk1 V 1 t := by dsimp only [dat1]
theorem after1_2 (t : Fin cfg1.N) : (dat1 V c).after 2 t = prob1 V t.val := by dsimp only [dat1]
theorem after1_3 (t : Fin cfg1.N) : (dat1 V c).after 3 t = sums1 V t.val := by dsimp only [dat1]

theorem before1_0 (t : Fin cfg1.N) (d) : (dat1 V c).before 0 t d = iblk1 V 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (t : Fin cfg1.N) (d) : (dat1 V c).before 1 t d = iblk1 V 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)

theorem cond1_1 : ∀ t : Fin cfg1.N, k0_cond1 (grid1.coords t) = 1#1 ↔ t.val = 0 := by decide +kernel
theorem cond1_2 : ∀ t : Fin cfg1.N, k0_cond2 (grid1.coords t) = 1#1 ↔ 1 ≤ t.val := by decide +kernel
theorem live1 : ∀ (w : Fin cfg1.W) (t : Fin cfg1.N), cfg1.idle w (grid1.coords t) = false := by decide +kernel

/-- Whether the running sums' buffer holds nothing stored since the last write-back. -/
def fresh1 : ℕ → Bool
  | 0 => true
  | n + 1 => (0x80 : ℕ).testBit n
theorem fresh1_step : ∀ t : Fin cfg1.N,
    fresh1 (t.val + 1) = ((cfg1.win 3).flush t || (cfg1.idle 3 (cfg1.grid.coords t) && fresh1 t.val)) := by decide +kernel
theorem notFresh1 : ∀ t : Fin cfg1.N, 1 ≤ t.val → cfg1.fresh 3 t.val = false := by
  intro t; rw [Pipeline.Cfg.fresh_tab cfg1 3 fresh1 rfl fresh1_step t.val (Nat.le_of_lt t.isLt)]; revert t; decide +kernel

theorem carry1 : ∀ (t : Fin cfg1.N) (_ : t.val ≠ 0), cfg1.idle 3 (grid1.coords t) = true → cfg1.fresh 3 t.val = false →
    (dat1 V c).after 3 t = (dat1 V c).after 3 ⟨t.val - 1, by omega⟩ := by
  intro t _ hi _
  rw [live1 3 t] at hi
  exact absurd hi Bool.false_ne_true
theorem before1_3 (t : Fin cfg1.N) (h1 : 1 ≤ t.val) (d) : (dat1 V c).before 3 t d = sums1 V (t.val - 1) := by
  rw [Dat.before_out_traj _ 3 rfl (fun _ _ => rfl) (carry1 V c) t.val t rfl d, if_neg (by rw [notFresh1 t h1]; exact Bool.false_ne_true)]
  dsimp only [dat1]

abbrev ms1_0 (t : Fin cfg1.N) : Memref sig .tc .vmem S1024x768 .f32 := win1_0.stage (cfg1.slots t 0)
abbrev ms1_1 (t : Fin cfg1.N) : Memref sig .tc .vmem S64x768 .f32 := win1_1.stage (cfg1.slots t 1)
abbrev ms1_2 (t : Fin cfg1.N) : Memref sig .tc .vmem S64x1024 .f32 := win1_2.stage (cfg1.slots t 2)
abbrev ms1_3 (t : Fin cfg1.N) : Memref sig .tc .vmem S64x1 .f32 := win1_3.stage (cfg1.slots t 3)

def bodyPre1 (t : Fin cfg1.N) : sProp 𝕄 :=
  iprop((dat1 V c).Φ t.castSucc ∗ (dat1 V c).owesAt none t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
def bodyPost1 (t : Fin cfg1.N) : sProp 𝕄 :=
  iprop((dat1 V c).Φ t.succ ∗ (dat1 V c).owesAt none t.succ
    ∗ (dat1 V c).leavesExact 0 t ∗ (dat1 V c).leavesExact 1 t ∗ (dat1 V c).leavesExact 2 t ∗ (dat1 V c).leavesExact 3 t)

theorem leaves1_0 (t : Fin cfg1.N) : (dat1 V c).leavesExact 0 t = (owns (c : Thread nD τ) (ms1_0 t) fullShare (iblk1 V 0 t) : sProp 𝕄) := by
  rw [show (dat1 V c).leavesExact 0 t = owns (c : Thread nD τ) (ms1_0 t) fullShare ((dat1 V c).after 0 t) from by unfold Dat.leavesExact; rw [live1 0 t], after1_0]
theorem leaves1_1 (t : Fin cfg1.N) : (dat1 V c).leavesExact 1 t = (owns (c : Thread nD τ) (ms1_1 t) fullShare (iblk1 V 1 t) : sProp 𝕄) := by
  rw [show (dat1 V c).leavesExact 1 t = owns (c : Thread nD τ) (ms1_1 t) fullShare ((dat1 V c).after 1 t) from by unfold Dat.leavesExact; rw [live1 1 t], after1_1]
theorem leaves1_2 (t : Fin cfg1.N) : (dat1 V c).leavesExact 2 t = (owns (c : Thread nD τ) (ms1_2 t) fullShare (prob1 V t.val) : sProp 𝕄) := by
  rw [show (dat1 V c).leavesExact 2 t = owns (c : Thread nD τ) (ms1_2 t) fullShare ((dat1 V c).after 2 t) from by unfold Dat.leavesExact; rw [live1 2 t], after1_2]
theorem leaves1_3 (t : Fin cfg1.N) : (dat1 V c).leavesExact 3 t = (owns (c : Thread nD τ) (ms1_3 t) fullShare (sums1 V t.val) : sProp 𝕄) := by
  rw [show (dat1 V c).leavesExact 3 t = owns (c : Thread nD τ) (ms1_3 t) fullShare ((dat1 V c).after 3 t) from by unfold Dat.leavesExact; rw [live1 3 t], after1_3]

abbrev bodyAt1' (t : Fin cfg1.N) : Prog (TpuEff nD τ sig (Elt F) Λ₀ .tc) PUnit :=
  cc1__gate_softmax_block (grid1.coords t) (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))

theorem sound1 (t : Fin cfg1.N) :
    bodyPre1 V c t ⊢ wp frame (wpE (defs₀ (F := F)) 𝒱₀ (c : Thread nD τ) none) Set.univ (bodyAt1' t) (fun _ => bodyPost1 V c t) := by
  unfold bodyPre1 bodyPost1
  simp only [before1_0, before1_1]
  rw [show (dat1 V c).Φ t.succ = (dat1 V c).Φ t.castSucc from rfl,
    show (dat1 V c).owesAt none t.succ = (dat1 V c).owesAt none t.castSucc from rfl,
    leaves1_0, leaves1_1, leaves1_2, leaves1_3]
  have hp : prob1 V t.val = smx (iblk1 V 1 t) (iblk1 V 0 t) := by unfold prob1; rw [pnt1_val]
  by_cases h1 : 1 ≤ t.val
  · obtain ⟨n, hn⟩ : ∃ n, t.val = n + 1 := ⟨t.val - 1, by omega⟩
    have hs : sums1 V t.val = addS (sums1 V (t.val - 1)) (smx (iblk1 V 1 t) (iblk1 V 0 t)) := by rw [← hp, hn]; rfl
    simp only [before1_3 V c t h1]
    rw [hs, hp]
    iintro ⟨HΦ, Ho, ⟨%d0, H0⟩, ⟨%d1, H1⟩, ⟨%d2, H2⟩, ⟨%d3, H3⟩⟩
    iapply (gate_next c (grid1.coords t) (ms1_0 t) (hstage1_0 ((cfg1.slots t 0).cast nbuf1_0)) (ms1_1 t) (hstage1_1 ((cfg1.slots t 1).cast nbuf1_1)) (ms1_2 t) (hstage1_2 ((cfg1.slots t 2).cast nbuf1_2)) (ms1_3 t) (hstage1_3 ((cfg1.slots t 3).cast nbuf1_3)) (defs₀ (F := F))
      (fun h => by have := (cond1_1 t).mp h; omega) ((cond1_2 t).mpr h1) (iblk1 V 0 t) (iblk1 V 1 t) _ _)
    isplitl [H0]; · iexact H0
    isplitl [H1]; · iexact H1
    isplitl [H2]; · iexact H2
    isplitl [H3]; · iexact H3
    iintro H0 H1 H2 H3
    isplitl [HΦ]; · iexact HΦ
    isplitl [Ho]; · iexact Ho
    isplitl [H0]; · iexact H0
    isplitl [H1]; · iexact H1
    isplitl [H2]; · iexact H2
    iexact H3
  · have h0 : t.val = 0 := by omega
    have hs : sums1 V t.val = colS (smx (iblk1 V 1 t) (iblk1 V 0 t)) := by rw [← hp, h0]; rfl
    rw [hs, hp]
    iintro ⟨HΦ, Ho, ⟨%d0, H0⟩, ⟨%d1, H1⟩, ⟨%d2, H2⟩, ⟨%d3, H3⟩⟩
    iapply (gate_first c (grid1.coords t) (ms1_0 t) (hstage1_0 ((cfg1.slots t 0).cast nbuf1_0)) (ms1_1 t) (hstage1_1 ((cfg1.slots t 1).cast nbuf1_1)) (ms1_2 t) (hstage1_2 ((cfg1.slots t 2).cast nbuf1_2)) (ms1_3 t) (hstage1_3 ((cfg1.slots t 3).cast nbuf1_3)) (defs₀ (F := F))
      ((cond1_1 t).mpr h0) (fun h => h1 ((cond1_2 t).mp h)) (iblk1 V 0 t) (iblk1 V 1 t) _ _)
    isplitl [H0]; · iexact H0
    isplitl [H1]; · iexact H1
    isplitl [H2]; · iexact H2
    isplitl [H3]; · iexact H3
    iintro H0 H1 H2 H3
    isplitl [HΦ]; · iexact HΦ
    isplitl [Ho]; · iexact Ho
    isplitl [H0]; · iexact H0
    isplitl [H1]; · iexact H1
    isplitl [H2]; · iexact H2
    iexact H3

theorem row1 (t : Fin cfg1.N) : defs₀ (F := F) .tc cfg1.body (cfg1.bodyArgs t (cfg1.slots t)) = bodyAt1' t := rfl

theorem oblig1 : BodyObligation (dat1 V c) (defs₀ (F := F)) 𝒱₀ none Set.univ := fun t => by
  rw [bigSep_W1, bigSep_W1, row1]
  exact triple_restated (sound1 V c t) rfl .rfl fun _ => .rfl

end Cert.Proof.Tile

end
-- ==== Proof.Gate2.lean ====
/-
  TensorCore call 2: what its buffers hold point by point, and its body's run at any point.
-/
module

public import proofs.«01_k».proof.Proof.Region

@[expose] public section

noncomputable section

namespace Cert.Proof.Tile

open Cert.KernelIdeal Cert.KernelIdeal.Gen
open Idealize.ShloMosaic Idealize.ShloMosaic.Transfers Idealize.ShloMosaic.TcCoe Idealize.ShloMosaic.Tactic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-- Window `w`'s block at point `t`, read off its array. -/
def iblk2 (V : Valuation τ sig (Elt F)) (w : Fin cfg2.W) (t : Fin cfg2.N) : ((cfg2.win w).xblock (cfg2.grid.coords t)).Idx → Elt F (cfg2.win w).elt :=
  ((cfg2.win w).blk t).view.read (Elt F) (V (Proc.devRef .tc (Pipeline.arrRef spec2 w)))

def pnt2 (n : ℕ) : Fin cfg2.N := ⟨n % 8, by rw [show cfg2.N = 8 from N_2]; omega⟩
theorem pnt2_val (t : Fin cfg2.N) : pnt2 t.val = t := Fin.ext (Nat.mod_eq_of_lt (lt_of_lt_of_eq t.isLt (show cfg2.N = 8 from N_2)))

/-- The block of probabilities written at point `n`, and the running sums of their rows. -/
def prob2 (V : Valuation τ sig (Elt F)) (n : ℕ) : FVec F S64x1024 .f32 := smx (iblk2 V 1 (pnt2 n)) (iblk2 V 0 (pnt2 n))
def sums2 (V : Valuation τ sig (Elt F)) : ℕ → FVec F S64x1 .f32
  | 0 => colS (prob2 V 0)
  | n + 1 => addS (sums2 V n) (prob2 V (n + 1))

def dat2 (V : Valuation τ sig (Elt F)) (c : Dev nD) : Dat τ (Elt F) (HIx 4) ℕ UU ℕ cfg2 c where
  A w := V (Proc.devRef .tc (Pipeline.arrRef spec2 w))
  after w t := match w with
    | ⟨0, _⟩ => iblk2 V 0 t
    | ⟨1, _⟩ => iblk2 V 1 t
    | ⟨2, _⟩ => prob2 V t.val
    | ⟨3, _⟩ => sums2 V t.val
  Φ _ := Pipeline.scopedRest spec2 c
  q _ := fullShare
  owed _ := (K (F := F)).Otc c 0
  recorded _ := {q | (K (F := F)).lev (T c, q.1) q.2 ≤ 0}

variable (V : Valuation τ sig (Elt F)) (c : Dev nD)

theorem A2_eq (w : Fin cfg2.W) : (dat2 V c).A w = V (Proc.devRef .tc (Pipeline.arrRef spec2 w)) := by dsimp only [dat2]
theorem after2_0 (t : Fin cfg2.N) : (dat2 V c).after 0 t = iblk2 V 0 t := by dsimp only [dat2]
theorem after2_1 (t : Fin cfg2.N) : (dat2 V c).after 1 t = iblk2 V 1 t := by dsimp only [dat2]
theorem after2_2 (t : Fin cfg2.N) : (dat2 V c).after 2 t = prob2 V t.val := by dsimp only [dat2]
theorem after2_3 (t : Fin cfg2.N) : (dat2 V c).after 3 t = sums2 V t.val := by dsimp only [dat2]

theorem before2_0 (t : Fin cfg2.N) (d) : (dat2 V c).before 0 t d = iblk2 V 0 t :=
  ((dat2 V c).before_in_eq_fetched 0 rfl (fun _ => rfl) (fun _ _ _ => rfl) (fun t => by rw [after2_0]; unfold Dat.blockOf iblk2; rw [A2_eq]; try rfl) t d).trans
    (by unfold Dat.fetched Dat.blockOf iblk2; rw [A2_eq]; try rfl)
theorem before2_1 (t : Fin cfg2.N) (d) : (dat2 V c).before 1 t d = iblk2 V 1 t :=
  ((dat2 V c).before_in_eq_fetched 1 rfl (fun _ => rfl) (fun _ _ _ => rfl) (fun t => by rw [after2_1]; unfold Dat.blockOf iblk2; rw [A2_eq]; try rfl) t d).trans
    (by unfold Dat.fetched Dat.blockOf iblk2; rw [A2_eq]; try rfl)

theorem cond2_1 : ∀ t : Fin cfg2.N, k0_cond1 (grid2.coords t) = 1#1 ↔ t.val = 0 := by decide +kernel
theorem cond2_2 : ∀ t : Fin cfg2.N, k0_cond2 (grid2.coords t) = 1#1 ↔ 1 ≤ t.val := by decide +kernel
theorem live2 : ∀ (w : Fin cfg2.W) (t : Fin cfg2.N), cfg2.idle w (grid2.coords t) = false := by decide +kernel

/-- Whether the running sums' buffer holds nothing stored since the last write-back. -/
def fresh2 : ℕ → Bool
  | 0 => true
  | n + 1 => (0x80 : ℕ).testBit n
theorem fresh2_step : ∀ t : Fin cfg2.N,
    fresh2 (t.val + 1) = ((cfg2.win 3).flush t || (cfg2.idle 3 (cfg2.grid.coords t) && fresh2 t.val)) := by decide +kernel
theorem notFresh2 : ∀ t : Fin cfg2.N, 1 ≤ t.val → cfg2.fresh 3 t.val = false := by
  intro t; rw [Pipeline.Cfg.fresh_tab cfg2 3 fresh2 rfl fresh2_step t.val (Nat.le_of_lt t.isLt)]; revert t; decide +kernel

theorem carry2 : ∀ (t : Fin cfg2.N) (_ : t.val ≠ 0), cfg2.idle 3 (grid2.coords t) = true → cfg2.fresh 3 t.val = false →
    (dat2 V c).after 3 t = (dat2 V c).after 3 ⟨t.val - 1, by omega⟩ := by
  intro t _ hi _
  rw [live2 3 t] at hi
  exact absurd hi Bool.false_ne_true
theorem before2_3 (t : Fin cfg2.N) (h1 : 1 ≤ t.val) (d) : (dat2 V c).before 3 t d = sums2 V (t.val - 1) := by
  rw [Dat.before_out_traj _ 3 rfl (fun _ _ => rfl) (carry2 V c) t.val t rfl d, if_neg (by rw [notFresh2 t h1]; exact Bool.false_ne_true)]
  dsimp only [dat2]

abbrev ms2_0 (t : Fin cfg2.N) : Memref sig .tc .vmem S1024x768 .f32 := win2_0.stage (cfg2.slots t 0)
abbrev ms2_1 (t : Fin cfg2.N) : Memref sig .tc .vmem S64x768 .f32 := win2_1.stage (cfg2.slots t 1)
abbrev ms2_2 (t : Fin cfg2.N) : Memref sig .tc .vmem S64x1024 .f32 := win2_2.stage (cfg2.slots t 2)
abbrev ms2_3 (t : Fin cfg2.N) : Memref sig .tc .vmem S64x1 .f32 := win2_3.stage (cfg2.slots t 3)

def bodyPre2 (t : Fin cfg2.N) : sProp 𝕄 :=
  iprop((dat2 V c).Φ t.castSucc ∗ (dat2 V c).owesAt none t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))
def bodyPost2 (t : Fin cfg2.N) : sProp 𝕄 :=
  iprop((dat2 V c).Φ t.succ ∗ (dat2 V c).owesAt none t.succ
    ∗ (dat2 V c).leavesExact 0 t ∗ (dat2 V c).leavesExact 1 t ∗ (dat2 V c).leavesExact 2 t ∗ (dat2 V c).leavesExact 3 t)

theorem leaves2_0 (t : Fin cfg2.N) : (dat2 V c).leavesExact 0 t = (owns (c : Thread nD τ) (ms2_0 t) fullShare (iblk2 V 0 t) : sProp 𝕄) := by
  rw [show (dat2 V c).leavesExact 0 t = owns (c : Thread nD τ) (ms2_0 t) fullShare ((dat2 V c).after 0 t) from by unfold Dat.leavesExact; rw [live2 0 t], after2_0]
theorem leaves2_1 (t : Fin cfg2.N) : (dat2 V c).leavesExact 1 t = (owns (c : Thread nD τ) (ms2_1 t) fullShare (iblk2 V 1 t) : sProp 𝕄) := by
  rw [show (dat2 V c).leavesExact 1 t = owns (c : Thread nD τ) (ms2_1 t) fullShare ((dat2 V c).after 1 t) from by unfold Dat.leavesExact; rw [live2 1 t], after2_1]
theorem leaves2_2 (t : Fin cfg2.N) : (dat2 V c).leavesExact 2 t = (owns (c : Thread nD τ) (ms2_2 t) fullShare (prob2 V t.val) : sProp 𝕄) := by
  rw [show (dat2 V c).leavesExact 2 t = owns (c : Thread nD τ) (ms2_2 t) fullShare ((dat2 V c).after 2 t) from by unfold Dat.leavesExact; rw [live2 2 t], after2_2]
theorem leaves2_3 (t : Fin cfg2.N) : (dat2 V c).leavesExact 3 t = (owns (c : Thread nD τ) (ms2_3 t) fullShare (sums2 V t.val) : sProp 𝕄) := by
  rw [show (dat2 V c).leavesExact 3 t = owns (c : Thread nD τ) (ms2_3 t) fullShare ((dat2 V c).after 3 t) from by unfold Dat.leavesExact; rw [live2 3 t], after2_3]

abbrev bodyAt2' (t : Fin cfg2.N) : Prog (TpuEff nD τ sig (Elt F) Λ₀ .tc) PUnit :=
  cc2__gate_softmax_block (grid2.coords t) (win2_0.stage (cfg2.slots t 0)) (hstage2_0 ((cfg2.slots t 0).cast nbuf2_0)) (win2_1.stage (cfg2.slots t 1)) (hstage2_1 ((cfg2.slots t 1).cast nbuf2_1))
    (win2_2.stage (cfg2.slots t 2)) (hstage2_2 ((cfg2.slots t 2).cast nbuf2_2)) (win2_3.stage (cfg2.slots t 3)) (hstage2_3 ((cfg2.slots t 3).cast nbuf2_3))

theorem sound2 (t : Fin cfg2.N) :
    bodyPre2 V c t ⊢ wp frame (wpE (defs₀ (F := F)) 𝒱₀ (c : Thread nD τ) none) Set.univ (bodyAt2' t) (fun _ => bodyPost2 V c t) := by
  unfold bodyPre2 bodyPost2
  simp only [before2_0, before2_1]
  rw [show (dat2 V c).Φ t.succ = (dat2 V c).Φ t.castSucc from rfl,
    show (dat2 V c).owesAt none t.succ = (dat2 V c).owesAt none t.castSucc from rfl,
    leaves2_0, leaves2_1, leaves2_2, leaves2_3]
  have hp : prob2 V t.val = smx (iblk2 V 1 t) (iblk2 V 0 t) := by unfold prob2; rw [pnt2_val]
  by_cases h1 : 1 ≤ t.val
  · obtain ⟨n, hn⟩ : ∃ n, t.val = n + 1 := ⟨t.val - 1, by omega⟩
    have hs : sums2 V t.val = addS (sums2 V (t.val - 1)) (smx (iblk2 V 1 t) (iblk2 V 0 t)) := by rw [← hp, hn]; rfl
    simp only [before2_3 V c t h1]
    rw [hs, hp]
    iintro ⟨HΦ, Ho, ⟨%d0, H0⟩, ⟨%d1, H1⟩, ⟨%d2, H2⟩, ⟨%d3, H3⟩⟩
    iapply (gate_next c (grid2.coords t) (ms2_0 t) (hstage2_0 ((cfg2.slots t 0).cast nbuf2_0)) (ms2_1 t) (hstage2_1 ((cfg2.slots t 1).cast nbuf2_1)) (ms2_2 t) (hstage2_2 ((cfg2.slots t 2).cast nbuf2_2)) (ms2_3 t) (hstage2_3 ((cfg2.slots t 3).cast nbuf2_3)) (defs₀ (F := F))
      (fun h => by have := (cond2_1 t).mp h; omega) ((cond2_2 t).mpr h1) (iblk2 V 0 t) (iblk2 V 1 t) _ _)
    isplitl [H0]; · iexact H0
    isplitl [H1]; · iexact H1
    isplitl [H2]; · iexact H2
    isplitl [H3]; · iexact H3
    iintro H0 H1 H2 H3
    isplitl [HΦ]; · iexact HΦ
    isplitl [Ho]; · iexact Ho
    isplitl [H0]; · iexact H0
    isplitl [H1]; · iexact H1
    isplitl [H2]; · iexact H2
    iexact H3
  · have h0 : t.val = 0 := by omega
    have hs : sums2 V t.val = colS (smx (iblk2 V 1 t) (iblk2 V 0 t)) := by rw [← hp, h0]; rfl
    rw [hs, hp]
    iintro ⟨HΦ, Ho, ⟨%d0, H0⟩, ⟨%d1, H1⟩, ⟨%d2, H2⟩, ⟨%d3, H3⟩⟩
    iapply (gate_first c (grid2.coords t) (ms2_0 t) (hstage2_0 ((cfg2.slots t 0).cast nbuf2_0)) (ms2_1 t) (hstage2_1 ((cfg2.slots t 1).cast nbuf2_1)) (ms2_2 t) (hstage2_2 ((cfg2.slots t 2).cast nbuf2_2)) (ms2_3 t) (hstage2_3 ((cfg2.slots t 3).cast nbuf2_3)) (defs₀ (F := F))
      ((cond2_1 t).mpr h0) (fun h => h1 ((cond2_2 t).mp h)) (iblk2 V 0 t) (iblk2 V 1 t) _ _)
    isplitl [H0]; · iexact H0
    isplitl [H1]; · iexact H1
    isplitl [H2]; · iexact H2
    isplitl [H3]; · iexact H3
    iintro H0 H1 H2 H3
    isplitl [HΦ]; · iexact HΦ
    isplitl [Ho]; · iexact Ho
    isplitl [H0]; · iexact H0
    isplitl [H1]; · iexact H1
    isplitl [H2]; · iexact H2
    iexact H3

theorem row2 (t : Fin cfg2.N) : defs₀ (F := F) .tc cfg2.body (cfg2.bodyArgs t (cfg2.slots t)) = bodyAt2' t := rfl

theorem oblig2 : BodyObligation (dat2 V c) (defs₀ (F := F)) 𝒱₀ none Set.univ := fun t => by
  rw [bigSep_W2, bigSep_W2, row2]
  exact triple_restated (sound2 V c t) rfl .rfl fun _ => .rfl

end Cert.Proof.Tile

end
-- ==== Proof.Gate3.lean ====
/-
  TensorCore call 3: what its buffers hold point by point, and its body's run at any point.
-/
module

public import proofs.«01_k».proof.Proof.Region

@[expose] public section

noncomputable section

namespace Cert.Proof.Tile

open Cert.KernelIdeal Cert.KernelIdeal.Gen
open Idealize.ShloMosaic Idealize.ShloMosaic.Transfers Idealize.ShloMosaic.TcCoe Idealize.ShloMosaic.Tactic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

/-- Window `w`'s block at point `t`, read off its array. -/
def iblk3 (V : Valuation τ sig (Elt F)) (w : Fin cfg3.W) (t : Fin cfg3.N) : ((cfg3.win w).xblock (cfg3.grid.coords t)).Idx → Elt F (cfg3.win w).elt :=
  ((cfg3.win w).blk t).view.read (Elt F) (V (Proc.devRef .tc (Pipeline.arrRef spec3 w)))

def pnt3 (n : ℕ) : Fin cfg3.N := ⟨n % 8, by rw [show cfg3.N = 8 from N_3]; omega⟩
theorem pnt3_val (t : Fin cfg3.N) : pnt3 t.val = t := Fin.ext (Nat.mod_eq_of_lt (lt_of_lt_of_eq t.isLt (show cfg3.N = 8 from N_3)))

/-- The block of probabilities written at point `n`, and the running sums of their rows. -/
def prob3 (V : Valuation τ sig (Elt F)) (n : ℕ) : FVec F S64x1024 .f32 := smx (iblk3 V 1 (pnt3 n)) (iblk3 V 0 (pnt3 n))
def sums3 (V : Valuation τ sig (Elt F)) : ℕ → FVec F S64x1 .f32
  | 0 => colS (prob3 V 0)
  | n + 1 => addS (sums3 V n) (prob3 V (n + 1))

def dat3 (V : Valuation τ sig (Elt F)) (c : Dev nD) : Dat τ (Elt F) (HIx 4) ℕ UU ℕ cfg3 c where
  A w := V (Proc.devRef .tc (Pipeline.arrRef spec3 w))
  after w t := match w with
    | ⟨0, _⟩ => iblk3 V 0 t
    | ⟨1, _⟩ => iblk3 V 1 t
    | ⟨2, _⟩ => prob3 V t.val
    | ⟨3, _⟩ => sums3 V t.val
  Φ _ := Pipeline.scopedRest spec3 c
  q _ := fullShare
  owed _ := (K (F := F)).Otc c 0
  recorded _ := {q | (K (F := F)).lev (T c, q.1) q.2 ≤ 0}

variable (V : Valuation τ sig (Elt F)) (c : Dev nD)

theorem A3_eq (w : Fin cfg3.W) : (dat3 V c).A w = V (Proc.devRef .tc (Pipeline.arrRef spec3 w)) := by dsimp only [dat3]
theorem after3_0 (t : Fin cfg3.N) : (dat3 V c).after 0 t = iblk3 V 0 t := by dsimp only [dat3]
theorem after3_1 (t : Fin cfg3.N) : (dat3 V c).after 1 t = iblk3 V 1 t := by dsimp only [dat3]
theorem after3_2 (t : Fin cfg3.N) : (dat3 V c).after 2 t = prob3 V t.val := by dsimp only [dat3]
theorem after3_3 (t : Fin cfg3.N) : (dat3 V c).after 3 t = sums3 V t.val := by dsimp only [dat3]

theorem before3_0 (t : Fin cfg3.N) (d) : (dat3 V c).before 0 t d = iblk3 V 0 t :=
  ((dat3 V c).before_in_eq_fetched 0 rfl (fun _ => rfl) (fun _ _ _ => rfl) (fun t => by rw [after3_0]; unfold Dat.blockOf iblk3; rw [A3_eq]; try rfl) t d).trans
    (by unfold Dat.fetched Dat.blockOf iblk3; rw [A3_eq]; try rfl)
theorem before3_1 (t : Fin cfg3.N) (d) : (dat3 V c).before 1 t d = iblk3 V 1 t :=
  ((dat3 V c).before_in_eq_fetched 1 rfl (fun _ => rfl) (fun _ _ _ => rfl) (fun t => by rw [after3_1]; unfold Dat.blockOf iblk3; rw [A3_eq]; try rfl) t d).trans
    (by unfold Dat.fetched Dat.blockOf iblk3; rw [A3_eq]; try rfl)

theorem cond3_1 : ∀ t : Fin cfg3.N, k0_cond1 (grid3.coords t) = 1#1 ↔ t.val = 0 := by decide +kernel
theorem cond3_2 : ∀ t : Fin cfg3.N, k0_cond2 (grid3.coords t) = 1#1 ↔ 1 ≤ t.val := by decide +kernel
theorem live3 : ∀ (w : Fin cfg3.W) (t : Fin cfg3.N), cfg3.idle w (grid3.coords t) = false := by decide +kernel

/-- Whether the running sums' buffer holds nothing stored since the last write-back. -/
def fresh3 : ℕ → Bool
  | 0 => true
  | n + 1 => (0x80 : ℕ).testBit n
theorem fresh3_step : ∀ t : Fin cfg3.N,
    fresh3 (t.val + 1) = ((cfg3.win 3).flush t || (cfg3.idle 3 (cfg3.grid.coords t) && fresh3 t.val)) := by decide +kernel
theorem notFresh3 : ∀ t : Fin cfg3.N, 1 ≤ t.val → cfg3.fresh 3 t.val = false := by
  intro t; rw [Pipeline.Cfg.fresh_tab cfg3 3 fresh3 rfl fresh3_step t.val (Nat.le_of_lt t.isLt)]; revert t; decide +kernel

theorem carry3 : ∀ (t : Fin cfg3.N) (_ : t.val ≠ 0), cfg3.idle 3 (grid3.coords t) = true → cfg3.fresh 3 t.val = false →
    (dat3 V c).after 3 t = (dat3 V c).after 3 ⟨t.val - 1, by omega⟩ := by
  intro t _ hi _
  rw [live3 3 t] at hi
  exact absurd hi Bool.false_ne_true
theorem before3_3 (t : Fin cfg3.N) (h1 : 1 ≤ t.val) (d) : (dat3 V c).before 3 t d = sums3 V (t.val - 1) := by
  rw [Dat.before_out_traj _ 3 rfl (fun _ _ => rfl) (carry3 V c) t.val t rfl d, if_neg (by rw [notFresh3 t h1]; exact Bool.false_ne_true)]
  dsimp only [dat3]

abbrev ms3_0 (t : Fin cfg3.N) : Memref sig .tc .vmem S1024x768 .f32 := win3_0.stage (cfg3.slots t 0)
abbrev ms3_1 (t : Fin cfg3.N) : Memref sig .tc .vmem S64x768 .f32 := win3_1.stage (cfg3.slots t 1)
abbrev ms3_2 (t : Fin cfg3.N) : Memref sig .tc .vmem S64x1024 .f32 := win3_2.stage (cfg3.slots t 2)
abbrev ms3_3 (t : Fin cfg3.N) : Memref sig .tc .vmem S64x1 .f32 := win3_3.stage (cfg3.slots t 3)

def bodyPre3 (t : Fin cfg3.N) : sProp 𝕄 :=
  iprop((dat3 V c).Φ t.castSucc ∗ (dat3 V c).owesAt none t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))
def bodyPost3 (t : Fin cfg3.N) : sProp 𝕄 :=
  iprop((dat3 V c).Φ t.succ ∗ (dat3 V c).owesAt none t.succ
    ∗ (dat3 V c).leavesExact 0 t ∗ (dat3 V c).leavesExact 1 t ∗ (dat3 V c).leavesExact 2 t ∗ (dat3 V c).leavesExact 3 t)

theorem leaves3_0 (t : Fin cfg3.N) : (dat3 V c).leavesExact 0 t = (owns (c : Thread nD τ) (ms3_0 t) fullShare (iblk3 V 0 t) : sProp 𝕄) := by
  rw [show (dat3 V c).leavesExact 0 t = owns (c : Thread nD τ) (ms3_0 t) fullShare ((dat3 V c).after 0 t) from by unfold Dat.leavesExact; rw [live3 0 t], after3_0]
theorem leaves3_1 (t : Fin cfg3.N) : (dat3 V c).leavesExact 1 t = (owns (c : Thread nD τ) (ms3_1 t) fullShare (iblk3 V 1 t) : sProp 𝕄) := by
  rw [show (dat3 V c).leavesExact 1 t = owns (c : Thread nD τ) (ms3_1 t) fullShare ((dat3 V c).after 1 t) from by unfold Dat.leavesExact; rw [live3 1 t], after3_1]
theorem leaves3_2 (t : Fin cfg3.N) : (dat3 V c).leavesExact 2 t = (owns (c : Thread nD τ) (ms3_2 t) fullShare (prob3 V t.val) : sProp 𝕄) := by
  rw [show (dat3 V c).leavesExact 2 t = owns (c : Thread nD τ) (ms3_2 t) fullShare ((dat3 V c).after 2 t) from by unfold Dat.leavesExact; rw [live3 2 t], after3_2]
theorem leaves3_3 (t : Fin cfg3.N) : (dat3 V c).leavesExact 3 t = (owns (c : Thread nD τ) (ms3_3 t) fullShare (sums3 V t.val) : sProp 𝕄) := by
  rw [show (dat3 V c).leavesExact 3 t = owns (c : Thread nD τ) (ms3_3 t) fullShare ((dat3 V c).after 3 t) from by unfold Dat.leavesExact; rw [live3 3 t], after3_3]

abbrev bodyAt3' (t : Fin cfg3.N) : Prog (TpuEff nD τ sig (Elt F) Λ₀ .tc) PUnit :=
  cc3__gate_softmax_block (grid3.coords t) (win3_0.stage (cfg3.slots t 0)) (hstage3_0 ((cfg3.slots t 0).cast nbuf3_0)) (win3_1.stage (cfg3.slots t 1)) (hstage3_1 ((cfg3.slots t 1).cast nbuf3_1))
    (win3_2.stage (cfg3.slots t 2)) (hstage3_2 ((cfg3.slots t 2).cast nbuf3_2)) (win3_3.stage (cfg3.slots t 3)) (hstage3_3 ((cfg3.slots t 3).cast nbuf3_3))

theorem sound3 (t : Fin cfg3.N) :
    bodyPre3 V c t ⊢ wp frame (wpE (defs₀ (F := F)) 𝒱₀ (c : Thread nD τ) none) Set.univ (bodyAt3' t) (fun _ => bodyPost3 V c t) := by
  unfold bodyPre3 bodyPost3
  simp only [before3_0, before3_1]
  rw [show (dat3 V c).Φ t.succ = (dat3 V c).Φ t.castSucc from rfl,
    show (dat3 V c).owesAt none t.succ = (dat3 V c).owesAt none t.castSucc from rfl,
    leaves3_0, leaves3_1, leaves3_2, leaves3_3]
  have hp : prob3 V t.val = smx (iblk3 V 1 t) (iblk3 V 0 t) := by unfold prob3; rw [pnt3_val]
  by_cases h1 : 1 ≤ t.val
  · obtain ⟨n, hn⟩ : ∃ n, t.val = n + 1 := ⟨t.val - 1, by omega⟩
    have hs : sums3 V t.val = addS (sums3 V (t.val - 1)) (smx (iblk3 V 1 t) (iblk3 V 0 t)) := by rw [← hp, hn]; rfl
    simp only [before3_3 V c t h1]
    rw [hs, hp]
    iintro ⟨HΦ, Ho, ⟨%d0, H0⟩, ⟨%d1, H1⟩, ⟨%d2, H2⟩, ⟨%d3, H3⟩⟩
    iapply (gate_next c (grid3.coords t) (ms3_0 t) (hstage3_0 ((cfg3.slots t 0).cast nbuf3_0)) (ms3_1 t) (hstage3_1 ((cfg3.slots t 1).cast nbuf3_1)) (ms3_2 t) (hstage3_2 ((cfg3.slots t 2).cast nbuf3_2)) (ms3_3 t) (hstage3_3 ((cfg3.slots t 3).cast nbuf3_3)) (defs₀ (F := F))
      (fun h => by have := (cond3_1 t).mp h; omega) ((cond3_2 t).mpr h1) (iblk3 V 0 t) (iblk3 V 1 t) _ _)
    isplitl [H0]; · iexact H0
    isplitl [H1]; · iexact H1
    isplitl [H2]; · iexact H2
    isplitl [H3]; · iexact H3
    iintro H0 H1 H2 H3
    isplitl [HΦ]; · iexact HΦ
    isplitl [Ho]; · iexact Ho
    isplitl [H0]; · iexact H0
    isplitl [H1]; · iexact H1
    isplitl [H2]; · iexact H2
    iexact H3
  · have h0 : t.val = 0 := by omega
    have hs : sums3 V t.val = colS (smx (iblk3 V 1 t) (iblk3 V 0 t)) := by rw [← hp, h0]; rfl
    rw [hs, hp]
    iintro ⟨HΦ, Ho, ⟨%d0, H0⟩, ⟨%d1, H1⟩, ⟨%d2, H2⟩, ⟨%d3, H3⟩⟩
    iapply (gate_first c (grid3.coords t) (ms3_0 t) (hstage3_0 ((cfg3.slots t 0).cast nbuf3_0)) (ms3_1 t) (hstage3_1 ((cfg3.slots t 1).cast nbuf3_1)) (ms3_2 t) (hstage3_2 ((cfg3.slots t 2).cast nbuf3_2)) (ms3_3 t) (hstage3_3 ((cfg3.slots t 3).cast nbuf3_3)) (defs₀ (F := F))
      ((cond3_1 t).mpr h0) (fun h => h1 ((cond3_2 t).mp h)) (iblk3 V 0 t) (iblk3 V 1 t) _ _)
    isplitl [H0]; · iexact H0
    isplitl [H1]; · iexact H1
    isplitl [H2]; · iexact H2
    isplitl [H3]; · iexact H3
    iintro H0 H1 H2 H3
    isplitl [HΦ]; · iexact HΦ
    isplitl [Ho]; · iexact Ho
    isplitl [H0]; · iexact H0
    isplitl [H1]; · iexact H1
    isplitl [H2]; · iexact H2
    iexact H3

theorem row3 (t : Fin cfg3.N) : defs₀ (F := F) .tc cfg3.body (cfg3.bodyArgs t (cfg3.slots t)) = bodyAt3' t := rfl

theorem oblig3 : BodyObligation (dat3 V c) (defs₀ (F := F)) 𝒱₀ none Set.univ := fun t => by
  rw [bigSep_W3, bigSep_W3, row3]
  exact triple_restated (sound3 V c t) rfl .rfl fun _ => .rfl

end Cert.Proof.Tile

end
-- ==== Proof.Vals.lean ====
/-
  What every buffer of the main thread holds from step to step, over any float values.
-/
module

public import proofs.«01_k».proof.Proof.Parts
public import proofs.«01_k».proof.Proof.Gate0
public import proofs.«01_k».proof.Proof.Gate1
public import proofs.«01_k».proof.Proof.Gate2
public import proofs.«01_k».proof.Proof.Gate3

@[expose] public section

noncomputable section

namespace Cert.Proof.Tile

open Cert.KernelIdeal Cert.KernelIdeal.Gen
open Idealize.ShloMosaic Idealize.ShloMosaic.Transfers Idealize.ShloMosaic.TcCoe Idealize.ShloMosaic.Tactic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

abbrev opIn : HloOp τ sig (Elt F) := StableHlo.reshape main_arg0 main_v0 (rfl : (.f32 : EltTy) = .f32) shapeCasts_S4x8192x768_S32768x768

/-- The host's steps after the last call. -/
abbrev tailOps : List (HloOp τ sig (Elt F)) := [
  StableHlo.nary ![main_v5_0, main_v6_0, main_v7_0, main_v8_0] main_v9 (fun u => (concatenate S256x8192 0 [⟨S64x8192, (u 0 : (⟨S64x8192, .f32⟩ : BufTy).Contents (Elt F))⟩, ⟨S64x8192, (u 1 : (⟨S64x8192, .f32⟩ : BufTy).Contents (Elt F))⟩, ⟨S64x8192, (u 2 : (⟨S64x8192, .f32⟩ : BufTy).Contents (Elt F))⟩, ⟨S64x8192, (u 3 : (⟨S64x8192, .f32⟩ : BufTy).Contents (Elt F))⟩] concatenates_S64x8192_S64x8192_S64x8192_S64x8192_S256x8192_d0 : (⟨S256x8192, .f32⟩ : BufTy).Contents (Elt F))),
  StableHlo.nary ![main_v5_1, main_v6_1, main_v7_1, main_v8_1] main_v10 (fun u => (concatenate S32x8192 0 [⟨S8x8192, (u 0 : (⟨S8x8192, .i32⟩ : BufTy).Contents (Elt F))⟩, ⟨S8x8192, (u 1 : (⟨S8x8192, .i32⟩ : BufTy).Contents (Elt F))⟩, ⟨S8x8192, (u 2 : (⟨S8x8192, .i32⟩ : BufTy).Contents (Elt F))⟩, ⟨S8x8192, (u 3 : (⟨S8x8192, .i32⟩ : BufTy).Contents (Elt F))⟩] concatenates_S8x8192_S8x8192_S8x8192_S8x8192_S32x8192_d0 : (⟨S32x8192, .i32⟩ : BufTy).Contents (Elt F))),
  StableHlo.binary main_v1_1 main_v2_1 main_v11 (addf : (⟨S64x1, .f32⟩ : BufTy).Contents (Elt F) → (⟨S64x1, .f32⟩ : BufTy).Contents (Elt F) → (⟨S64x1, .f32⟩ : BufTy).Contents (Elt F)),
  StableHlo.binary main_v11 main_v3_1 main_v12 (addf : (⟨S64x1, .f32⟩ : BufTy).Contents (Elt F) → (⟨S64x1, .f32⟩ : BufTy).Contents (Elt F) → (⟨S64x1, .f32⟩ : BufTy).Contents (Elt F)),
  StableHlo.binary main_v12 main_v4_1 main_v13 (addf : (⟨S64x1, .f32⟩ : BufTy).Contents (Elt F) → (⟨S64x1, .f32⟩ : BufTy).Contents (Elt F) → (⟨S64x1, .f32⟩ : BufTy).Contents (Elt F)),
  StableHlo.reshape main_v13 main_v14 (rfl : (.f32 : EltTy) = .f32) shapeCasts_S64x1_S64,
  StableHlo.nullary main_cst (constant S_ .f32 0x47000000#32),
  StableHlo.unary main_cst main_v15 (broadcastInDim S64 ![] bcast_S_S64 : (⟨S_, .f32⟩ : BufTy).Contents (Elt F) → (⟨S64, .f32⟩ : BufTy).Contents (Elt F)),
  StableHlo.binary main_v14 main_v15 main_v16 (Host.divf : (⟨S64, .f32⟩ : BufTy).Contents (Elt F) → (⟨S64, .f32⟩ : BufTy).Contents (Elt F) → (⟨S64, .f32⟩ : BufTy).Contents (Elt F)),
  StableHlo.nullary main_cst_0 (constant S_ .f32 0x3C800000#32),
  StableHlo.unary main_cst_0 main_v17 (broadcastInDim S64 ![] bcast_S_S64 : (⟨S_, .f32⟩ : BufTy).Contents (Elt F) → (⟨S64, .f32⟩ : BufTy).Contents (Elt F)),
  StableHlo.binary main_v16 main_v17 main_v18 (subf : (⟨S64, .f32⟩ : BufTy).Contents (Elt F) → (⟨S64, .f32⟩ : BufTy).Contents (Elt F) → (⟨S64, .f32⟩ : BufTy).Contents (Elt F)),
  StableHlo.binary main_v18 main_v18 main_v19 (mulf : (⟨S64, .f32⟩ : BufTy).Contents (Elt F) → (⟨S64, .f32⟩ : BufTy).Contents (Elt F) → (⟨S64, .f32⟩ : BufTy).Contents (Elt F)),
  StableHlo.nullary main_cst_1 (constant S_ .f32 0x00000000#32),
  StableHlo.binary main_v19 main_cst_1 main_v20 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
  StableHlo.nullary main_cst_2 (constant S_ .f32 0x42800000#32),
  StableHlo.binary main_v20 main_cst_2 main_v21 (Host.divf : (⟨S_, .f32⟩ : BufTy).Contents (Elt F) → (⟨S_, .f32⟩ : BufTy).Contents (Elt F) → (⟨S_, .f32⟩ : BufTy).Contents (Elt F)),
  StableHlo.nullary main_cst_3 (constant S_ .f32 0x3C23D70A#32),
  StableHlo.binary main_v21 main_cst_3 main_v22 (mulf : (⟨S_, .f32⟩ : BufTy).Contents (Elt F) → (⟨S_, .f32⟩ : BufTy).Contents (Elt F) → (⟨S_, .f32⟩ : BufTy).Contents (Elt F)),
  StableHlo.reshape main_v9 main_v23 (rfl : (.f32 : EltTy) = .f32) shapeCasts_S256x8192_S4x64x8192,
  StableHlo.unary main_v23 main_v24 ((transpose S4x8192x64 [0, 2, 1] · transposes_S4x64x8192_S4x8192x64_0_2_1) : (⟨S4x64x8192, .f32⟩ : BufTy).Contents (Elt F) → (⟨S4x8192x64, .f32⟩ : BufTy).Contents (Elt F)),
  StableHlo.reshape main_v10 main_v25 (rfl : (.i32 : EltTy) = .i32) shapeCasts_S32x8192_S4x8x8192,
  StableHlo.unary main_v25 main_v26 ((transpose S4x8192x8 [0, 2, 1] · transposes_S4x8x8192_S4x8192x8_0_2_1) : (⟨S4x8x8192, .i32⟩ : BufTy).Contents (Elt F) → (⟨S4x8192x8, .i32⟩ : BufTy).Contents (Elt F))]

/-- Two buffers given new contents. -/
def upd (V : Valuation τ sig (Elt F)) (a b : DevRef τ sig) (X : a.ty.Contents (Elt F)) (Y : b.ty.Contents (Elt F)) : Valuation τ sig (Elt F) :=
  Function.update (Function.update V a X) b Y
theorem upd_fst (V : Valuation τ sig (Elt F)) (a b : DevRef τ sig) (X Y) (h : a ≠ b) : upd V a b X Y a = X := by
  unfold upd; rw [Function.update_of_ne h, Function.update_self]
theorem upd_snd (V : Valuation τ sig (Elt F)) (a b : DevRef τ sig) (X Y) : upd V a b X Y b = Y := by
  unfold upd; rw [Function.update_self]
theorem upd_off (V : Valuation τ sig (Elt F)) (a b : DevRef τ sig) (X Y) (r : DevRef τ sig) (h : r ≠ a) (h' : r ≠ b) : upd V a b X Y r = V r := by
  unfold upd; rw [Function.update_of_ne h', Function.update_of_ne h]

variable (m : (ℓ : Loc nD τ sig) → Buf (Elt F) ℓ)

def V0 (d : Dev nD) : Valuation τ sig (Elt F) := fun b => m (d, b)
def V1 (d : Dev nD) : Valuation τ sig (Elt F) := (opIn (F := F)).result (V0 m d)
def V2 (d : Dev nD) : Valuation τ sig (Elt F) := Pipeline.afterRegion (dat0 (V1 m d) d) (V1 m d)
def V3 (d : Dev nD) : Valuation τ sig (Elt F) := Pipeline.afterRegion (dat1 (V2 m d) d) (V2 m d)
def V4 (d : Dev nD) : Valuation τ sig (Elt F) := Pipeline.afterRegion (dat2 (V3 m d) d) (V3 m d)
def V5 (d : Dev nD) : Valuation τ sig (Elt F) := Pipeline.afterRegion (dat3 (V4 m d) d) (V4 m d)

/-- Every call's data, at the contents it is entered from. -/
def pdats (p : Fin 4) (c : Dev nD) : Dat τ (Elt F) (HIx 4) ℕ UU ℕ (Pipeline.pin (pcfgs (F := F)) aP p) c := match p with
  | 0 => dat0 (V1 m c) c
  | 1 => dat1 (V2 m c) c
  | 2 => dat2 (V3 m c) c
  | 3 => dat3 (V4 m c) c

/-- The probabilities each SparseCore call reads. -/
def pt (q : Fin 4) (d : Dev nD) : FVec F S64x8192 .f32 := match q with
  | 0 => V5 m d (Proc.devRef .tc main_v1_0)
  | 1 => V5 m d (Proc.devRef .tc main_v2_0)
  | 2 => V5 m d (Proc.devRef .tc main_v3_0)
  | 3 => V5 m d (Proc.devRef .tc main_v4_0)

def V6 (d : Dev nD) : Valuation τ sig (Elt F) := upd (V5 m d) (Proc.devRef .tc main_v5_0) (Proc.devRef .tc main_v5_1) (gatedArr (pt m 0 d)) (idsArr (pt m 0 d))
def V7 (d : Dev nD) : Valuation τ sig (Elt F) := upd (V6 m d) (Proc.devRef .tc main_v6_0) (Proc.devRef .tc main_v6_1) (gatedArr (pt m 1 d)) (idsArr (pt m 1 d))
def V8 (d : Dev nD) : Valuation τ sig (Elt F) := upd (V7 m d) (Proc.devRef .tc main_v7_0) (Proc.devRef .tc main_v7_1) (gatedArr (pt m 2 d)) (idsArr (pt m 2 d))
def V9 (d : Dev nD) : Valuation τ sig (Elt F) := upd (V8 m d) (Proc.devRef .tc main_v8_0) (Proc.devRef .tc main_v8_1) (gatedArr (pt m 3 d)) (idsArr (pt m 3 d))
def V10 (d : Dev nD) : Valuation τ sig (Elt F) := StableHlo.after tailOps (V9 m d)

/-- The buffers written after the first step, in order. -/
abbrev tailW : List (Ref sig .tc) := [main_v9, main_v10, main_v11, main_v12, main_v13, main_v14, main_cst, main_v15, main_v16, main_cst_0, main_v17, main_v18, main_v19, main_cst_1, main_v20, main_cst_2, main_v21, main_cst_3, main_v22, main_v23, main_v24, main_v25, main_v26]

theorem tail_writes : (tailOps (F := F)).map HloOp.writes = tailW.map fun r => {Proc.devRef (τ := τ) .tc r} := rfl
theorem tail_fresh : (tailOps (F := F)).map HloOp.fresh = (tailOps (F := F)).map fun _ => (∅ : Finset (DevRef τ sig)) := rfl

theorem pdats0 (c : Dev nD) : pdats m 0 c = dat0 (V1 m c) c := rfl
theorem pd_body0 (c : Dev nD) : BodyObligationLoose (pdats m 0 c) (defs₀ (F := F)) 𝒱₀ none Set.univ := (oblig0 (V1 m c) c).loose
theorem pd_owed0 (c : Dev nD) (t) : (pdats m 0 c).owed t = (K (F := F)).Otc c 0 := by rw [pdats0]; dsimp only [dat0]
theorem pd_rec0 (c : Dev nD) (t) : (pdats m 0 c).recorded t = {q | (K (F := F)).lev (T c, q.1) q.2 ≤ 0} := by rw [pdats0]; dsimp only [dat0]
theorem pd_inv0 (c : Dev nD) (t) : (pdats m 0 c).Φ t = Pipeline.scopedRest (Pipeline.pin (pcfgs (F := F)) aP 0).spec c := by rw [pdats0]; dsimp only [dat0]; rfl
theorem pd_share0 (c : Dev nD) (w) : (pdats m 0 c).share w = fullShare := (dat0 (V1 m c) c).share_full (fun _ => rfl) w
theorem pd_arr0 (c : Dev nD) (w) : (pdats m 0 c).arrAt w 0 = V1 m c (Proc.devRef .tc (Pipeline.arrRef (Pipeline.pin (pcfgs (F := F)) aP 0).spec w)) := by
  rw [pdats0]; exact A0_eq (V1 m c) c w
def reg0 := region (pdats m) 0 (launch0.toP) rfl (pd_body0 m) (pd_owed0 m) (pd_rec0 m) (pd_inv0 m) (pd_share0 m) (V1 m) (pd_arr0 m)
theorem reg0_pre (c : Dev nD) : (reg0 m).pre c = between c (V1 m c) := by unfold reg0; dsimp only [region]
theorem reg0_post (c : Dev nD) : (reg0 m).post c = between c (V2 m c) := by unfold reg0; dsimp only [region]; rw [pdats0]; rfl

theorem pdats1 (c : Dev nD) : pdats m 1 c = dat1 (V2 m c) c := rfl
theorem pd_body1 (c : Dev nD) : BodyObligationLoose (pdats m 1 c) (defs₀ (F := F)) 𝒱₀ none Set.univ := (oblig1 (V2 m c) c).loose
theorem pd_owed1 (c : Dev nD) (t) : (pdats m 1 c).owed t = (K (F := F)).Otc c 0 := by rw [pdats1]; dsimp only [dat1]
theorem pd_rec1 (c : Dev nD) (t) : (pdats m 1 c).recorded t = {q | (K (F := F)).lev (T c, q.1) q.2 ≤ 0} := by rw [pdats1]; dsimp only [dat1]
theorem pd_inv1 (c : Dev nD) (t) : (pdats m 1 c).Φ t = Pipeline.scopedRest (Pipeline.pin (pcfgs (F := F)) aP 1).spec c := by rw [pdats1]; dsimp only [dat1]; rfl
theorem pd_share1 (c : Dev nD) (w) : (pdats m 1 c).share w = fullShare := (dat1 (V2 m c) c).share_full (fun _ => rfl) w
theorem pd_arr1 (c : Dev nD) (w) : (pdats m 1 c).arrAt w 0 = V2 m c (Proc.devRef .tc (Pipeline.arrRef (Pipeline.pin (pcfgs (F := F)) aP 1).spec w)) := by
  rw [pdats1]; exact A1_eq (V2 m c) c w
def reg1 := region (pdats m) 1 (launch1.toP) rfl (pd_body1 m) (pd_owed1 m) (pd_rec1 m) (pd_inv1 m) (pd_share1 m) (V2 m) (pd_arr1 m)
theorem reg1_pre (c : Dev nD) : (reg1 m).pre c = between c (V2 m c) := by unfold reg1; dsimp only [region]
theorem reg1_post (c : Dev nD) : (reg1 m).post c = between c (V3 m c) := by unfold reg1; dsimp only [region]; rw [pdats1]; rfl

theorem pdats2 (c : Dev nD) : pdats m 2 c = dat2 (V3 m c) c := rfl
theorem pd_body2 (c : Dev nD) : BodyObligationLoose (pdats m 2 c) (defs₀ (F := F)) 𝒱₀ none Set.univ := (oblig2 (V3 m c) c).loose
theorem pd_owed2 (c : Dev nD) (t) : (pdats m 2 c).owed t = (K (F := F)).Otc c 0 := by rw [pdats2]; dsimp only [dat2]
theorem pd_rec2 (c : Dev nD) (t) : (pdats m 2 c).recorded t = {q | (K (F := F)).lev (T c, q.1) q.2 ≤ 0} := by rw [pdats2]; dsimp only [dat2]
theorem pd_inv2 (c : Dev nD) (t) : (pdats m 2 c).Φ t = Pipeline.scopedRest (Pipeline.pin (pcfgs (F := F)) aP 2).spec c := by rw [pdats2]; dsimp only [dat2]; rfl
theorem pd_share2 (c : Dev nD) (w) : (pdats m 2 c).share w = fullShare := (dat2 (V3 m c) c).share_full (fun _ => rfl) w
theorem pd_arr2 (c : Dev nD) (w) : (pdats m 2 c).arrAt w 0 = V3 m c (Proc.devRef .tc (Pipeline.arrRef (Pipeline.pin (pcfgs (F := F)) aP 2).spec w)) := by
  rw [pdats2]; exact A2_eq (V3 m c) c w
def reg2 := region (pdats m) 2 (launch2.toP) rfl (pd_body2 m) (pd_owed2 m) (pd_rec2 m) (pd_inv2 m) (pd_share2 m) (V3 m) (pd_arr2 m)
theorem reg2_pre (c : Dev nD) : (reg2 m).pre c = between c (V3 m c) := by unfold reg2; dsimp only [region]
theorem reg2_post (c : Dev nD) : (reg2 m).post c = between c (V4 m c) := by unfold reg2; dsimp only [region]; rw [pdats2]; rfl

theorem pdats3 (c : Dev nD) : pdats m 3 c = dat3 (V4 m c) c := rfl
theorem pd_body3 (c : Dev nD) : BodyObligationLoose (pdats m 3 c) (defs₀ (F := F)) 𝒱₀ none Set.univ := (oblig3 (V4 m c) c).loose
theorem pd_owed3 (c : Dev nD) (t) : (pdats m 3 c).owed t = (K (F := F)).Otc c 0 := by rw [pdats3]; dsimp only [dat3]
theorem pd_rec3 (c : Dev nD) (t) : (pdats m 3 c).recorded t = {q | (K (F := F)).lev (T c, q.1) q.2 ≤ 0} := by rw [pdats3]; dsimp only [dat3]
theorem pd_inv3 (c : Dev nD) (t) : (pdats m 3 c).Φ t = Pipeline.scopedRest (Pipeline.pin (pcfgs (F := F)) aP 3).spec c := by rw [pdats3]; dsimp only [dat3]; rfl
theorem pd_share3 (c : Dev nD) (w) : (pdats m 3 c).share w = fullShare := (dat3 (V4 m c) c).share_full (fun _ => rfl) w
theorem pd_arr3 (c : Dev nD) (w) : (pdats m 3 c).arrAt w 0 = V4 m c (Proc.devRef .tc (Pipeline.arrRef (Pipeline.pin (pcfgs (F := F)) aP 3).spec w)) := by
  rw [pdats3]; exact A3_eq (V4 m c) c w
def reg3 := region (pdats m) 3 (launch3.toP) rfl (pd_body3 m) (pd_owed3 m) (pd_rec3 m) (pd_inv3 m) (pd_share3 m) (V4 m) (pd_arr3 m)
theorem reg3_pre (c : Dev nD) : (reg3 m).pre c = between c (V4 m c) := by unfold reg3; dsimp only [region]
theorem reg3_post (c : Dev nD) : (reg3 m).post c = between c (V5 m c) := by unfold reg3; dsimp only [region]; rw [pdats3]; rfl

end Cert.Proof.Tile

end
-- ==== Proof.Calls.lean ====
/-
  The main thread's run: the four TensorCore calls, the four SparseCore calls, the host's steps, and the launch.
-/
module

public import proofs.«01_k».proof.Proof.Vals
public import Idealize.ShloMosaic.Adequacy

@[expose] public section

noncomputable section

namespace Cert.Proof.Tile

open Cert.KernelIdeal Cert.KernelIdeal.Gen
open Idealize.ShloMosaic Idealize.ShloMosaic.Transfers Idealize.ShloMosaic.TcCoe Idealize.ShloMosaic.Tactic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

theorem held_take3 (c : Thread nD τ) (S : Finset (DevRef τ sig)) (a b e : DevRef τ sig) (ha : a ∈ S) (hb : b ∈ S) (he : e ∈ S) (hab : b ≠ a) (hae : e ≠ a) (hbe : e ≠ b)
    (V : Valuation τ sig (Elt F)) :
    (StableHlo.held c S V : sProp 𝕄) = iprop((((c.1, a) : Loc nD τ sig) ↦{fullShare} V a) ∗ (((c.1, b) : Loc nD τ sig) ↦{fullShare} V b)
      ∗ (((c.1, e) : Loc nD τ sig) ↦{fullShare} V e) ∗ StableHlo.held c (((S.erase a).erase b).erase e) V) := by
  unfold StableHlo.held
  exact take3 S a b e ha hb he hab hae hbe fun x => (((c.1, x) : Loc nD τ sig) ↦{fullShare} V x)

variable (m : (ℓ : Loc nD τ sig) → Buf (Elt F) ℓ) (ρ : Dev nD → PrngReg)

theorem uc (r : Ref sig .tc) (h : ¬ (Proc.devRef (τ := τ) .tc r).isScoped = true) : (Proc.devRef .tc r : DevRef τ sig) ∈ Pipeline.ucRefs τ sig :=
  Finset.mem_filter.mpr ⟨StableHlo.devRef_mem_tcRefs r, h⟩

/-- A TensorCore call by the pipeline's own label. -/
def callP (p : Fin 4) : Prog (TpuEff nD τ sig (Elt F) (ΛP (F := F)) .tc) PUnit := .op (.customCall (Pipeline.entry p) ()) .ret

theorem call0 (κ : GSem nD τ sig → ℕ) (d : Dev nD) (hV : V5 m d (Proc.devRef .tc main_v1_0) = pt m 0 d) {Φ : PUnit → sProp 𝕄} :
    iprop((K (F := F)).ctx EH (P (pt m)) κ ∗ (K (F := F)).tcSt EH d 0 ∗ StableHlo.held (T d) (Pipeline.ucRefs τ sig) (V5 m d)
        ∗ (((K (F := F)).tcSt EH d 1 ∗ StableHlo.held (T d) (Pipeline.ucRefs τ sig) (V6 m d)) -∗ Φ ⟨⟩))
      ⊢ wp frame (wpE ((K (F := F)).defs (D (F := F))) 𝒱 (T d) none) Set.univ ((K (F := F)).run d 0) Φ := by
  have n1 : (Proc.devRef .tc main_v5_0 : DevRef τ sig) ≠ Proc.devRef .tc main_v1_0 := StableHlo.devRef_ne_of_ne (by decide)
  have n2 : (Proc.devRef .tc main_v5_1 : DevRef τ sig) ≠ Proc.devRef .tc main_v1_0 := StableHlo.devRef_ne_of_ne (by decide)
  have n3 : (Proc.devRef .tc main_v5_1 : DevRef τ sig) ≠ Proc.devRef .tc main_v5_0 := StableHlo.devRef_ne_of_ne (by decide)
  rw [held_take3 (T d) (Pipeline.ucRefs τ sig) (Proc.devRef .tc main_v1_0) (Proc.devRef .tc main_v5_0) (Proc.devRef .tc main_v5_1) (uc _ (by decide)) (uc _ (by decide)) (uc _ (by decide)) n1 n2 n3 (V5 m d),
    held_take3 (T d) (Pipeline.ucRefs τ sig) (Proc.devRef .tc main_v1_0) (Proc.devRef .tc main_v5_0) (Proc.devRef .tc main_v5_1) (uc _ (by decide)) (uc _ (by decide)) (uc _ (by decide)) n1 n2 n3 (V6 m d),
    show V6 m d = upd (V5 m d) (Proc.devRef .tc main_v5_0) (Proc.devRef .tc main_v5_1) (gatedArr (pt m 0 d)) (idsArr (pt m 0 d)) from rfl,
    upd_fst _ _ _ _ _ n3.symm, upd_snd, upd_off _ _ _ _ _ _ n1.symm n2.symm, hV,
    StableHlo.held_congr (T d) (V := upd (V5 m d) (Proc.devRef .tc main_v5_0) (Proc.devRef .tc main_v5_1) (gatedArr (pt m 0 d)) (idsArr (pt m 0 d))) (V' := V5 m d)
      (fun x hx => upd_off _ _ _ _ _ x (fun e => (Finset.mem_erase.mp (Finset.mem_erase.mp hx).2).1 e) (fun e => (Finset.mem_erase.mp hx).1 e))]
  iintro ⟨#Hctx, Hst, ⟨H0, H1, H2, Hr⟩, Hk⟩
  iapply ((K (F := F)).wp_run (D (F := F)) 𝒱 (EH := EH) (P := P (pt m)) κ d 0) $$ [Hst H0 H1 H2 Hr Hk]
  isplitr; · iexact Hctx
  isplitl [Hst]; · iexact Hst
  isplitl [H0 H1 H2]
  · iapply (st_intro0 (pt m) d (V5 m d (Proc.devRef .tc main_v5_0)) (V5 m d (Proc.devRef .tc main_v5_1)))
    isplitl [H0]; · iexact H0
    isplitl [H1]; · iexact H1
    iexact H2
  iintro ⟨Hst, Hdn⟩
  ihave H := (dn_elim0 (pt m) d) $$ Hdn
  icases H with ⟨H0, H1, H2⟩
  iapply Hk
  isplitl [Hst]; · iexact Hst
  isplitl [H0]; · iexact H0
  isplitl [H1]; · iexact H1
  isplitl [H2]; · iexact H2
  iexact Hr

set_option backward.isDefEq.respectTransparency.types false in
theorem entry0 [∀ e, Nonempty (Elt F e)] (d : Dev nD) {Φ : PUnit → sProp 𝕄} :
    iprop(boundary (T d) ∗ between d (V1 m d) ∗ levAts (K (F := F)).L (K (F := F)).lev
        ∗ Pipeline.cellsGhost (Pipeline.pin (pcfgs (F := F)) aP) EP 0 d ∗ Pipeline.toksInit (Pipeline.pin (pcfgs (F := F)) aP) EP 0 d
        ∗ (iprop(boundary (T d) ∗ between d (V2 m d)) -∗ Φ ⟨⟩))
      ⊢ wp frame (wpE ((K (F := F)).defs (D (F := F))) 𝒱 (T d) none) Set.univ (Prog.lift (.customCall (SparseCore.inner (Pipeline.entry 0)) ())) Φ := by
  have e : (Prog.lift (.customCall (SparseCore.inner (Pipeline.entry 0)) ()) : Prog (TpuEff nD τ sig (Elt F) (SparseCore.Sig (ΛP (F := F)) 4) .tc) PUnit)
      = SparseCore.liftProg (Q := 4) (callP (F := F) 0) := rfl
  have h0 := (K (F := F)).wp_liftProg (D (F := F)) 𝒱 (T d : Thread nD τ) (Set.univ : Set ℕ) none (callP (F := F) 0) Φ
  rw [e]
  refine BI.Entails.trans ?_ h0
  unfold callP
  have hn : ∀ u ∈ (none : Option (𝒱₀.lift).V), (𝒱₀.lift).lt (.inr ((Pipeline.pin (pcfgs (F := F)) aP 0).tripCount + 1)) u := by intro u hu; cases hu
  have h := Pipeline.RegionSeg.wp (pcfgs (F := F)) aP (pdats m) none cellOf_inj EP (defs₀ (F := F)) 𝒱₀ (K (F := F)).L (K (F := F)).lev (reg0 m) d none hn .ret Φ
  rw [reg0_pre, reg0_post] at h
  refine BI.Entails.trans ?_ h
  change (_ : sProp 𝕄) ⊢ _
  iintro ⟨Hb, Hs, Hl, Hg, Ht, Hk⟩
  isplitl [Hk]
  · iintro H
    rw [wp_ret]; imodintro
    iapply Hk; iexact H
  isplitl [Hb]; · iexact Hb
  isplitl [Hs]; · iexact Hs
  isplitl [Hl]; · iexact Hl
  isplitl [Hg]; · iexact Hg
  iexact Ht

theorem call1 (κ : GSem nD τ sig → ℕ) (d : Dev nD) (hV : V6 m d (Proc.devRef .tc main_v2_0) = pt m 1 d) {Φ : PUnit → sProp 𝕄} :
    iprop((K (F := F)).ctx EH (P (pt m)) κ ∗ (K (F := F)).tcSt EH d 1 ∗ StableHlo.held (T d) (Pipeline.ucRefs τ sig) (V6 m d)
        ∗ (((K (F := F)).tcSt EH d 2 ∗ StableHlo.held (T d) (Pipeline.ucRefs τ sig) (V7 m d)) -∗ Φ ⟨⟩))
      ⊢ wp frame (wpE ((K (F := F)).defs (D (F := F))) 𝒱 (T d) none) Set.univ ((K (F := F)).run d 1) Φ := by
  have n1 : (Proc.devRef .tc main_v6_0 : DevRef τ sig) ≠ Proc.devRef .tc main_v2_0 := StableHlo.devRef_ne_of_ne (by decide)
  have n2 : (Proc.devRef .tc main_v6_1 : DevRef τ sig) ≠ Proc.devRef .tc main_v2_0 := StableHlo.devRef_ne_of_ne (by decide)
  have n3 : (Proc.devRef .tc main_v6_1 : DevRef τ sig) ≠ Proc.devRef .tc main_v6_0 := StableHlo.devRef_ne_of_ne (by decide)
  rw [held_take3 (T d) (Pipeline.ucRefs τ sig) (Proc.devRef .tc main_v2_0) (Proc.devRef .tc main_v6_0) (Proc.devRef .tc main_v6_1) (uc _ (by decide)) (uc _ (by decide)) (uc _ (by decide)) n1 n2 n3 (V6 m d),
    held_take3 (T d) (Pipeline.ucRefs τ sig) (Proc.devRef .tc main_v2_0) (Proc.devRef .tc main_v6_0) (Proc.devRef .tc main_v6_1) (uc _ (by decide)) (uc _ (by decide)) (uc _ (by decide)) n1 n2 n3 (V7 m d),
    show V7 m d = upd (V6 m d) (Proc.devRef .tc main_v6_0) (Proc.devRef .tc main_v6_1) (gatedArr (pt m 1 d)) (idsArr (pt m 1 d)) from rfl,
    upd_fst _ _ _ _ _ n3.symm, upd_snd, upd_off _ _ _ _ _ _ n1.symm n2.symm, hV,
    StableHlo.held_congr (T d) (V := upd (V6 m d) (Proc.devRef .tc main_v6_0) (Proc.devRef .tc main_v6_1) (gatedArr (pt m 1 d)) (idsArr (pt m 1 d))) (V' := V6 m d)
      (fun x hx => upd_off _ _ _ _ _ x (fun e => (Finset.mem_erase.mp (Finset.mem_erase.mp hx).2).1 e) (fun e => (Finset.mem_erase.mp hx).1 e))]
  iintro ⟨#Hctx, Hst, ⟨H0, H1, H2, Hr⟩, Hk⟩
  iapply ((K (F := F)).wp_run (D (F := F)) 𝒱 (EH := EH) (P := P (pt m)) κ d 1) $$ [Hst H0 H1 H2 Hr Hk]
  isplitr; · iexact Hctx
  isplitl [Hst]; · iexact Hst
  isplitl [H0 H1 H2]
  · iapply (st_intro1 (pt m) d (V6 m d (Proc.devRef .tc main_v6_0)) (V6 m d (Proc.devRef .tc main_v6_1)))
    isplitl [H0]; · iexact H0
    isplitl [H1]; · iexact H1
    iexact H2
  iintro ⟨Hst, Hdn⟩
  ihave H := (dn_elim1 (pt m) d) $$ Hdn
  icases H with ⟨H0, H1, H2⟩
  iapply Hk
  isplitl [Hst]; · iexact Hst
  isplitl [H0]; · iexact H0
  isplitl [H1]; · iexact H1
  isplitl [H2]; · iexact H2
  iexact Hr

set_option backward.isDefEq.respectTransparency.types false in
theorem entry1 [∀ e, Nonempty (Elt F e)] (d : Dev nD) {Φ : PUnit → sProp 𝕄} :
    iprop(boundary (T d) ∗ between d (V2 m d) ∗ levAts (K (F := F)).L (K (F := F)).lev
        ∗ Pipeline.cellsGhost (Pipeline.pin (pcfgs (F := F)) aP) EP 1 d ∗ Pipeline.toksInit (Pipeline.pin (pcfgs (F := F)) aP) EP 1 d
        ∗ (iprop(boundary (T d) ∗ between d (V3 m d)) -∗ Φ ⟨⟩))
      ⊢ wp frame (wpE ((K (F := F)).defs (D (F := F))) 𝒱 (T d) none) Set.univ (Prog.lift (.customCall (SparseCore.inner (Pipeline.entry 1)) ())) Φ := by
  have e : (Prog.lift (.customCall (SparseCore.inner (Pipeline.entry 1)) ()) : Prog (TpuEff nD τ sig (Elt F) (SparseCore.Sig (ΛP (F := F)) 4) .tc) PUnit)
      = SparseCore.liftProg (Q := 4) (callP (F := F) 1) := rfl
  have h0 := (K (F := F)).wp_liftProg (D (F := F)) 𝒱 (T d : Thread nD τ) (Set.univ : Set ℕ) none (callP (F := F) 1) Φ
  rw [e]
  refine BI.Entails.trans ?_ h0
  unfold callP
  have hn : ∀ u ∈ (none : Option (𝒱₀.lift).V), (𝒱₀.lift).lt (.inr ((Pipeline.pin (pcfgs (F := F)) aP 1).tripCount + 1)) u := by intro u hu; cases hu
  have h := Pipeline.RegionSeg.wp (pcfgs (F := F)) aP (pdats m) none cellOf_inj EP (defs₀ (F := F)) 𝒱₀ (K (F := F)).L (K (F := F)).lev (reg1 m) d none hn .ret Φ
  rw [reg1_pre, reg1_post] at h
  refine BI.Entails.trans ?_ h
  change (_ : sProp 𝕄) ⊢ _
  iintro ⟨Hb, Hs, Hl, Hg, Ht, Hk⟩
  isplitl [Hk]
  · iintro H
    rw [wp_ret]; imodintro
    iapply Hk; iexact H
  isplitl [Hb]; · iexact Hb
  isplitl [Hs]; · iexact Hs
  isplitl [Hl]; · iexact Hl
  isplitl [Hg]; · iexact Hg
  iexact Ht

theorem call2 (κ : GSem nD τ sig → ℕ) (d : Dev nD) (hV : V7 m d (Proc.devRef .tc main_v3_0) = pt m 2 d) {Φ : PUnit → sProp 𝕄} :
    iprop((K (F := F)).ctx EH (P (pt m)) κ ∗ (K (F := F)).tcSt EH d 2 ∗ StableHlo.held (T d) (Pipeline.ucRefs τ sig) (V7 m d)
        ∗ (((K (F := F)).tcSt EH d 3 ∗ StableHlo.held (T d) (Pipeline.ucRefs τ sig) (V8 m d)) -∗ Φ ⟨⟩))
      ⊢ wp frame (wpE ((K (F := F)).defs (D (F := F))) 𝒱 (T d) none) Set.univ ((K (F := F)).run d 2) Φ := by
  have n1 : (Proc.devRef .tc main_v7_0 : DevRef τ sig) ≠ Proc.devRef .tc main_v3_0 := StableHlo.devRef_ne_of_ne (by decide)
  have n2 : (Proc.devRef .tc main_v7_1 : DevRef τ sig) ≠ Proc.devRef .tc main_v3_0 := StableHlo.devRef_ne_of_ne (by decide)
  have n3 : (Proc.devRef .tc main_v7_1 : DevRef τ sig) ≠ Proc.devRef .tc main_v7_0 := StableHlo.devRef_ne_of_ne (by decide)
  rw [held_take3 (T d) (Pipeline.ucRefs τ sig) (Proc.devRef .tc main_v3_0) (Proc.devRef .tc main_v7_0) (Proc.devRef .tc main_v7_1) (uc _ (by decide)) (uc _ (by decide)) (uc _ (by decide)) n1 n2 n3 (V7 m d),
    held_take3 (T d) (Pipeline.ucRefs τ sig) (Proc.devRef .tc main_v3_0) (Proc.devRef .tc main_v7_0) (Proc.devRef .tc main_v7_1) (uc _ (by decide)) (uc _ (by decide)) (uc _ (by decide)) n1 n2 n3 (V8 m d),
    show V8 m d = upd (V7 m d) (Proc.devRef .tc main_v7_0) (Proc.devRef .tc main_v7_1) (gatedArr (pt m 2 d)) (idsArr (pt m 2 d)) from rfl,
    upd_fst _ _ _ _ _ n3.symm, upd_snd, upd_off _ _ _ _ _ _ n1.symm n2.symm, hV,
    StableHlo.held_congr (T d) (V := upd (V7 m d) (Proc.devRef .tc main_v7_0) (Proc.devRef .tc main_v7_1) (gatedArr (pt m 2 d)) (idsArr (pt m 2 d))) (V' := V7 m d)
      (fun x hx => upd_off _ _ _ _ _ x (fun e => (Finset.mem_erase.mp (Finset.mem_erase.mp hx).2).1 e) (fun e => (Finset.mem_erase.mp hx).1 e))]
  iintro ⟨#Hctx, Hst, ⟨H0, H1, H2, Hr⟩, Hk⟩
  iapply ((K (F := F)).wp_run (D (F := F)) 𝒱 (EH := EH) (P := P (pt m)) κ d 2) $$ [Hst H0 H1 H2 Hr Hk]
  isplitr; · iexact Hctx
  isplitl [Hst]; · iexact Hst
  isplitl [H0 H1 H2]
  · iapply (st_intro2 (pt m) d (V7 m d (Proc.devRef .tc main_v7_0)) (V7 m d (Proc.devRef .tc main_v7_1)))
    isplitl [H0]; · iexact H0
    isplitl [H1]; · iexact H1
    iexact H2
  iintro ⟨Hst, Hdn⟩
  ihave H := (dn_elim2 (pt m) d) $$ Hdn
  icases H with ⟨H0, H1, H2⟩
  iapply Hk
  isplitl [Hst]; · iexact Hst
  isplitl [H0]; · iexact H0
  isplitl [H1]; · iexact H1
  isplitl [H2]; · iexact H2
  iexact Hr

set_option backward.isDefEq.respectTransparency.types false in
theorem entry2 [∀ e, Nonempty (Elt F e)] (d : Dev nD) {Φ : PUnit → sProp 𝕄} :
    iprop(boundary (T d) ∗ between d (V3 m d) ∗ levAts (K (F := F)).L (K (F := F)).lev
        ∗ Pipeline.cellsGhost (Pipeline.pin (pcfgs (F := F)) aP) EP 2 d ∗ Pipeline.toksInit (Pipeline.pin (pcfgs (F := F)) aP) EP 2 d
        ∗ (iprop(boundary (T d) ∗ between d (V4 m d)) -∗ Φ ⟨⟩))
      ⊢ wp frame (wpE ((K (F := F)).defs (D (F := F))) 𝒱 (T d) none) Set.univ (Prog.lift (.customCall (SparseCore.inner (Pipeline.entry 2)) ())) Φ := by
  have e : (Prog.lift (.customCall (SparseCore.inner (Pipeline.entry 2)) ()) : Prog (TpuEff nD τ sig (Elt F) (SparseCore.Sig (ΛP (F := F)) 4) .tc) PUnit)
      = SparseCore.liftProg (Q := 4) (callP (F := F) 2) := rfl
  have h0 := (K (F := F)).wp_liftProg (D (F := F)) 𝒱 (T d : Thread nD τ) (Set.univ : Set ℕ) none (callP (F := F) 2) Φ
  rw [e]
  refine BI.Entails.trans ?_ h0
  unfold callP
  have hn : ∀ u ∈ (none : Option (𝒱₀.lift).V), (𝒱₀.lift).lt (.inr ((Pipeline.pin (pcfgs (F := F)) aP 2).tripCount + 1)) u := by intro u hu; cases hu
  have h := Pipeline.RegionSeg.wp (pcfgs (F := F)) aP (pdats m) none cellOf_inj EP (defs₀ (F := F)) 𝒱₀ (K (F := F)).L (K (F := F)).lev (reg2 m) d none hn .ret Φ
  rw [reg2_pre, reg2_post] at h
  refine BI.Entails.trans ?_ h
  change (_ : sProp 𝕄) ⊢ _
  iintro ⟨Hb, Hs, Hl, Hg, Ht, Hk⟩
  isplitl [Hk]
  · iintro H
    rw [wp_ret]; imodintro
    iapply Hk; iexact H
  isplitl [Hb]; · iexact Hb
  isplitl [Hs]; · iexact Hs
  isplitl [Hl]; · iexact Hl
  isplitl [Hg]; · iexact Hg
  iexact Ht

theorem call3 (κ : GSem nD τ sig → ℕ) (d : Dev nD) (hV : V8 m d (Proc.devRef .tc main_v4_0) = pt m 3 d) {Φ : PUnit → sProp 𝕄} :
    iprop((K (F := F)).ctx EH (P (pt m)) κ ∗ (K (F := F)).tcSt EH d 3 ∗ StableHlo.held (T d) (Pipeline.ucRefs τ sig) (V8 m d)
        ∗ (((K (F := F)).tcSt EH d 4 ∗ StableHlo.held (T d) (Pipeline.ucRefs τ sig) (V9 m d)) -∗ Φ ⟨⟩))
      ⊢ wp frame (wpE ((K (F := F)).defs (D (F := F))) 𝒱 (T d) none) Set.univ ((K (F := F)).run d 3) Φ := by
  have n1 : (Proc.devRef .tc main_v8_0 : DevRef τ sig) ≠ Proc.devRef .tc main_v4_0 := StableHlo.devRef_ne_of_ne (by decide)
  have n2 : (Proc.devRef .tc main_v8_1 : DevRef τ sig) ≠ Proc.devRef .tc main_v4_0 := StableHlo.devRef_ne_of_ne (by decide)
  have n3 : (Proc.devRef .tc main_v8_1 : DevRef τ sig) ≠ Proc.devRef .tc main_v8_0 := StableHlo.devRef_ne_of_ne (by decide)
  rw [held_take3 (T d) (Pipeline.ucRefs τ sig) (Proc.devRef .tc main_v4_0) (Proc.devRef .tc main_v8_0) (Proc.devRef .tc main_v8_1) (uc _ (by decide)) (uc _ (by decide)) (uc _ (by decide)) n1 n2 n3 (V8 m d),
    held_take3 (T d) (Pipeline.ucRefs τ sig) (Proc.devRef .tc main_v4_0) (Proc.devRef .tc main_v8_0) (Proc.devRef .tc main_v8_1) (uc _ (by decide)) (uc _ (by decide)) (uc _ (by decide)) n1 n2 n3 (V9 m d),
    show V9 m d = upd (V8 m d) (Proc.devRef .tc main_v8_0) (Proc.devRef .tc main_v8_1) (gatedArr (pt m 3 d)) (idsArr (pt m 3 d)) from rfl,
    upd_fst _ _ _ _ _ n3.symm, upd_snd, upd_off _ _ _ _ _ _ n1.symm n2.symm, hV,
    StableHlo.held_congr (T d) (V := upd (V8 m d) (Proc.devRef .tc main_v8_0) (Proc.devRef .tc main_v8_1) (gatedArr (pt m 3 d)) (idsArr (pt m 3 d))) (V' := V8 m d)
      (fun x hx => upd_off _ _ _ _ _ x (fun e => (Finset.mem_erase.mp (Finset.mem_erase.mp hx).2).1 e) (fun e => (Finset.mem_erase.mp hx).1 e))]
  iintro ⟨#Hctx, Hst, ⟨H0, H1, H2, Hr⟩, Hk⟩
  iapply ((K (F := F)).wp_run (D (F := F)) 𝒱 (EH := EH) (P := P (pt m)) κ d 3) $$ [Hst H0 H1 H2 Hr Hk]
  isplitr; · iexact Hctx
  isplitl [Hst]; · iexact Hst
  isplitl [H0 H1 H2]
  · iapply (st_intro3 (pt m) d (V8 m d (Proc.devRef .tc main_v8_0)) (V8 m d (Proc.devRef .tc main_v8_1)))
    isplitl [H0]; · iexact H0
    isplitl [H1]; · iexact H1
    iexact H2
  iintro ⟨Hst, Hdn⟩
  ihave H := (dn_elim3 (pt m) d) $$ Hdn
  icases H with ⟨H0, H1, H2⟩
  iapply Hk
  isplitl [Hst]; · iexact Hst
  isplitl [H0]; · iexact H0
  isplitl [H1]; · iexact H1
  isplitl [H2]; · iexact H2
  iexact Hr

set_option backward.isDefEq.respectTransparency.types false in
theorem entry3 [∀ e, Nonempty (Elt F e)] (d : Dev nD) {Φ : PUnit → sProp 𝕄} :
    iprop(boundary (T d) ∗ between d (V4 m d) ∗ levAts (K (F := F)).L (K (F := F)).lev
        ∗ Pipeline.cellsGhost (Pipeline.pin (pcfgs (F := F)) aP) EP 3 d ∗ Pipeline.toksInit (Pipeline.pin (pcfgs (F := F)) aP) EP 3 d
        ∗ (iprop(boundary (T d) ∗ between d (V5 m d)) -∗ Φ ⟨⟩))
      ⊢ wp frame (wpE ((K (F := F)).defs (D (F := F))) 𝒱 (T d) none) Set.univ (Prog.lift (.customCall (SparseCore.inner (Pipeline.entry 3)) ())) Φ := by
  have e : (Prog.lift (.customCall (SparseCore.inner (Pipeline.entry 3)) ()) : Prog (TpuEff nD τ sig (Elt F) (SparseCore.Sig (ΛP (F := F)) 4) .tc) PUnit)
      = SparseCore.liftProg (Q := 4) (callP (F := F) 3) := rfl
  have h0 := (K (F := F)).wp_liftProg (D (F := F)) 𝒱 (T d : Thread nD τ) (Set.univ : Set ℕ) none (callP (F := F) 3) Φ
  rw [e]
  refine BI.Entails.trans ?_ h0
  unfold callP
  have hn : ∀ u ∈ (none : Option (𝒱₀.lift).V), (𝒱₀.lift).lt (.inr ((Pipeline.pin (pcfgs (F := F)) aP 3).tripCount + 1)) u := by intro u hu; cases hu
  have h := Pipeline.RegionSeg.wp (pcfgs (F := F)) aP (pdats m) none cellOf_inj EP (defs₀ (F := F)) 𝒱₀ (K (F := F)).L (K (F := F)).lev (reg3 m) d none hn .ret Φ
  rw [reg3_pre, reg3_post] at h
  refine BI.Entails.trans ?_ h
  change (_ : sProp 𝕄) ⊢ _
  iintro ⟨Hb, Hs, Hl, Hg, Ht, Hk⟩
  isplitl [Hk]
  · iintro H
    rw [wp_ret]; imodintro
    iapply Hk; iexact H
  isplitl [Hb]; · iexact Hb
  isplitl [Hs]; · iexact Hs
  isplitl [Hl]; · iexact Hl
  isplitl [Hg]; · iexact Hg
  iexact Ht

end Cert.Proof.Tile

end
-- ==== Proof.Main.lean ====
/-
  The whole program's run: the main thread, the launch's ghost state, and what every final memory holds.
-/
module

public import proofs.«01_k».proof.Proof.Calls

@[expose] public section

noncomputable section

namespace Cert.Proof.Tile

open Cert.KernelIdeal Cert.KernelIdeal.Gen
open Idealize.ShloMosaic Idealize.ShloMosaic.Transfers Idealize.ShloMosaic.TcCoe Idealize.ShloMosaic.Tactic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

variable (m : (ℓ : Loc nD τ sig) → Buf (Elt F) ℓ) (ρ : Dev nD → PrngReg)

theorem pt_at0 (d : Dev nD) : V5 m d (Proc.devRef .tc main_v1_0) = pt m 0 d := rfl
theorem pt_at1 (d : Dev nD) : V6 m d (Proc.devRef .tc main_v2_0) = pt m 1 d := by
  unfold V6; rw [upd_off _ _ _ _ _ _ (StableHlo.devRef_ne_of_ne (by decide)) (StableHlo.devRef_ne_of_ne (by decide))]; rfl
theorem pt_at2 (d : Dev nD) : V7 m d (Proc.devRef .tc main_v3_0) = pt m 2 d := by
  unfold V7 V6
  rw [upd_off _ _ _ _ _ _ (StableHlo.devRef_ne_of_ne (by decide)) (StableHlo.devRef_ne_of_ne (by decide)),
    upd_off _ _ _ _ _ _ (StableHlo.devRef_ne_of_ne (by decide)) (StableHlo.devRef_ne_of_ne (by decide))]; rfl
theorem pt_at3 (d : Dev nD) : V8 m d (Proc.devRef .tc main_v4_0) = pt m 3 d := by
  unfold V8 V7 V6
  rw [upd_off _ _ _ _ _ _ (StableHlo.devRef_ne_of_ne (by decide)) (StableHlo.devRef_ne_of_ne (by decide)),
    upd_off _ _ _ _ _ _ (StableHlo.devRef_ne_of_ne (by decide)) (StableHlo.devRef_ne_of_ne (by decide)),
    upd_off _ _ _ _ _ _ (StableHlo.devRef_ne_of_ne (by decide)) (StableHlo.devRef_ne_of_ne (by decide))]; rfl

theorem main_eq (d : Dev nD) : main (F := F) d = (hlo rfl (opIn (F := F)) (fun _ => .ret (⟨⟩ : PUnit)) >>= fun _ =>
    Prog.lift (.customCall (SparseCore.inner (Pipeline.entry 0)) ()) >>= fun _ =>
    Prog.lift (.customCall (SparseCore.inner (Pipeline.entry 1)) ()) >>= fun _ =>
    Prog.lift (.customCall (SparseCore.inner (Pipeline.entry 2)) ()) >>= fun _ =>
    Prog.lift (.customCall (SparseCore.inner (Pipeline.entry 3)) ()) >>= fun _ =>
    (K (F := F)).run d 0 >>= fun _ => (K (F := F)).run d 1 >>= fun _ => (K (F := F)).run d 2 >>= fun _ => (K (F := F)).run d 3 >>= fun _ =>
    StableHlo.seq (tailOps (F := F))) := rfl

theorem tail_none : ∀ op ∈ tailOps (F := F), op.fresh = ∅ := List.forall_iff_forall_mem.mp (StableHlo.forall_fresh_of_map tail_fresh)
theorem tail_sub : ∀ op ∈ tailOps (F := F), op.bufs ⊆ Pipeline.ucRefs τ sig := fun op h =>
  Pipeline.sub_ucRefs op (List.forall_iff_forall_mem.mp (show (tailOps (F := F)).Forall fun op => op.bufs ⊆ StableHlo.tcRefs τ sig from
    ⟨StableHlo.nary_bufs_sub .., StableHlo.nary_bufs_sub .., StableHlo.binary_bufs_sub .., StableHlo.binary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.reshape_bufs_sub .., StableHlo.unary_bufs_sub .., StableHlo.reshape_bufs_sub .., StableHlo.unary_bufs_sub ..⟩) op h)

/-- What the launch leaves the main thread of the pipelines' ghost state. -/
def G (d : Dev nD) : sProp 𝕄 :=
  iprop((bigSep Finset.univ fun p : Fin 4 => Pipeline.cellsGhost (Pipeline.pin (pcfgs (F := F)) aP) EP p d)
    ∗ bigSep Finset.univ fun p : Fin 4 => Pipeline.toksInit (Pipeline.pin (pcfgs (F := F)) aP) EP p d)

def FIN (d : Dev nD) : sProp 𝕄 := StableHlo.held (T d) (Pipeline.ucRefs τ sig) (V10 m d)

theorem tcSt_first (d : Dev nD) : ∃ R : sProp 𝕄, ((K (F := F)).tcSt EH d 0 : sProp 𝕄)
    = iprop((∃ W, ⌜(K (F := F)).WBelow (T d) W 0⌝ ∗ owes (T d) ((K (F := F)).Otc d 0) W) ∗ R) := ⟨_, rfl⟩

theorem bufs_first (d : Dev nD) : (unscopedBufs d (fun b => m ((SparseCore.T d).loc b)) : sProp 𝕄) = StableHlo.held (SparseCore.T d) (Pipeline.ucRefs τ sig) (V0 m d) := by
  exact (Pipeline.unscopedBufs_held (Ix := HIx 4) (Name := ℕ) (U := UU) (Lvl := ℕ) d (V0 m d))

theorem hmain [∀ e, Nonempty (Elt F e)] (κ : GSem nD τ sig → ℕ) (d : Dev nD) :
    iprop((K (F := F)).ctx EH (P (pt m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 4 ∗ FIN m d ∗ (K (F := F)).tcEnd d) := by
  unfold SparseCore.Cfg.tcRes SparseCore.Cfg.tcEnd G FIN
  rw [main_eq, bigSep_W0, bigSep_W0]
  obtain ⟨R, hR⟩ := tcSt_first (F := F) d
  simp only [wp_bind]
  iintro ⟨#Hctx, Hst, ⟨Hb, Hbufs, Hts, -⟩, ⟨Hg0, Hg1, Hg2, Hg3⟩, Ht0, Ht1, Ht2, Ht3⟩
  ihave H := (Entails.of_eq (bufs_first m d)) $$ Hbufs
  ihave Hst := (Entails.of_eq hR) $$ Hst
  icases Hst with ⟨HO, HR⟩
  iapply (StableHlo.wp_hlo_within 𝒱 (T d) none Set.univ (op := opIn (F := F)) (S := Pipeline.ucRefs τ sig) (Pipeline.sub_ucRefs _ (by exact (StableHlo.reshape_bufs_sub ..))) (V := V0 m d)) $$ [Hb H]
  · isplitl [Hb]; · iexact Hb
    iexact H
  iintro ⟨Hb, H⟩
  rw [wp_ret]; imodintro
  rw [show (opIn (F := F)).result (V0 m d) = V1 m d from rfl]
  -- call 0
  iapply (entry0 m d)
  isplitl [Hb]; · iexact Hb
  isplitl [H HO]
  · unfold between
    isplitl [H]; · iexact H
    iexact HO
  isplitr; · iapply (SparseCore.Cfg.ctx_levAts κ); iexact Hctx
  isplitl [Hg0]; · iexact Hg0
  isplitl [Ht0]; · iexact Ht0
  unfold between
  iintro ⟨Hb, H, HO⟩
  -- call 1
  iapply (entry1 m d)
  isplitl [Hb]; · iexact Hb
  isplitl [H HO]
  · unfold between
    isplitl [H]; · iexact H
    iexact HO
  isplitr; · iapply (SparseCore.Cfg.ctx_levAts κ); iexact Hctx
  isplitl [Hg1]; · iexact Hg1
  isplitl [Ht1]; · iexact Ht1
  unfold between
  iintro ⟨Hb, H, HO⟩
  -- call 2
  iapply (entry2 m d)
  isplitl [Hb]; · iexact Hb
  isplitl [H HO]
  · unfold between
    isplitl [H]; · iexact H
    iexact HO
  isplitr; · iapply (SparseCore.Cfg.ctx_levAts κ); iexact Hctx
  isplitl [Hg2]; · iexact Hg2
  isplitl [Ht2]; · iexact Ht2
  unfold between
  iintro ⟨Hb, H, HO⟩
  -- call 3
  iapply (entry3 m d)
  isplitl [Hb]; · iexact Hb
  isplitl [H HO]
  · unfold between
    isplitl [H]; · iexact H
    iexact HO
  isplitr; · iapply (SparseCore.Cfg.ctx_levAts κ); iexact Hctx
  isplitl [Hg3]; · iexact Hg3
  isplitl [Ht3]; · iexact Ht3
  unfold between
  iintro ⟨Hb, H, HO⟩
  ihave Hst := (Entails.of_eq hR.symm) $$ [HO HR]
  · isplitl [HO]; · iexact HO
    iexact HR
  iapply (call0 m κ d (pt_at0 m d))
  isplitr; · iexact Hctx
  isplitl [Hst]; · iexact Hst
  isplitl [H]; · iexact H
  iintro ⟨Hst, H⟩
  iapply (call1 m κ d (pt_at1 m d))
  isplitr; · iexact Hctx
  isplitl [Hst]; · iexact Hst
  isplitl [H]; · iexact H
  iintro ⟨Hst, H⟩
  iapply (call2 m κ d (pt_at2 m d))
  isplitr; · iexact Hctx
  isplitl [Hst]; · iexact Hst
  isplitl [H]; · iexact H
  iintro ⟨Hst, H⟩
  iapply (call3 m κ d (pt_at3 m d))
  isplitr; · iexact Hctx
  isplitl [Hst]; · iexact Hst
  isplitl [H]; · iexact H
  iintro ⟨Hst, H⟩
  rw [← bind_pure (StableHlo.seq (tailOps (F := F)))]
  iapply (StableHlo.wp_seq 𝒱 none Set.univ d (Pipeline.ucRefs τ sig) (fun x => pure x) (tailOps (F := F)) tail_sub tail_none (V9 m d)) $$ [Hb H]
  · isplitl [Hb]; · iexact Hb
    iexact H
  iintro ⟨Hb, H⟩
  rw [wp_pure]; imodintro
  isplitl [Hst]; · iexact Hst
  isplitl [H]; · iexact H
  isplitl [Hb]; · iexact Hb
  iexact Hts

end Cert.Proof.Tile

end
-- ==== Proof.Run.lean ====
/-
  The whole program's run: the launch's ghost state, and what every final memory holds.
-/
module

public import proofs.«01_k».proof.Proof.Main
@[expose] public section

noncomputable section

namespace Cert.Proof.Tile

open Cert.KernelIdeal Cert.KernelIdeal.Gen
open Idealize.ShloMosaic Idealize.ShloMosaic.Transfers Idealize.ShloMosaic.TcCoe Idealize.ShloMosaic.Tactic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 4) (Elt F) ℕ UU ℕ

variable (m : (ℓ : Loc nD τ sig) → Buf (Elt F) ℓ) (ρ : Dev nD → PrngReg)

/-! ## The launch's ghost state -/

/-- The pipelines' launch element, and the handshakes'. -/
def pu₀ : UR sig nD τ := initOf (Pipeline.cells (Pipeline.pin (pcfgs (F := F)) aP) cellOf_inj) (Pipeline.launchToks (Pipeline.pin (pcfgs (F := F)) aP) cellOf_inj)
def u₀ : UU := (initOf (K (F := F)).hsCells (K (F := F)).hsToks, (pu₀ (F := F), 1))

theorem x_emp (pt : Fin 4 → Dev nD → FVec F S64x8192 .f32) : (bigSep Finset.univ fun thr : Thread nD τ => bigSep Finset.univ fun q : Fin 4 => (P (F := F) pt).x q thr) = (iprop(emp) : sProp 𝕄) := by
  have h : (fun thr : Thread nD τ => bigSep Finset.univ fun q : Fin 4 => (P (F := F) pt).x q thr) = fun _ => (iprop(emp) : sProp 𝕄) := by
    funext thr
    exact bigSep_emp_const _
  rw [h]; exact bigSep_emp_const _

theorem hu₀ (pt : Fin 4 → Dev nD → FVec F S64x8192 .f32) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P (F := F) pt).x q thr) := by
  unfold u₀
  iintro Hu
  ihave H := (ownU_pair _ _) $$ Hu
  icases H with ⟨HH, HK⟩
  ihave H := (own_pair_emb ER (pu₀ (F := F)) 1) $$ HK
  icases H with ⟨HP, -⟩
  unfold pu₀
  ihave HP := (show (BI.own (((Emb.inl : Emb (UR sig nD τ) UP).trans ER) (initOf (Pipeline.cells (Pipeline.pin (pcfgs (F := F)) aP) cellOf_inj) (Pipeline.launchToks (Pipeline.pin (pcfgs (F := F)) aP) cellOf_inj))) : sProp 𝕄) ⊢ BI.own (EP (initOf (Pipeline.cells (Pipeline.pin (pcfgs (F := F)) aP) cellOf_inj) (Pipeline.launchToks (Pipeline.pin (pcfgs (F := F)) aP) cellOf_inj))) from by unfold EP; exact BI.Entails.refl _) $$ HP
  imod (Pipeline.fund_ghost (Pipeline.pin (pcfgs (F := F)) aP) EP cellOf_inj) $$ HP with ⟨Hg, Ht⟩
  imodintro
  isplitl [HH]; · iexact HH
  isplitl [Hg Ht]
  · unfold G
    iapply (Entails.of_eq (bigSep_sep' Finset.univ _ _).symm)
    isplitl [Hg]; · iexact Hg
    iexact Ht
  · rw [x_emp]; iempintro

/-! ## What every final memory holds -/

def fq (d : Dev nD) (s' : Phys nD τ sig (Elt F)) : Prop := ∀ r : Ref sig .tc, Proc.devRef .tc r ∈ Pipeline.ucRefs τ sig → s'.mem.mem ((SparseCore.T d).loc r) = V10 m d (Proc.devRef .tc r)

theorem hfin1 (d : Dev nD) (s' : Phys nD τ sig (Elt F)) (r : Ref sig .tc) (hr : Proc.devRef .tc r ∈ Pipeline.ucRefs τ sig) :
    iprop(FIN m d ∗ SI s') ⊢ (⌜s'.mem.mem ((SparseCore.T d).loc r) = V10 m d (Proc.devRef .tc r)⌝ : sProp 𝕄) := by
  iintro ⟨Hi, HSI⟩
  ihave Hi := (show FIN m d ⊢ (((SparseCore.T d).loc r) ↦{fullShare} V10 m d (Proc.devRef .tc r) : sProp 𝕄) from by
    unfold FIN StableHlo.held; exact bigSep_elim hr) $$ Hi
  ihave H := (SI_pointsTo_agree (st := s') (ℓ := (SparseCore.T d).loc r) (I := Finset.univ) (q := fullShare) (f := V10 m d (Proc.devRef .tc r))) $$ [HSI Hi]
  · isplitl [HSI] <;> iassumption
  icases H with %h1
  ipureintro; exact funext fun i => h1 i (Finset.mem_univ i)

theorem hfin (d : Dev nD) (s' : Phys nD τ sig (Elt F)) : iprop(FIN m d ∗ SI s') ⊢ (⌜fq m d s'⌝ : sProp 𝕄) := by
  unfold fq
  refine Entails.trans ?_ pure_forall.2
  refine forall_intro fun r => ?_
  refine Entails.trans ?_ pure_forall.2
  exact forall_intro fun hr => hfin1 m d s' r hr

/-! ## The run -/

def QC : PUnit × MemSt nD τ sig (Elt F) → Prop := fun r =>
  (∀ (c : Dev nD) (b : Ref sig .tc), Proc.devRef .tc b ∈ Pipeline.ucRefs τ sig → r.2.mem ((SparseCore.T c).loc b) = V10 m c (Proc.devRef .tc b)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (pt m)) (A := ∅) facts v₀
    (fun q hq => match q with | 0 => nomatch hq | 1 => nomatch hq | 2 => nomatch hq | 3 => nomatch hq)
    (fun q _ => match q with | 0 => tileObl0 (pt m) | 1 => tileObl1 (pt m) | 2 => tileObl2 (pt m) | 3 => tileObl3 (pt m))
    (fun q _ => SparseCore.Cfg.VecSplit.of_plain (vecSplit (pt m) q))
    m ρ main (G (F := F)) (FIN m) (u₀ (F := F)) (sep_elim_left.trans (hu₀ (pt m))) (hmain m ρ) (fq m) (hfin m) (QC m) (fun _ h hz => ⟨h, hz⟩)

theorem keep0 (d : Dev nD) (r : Ref sig .tc) (h : r ≠ main_v1_0) (h' : r ≠ main_v1_1) : V2 m d (Proc.devRef .tc r) = V1 m d (Proc.devRef .tc r) := by
  unfold V2
  refine Pipeline.afterRegion_keeps (dat0 (V1 m d) d) (V1 m d) launch0.win.arr_inj (A0_eq (V1 m d) d) r fun w hw => ?_
  match w with
  | 0 => rfl
  | 1 => rfl
  | 2 => exact absurd hw.symm h
  | 3 => exact absurd hw.symm h'
theorem keep1 (d : Dev nD) (r : Ref sig .tc) (h : r ≠ main_v2_0) (h' : r ≠ main_v2_1) : V3 m d (Proc.devRef .tc r) = V2 m d (Proc.devRef .tc r) := by
  unfold V3
  refine Pipeline.afterRegion_keeps (dat1 (V2 m d) d) (V2 m d) launch1.win.arr_inj (A1_eq (V2 m d) d) r fun w hw => ?_
  match w with
  | 0 => rfl
  | 1 => rfl
  | 2 => exact absurd hw.symm h
  | 3 => exact absurd hw.symm h'
theorem keep2 (d : Dev nD) (r : Ref sig .tc) (h : r ≠ main_v3_0) (h' : r ≠ main_v3_1) : V4 m d (Proc.devRef .tc r) = V3 m d (Proc.devRef .tc r) := by
  unfold V4
  refine Pipeline.afterRegion_keeps (dat2 (V3 m d) d) (V3 m d) launch2.win.arr_inj (A2_eq (V3 m d) d) r fun w hw => ?_
  match w with
  | 0 => rfl
  | 1 => rfl
  | 2 => exact absurd hw.symm h
  | 3 => exact absurd hw.symm h'
theorem keep3 (d : Dev nD) (r : Ref sig .tc) (h : r ≠ main_v4_0) (h' : r ≠ main_v4_1) : V5 m d (Proc.devRef .tc r) = V4 m d (Proc.devRef .tc r) := by
  unfold V5
  refine Pipeline.afterRegion_keeps (dat3 (V4 m d) d) (V4 m d) launch3.win.arr_inj (A3_eq (V4 m d) d) r fun w hw => ?_
  match w with
  | 0 => rfl
  | 1 => rfl
  | 2 => exact absurd hw.symm h
  | 3 => exact absurd hw.symm h'
theorem keep5 (d : Dev nD) (r : Ref sig .tc) (h : r ∉ [main_v5_0, main_v5_1, main_v6_0, main_v6_1, main_v7_0, main_v7_1, main_v8_0, main_v8_1]) : V9 m d (Proc.devRef .tc r) = V5 m d (Proc.devRef .tc r) := by
  simp only [List.mem_cons, List.not_mem_nil, or_false, not_or] at h
  obtain ⟨h1, h2, h3, h4, h5, h6, h7, h8⟩ := h
  unfold V9 V8 V7 V6
  rw [upd_off _ _ _ _ _ _ (StableHlo.devRef_ne_of_ne h7) (StableHlo.devRef_ne_of_ne h8),
    upd_off _ _ _ _ _ _ (StableHlo.devRef_ne_of_ne h5) (StableHlo.devRef_ne_of_ne h6),
    upd_off _ _ _ _ _ _ (StableHlo.devRef_ne_of_ne h3) (StableHlo.devRef_ne_of_ne h4),
    upd_off _ _ _ _ _ _ (StableHlo.devRef_ne_of_ne h1) (StableHlo.devRef_ne_of_ne h2)]
theorem keep1' (d : Dev nD) (r : Ref sig .tc) (h : r ≠ main_v0) : V1 m d (Proc.devRef .tc r) = V0 m d (Proc.devRef .tc r) := by
  unfold V1
  exact StableHlo.reshape_result_ne (h := h) ..
theorem keep10 (d : Dev nD) (r : Ref sig .tc) (h : r ∉ tailW) : V10 m d (Proc.devRef .tc r) = V9 m d (Proc.devRef .tc r) :=
  StableHlo.after_of_writes_sub tailOps (V9 m d) (StableHlo.forall_writes_sub_of_map tail_writes) h

/-- The arguments are as they were. -/
theorem arg_kept (d : Dev nD) (r : Ref sig .tc) (hr : r = main_arg0 ∨ r = main_arg1 ∨ r = main_arg2) : V10 m d (Proc.devRef .tc r) = m ((SparseCore.T d).loc r) := by
  have hx : r ∉ tailW ∧ r ∉ [main_v5_0, main_v5_1, main_v6_0, main_v6_1, main_v7_0, main_v7_1, main_v8_0, main_v8_1] ∧ r ≠ main_v4_0 ∧ r ≠ main_v4_1 ∧ r ≠ main_v3_0 ∧ r ≠ main_v3_1
      ∧ r ≠ main_v2_0 ∧ r ≠ main_v2_1 ∧ r ≠ main_v1_0 ∧ r ≠ main_v1_1 ∧ r ≠ main_v0 := by
    rcases hr with rfl | rfl | rfl <;> decide
  obtain ⟨a, b, c, c', e, e', f, f', g, g', h⟩ := hx
  rw [keep10 m d r a, keep5 m d r b, keep3 m d r c c', keep2 m d r e e', keep1 m d r f f', keep0 m d r g g', keep1' m d r h]
  rfl

/-- Every run keeps the arguments. -/
theorem run_kept [∀ e, Nonempty (Elt F e)] : θ_run (Cert.KernelIdeal.defs (F := F)) (Cert.KernelIdeal.threads (F := F)) ⟨m, fun _ => 0, ρ⟩ fun r =>
    (∀ c : Dev nD, r.2.mem ((SparseCore.T c).loc main_arg0) = m ((SparseCore.T c).loc main_arg0) ∧ r.2.mem ((SparseCore.T c).loc main_arg1) = m ((SparseCore.T c).loc main_arg1)
      ∧ r.2.mem ((SparseCore.T c).loc main_arg2) = m ((SparseCore.T c).loc main_arg2)) ∧ r.2.sem = fun _ => 0 :=
  (θ_run (Cert.KernelIdeal.defs (F := F)) _ _).mono (fun _ h => ⟨fun c =>
    ⟨(h.1 c main_arg0 (uc main_arg0 (by decide))).trans (arg_kept m c _ (.inl rfl)), (h.1 c main_arg1 (uc main_arg1 (by decide))).trans (arg_kept m c _ (.inr (.inl rfl))),
      (h.1 c main_arg2 (uc main_arg2 (by decide))).trans (arg_kept m c _ (.inr (.inr rfl)))⟩, h.2⟩) (run_main m ρ)

end Cert.Proof.Tile

end
-- ==== Proof.Same.lean ====
/-
  The program as printed and its ideal reading are one program.
-/
module

public import proofs.«01_k».proof.Proof.Gen.Kernel
public import proofs.«01_k».proof.Proof.Gen.KernelIdeal
public import Idealize.ShloMosaic.PureOps.BitExact

@[expose] public section

noncomputable section

namespace Cert.Proof

open Idealize.ShloMosaic Idealize.SL.Sem

variable {F : FTy → Type} [FloatOps F]
set_option maxHeartbeats 40000000 in
theorem eq_d0 : Cert.Kernel.defs₀ (F := F) = Cert.KernelIdeal.defs₀ (F := F) := by
  funext p ℓ a
  cases p with
  | tc =>
    match ℓ, a with
    | 0, (t, s) => rfl
    | 1, (t, s) => rfl
    | 2, (t, s) => rfl
    | 3, (t, s) => rfl
    | 4, _ => rfl
    | 5, _ => rfl
    | 6, _ => rfl
    | 7, _ => rfl
  | scScalar c =>
    match ℓ, a with
    | 0, _ => rfl
    | 1, _ => rfl
    | 2, _ => rfl
    | 3, _ => rfl
    | 4, _ => rfl
    | 5, _ => rfl
    | 6, _ => rfl
    | 7, _ => rfl
  | scVector c s =>
    match ℓ, a with
    | 0, _ => rfl
    | 1, _ => rfl
    | 2, _ => rfl
    | 3, _ => rfl
    | 4, _ => rfl
    | 5, _ => rfl
    | 6, _ => rfl
    | 7, _ => rfl
set_option maxHeartbeats 4000000 in
theorem eq_main : Cert.Kernel.main (F := F) = Cert.KernelIdeal.main (F := F) := rfl

set_option maxHeartbeats 4000000 in
theorem eq_sc : Cert.Kernel.sc (F := F) = Cert.KernelIdeal.sc (F := F) := rfl

set_option maxHeartbeats 4000000 in
theorem eq_defs : Cert.Kernel.defs (F := F) = Cert.KernelIdeal.defs (F := F) := by
  have h : Pipeline.defs (Cert.KernelIdeal.pcfgs (F := F)) (Cert.Kernel.defs₀ (F := F)) = Pipeline.defs (Cert.KernelIdeal.pcfgs (F := F)) (Cert.KernelIdeal.defs₀ (F := F)) :=
    congrArg (Pipeline.defs (Cert.KernelIdeal.pcfgs (F := F))) eq_d0
  exact congrArg (fun D => (Cert.KernelIdeal.sc (F := F)).defs D) h

set_option maxHeartbeats 4000000 in
theorem eq_threads : Cert.Kernel.threads (F := F) = Cert.KernelIdeal.threads (F := F) :=
  congrArg (fun M => (Cert.KernelIdeal.sc (F := F)).threads M) eq_main

end Cert.Proof

end
-- ==== Proof.Frame.lean ====
/-
  The frames: every run of the program, as printed and over the ideal numbers, and of the reference keeps its arguments
  and ends quiescent.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same

@[expose] public section

noncomputable section

namespace Cert.Proof

open Idealize.ShloMosaic Idealize.SL.Sem

theorem run_congr {n : Nat} {τ : Topo} {sg : RefSig} {Val : EltTy → Type} {Λ : Labels} {D D' : Defs n τ sg Val Λ} (h : D = D')
    {p p' : (c : Thread n τ) → Prog (TpuEff n τ sg Val Λ c.2) PUnit} (h' : p = p') (s : MemSt n τ sg Val) (Q : PUnit × MemSt n τ sg Val → Prop)
    (hr : θ_run D' p' s Q) : θ_run D p s Q := by
  subst h; subst h'; exact hr

theorem frame_kernel : Cert.quiescent_Kernel := fun m ρ _ =>
  run_congr eq_defs eq_threads _ _ (Tile.run_kept (F := Bits) m ρ)

theorem frame_ideal : Cert.quiescent_KernelIdeal := fun m ρ _ =>
  (θ_run Cert.KernelIdeal.defs _ _).mono (fun _ h => h) (Tile.run_kept (F := Ideal) m ρ)

theorem frame_ref : Cert.quiescent_ReferenceIdeal := fun m ρ _ =>
  (θ_run Cert.ReferenceIdeal.defs _ _).mono (fun r h => ⟨fun c => (h c).2.2.2, Idealize.ShloMosaic.sem_eq_zero_of_no_sems (by decide) r.2⟩) (Cert.ReferenceIdeal.Value.run (F := Ideal) m ρ)

end Cert.Proof

end
-- ==== Proof.Order.lean ====
/-
  The order of the experts over the extended reals: the kernel's ranks sort sixteen lanes, merging sorted halves keeps the
  best eight, ties going to the lower expert, and the reference's top-k selection names the same eight in the same order.
-/
module

public import proofs.«01_k».proof.Proof.Spec
public import Idealize.ShloMosaic.PureOps.Ideal.Laws
public import Idealize.ShloMosaic.Lib.SortPrefix
public import Idealize.ShloMosaic.Lib.SortFacts

@[expose] public section

noncomputable section

namespace Cert.Proof.Tile

open Idealize.ShloMosaic

/-! ## Ranks among sixteen lanes -/

theorem ofBool_iff (b : Bool) : BitVec.ofBool b = 1#1 ↔ b = true := by cases b <;> decide

theorem before_iff (k : Fin 16 → Ideal .f32) (j i : Fin 16) :
    Before (F := Ideal) k j i ↔ (k j < k i ∨ (k j = k i ∧ j < i)) := by
  unfold Before
  rw [show FloatOps.cmpf (F := Ideal) .olt (k j) (k i) = BitVec.ofBool (decide (k j < k i)) from rfl,
    show FloatOps.cmpf (F := Ideal) .oeq (k j) (k i) = BitVec.ofBool (decide (k j = k i)) from rfl]
  simp only [ofBool_iff, decide_eq_true_eq]

variable (k : Fin 16 → Ideal .f32)

theorem before_irrefl (i : Fin 16) : ¬ Before (F := Ideal) k i i := by
  rw [before_iff]; rintro (h | ⟨_, h⟩) <;> exact lt_irrefl _ h

theorem before_trans {a b c : Fin 16} (h : Before (F := Ideal) k a b) (h' : Before (F := Ideal) k b c) : Before (F := Ideal) k a c := by
  rw [before_iff] at *
  rcases h with h | ⟨e, h⟩ <;> rcases h' with h' | ⟨e', h'⟩
  · exact .inl (h.trans h')
  · exact .inl (e' ▸ h)
  · exact .inl (e.symm ▸ h')
  · exact .inr ⟨e.trans e', h.trans h'⟩

theorem before_total {a b : Fin 16} (h : a ≠ b) : Before (F := Ideal) k a b ∨ Before (F := Ideal) k b a := by
  rw [before_iff, before_iff]
  rcases lt_trichotomy (k a) (k b) with h1 | h1 | h1
  · exact .inl (.inl h1)
  · rcases lt_or_gt_of_ne h with h2 | h2
    · exact .inl (.inr ⟨h1, h2⟩)
    · exact .inr (.inr ⟨h1.symm, h2⟩)
  · exact .inr (.inl h1)

theorem countBefore_eq (i : Fin 16) :
    countBefore (F := Ideal) k 15 i = (Finset.univ.filter fun j => Before (F := Ideal) k j i).card := by
  unfold countBefore
  refine Finset.card_nbij' (fun d => turn i (d + 1)) (fun j => (j.val + 15 - i.val) % 16) ?_ ?_ ?_ ?_
  · intro d hd
    simp only [Finset.coe_filter, Finset.mem_range, Finset.mem_univ, true_and, Set.mem_setOf_eq] at hd ⊢
    exact hd.2
  · intro j hj
    simp only [Finset.coe_filter, Finset.mem_range, Finset.mem_univ, true_and, Set.mem_setOf_eq] at hj ⊢
    have hne : j ≠ i := fun e => before_irrefl k i (by rw [e] at hj; exact hj)
    have hv : j.val ≠ i.val := fun e => hne (Fin.ext e)
    have hjl := j.isLt
    have hil := i.isLt
    refine ⟨by omega, ?_⟩
    have e : turn i ((j.val + 15 - i.val) % 16 + 1) = j := Fin.ext (by show (i.val + ((j.val + 15 - i.val) % 16 + 1)) % 16 = j.val; omega)
    rw [e]; exact hj
  · intro d hd
    simp only [Finset.coe_filter, Finset.mem_range, Set.mem_setOf_eq] at hd
    have hil := i.isLt
    show ((i.val + (d + 1)) % 16 + 15 - i.val) % 16 = d
    omega
  · intro j _
    have hjl := j.isLt
    have hil := i.isLt
    exact Fin.ext (by show (i.val + ((j.val + 15 - i.val) % 16 + 1)) % 16 = j.val; omega)

theorem rank_lt {j i : Fin 16} (h : Before (F := Ideal) k j i) : rank (F := Ideal) k j < rank (F := Ideal) k i := by
  show countBefore (F := Ideal) k 15 j < countBefore (F := Ideal) k 15 i
  rw [countBefore_eq, countBefore_eq]
  refine Finset.card_lt_card ((Finset.ssubset_iff_of_subset fun x hx => ?_).2 ⟨j, ?_, ?_⟩)
  · rw [Finset.mem_filter] at hx ⊢
    exact ⟨Finset.mem_univ _, before_trans k hx.2 h⟩
  · exact Finset.mem_filter.2 ⟨Finset.mem_univ _, h⟩
  · intro hx
    exact before_irrefl k j (Finset.mem_filter.1 hx).2

theorem rank_inj : Function.Injective (rank (F := Ideal) k) := by
  intro a b h
  by_contra hne
  rcases before_total k hne with h1 | h1
  · exact absurd h (rank_lt k h1).ne
  · exact absurd h (rank_lt k h1).ne'

/-- A fold of stores to different places leaves, at a masked lane's place, that lane's value. -/
theorem foldl_at {α ι : Type} [DecidableEq ι] (r : Fin 16 → ι) (mask : Fin 16 → Bool) (v : Fin 16 → α) (l : List (Fin 16)) (hl : l.Nodup)
    (f : ι → α) (p : ι) :
    (∀ j ∈ l, mask j = true → p ≠ r j) →
    l.foldl (fun g j => if mask j then fun p => if p = r j then v j else g p else g) f p = f p := by
  induction l generalizing f with
  | nil => intro _; rfl
  | cons a l ih =>
    intro h
    rw [List.foldl_cons, ih (List.nodup_cons.1 hl).2 _ fun j hj => h j (List.mem_cons_of_mem _ hj)]
    split
    · next hm => exact if_neg (h a List.mem_cons_self hm)
    · rfl

theorem foldl_hit {α ι : Type} [DecidableEq ι] (r : Fin 16 → ι) (mask : Fin 16 → Bool) (v : Fin 16 → α)
    (hr : ∀ i j, mask i = true → mask j = true → r i = r j → i = j) (l : List (Fin 16)) (hl : l.Nodup) (f : ι → α) (i : Fin 16) (hi : i ∈ l)
    (hm : mask i = true) :
    l.foldl (fun g j => if mask j then fun p => if p = r j then v j else g p else g) f (r i) = v i := by
  induction l generalizing f with
  | nil => cases hi
  | cons a l ih =>
    have hn := List.nodup_cons.1 hl
    rw [List.foldl_cons]
    rcases List.mem_cons.1 hi with e | hi'
    · subst e
      rw [foldl_at r mask v l hn.2 _ _ fun j hj hmj he => hn.1 ((hr i j hm hmj he) ▸ hj), if_pos hm]
      exact if_pos rfl
    · exact ih hn.2 _ hi'

theorem scatter_hit {α ι : Type} [DecidableEq ι] (r : Fin 16 → ι) (mask : Fin 16 → Bool) (v : Fin 16 → α)
    (hr : ∀ i j, mask i = true → mask j = true → r i = r j → i = j) (f : ι → α) (i : Fin 16) (hm : mask i = true) :
    scatter r mask v f (r i) = v i :=
  foldl_hit r mask v hr _ (List.nodup_finRange 16) f i (List.mem_finRange i) hm

theorem scatter_miss {α ι : Type} [DecidableEq ι] (r : Fin 16 → ι) (mask : Fin 16 → Bool) (v : Fin 16 → α) (f : ι → α) (p : ι)
    (h : ∀ j, mask j = true → p ≠ r j) : scatter r mask v f p = f p :=
  foldl_at r mask v _ (List.nodup_finRange 16) f p fun j _ => h j

/-- Sorting by a key is one permutation of the lanes, whatever is sorted, and it puts the lanes in the keys' order. -/
theorem srt_perm : ∃ σ : Fin 16 → Fin 16, Function.Bijective σ ∧ (∀ (α : Type) (v : Fin 16 → α) (i : Fin 16), srt (F := Ideal) k v i = v (σ i))
    ∧ ∀ i j, i < j → Before (F := Ideal) k (σ i) (σ j) := by
  have hb : Function.Bijective (rank (F := Ideal) k) := Finite.injective_iff_bijective.1 (rank_inj k)
  let e := Equiv.ofBijective _ hb
  have hr : ∀ i, rank (F := Ideal) k (e.symm i) = i := fun i => e.apply_symm_apply i
  refine ⟨e.symm, e.symm.bijective, fun α v i => ?_, fun i j hij => ?_⟩
  · have h := scatter_hit (rank (F := Ideal) k) (fun _ => true) v (fun _ _ _ _ h => rank_inj k h) v (e.symm i) rfl
    rw [hr i] at h
    exact h
  · have hne : e.symm i ≠ e.symm j := fun h => hij.ne (e.symm.injective h)
    rcases before_total k hne with h | h
    · exact h
    · have h' := rank_lt k h
      rw [hr, hr] at h'
      exact absurd (hij.trans h') (lt_irrefl _)

/-! ## The experts' order -/

variable (p : Fin 64 → Ideal .f32)

/-- Expert `e` goes before expert `e'`: the more likely, and of two alike the lower. -/
def Prec (x : Fin 64 → EReal) (e e' : Fin 64) : Prop := x e' < x e ∨ (x e = x e' ∧ e < e')

theorem prec_irrefl (x : Fin 64 → EReal) (e : Fin 64) : ¬ Prec x e e := by
  rintro (h | ⟨_, h⟩) <;> exact lt_irrefl _ h

theorem prec_trans {x : Fin 64 → EReal} {a b c : Fin 64} (h : Prec x a b) (h' : Prec x b c) : Prec x a c := by
  rcases h with h | ⟨e, h⟩ <;> rcases h' with h' | ⟨e', h'⟩
  · exact .inl (h'.trans h)
  · exact .inl (e' ▸ h)
  · exact .inl (e.symm ▸ h')
  · exact .inr ⟨e.trans e', h.trans h'⟩

theorem zsub_lt {a b : EReal} : 0 - a < 0 - b ↔ b < a := by rw [zero_sub, zero_sub]; exact EReal.neg_lt_neg_iff
theorem zsub_eq {a b : EReal} : 0 - a = 0 - b ↔ a = b := by rw [zero_sub, zero_sub]; exact neg_inj

/-- Lanes `E` of experts in order, with their keys and their numbers, the first eight the best of those from `lo` to `hi`. -/
structure Stage (lo hi : ℕ) (kk : Fin 16 → EReal) (vv : Fin 16 → BitVec 32) (E : Fin 16 → Fin 64) : Prop where
  key : ∀ i, kk i = 0 - p (E i)
  val : ∀ i, vv i = BitVec.ofNat 32 (E i).val
  ord : ∀ i j, i < j → Prec p (E i) (E j)
  mem : ∀ i, lo ≤ (E i).val ∧ (E i).val < hi
  top : ∀ e : Fin 64, lo ≤ e.val → e.val < hi → (∃ i : Fin 16, i.val < 8 ∧ E i = e) ∨ ∀ i : Fin 16, i.val < 8 → Prec p (E i) e

theorem Stage.inj {lo hi : ℕ} {kk : Fin 16 → EReal} {vv : Fin 16 → BitVec 32} {E : Fin 16 → Fin 64} (h : Stage p lo hi kk vv E) :
    Function.Injective E := by
  intro a b hab
  by_contra hne
  rcases lt_or_gt_of_ne hne with h1 | h1
  · exact prec_irrefl p _ (hab ▸ h.ord _ _ h1)
  · exact prec_irrefl p _ (hab ▸ h.ord _ _ h1)

/-- Sorting lanes whose ties stand in the experts' order sorts the experts. -/
theorem sort_lanes (kk : Fin 16 → EReal) (vv : Fin 16 → BitVec 32) (G : Fin 16 → Fin 64)
    (hk : ∀ i, kk i = 0 - p (G i)) (hv : ∀ i, vv i = BitVec.ofNat 32 (G i).val) (ht : ∀ i j, i < j → p (G i) = p (G j) → G i < G j) :
    ∃ σ : Fin 16 → Fin 16, Function.Bijective σ ∧ (∀ i, srt (F := Ideal) kk kk i = 0 - p (G (σ i)))
      ∧ (∀ i, srt (F := Ideal) kk vv i = BitVec.ofNat 32 (G (σ i)).val) ∧ ∀ i j, i < j → Prec p (G (σ i)) (G (σ j)) := by
  obtain ⟨σ, hb, hs, ho⟩ := srt_perm kk
  refine ⟨σ, hb, fun i => (hs _ kk i).trans (hk _), fun i => (hs _ vv i).trans (hv _), fun i j hij => ?_⟩
  have h := (before_iff kk _ _).1 (ho i j hij)
  rw [hk, hk, zsub_lt, zsub_eq] at h
  rcases h with h | ⟨e, h⟩
  · exact .inl h
  · exact .inr ⟨e, ht _ _ h e⟩

theorem zero_word : (Scalar.ofBits .f32 0x00000000#32 : Ideal .f32) = 0 := Ideal.ofBits_zero_f32

theorem stage_quarter (b : Fin 4) : ∃ E, Stage p (16 * b.val) (16 * b.val + 16) (qk (F := Ideal) p b) (qv (F := Ideal) p b) E := by
  have hb4 := b.isLt
  let G : Fin 16 → Fin 64 := fun i => ⟨16 * b.val + i.val, by omega⟩
  obtain ⟨σ, hb, hk, hv, ho⟩ := sort_lanes p (key (F := Ideal) p b) (eid b) G
    (fun i => by unfold key; rw [zero_word]; rfl) (fun i => rfl)
    (fun i j hij _ => by show 16 * b.val + i.val < 16 * b.val + j.val; exact Nat.add_lt_add_left hij _)
  refine ⟨fun i => G (σ i), hk, hv, ho, fun i => ⟨Nat.le_add_right _ _, Nat.add_lt_add_left (σ i).isLt _⟩, fun e hlo hhi => ?_⟩
  obtain ⟨j, hj⟩ := hb.2 ⟨e.val - 16 * b.val, by omega⟩
  have he : G (σ j) = e := by rw [hj]; exact Fin.ext (by show 16 * b.val + (e.val - 16 * b.val) = e.val; omega)
  by_cases h8 : j.val < 8
  · exact .inl ⟨j, h8, he⟩
  · exact .inr fun i hi => he ▸ ho i j (Fin.lt_def.2 (by omega))

theorem stage_merge {lo mid hi : ℕ} {ka kb : Fin 16 → EReal} {va vb : Fin 16 → BitVec 32} {A B : Fin 16 → Fin 64}
    (ha : Stage p lo mid ka va A) (hb : Stage p mid hi kb vb B) (hlm : lo ≤ mid) (hmh : mid ≤ hi) :
    ∃ E, Stage p lo hi (srt (F := Ideal) (half ka kb) (half ka kb)) (srt (F := Ideal) (half ka kb) (half va vb)) E := by
  let G : Fin 16 → Fin 64 := half A B
  have hG : ∀ i, G i = half A B i := fun _ => rfl
  have hmid : ∀ i : Fin 16, i.val < 8 → G i = A i := fun i h => by rw [hG, half, if_pos h]
  have hmid' : ∀ i : Fin 16, ¬ i.val < 8 → G i = B ⟨i.val - 8, by omega⟩ := fun i h => by rw [hG, half, if_neg h]
  obtain ⟨σ, hσ, hk, hv, ho⟩ := sort_lanes p (half ka kb) (half va vb) G
    (fun i => by
      by_cases h : i.val < 8
      · rw [hmid i h, half, if_pos h, ha.key]
      · rw [hmid' i h, half, if_neg h, hb.key])
    (fun i => by
      by_cases h : i.val < 8
      · rw [hmid i h, half, if_pos h, ha.val]
      · rw [hmid' i h, half, if_neg h, hb.val])
    (fun i j hij he => by
      have hij' : i.val < j.val := hij
      by_cases hi8 : i.val < 8
      · by_cases hj8 : j.val < 8
        · rw [hmid i hi8, hmid j hj8] at he ⊢
          rcases ha.ord i j hij with h | h
          · exact absurd he h.ne'
          · exact h.2
        · rw [hmid i hi8, hmid' j hj8]
          exact Fin.lt_def.2 (lt_of_lt_of_le (ha.mem i).2 (hb.mem _).1)
      · have hj8 : ¬ j.val < 8 := by omega
        rw [hmid' i hi8, hmid' j hj8] at he ⊢
        rcases hb.ord ⟨i.val - 8, by omega⟩ ⟨j.val - 8, by omega⟩ (Fin.lt_def.2 (by show i.val - 8 < j.val - 8; omega)) with h | h
        · exact absurd he h.ne'
        · exact h.2)
  refine ⟨fun i => G (σ i), hk, hv, ho, fun i => ?_, fun e hlo hhi => ?_⟩
  · by_cases h : (σ i).val < 8
    · rw [hmid _ h]; exact ⟨(ha.mem _).1, lt_of_lt_of_le (ha.mem _).2 hmh⟩
    · rw [hmid' _ h]; exact ⟨hlm.trans (hb.mem _).1, (hb.mem _).2⟩
  -- an expert present in the lanes is in the first eight or after them
  have present : ∀ g : Fin 16, G g = e → (∃ i : Fin 16, i.val < 8 ∧ G (σ i) = e) ∨ ∀ i : Fin 16, i.val < 8 → Prec p (G (σ i)) e := fun g hg => by
    obtain ⟨j, hj⟩ := hσ.2 g
    have he : G (σ j) = e := by rw [hj, hg]
    by_cases h8 : j.val < 8
    · exact .inl ⟨j, h8, he⟩
    · exact .inr fun i hi => he ▸ ho i j (Fin.lt_def.2 (by omega))
  -- an expert after eight present ones is after the first eight
  have absent : ∀ f : Fin 8 → Fin 16, Function.Injective f → (∀ a, Prec p (G (f a)) e) → ∀ i : Fin 16, i.val < 8 → Prec p (G (σ i)) e := fun f hf hp i hi => by
    have hex : ∃ a : Fin 8, ∃ j : Fin 16, σ j = f a ∧ 7 ≤ j.val := by
      by_contra hno
      have hlt : ∀ a : Fin 8, ((Equiv.ofBijective σ hσ).symm (f a)).val < 7 := fun a => by
        by_contra h7
        exact hno ⟨a, _, (Equiv.ofBijective σ hσ).apply_symm_apply (f a), by omega⟩
      have hinj : Function.Injective (fun a : Fin 8 => (⟨_, hlt a⟩ : Fin 7)) := fun a b hab =>
        hf ((Equiv.ofBijective σ hσ).symm.injective (Fin.ext (by have h := congrArg Fin.val hab; exact h)))
      exact absurd (Fintype.card_le_of_injective _ hinj) (by simp)
    obtain ⟨a, j, hj, h7⟩ := hex
    have hje : Prec p (G (σ j)) e := by rw [hj]; exact hp a
    rcases lt_or_eq_of_le (show i.val ≤ j.val by omega) with h | h
    · exact prec_trans (ho i j (Fin.lt_def.2 h)) hje
    · rw [Fin.ext h]; exact hje
  by_cases hm : e.val < mid
  · rcases ha.top e hlo hm with ⟨i, hi, he⟩ | h
    · exact present i ((hmid i hi).trans he)
    · refine .inr (absent (fun a => ⟨a.val, by omega⟩) (fun a b hab => Fin.ext (by have h := congrArg Fin.val hab; exact h)) fun a => ?_)
      rw [hmid _ a.isLt]; exact h _ a.isLt
  · rcases hb.top e (by omega) hhi with ⟨i, hi, he⟩ | h
    · refine present ⟨i.val + 8, by omega⟩ ?_
      rw [hmid' _ (by show ¬ i.val + 8 < 8; omega), ← he]
      exact congrArg B (Fin.ext (by show i.val + 8 - 8 = i.val; omega))
    · refine .inr (absent (fun a => ⟨a.val + 8, by omega⟩) (fun a b hab => Fin.ext (by have := congrArg Fin.val hab; dsimp only at this; omega)) fun a => ?_)
      rw [hmid' _ (by show ¬ a.val + 8 < 8; omega)]
      exact h ⟨a.val + 8 - 8, by omega⟩ (by show a.val + 8 - 8 < 8; omega)

/-- The kernel's last sort holds the eight best of all the experts, in order. -/
theorem stage_all : ∃ E, Stage p 0 64 (tk (F := Ideal) p) (tv (F := Ideal) p) E := by
  obtain ⟨A, hA⟩ := stage_quarter p 0
  obtain ⟨B, hB⟩ := stage_quarter p 1
  obtain ⟨C, hC⟩ := stage_quarter p 2
  obtain ⟨D, hD⟩ := stage_quarter p 3
  obtain ⟨X, hX⟩ := stage_merge p (lo := 0) (mid := 16) (hi := 32) hA hB (by decide) (by decide)
  obtain ⟨Y, hY⟩ := stage_merge p (lo := 32) (mid := 48) (hi := 64) hC hD (by decide) (by decide)
  exact stage_merge p (lo := 0) (mid := 32) (hi := 64) hX hY (by decide) (by decide)

/-! ## The reference's selection -/

/-- A stable sort by the greater value is the sort by the value and then the position. -/
theorem stableSort_prec (x : Fin 64 → EReal) (l : List (Fin 64)) (hl : l.Pairwise (· < ·)) :
    stableSort (fun a b => decide (x b < x a)) l = stableSort (fun a b => decide (x b < x a) || (decide (x a = x b) && decide (a < b))) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    rw [show decide (b < a) = false from decide_eq_false (not_lt_of_gt hab), Bool.and_false, Bool.or_false]

theorem sortedFrom_of_positions {n : ℕ} (R R' : Fin n → Fin n → Bool) (h : sortPositions n R = sortPositions n R') : sortedFrom R = sortedFrom R' := by
  funext q
  unfold sortedFrom
  rw [List.get_of_eq h]
  rfl

/-- The reference's stable selection by the greater value names, at place `r`, what any list of eight experts in order with
    every other expert after them names there. -/
theorem sortedFrom_top (x : Fin 64 → EReal) (E : Fin 8 → Fin 64) (hord : ∀ i j, i < j → Prec x (E i) (E j))
    (htop : ∀ e, (∃ i, E i = e) ∨ ∀ i, Prec x (E i) e) (r : Fin 8) :
    sortedFrom (fun a b => decide (x b < x a)) (r.castLE (by decide)) = E r := by
  have hs : sortedFrom (fun a b : Fin 64 => decide (x b < x a)) = sortedFrom (fun a b : Fin 64 => decide (x b < x a) || (decide (x a = x b) && decide (a < b))) :=
    sortedFrom_of_positions _ _ (stableSort_prec x (List.finRange 64) (List.pairwise_lt_finRange 64))
  have hB := StrictTotalBefore.of_key_then_position (fun a b : EReal => decide (b < a)) x (fun a => decide_eq_false (lt_irrefl _))
    (fun a b c h h' => decide_eq_true ((of_decide_eq_true h').trans (of_decide_eq_true h)))
    (fun a b => by
      rcases lt_trichotomy a b with h | h | h
      · exact .inr (.inr (decide_eq_true h))
      · exact .inr (.inl h)
      · exact .inl (decide_eq_true h))
  have hno : ∀ a b, Prec x a b → (decide (x a < x b) || (decide (x b = x a) && decide (b < a))) = false := fun a b h => by
    by_contra hc
    rw [Bool.not_eq_false, Bool.or_eq_true, Bool.and_eq_true, decide_eq_true_eq, decide_eq_true_eq, decide_eq_true_eq] at hc
    exact prec_irrefl x a (prec_trans h hc)
  have hinj : Function.Injective E := by
    intro a b hab
    by_contra hne
    rcases lt_or_gt_of_ne hne with h1 | h1
    · exact prec_irrefl x _ (hab ▸ hord _ _ h1)
    · exact prec_irrefl x _ (hab ▸ hord _ _ h1)
  rw [hs]
  refine hB.sortedFrom_eq_of_prefix (by decide) E hinj (fun i j hij => hno _ _ (hord i j hij)) (fun i q hq => ?_) r
  rcases htop q with ⟨j, hj⟩ | h
  · exact absurd hj (hq j)
  · exact hno _ _ (h i)

end Cert.Proof.Tile

end
-- ==== Proof.Soft.lean ====
/-
  One token's softmax over the extended reals: at real logits it is real and positive and orders the experts as the logits
  do, and the kernel's weights of the best eight are the softmax of the logits with every other expert at minus infinity.
-/
module

public import proofs.«01_k».proof.Proof.Order
public import Idealize.ShloMosaic.Lib.ScatterToDense.Spec

@[expose] public section

noncomputable section

namespace Cert.Proof.Tile

open Idealize.ShloMosaic

/-- The greatest of a token's logits. -/
def mx (z : Fin 64 → EReal) : EReal := (Finset.univ : Finset (Fin 64)).fold max ⊥ z

/-- A token's softmax at expert `e`. -/
def sm (z : Fin 64 → EReal) (e : Fin 64) : EReal := Ideal.div (Ideal.exp (z e - mx z)) (∑ e', Ideal.exp (z e' - mx z))

theorem coe_sum' {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

theorem div_coe' {a b : ℝ} (hb : b ≠ 0) : Ideal.div (a : EReal) (b : EReal) = ((a / b : ℝ) : EReal) := by
  rw [Ideal.div_coe hb, ← EReal.coe_mul, mul_one_div]

theorem exp_coe (r : ℝ) : Ideal.exp (r : EReal) = (Real.exp r : EReal) := rfl

/-- A maximum over the experts, each real or minus infinity and one real, is real. -/
theorem mx_real (z : Fin 64 → EReal) (h : ∀ e, z e ≠ ⊤) (e : Fin 64) (r : ℝ) (he : z e = r) : ∃ μ : ℝ, mx z = μ := by
  have key : ∀ s : Finset (Fin 64), s.fold max ⊥ z ≠ ⊤ := fun s => by
    induction s using Finset.induction_on with
    | empty => rw [Finset.fold_empty]; exact bot_ne_top
    | insert a s ha ih =>
      rw [Finset.fold_insert ha]
      rcases max_choice (z a) (s.fold max ⊥ z) with h' | h' <;> rw [h']
      · exact h a
      · exact ih
  have hle : z e ≤ mx z := Finset.le_fold_max _ |>.2 (.inr ⟨e, Finset.mem_univ _, le_refl _⟩)
  have hb : mx z ≠ ⊥ := fun hb => by
    rw [hb, he] at hle
    exact absurd (le_bot_iff.1 hle) (EReal.coe_ne_bot r)
  exact ⟨(mx z).toReal, (EReal.coe_toReal (key _) hb).symm⟩

section Real

variable (z : Fin 64 → EReal) (x : Fin 64 → ℝ) (hz : ∀ e, z e = x e)

include hz

/-- At real logits the softmax is the real one, at any reference point. -/
theorem sm_real : ∃ μ : ℝ, (0 : ℝ) < ∑ e, Real.exp (x e - μ) ∧ ∀ e, sm z e = ((Real.exp (x e - μ) / ∑ e', Real.exp (x e' - μ) : ℝ) : EReal) := by
  obtain ⟨μ, hμ⟩ := mx_real z (fun e => by rw [hz]; exact EReal.coe_ne_top _) 0 (x 0) (hz 0)
  have hpos : (0 : ℝ) < ∑ e, Real.exp (x e - μ) := Finset.sum_pos (fun e _ => Real.exp_pos _) ⟨0, Finset.mem_univ _⟩
  refine ⟨μ, hpos, fun e => ?_⟩
  have ht : ∀ e, Ideal.exp (z e - mx z) = ((Real.exp (x e - μ) : ℝ) : EReal) := fun e => by
    rw [hz, hμ, ← EReal.coe_sub, exp_coe]
  unfold sm
  rw [ht, Finset.sum_congr rfl fun e' _ => ht e', coe_sum', div_coe' hpos.ne']

/-- The softmax orders the experts as the logits do. -/
theorem sm_prec (a b : Fin 64) : Prec (sm z) a b ↔ Prec z a b := by
  obtain ⟨μ, hpos, h⟩ := sm_real z x hz
  have hlt : ∀ a b, sm z a < sm z b ↔ z a < z b := fun a b => by
    rw [h, h, hz, hz, EReal.coe_lt_coe_iff, EReal.coe_lt_coe_iff, div_lt_div_iff_of_pos_right hpos, Real.exp_lt_exp, sub_lt_sub_iff_right]
  have heq : sm z a = sm z b ↔ z a = z b := by
    constructor
    · intro he
      rcases lt_trichotomy (z a) (z b) with h1 | h1 | h1
      · exact absurd he ((hlt a b).2 h1).ne
      · exact h1
      · exact absurd he ((hlt b a).2 h1).ne'
    · intro he
      rw [h, h]
      rw [hz, hz, EReal.coe_eq_coe_iff] at he
      rw [he]
  unfold Prec
  rw [hlt, heq]

/-- The kernel's eight experts are the reference's. -/
theorem ids_eq (r : Fin 8) : ids (F := Ideal) (sm z) r = BitVec.ofNat 32 (sortedFrom (fun a b : Fin 64 => decide (z b < z a)) (r.castLE (by decide))).val := by
  obtain ⟨E, hE⟩ := stage_all (sm z)
  have hs := sortedFrom_top z (fun i => E ⟨i.val, by omega⟩) (fun i j hij => (sm_prec z x hz _ _).1 (hE.ord _ _ (Fin.lt_def.2 hij)))
    (fun e => by
      rcases hE.top e (Nat.zero_le _) e.isLt with ⟨i, hi, he⟩ | h
      · exact .inl ⟨⟨i.val, hi⟩, he⟩
      · exact .inr fun i => (sm_prec z x hz _ _).1 (h ⟨i.val, by omega⟩ i.isLt)) r
  rw [hs]
  exact hE.val _

end Real

/-- The logits with every expert but the eight of `E` at minus infinity. -/
def kept (E : Fin 8 → Fin 64) (z : Fin 64 → EReal) (e : Fin 64) : EReal := if ∃ i, E i = e then z e else ⊥

theorem sumTo_top (t : Fin 16 → EReal) (h : ∀ i : Fin 16, 8 ≤ i.val → t i = 0) :
    sumTo (F := Ideal) t 16 = ∑ i : Fin 8, t ⟨i.val, by omega⟩ := by
  have h0 : sumTo (F := Ideal) t 0 = 0 := zero_word
  have hs : ∀ n, sumTo (F := Ideal) t (n + 1) = sumTo (F := Ideal) t n + t ⟨n % 16, Nat.mod_lt _ (by decide)⟩ := fun _ => rfl
  have hz : ∀ n, 8 ≤ n → n < 16 → t ⟨n % 16, Nat.mod_lt _ (by decide)⟩ = 0 := fun n h1 h2 => h _ (by show 8 ≤ n % 16; omega)
  rw [hs, hs, hs, hs, hs, hs, hs, hs, hz 15 (by decide) (by decide), hz 14 (by decide) (by decide), hz 13 (by decide) (by decide), hz 12 (by decide) (by decide),
    hz 11 (by decide) (by decide), hz 10 (by decide) (by decide), hz 9 (by decide) (by decide), hz 8 (by decide) (by decide)]
  simp only [add_zero]
  rw [hs, hs, hs, hs, hs, hs, hs, hs, h0, zero_add]
  rw [Fin.sum_univ_eight]
  rfl

section Gated

variable (z : Fin 64 → EReal) (x : Fin 64 → ℝ) (hz : ∀ e, z e = x e)

include hz

/-- The softmax of the logits kept at eight experts. -/
theorem kept_real (E8 : Fin 8 → Fin 64) (hinj : Function.Injective E8) : ∃ ν : ℝ, (0 : ℝ) < ∑ i : Fin 8, Real.exp (x (E8 i) - ν)
    ∧ ∀ e, sm (kept E8 z) e = (((if ∃ i, E8 i = e then Real.exp (x e - ν) else 0) / ∑ i : Fin 8, Real.exp (x (E8 i) - ν) : ℝ) : EReal) := by
  have hk : ∀ e, kept E8 z e = if ∃ i, E8 i = e then (x e : EReal) else ⊥ := fun e => by rw [kept, hz]
  have hnt : ∀ e, kept E8 z e ≠ ⊤ := fun e => by
    rw [hk]
    split
    · exact EReal.coe_ne_top _
    · exact bot_ne_top
  obtain ⟨ν, hν⟩ := mx_real (kept E8 z) hnt (E8 0) (x (E8 0)) (by rw [hk, if_pos ⟨0, rfl⟩])
  have ht : ∀ e, Ideal.exp (kept E8 z e - mx (kept E8 z)) = (((if ∃ i, E8 i = e then Real.exp (x e - ν) else 0) : ℝ) : EReal) := fun e => by
    rw [hk, hν]
    split
    · rw [← EReal.coe_sub, exp_coe]
    · rw [EReal.bot_sub]; rfl
  have hsum : ∑ e, (if ∃ i, E8 i = e then Real.exp (x e - ν) else 0) = ∑ i : Fin 8, Real.exp (x (E8 i) - ν) := by
    rw [← Finset.sum_filter, show (Finset.univ.filter fun e => ∃ i, E8 i = e) = Finset.univ.image E8 by ext e; simp, Finset.sum_image fun a _ b _ h => hinj h]
  have hpos : (0 : ℝ) < ∑ i : Fin 8, Real.exp (x (E8 i) - ν) := Finset.sum_pos (fun _ _ => Real.exp_pos _) ⟨0, Finset.mem_univ _⟩
  refine ⟨ν, hpos, fun e => ?_⟩
  unfold sm
  rw [ht, Finset.sum_congr rfl fun e' _ => ht e', coe_sum', hsum, div_coe' hpos.ne']

omit hz in
/-- The two ways of scaling the eight exponentials agree. -/
theorem scale (E8 : Fin 8 → Fin 64) (μ ν : ℝ) (hS : (0 : ℝ) < ∑ e, Real.exp (x e - μ)) (e : Fin 64) :
    (Real.exp (x e - μ) / ∑ e', Real.exp (x e' - μ)) / (∑ i : Fin 8, Real.exp (x (E8 i) - μ) / ∑ e', Real.exp (x e' - μ))
      = Real.exp (x e - ν) / ∑ i : Fin 8, Real.exp (x (E8 i) - ν) := by
  generalize ∑ e', Real.exp (x e' - μ) = S at hS ⊢
  have hc : ∀ e, Real.exp (x e - μ) / S = (Real.exp (ν - μ) / S) * Real.exp (x e - ν) := fun e => by
    rw [div_mul_eq_mul_div, ← Real.exp_add]
    congr 2
    ring
  rw [hc, Finset.sum_congr rfl fun i _ => hc (E8 i), ← Finset.mul_sum]
  exact mul_div_mul_left _ _ (div_pos (Real.exp_pos _) hS).ne'

/-- The kernel's weight of one of its eight experts, and of another. -/
theorem gated_real (E : Fin 16 → Fin 64) (hE : Stage (sm z) 0 64 (tk (F := Ideal) (sm z)) (tv (F := Ideal) (sm z)) E) (E8 : Fin 8 → Fin 64)
    (hE8' : ∀ i : Fin 8, E8 i = E ⟨i.val, by omega⟩) (ν : ℝ) (e : Fin 64) :
    gated (F := Ideal) (sm z) e = (((if ∃ i, E8 i = e then Real.exp (x e - ν) else 0) / ∑ i : Fin 8, Real.exp (x (E8 i) - ν) : ℝ) : EReal) := by
  obtain ⟨μ, hS, hp⟩ := sm_real z x hz
  have htop : ∀ i : Fin 16, i.val < 8 → top (F := Ideal) (sm z) i = sm z (E i) := fun i hi => by
    have hneg : ∀ a : ℝ, (0 : EReal) - (0 - (a : EReal)) = a := fun a => by
      rw [zero_sub, zero_sub, neg_neg]
    rw [top, if_pos hi, hE.key, zero_word, hp]
    exact hneg _
  have htop0 : ∀ i : Fin 16, 8 ≤ i.val → top (F := Ideal) (sm z) i = 0 := fun i hi => by
    rw [top, if_neg (by omega), zero_word]
  have hden : sumTo (F := Ideal) (top (F := Ideal) (sm z)) 16 = ((∑ i : Fin 8, Real.exp (x (E8 i) - μ) / ∑ e', Real.exp (x e' - μ) : ℝ) : EReal) := by
    rw [sumTo_top _ htop0, ← coe_sum']
    refine Finset.sum_congr rfl fun i _ => ?_
    rw [htop _ i.isLt, hp, hE8']
  have hnat : ∀ j : Fin 16, (⟨(tv (F := Ideal) (sm z) j).toNat, tv_lt (F := Ideal) (sm z) j⟩ : Fin 64) = E j := fun j => Fin.ext (by
    show (tv (F := Ideal) (sm z) j).toNat = (E j).val
    rw [hE.val, BitVec.toNat_ofNat]
    exact Nat.mod_eq_of_lt (by have := (E j).isLt; omega))
  have hdpos : (0 : ℝ) < ∑ i : Fin 8, Real.exp (x (E8 i) - μ) / ∑ e', Real.exp (x e' - μ) :=
    Finset.sum_pos (fun _ _ => div_pos (Real.exp_pos _) hS) ⟨0, Finset.mem_univ _⟩
  have hgr : gated (F := Ideal) (sm z) = scatter E (fun j => decide (j.val < 8)) (wgt (F := Ideal) (sm z)) fun _ => (0 : EReal) := by
    unfold gated
    rw [zero_word, show (fun j => (⟨(tv (F := Ideal) (sm z) j).toNat, tv_lt (F := Ideal) (sm z) j⟩ : Fin 64)) = E from funext hnat]
  rw [hgr]
  by_cases he : ∃ i, E8 i = e
  · rw [if_pos he]
    obtain ⟨i, rfl⟩ := he
    rw [← scale x E8 μ ν hS, hE8', scatter_hit E _ _ (fun a b _ _ hab => hE.inj _ hab) _ ⟨i.val, by omega⟩ (decide_eq_true i.isLt)]
    have hw : wgt (F := Ideal) (sm z) ⟨i.val, by omega⟩ = Ideal.div (top (F := Ideal) (sm z) ⟨i.val, by omega⟩) (sumTo (F := Ideal) (top (F := Ideal) (sm z)) 16) := rfl
    rw [hw, htop _ i.isLt, hden, hp, div_coe' hdpos.ne']
  · rw [if_neg he, zero_div]
    exact scatter_miss E _ _ _ _ (fun j hm h => he ⟨⟨j.val, of_decide_eq_true hm⟩, (hE8' _).trans h.symm⟩)

/-- The kernel's weights are the softmax of the kept logits. -/
theorem gated_eq (E8 : Fin 8 → Fin 64) (h8 : E8 = fun r => sortedFrom (fun a b : Fin 64 => decide (z b < z a)) (r.castLE (by decide))) (e : Fin 64) :
    gated (F := Ideal) (sm z) e = sm (kept E8 z) e := by
  obtain ⟨E, hE⟩ := stage_all (sm z)
  have hE8' : ∀ i : Fin 8, E8 i = E ⟨i.val, by omega⟩ := fun r => by
    rw [h8]
    exact sortedFrom_top z (fun i => E ⟨i.val, by omega⟩) (fun i j hij => (sm_prec z x hz _ _).1 (hE.ord _ _ (Fin.lt_def.2 hij)))
      (fun e => by
        rcases hE.top e (Nat.zero_le _) e.isLt with ⟨i, hi, he⟩ | h
        · exact .inl ⟨⟨i.val, hi⟩, he⟩
        · exact .inr fun i => (sm_prec z x hz _ _).1 (h ⟨i.val, by omega⟩ i.isLt)) r
  have hinj : Function.Injective E8 := fun a b hab => by
    rw [hE8', hE8'] at hab
    have h := congrArg Fin.val (hE.inj _ hab)
    exact Fin.ext h
  obtain ⟨ν, _, hr⟩ := kept_real z x hz E8 hinj
  rw [hr, gated_real z x hz E hE E8 hE8' ν]

end Gated

/-- Eight writes in order over minus infinity, the `k`-th expert's logit at that expert. -/
theorem written (E : Fin 8 → Fin 64) (hE : Function.Injective E) (z : Fin 64 → EReal) (word : ℕ → BitVec 32) (val : ℕ → EReal)
    (hw : ∀ i : Fin 8, word i.val = BitVec.ofNat 32 (E i).val) (hv : ∀ i : Fin 8, val i.val = z (E i)) (e : Fin 64) :
    ScatterToDense.GS word val ⊥ e.val 8 = kept E z e := by
  have hwn : ∀ i : Fin 8, (word i.val).toNat = (E i).val := fun i => by
    rw [hw, BitVec.toNat_ofNat]; exact Nat.mod_eq_of_lt (by have := (E i).isLt; omega)
  have step : ∀ n, n ≤ 8 → ScatterToDense.GS word val ⊥ e.val n = if ∃ i : Fin 8, i.val < n ∧ E i = e then z e else ⊥ := fun n => by
    induction n with
    | zero => intro _; rw [if_neg (by rintro ⟨i, h, _⟩; omega)]; rfl
    | succ n ih =>
      intro hn
      rw [ScatterToDense.GS_succ, ih (by omega)]
      have h1 := hwn ⟨n, by omega⟩
      have h2 := hv ⟨n, by omega⟩
      dsimp only at h1 h2
      by_cases h : E ⟨n, by omega⟩ = e
      · rw [if_pos (by rw [h1, h]), h2, h, if_pos ⟨⟨n, by omega⟩, Nat.lt_succ_self n, h⟩]
      · rw [if_neg (fun hc => h (Fin.ext (by rw [← h1, hc])))]
        refine if_congr ⟨fun ⟨i, hi, hie⟩ => ⟨i, by omega, hie⟩, fun ⟨i, hi, hie⟩ => ⟨i, ?_, hie⟩⟩ rfl rfl
        rcases Nat.lt_succ_iff_lt_or_eq.1 hi with h' | h'
        · exact h'
        · exact absurd (by rw [← hie]; exact congrArg E (Fin.ext h'.symm)) h
  rw [step 8 (le_refl _), kept]
  exact if_congr ⟨fun ⟨i, _, h⟩ => ⟨i, h⟩, fun ⟨i, h⟩ => ⟨i, i.isLt, h⟩⟩ rfl rfl

end Cert.Proof.Tile

end
-- ==== Proof.Block.lean ====
/-
  A TensorCore block over the extended reals: its logits, its softmax and its sums read at an index.
-/
module

public import proofs.«01_k».proof.Proof.Gate
public import proofs.«01_k».proof.Proof.Soft
public import Idealize.ShloMosaic.Lib.IdealHost
public import Idealize.ShloMosaic.Lib.Pointwise.Contract
public import Idealize.ShloMosaic.Lib.Pipeline.Value

@[expose] public section

noncomputable section

namespace Cert.Proof.Tile

open Cert.KernelIdeal Cert.KernelIdeal.Gen
open Idealize.ShloMosaic hiding ix1 ix2 ix3
open Idealize.ShloMosaic.ValueIdx

/-- A sum over `a * b` indices, block by block. -/
theorem sum_split (a b n : ℕ) (h : a * b = n) (f : Fin n → EReal) (hlt : ∀ (t : Fin a) (j : Fin b), t.val * b + j.val < n) :
    ∑ s : Fin n, f s = ∑ t : Fin a, ∑ j : Fin b, f ⟨t.val * b + j.val, hlt t j⟩ := by
  subst h
  rw [← Fintype.sum_prod_type']
  refine (Fintype.sum_equiv finProdFinEquiv _ _ fun x => ?_).symm
  refine congrArg f (Fin.ext ?_)
  show x.1.val * b + x.2.val = x.2.val + b * x.1.val
  rw [Nat.mul_comm, Nat.add_comm]

theorem bot_word : Ideal.ofBits .f32 0xFF800000#32 = ⊥ := by simp [Ideal.ofBits, Ideal.ieee]

/-- Token `j`'s logits in a block. -/
def blg (w : FVec Ideal S64x768 .f32) (x : FVec Ideal S1024x768 .f32) (j : Fin 1024) (e : Fin 64) : EReal :=
  ∑ d : Fin 768, x (ix2 j d) * w (ix2 e d)

theorem logit_at (w : FVec Ideal S64x768 .f32) (x : FVec Ideal S1024x768 .f32) (e : Fin 64) (j : Fin 1024) : logit w x (ix2 e j) = blg w x j e := by
  unfold logit
  refine (Ideal.matmul_constant_zero_apply dot_S64x768_S1024x768_S64x1024_1_1_0_0_n_n none w _ (ix2 e j)).trans ?_
  rw [DotDims.sum_contr₁ _ (a := 1) rfl (K := 768) rfl]
  unfold blg
  refine Finset.sum_congr rfl fun d _ => ?_
  rw [mul_comm, shapeCast_apply x _ _ _ rfl]
  refine congrArg₂ (· * ·) (congrArg x ?_) (congrArg w ?_)
  · funext a; fin_cases a <;> rfl
  · funext a; fin_cases a <;> rfl

theorem lift0_at (e : Fin 64) (j : Fin 1024) : reduces_S64x1024_S1024.lift (ix1 j) e = ix2 e j := by
  funext a; fin_cases a <;> rfl
theorem lift1_at (e : Fin 64) (j : Fin 1024) : reduces_S64x1024_S64.lift (ix1 e) j = ix2 e j := by
  funext a; fin_cases a <;> rfl

/-- A value per token spread over the experts reads that token's. -/
theorem over_at {α : Type} (v : S1024.Idx → α) (e : Fin 64) (j : Fin 1024) :
    broadcastTo S64x1024 (shapeCast S1x1024 v shapeCasts_S1024_S1x1024) broadcasts_S1x1024_S64x1024 (ix2 e j) = v (ix1 j) := by
  rw [broadcastTo_apply _ _ (ix2 e j) (ix2 (0 : Fin 1) j) (fun a => by fin_cases a <;> rfl)]
  refine shapeCast_apply v _ _ _ ?_
  rw [Shape.rowMajor_val_one, Shape.rowMajor_val_two]
  show j.val = 0 * 1024 + j.val
  omega

theorem expo_at (v : FVec Ideal S64x1024 .f32) (e : Fin 64) (j : Fin 1024) : expo v (ix2 e j) = Ideal.exp (v (ix2 e j) - mx fun e => v (ix2 e j)) := by
  unfold expo
  show Ideal.exp (subf v _ (ix2 e j)) = _
  rw [subf_apply, over_at]
  refine congrArg (fun q => Ideal.exp (v (ix2 e j) - q)) ?_
  refine (Ideal.multiReduction_maximumf_single v 0xFF800000#32 reduces_S64x1024_S1024 (.inl rfl) rfl (ix1 j)).trans ?_
  show Finset.fold max (Ideal.ofBits .f32 0xFF800000#32) _ _ = _
  rw [bot_word]
  unfold mx
  refine congrArg (Finset.fold _ _ · _) (funext fun e => ?_)
  exact congrArg v (lift0_at e j)

/-- A block's softmax is each token's. -/
theorem smx_at (w : FVec Ideal S64x768 .f32) (x : FVec Ideal S1024x768 .f32) (e : Fin 64) (j : Fin 1024) : smx w x (ix2 e j) = sm (blg w x j) e := by
  have hl : (fun e => logit w x (ix2 e j)) = blg w x j := funext fun e => logit_at w x e j
  have hx : ∀ e, expo (logit w x) (ix2 e j) = Ideal.exp (blg w x j e - mx (blg w x j)) := fun e => by
    rw [expo_at, hl, logit_at]
  unfold smx norm
  rw [divf_apply, hx, over_at]
  unfold sm
  refine congrArg (Ideal.div _) ((Ideal.multiReduction_add_single (expo (logit w x)) 0x00000000#32 reduces_S64x1024_S1024 (.inl rfl) rfl (ix1 j)).trans (Finset.sum_congr rfl fun e' _ => ?_))
  exact (congrArg _ (lift0_at e' j)).trans (hx e')

theorem colS_at (p : FVec Ideal S64x1024 .f32) (e : Fin 64) : colS p (ix2 e (0 : Fin 1)) = ∑ j : Fin 1024, p (ix2 e j) := by
  unfold colS
  rw [shapeCast_apply _ _ (ix2 e (0 : Fin 1)) (ix1 e) (by
    rw [Shape.rowMajor_val_one, Shape.rowMajor_val_two]; show e.val = e.val * 1 + 0; omega)]
  refine (Ideal.multiReduction_add_single p 0x00000000#32 reduces_S64x1024_S64 (.inl rfl) rfl (ix1 e)).trans ?_
  exact Finset.sum_congr rfl fun j _ => congrArg p (lift1_at e j)

theorem addS_at (a : FVec Ideal S64x1 .f32) (p : FVec Ideal S64x1024 .f32) (e : Fin 64) :
    addS a p (ix2 e (0 : Fin 1)) = a (ix2 e (0 : Fin 1)) + ∑ j : Fin 1024, p (ix2 e j) := by
  unfold addS
  rw [addf_apply, colS_at, shapeCast_apply a _ _ _ rfl]

end Cert.Proof.Tile
-- ==== Proof.Arr0.lean ====
/-
  TensorCore call 0: its blocks read off their arrays, and what its two results hold after it.
-/
module

public import proofs.«01_k».proof.Proof.Gate0
public import proofs.«01_k».proof.Proof.Gen.KernelIdeal.Points
public import Idealize.ShloMosaic.Lib.IdealHost
public import Idealize.ShloMosaic.Lib.Pipeline.Value

@[expose] public section

noncomputable section

namespace Cert.Proof.Tile

open Cert.KernelIdeal Cert.KernelIdeal.Gen
open Idealize.ShloMosaic hiding ix1 ix2 ix3
open Idealize.ShloMosaic.ValueIdx
open Idealize.ShloMosaic.Pipeline (Dat Cfg Window)

variable {F : FTy → Type} [FloatOps F] (V : Valuation τ sig (Elt F)) (c : Dev nD)

theorem at0_0 : ∀ t : Fin cfg0.N, win0_0.index t 0 = t.val + 0 ∧ win0_0.index t 1 = 0 := by decide +kernel
theorem at0_1 : ∀ t : Fin cfg0.N, win0_1.index t 0 = 0 ∧ win0_1.index t 1 = 0 := by decide +kernel
theorem at0_2 : ∀ t : Fin cfg0.N, win0_2.index t 0 = 0 ∧ win0_2.index t 1 = t.val := by decide +kernel
theorem at0_3 : ∀ t : Fin cfg0.N, win0_3.index t 0 = 0 ∧ win0_3.index t 1 = 0 := by decide +kernel
theorem sz0_2 : ∀ t : Fin cfg0.N, win0_2.xsize (grid0.coords t) 0 = 64 ∧ win0_2.xsize (grid0.coords t) 1 = 1024 := by decide +kernel
theorem sz0_3 : ∀ t : Fin cfg0.N, win0_3.xsize (grid0.coords t) 0 = 64 ∧ win0_3.xsize (grid0.coords t) 1 = 1 := by decide +kernel

theorem lt0 (t : Fin cfg0.N) : t.val < 8 := lt_of_lt_of_eq t.isLt (show cfg0.N = 8 from N_0)

/-- The block of tokens at point `t`. -/
theorem xrow0 (t : Fin cfg0.N) (j : Fin 1024) (d : Fin 768) :
    (iblk0 V 0 t : FVec F S1024x768 .f32) (ix2 j d) = (V (Proc.devRef .tc main_v0) : FVec F S32768x768 .f32) (ix2 ⟨(t.val + 0) * 1024 + j.val, by have := lt0 t; omega⟩ d) := by
  show (V (Proc.devRef .tc main_v0) : FVec F S32768x768 .f32) ((win0_0.rect t).emb (ix2 j d)) = _
  refine congrArg _ (funext fun a => Fin.ext ?_)
  fin_cases a
  · exact (Pipeline.Window.rect_emb_val win0_0 t _ 0 rfl).trans (congrArg (· * 1024 + j.val) (at0_0 t).1)
  · exact Pipeline.Window.rect_emb_val_of_index_zero win0_0 t 1 (at0_0 t).2 _

/-- The weights. -/
theorem wgt0 (t : Fin cfg0.N) : (iblk0 V 1 t : FVec F S64x768 .f32) = (V (Proc.devRef .tc main_arg1) : FVec F S64x768 .f32) := by
  funext y
  show (V (Proc.devRef .tc main_arg1) : FVec F S64x768 .f32) ((win0_1.rect t).emb y) = _
  refine congrArg _ (funext fun a => Fin.ext ?_)
  fin_cases a
  · exact Pipeline.Window.rect_emb_val_of_index_zero win0_1 t 0 (at0_1 t).1 y
  · exact Pipeline.Window.rect_emb_val_of_index_zero win0_1 t 1 (at0_1 t).2 y

/-- The probabilities of all the call's tokens. -/
def all0 : FVec F S64x8192 .f32 := fun i => prob0 V ((i 1).val / 1024) (ix2 (i 0) ⟨(i 1).val % 1024, Nat.mod_lt _ (by decide)⟩)

theorem out0 : (Pipeline.afterRegion (dat0 V c) V (Proc.devRef .tc main_v1_0) : FVec F S64x8192 .f32) = all0 V := by
  refine (Pipeline.afterRegion_arr (dat0 V c) V launch0.win.arr_inj 2).trans ?_
  refine (dat0 V c).arrAt_eq_of_cover 2 (all0 V) (fun t _ => ?_) (fun i => ?_)
  · show (dat0 V c).after 2 t = _
    rw [after0_2]
    funext y
    show prob0 V t.val y = all0 V ((win0_2.rect t).emb y)
    have h0 : ((win0_2.rect t).emb y 0).val = (y 0).val := Pipeline.Window.rect_emb_val_of_index_zero win0_2 t 0 (at0_2 t).1 y
    have h1 : ((win0_2.rect t).emb y 1).val = t.val * 1024 + (y 1).val :=
      (Pipeline.Window.rect_emb_val win0_2 t y 1 rfl).trans (congrArg (· * 1024 + (y 1).val) (at0_2 t).2)
    have hy : (y 1).val < 1024 := lt_of_lt_of_eq (y 1).isLt (sz0_2 t).2
    unfold all0
    have e1 : ((win0_2.rect t).emb y 1).val / 1024 = t.val := by rw [h1]; omega
    refine (congrArg₂ (fun n => prob0 V n) e1 ?_).symm
    funext a; apply Fin.ext
    fin_cases a
    · exact h0
    · show ((win0_2.rect t).emb y 1).val % 1024 = (y 1).val
      rw [h1]; omega
  · have hi0 : (i 0).val < 64 := (i 0).isLt
    have hi1 : (i 1).val < 8192 := (i 1).isLt
    have ht : (i 1).val / 1024 < cfg0.N := by rw [show cfg0.N = 8 from N_0]; omega
    refine ⟨⟨(i 1).val / 1024, ht⟩, flush0_2 _, ?_⟩
    show i ∈ ((View.whole main_v1_0).slice (win0_2.rect ⟨(i 1).val / 1024, ht⟩)).set
    rw [View.set_slice_whole, Rect.mem_set_unit]
    intro a
    match a with
    | ⟨0, _⟩ =>
      show win0_2.index ⟨(i 1).val / 1024, ht⟩ 0 * 64 ≤ (i 0 : Nat) ∧ (i 0 : Nat) < win0_2.index ⟨(i 1).val / 1024, ht⟩ 0 * 64 + win0_2.xsize (grid0.coords ⟨(i 1).val / 1024, ht⟩) 0
      rw [(at0_2 _).1, (sz0_2 _).1]; omega
    | ⟨1, _⟩ =>
      show win0_2.index ⟨(i 1).val / 1024, ht⟩ 1 * 1024 ≤ (i 1 : Nat) ∧ (i 1 : Nat) < win0_2.index ⟨(i 1).val / 1024, ht⟩ 1 * 1024 + win0_2.xsize (grid0.coords ⟨(i 1).val / 1024, ht⟩) 1
      rw [(at0_2 _).2, (sz0_2 _).2]
      show (i 1).val / 1024 * 1024 ≤ (i 1).val ∧ (i 1).val < (i 1).val / 1024 * 1024 + 1024
      omega

theorem tot0 : (Pipeline.afterRegion (dat0 V c) V (Proc.devRef .tc main_v1_1) : FVec F S64x1 .f32) = sums0 V 7 := by
  refine (Pipeline.afterRegion_arr (dat0 V c) V launch0.win.arr_inj 3).trans ?_
  refine (dat0 V c).arrAt_eq_of_cover 3 (sums0 V 7) (fun t hf => ?_) (fun i => ?_)
  · have h7 : t.val = 7 := by have := (flush0_3 t).1 hf; have := lt0 t; omega
    show (dat0 V c).after 3 t = _
    rw [after0_3, h7]
    funext y
    show sums0 V 7 y = sums0 V 7 ((win0_3.rect t).emb y)
    refine congrArg _ (funext fun a => Fin.ext ?_)
    fin_cases a
    · exact (Pipeline.Window.rect_emb_val_of_index_zero win0_3 t 0 (at0_3 t).1 y).symm
    · exact (Pipeline.Window.rect_emb_val_of_index_zero win0_3 t 1 (at0_3 t).2 y).symm
  · have hi0 : (i 0).val < 64 := (i 0).isLt
    have hi1 : (i 1).val < 1 := (i 1).isLt
    have ht : 7 < cfg0.N := by rw [show cfg0.N = 8 from N_0]; decide
    refine ⟨⟨7, ht⟩, (flush0_3 _).2 rfl, ?_⟩
    show i ∈ ((View.whole main_v1_1).slice (win0_3.rect ⟨7, ht⟩)).set
    rw [View.set_slice_whole, Rect.mem_set_unit]
    intro a
    match a with
    | ⟨0, _⟩ =>
      show win0_3.index ⟨7, ht⟩ 0 * 64 ≤ (i 0 : Nat) ∧ (i 0 : Nat) < win0_3.index ⟨7, ht⟩ 0 * 64 + win0_3.xsize (grid0.coords ⟨7, ht⟩) 0
      rw [(at0_3 _).1, (sz0_3 _).1]; omega
    | ⟨1, _⟩ =>
      show win0_3.index ⟨7, ht⟩ 1 * 1 ≤ (i 1 : Nat) ∧ (i 1 : Nat) < win0_3.index ⟨7, ht⟩ 1 * 1 + win0_3.xsize (grid0.coords ⟨7, ht⟩) 1
      rw [(at0_3 _).2, (sz0_3 _).2]; omega

end Cert.Proof.Tile
-- ==== Proof.Arr1.lean ====
/-
  TensorCore call 1: its blocks read off their arrays, and what its two results hold after it.
-/
module

public import proofs.«01_k».proof.Proof.Gate1
public import proofs.«01_k».proof.Proof.Gen.KernelIdeal.Points
public import Idealize.ShloMosaic.Lib.IdealHost
public import Idealize.ShloMosaic.Lib.Pipeline.Value

@[expose] public section

noncomputable section

namespace Cert.Proof.Tile

open Cert.KernelIdeal Cert.KernelIdeal.Gen
open Idealize.ShloMosaic hiding ix1 ix2 ix3
open Idealize.ShloMosaic.ValueIdx
open Idealize.ShloMosaic.Pipeline (Dat Cfg Window)

variable {F : FTy → Type} [FloatOps F] (V : Valuation τ sig (Elt F)) (c : Dev nD)

theorem at1_0 : ∀ t : Fin cfg1.N, win1_0.index t 0 = t.val + 8 ∧ win1_0.index t 1 = 0 := by decide +kernel
theorem at1_1 : ∀ t : Fin cfg1.N, win1_1.index t 0 = 0 ∧ win1_1.index t 1 = 0 := by decide +kernel
theorem at1_2 : ∀ t : Fin cfg1.N, win1_2.index t 0 = 0 ∧ win1_2.index t 1 = t.val := by decide +kernel
theorem at1_3 : ∀ t : Fin cfg1.N, win1_3.index t 0 = 0 ∧ win1_3.index t 1 = 0 := by decide +kernel
theorem sz1_2 : ∀ t : Fin cfg1.N, win1_2.xsize (grid1.coords t) 0 = 64 ∧ win1_2.xsize (grid1.coords t) 1 = 1024 := by decide +kernel
theorem sz1_3 : ∀ t : Fin cfg1.N, win1_3.xsize (grid1.coords t) 0 = 64 ∧ win1_3.xsize (grid1.coords t) 1 = 1 := by decide +kernel

theorem lt1 (t : Fin cfg1.N) : t.val < 8 := lt_of_lt_of_eq t.isLt (show cfg1.N = 8 from N_1)

/-- The block of tokens at point `t`. -/
theorem xrow1 (t : Fin cfg1.N) (j : Fin 1024) (d : Fin 768) :
    (iblk1 V 0 t : FVec F S1024x768 .f32) (ix2 j d) = (V (Proc.devRef .tc main_v0) : FVec F S32768x768 .f32) (ix2 ⟨(t.val + 8) * 1024 + j.val, by have := lt1 t; omega⟩ d) := by
  show (V (Proc.devRef .tc main_v0) : FVec F S32768x768 .f32) ((win1_0.rect t).emb (ix2 j d)) = _
  refine congrArg _ (funext fun a => Fin.ext ?_)
  fin_cases a
  · exact (Pipeline.Window.rect_emb_val win1_0 t _ 0 rfl).trans (congrArg (· * 1024 + j.val) (at1_0 t).1)
  · exact Pipeline.Window.rect_emb_val_of_index_zero win1_0 t 1 (at1_0 t).2 _

/-- The weights. -/
theorem wgt1 (t : Fin cfg1.N) : (iblk1 V 1 t : FVec F S64x768 .f32) = (V (Proc.devRef .tc main_arg1) : FVec F S64x768 .f32) := by
  funext y
  show (V (Proc.devRef .tc main_arg1) : FVec F S64x768 .f32) ((win1_1.rect t).emb y) = _
  refine congrArg _ (funext fun a => Fin.ext ?_)
  fin_cases a
  · exact Pipeline.Window.rect_emb_val_of_index_zero win1_1 t 0 (at1_1 t).1 y
  · exact Pipeline.Window.rect_emb_val_of_index_zero win1_1 t 1 (at1_1 t).2 y

/-- The probabilities of all the call's tokens. -/
def all1 : FVec F S64x8192 .f32 := fun i => prob1 V ((i 1).val / 1024) (ix2 (i 0) ⟨(i 1).val % 1024, Nat.mod_lt _ (by decide)⟩)

theorem out1 : (Pipeline.afterRegion (dat1 V c) V (Proc.devRef .tc main_v2_0) : FVec F S64x8192 .f32) = all1 V := by
  refine (Pipeline.afterRegion_arr (dat1 V c) V launch1.win.arr_inj 2).trans ?_
  refine (dat1 V c).arrAt_eq_of_cover 2 (all1 V) (fun t _ => ?_) (fun i => ?_)
  · show (dat1 V c).after 2 t = _
    rw [after1_2]
    funext y
    show prob1 V t.val y = all1 V ((win1_2.rect t).emb y)
    have h0 : ((win1_2.rect t).emb y 0).val = (y 0).val := Pipeline.Window.rect_emb_val_of_index_zero win1_2 t 0 (at1_2 t).1 y
    have h1 : ((win1_2.rect t).emb y 1).val = t.val * 1024 + (y 1).val :=
      (Pipeline.Window.rect_emb_val win1_2 t y 1 rfl).trans (congrArg (· * 1024 + (y 1).val) (at1_2 t).2)
    have hy : (y 1).val < 1024 := lt_of_lt_of_eq (y 1).isLt (sz1_2 t).2
    unfold all1
    have e1 : ((win1_2.rect t).emb y 1).val / 1024 = t.val := by rw [h1]; omega
    refine (congrArg₂ (fun n => prob1 V n) e1 ?_).symm
    funext a; apply Fin.ext
    fin_cases a
    · exact h0
    · show ((win1_2.rect t).emb y 1).val % 1024 = (y 1).val
      rw [h1]; omega
  · have hi0 : (i 0).val < 64 := (i 0).isLt
    have hi1 : (i 1).val < 8192 := (i 1).isLt
    have ht : (i 1).val / 1024 < cfg1.N := by rw [show cfg1.N = 8 from N_1]; omega
    refine ⟨⟨(i 1).val / 1024, ht⟩, flush1_2 _, ?_⟩
    show i ∈ ((View.whole main_v2_0).slice (win1_2.rect ⟨(i 1).val / 1024, ht⟩)).set
    rw [View.set_slice_whole, Rect.mem_set_unit]
    intro a
    match a with
    | ⟨0, _⟩ =>
      show win1_2.index ⟨(i 1).val / 1024, ht⟩ 0 * 64 ≤ (i 0 : Nat) ∧ (i 0 : Nat) < win1_2.index ⟨(i 1).val / 1024, ht⟩ 0 * 64 + win1_2.xsize (grid1.coords ⟨(i 1).val / 1024, ht⟩) 0
      rw [(at1_2 _).1, (sz1_2 _).1]; omega
    | ⟨1, _⟩ =>
      show win1_2.index ⟨(i 1).val / 1024, ht⟩ 1 * 1024 ≤ (i 1 : Nat) ∧ (i 1 : Nat) < win1_2.index ⟨(i 1).val / 1024, ht⟩ 1 * 1024 + win1_2.xsize (grid1.coords ⟨(i 1).val / 1024, ht⟩) 1
      rw [(at1_2 _).2, (sz1_2 _).2]
      show (i 1).val / 1024 * 1024 ≤ (i 1).val ∧ (i 1).val < (i 1).val / 1024 * 1024 + 1024
      omega

theorem tot1 : (Pipeline.afterRegion (dat1 V c) V (Proc.devRef .tc main_v2_1) : FVec F S64x1 .f32) = sums1 V 7 := by
  refine (Pipeline.afterRegion_arr (dat1 V c) V launch1.win.arr_inj 3).trans ?_
  refine (dat1 V c).arrAt_eq_of_cover 3 (sums1 V 7) (fun t hf => ?_) (fun i => ?_)
  · have h7 : t.val = 7 := by have := (flush1_3 t).1 hf; have := lt1 t; omega
    show (dat1 V c).after 3 t = _
    rw [after1_3, h7]
    funext y
    show sums1 V 7 y = sums1 V 7 ((win1_3.rect t).emb y)
    refine congrArg _ (funext fun a => Fin.ext ?_)
    fin_cases a
    · exact (Pipeline.Window.rect_emb_val_of_index_zero win1_3 t 0 (at1_3 t).1 y).symm
    · exact (Pipeline.Window.rect_emb_val_of_index_zero win1_3 t 1 (at1_3 t).2 y).symm
  · have hi0 : (i 0).val < 64 := (i 0).isLt
    have hi1 : (i 1).val < 1 := (i 1).isLt
    have ht : 7 < cfg1.N := by rw [show cfg1.N = 8 from N_1]; decide
    refine ⟨⟨7, ht⟩, (flush1_3 _).2 rfl, ?_⟩
    show i ∈ ((View.whole main_v2_1).slice (win1_3.rect ⟨7, ht⟩)).set
    rw [View.set_slice_whole, Rect.mem_set_unit]
    intro a
    match a with
    | ⟨0, _⟩ =>
      show win1_3.index ⟨7, ht⟩ 0 * 64 ≤ (i 0 : Nat) ∧ (i 0 : Nat) < win1_3.index ⟨7, ht⟩ 0 * 64 + win1_3.xsize (grid1.coords ⟨7, ht⟩) 0
      rw [(at1_3 _).1, (sz1_3 _).1]; omega
    | ⟨1, _⟩ =>
      show win1_3.index ⟨7, ht⟩ 1 * 1 ≤ (i 1 : Nat) ∧ (i 1 : Nat) < win1_3.index ⟨7, ht⟩ 1 * 1 + win1_3.xsize (grid1.coords ⟨7, ht⟩) 1
      rw [(at1_3 _).2, (sz1_3 _).2]; omega

end Cert.Proof.Tile
-- ==== Proof.Arr2.lean ====
/-
  TensorCore call 2: its blocks read off their arrays, and what its two results hold after it.
-/
module

public import proofs.«01_k».proof.Proof.Gate2
public import proofs.«01_k».proof.Proof.Gen.KernelIdeal.Points
public import Idealize.ShloMosaic.Lib.IdealHost
public import Idealize.ShloMosaic.Lib.Pipeline.Value

@[expose] public section

noncomputable section

namespace Cert.Proof.Tile

open Cert.KernelIdeal Cert.KernelIdeal.Gen
open Idealize.ShloMosaic hiding ix1 ix2 ix3
open Idealize.ShloMosaic.ValueIdx
open Idealize.ShloMosaic.Pipeline (Dat Cfg Window)

variable {F : FTy → Type} [FloatOps F] (V : Valuation τ sig (Elt F)) (c : Dev nD)

theorem at2_0 : ∀ t : Fin cfg2.N, win2_0.index t 0 = t.val + 16 ∧ win2_0.index t 1 = 0 := by decide +kernel
theorem at2_1 : ∀ t : Fin cfg2.N, win2_1.index t 0 = 0 ∧ win2_1.index t 1 = 0 := by decide +kernel
theorem at2_2 : ∀ t : Fin cfg2.N, win2_2.index t 0 = 0 ∧ win2_2.index t 1 = t.val := by decide +kernel
theorem at2_3 : ∀ t : Fin cfg2.N, win2_3.index t 0 = 0 ∧ win2_3.index t 1 = 0 := by decide +kernel
theorem sz2_2 : ∀ t : Fin cfg2.N, win2_2.xsize (grid2.coords t) 0 = 64 ∧ win2_2.xsize (grid2.coords t) 1 = 1024 := by decide +kernel
theorem sz2_3 : ∀ t : Fin cfg2.N, win2_3.xsize (grid2.coords t) 0 = 64 ∧ win2_3.xsize (grid2.coords t) 1 = 1 := by decide +kernel

theorem lt2 (t : Fin cfg2.N) : t.val < 8 := lt_of_lt_of_eq t.isLt (show cfg2.N = 8 from N_2)

/-- The block of tokens at point `t`. -/
theorem xrow2 (t : Fin cfg2.N) (j : Fin 1024) (d : Fin 768) :
    (iblk2 V 0 t : FVec F S1024x768 .f32) (ix2 j d) = (V (Proc.devRef .tc main_v0) : FVec F S32768x768 .f32) (ix2 ⟨(t.val + 16) * 1024 + j.val, by have := lt2 t; omega⟩ d) := by
  show (V (Proc.devRef .tc main_v0) : FVec F S32768x768 .f32) ((win2_0.rect t).emb (ix2 j d)) = _
  refine congrArg _ (funext fun a => Fin.ext ?_)
  fin_cases a
  · exact (Pipeline.Window.rect_emb_val win2_0 t _ 0 rfl).trans (congrArg (· * 1024 + j.val) (at2_0 t).1)
  · exact Pipeline.Window.rect_emb_val_of_index_zero win2_0 t 1 (at2_0 t).2 _

/-- The weights. -/
theorem wgt2 (t : Fin cfg2.N) : (iblk2 V 1 t : FVec F S64x768 .f32) = (V (Proc.devRef .tc main_arg1) : FVec F S64x768 .f32) := by
  funext y
  show (V (Proc.devRef .tc main_arg1) : FVec F S64x768 .f32) ((win2_1.rect t).emb y) = _
  refine congrArg _ (funext fun a => Fin.ext ?_)
  fin_cases a
  · exact Pipeline.Window.rect_emb_val_of_index_zero win2_1 t 0 (at2_1 t).1 y
  · exact Pipeline.Window.rect_emb_val_of_index_zero win2_1 t 1 (at2_1 t).2 y

/-- The probabilities of all the call's tokens. -/
def all2 : FVec F S64x8192 .f32 := fun i => prob2 V ((i 1).val / 1024) (ix2 (i 0) ⟨(i 1).val % 1024, Nat.mod_lt _ (by decide)⟩)

theorem out2 : (Pipeline.afterRegion (dat2 V c) V (Proc.devRef .tc main_v3_0) : FVec F S64x8192 .f32) = all2 V := by
  refine (Pipeline.afterRegion_arr (dat2 V c) V launch2.win.arr_inj 2).trans ?_
  refine (dat2 V c).arrAt_eq_of_cover 2 (all2 V) (fun t _ => ?_) (fun i => ?_)
  · show (dat2 V c).after 2 t = _
    rw [after2_2]
    funext y
    show prob2 V t.val y = all2 V ((win2_2.rect t).emb y)
    have h0 : ((win2_2.rect t).emb y 0).val = (y 0).val := Pipeline.Window.rect_emb_val_of_index_zero win2_2 t 0 (at2_2 t).1 y
    have h1 : ((win2_2.rect t).emb y 1).val = t.val * 1024 + (y 1).val :=
      (Pipeline.Window.rect_emb_val win2_2 t y 1 rfl).trans (congrArg (· * 1024 + (y 1).val) (at2_2 t).2)
    have hy : (y 1).val < 1024 := lt_of_lt_of_eq (y 1).isLt (sz2_2 t).2
    unfold all2
    have e1 : ((win2_2.rect t).emb y 1).val / 1024 = t.val := by rw [h1]; omega
    refine (congrArg₂ (fun n => prob2 V n) e1 ?_).symm
    funext a; apply Fin.ext
    fin_cases a
    · exact h0
    · show ((win2_2.rect t).emb y 1).val % 1024 = (y 1).val
      rw [h1]; omega
  · have hi0 : (i 0).val < 64 := (i 0).isLt
    have hi1 : (i 1).val < 8192 := (i 1).isLt
    have ht : (i 1).val / 1024 < cfg2.N := by rw [show cfg2.N = 8 from N_2]; omega
    refine ⟨⟨(i 1).val / 1024, ht⟩, flush2_2 _, ?_⟩
    show i ∈ ((View.whole main_v3_0).slice (win2_2.rect ⟨(i 1).val / 1024, ht⟩)).set
    rw [View.set_slice_whole, Rect.mem_set_unit]
    intro a
    match a with
    | ⟨0, _⟩ =>
      show win2_2.index ⟨(i 1).val / 1024, ht⟩ 0 * 64 ≤ (i 0 : Nat) ∧ (i 0 : Nat) < win2_2.index ⟨(i 1).val / 1024, ht⟩ 0 * 64 + win2_2.xsize (grid2.coords ⟨(i 1).val / 1024, ht⟩) 0
      rw [(at2_2 _).1, (sz2_2 _).1]; omega
    | ⟨1, _⟩ =>
      show win2_2.index ⟨(i 1).val / 1024, ht⟩ 1 * 1024 ≤ (i 1 : Nat) ∧ (i 1 : Nat) < win2_2.index ⟨(i 1).val / 1024, ht⟩ 1 * 1024 + win2_2.xsize (grid2.coords ⟨(i 1).val / 1024, ht⟩) 1
      rw [(at2_2 _).2, (sz2_2 _).2]
      show (i 1).val / 1024 * 1024 ≤ (i 1).val ∧ (i 1).val < (i 1).val / 1024 * 1024 + 1024
      omega

theorem tot2 : (Pipeline.afterRegion (dat2 V c) V (Proc.devRef .tc main_v3_1) : FVec F S64x1 .f32) = sums2 V 7 := by
  refine (Pipeline.afterRegion_arr (dat2 V c) V launch2.win.arr_inj 3).trans ?_
  refine (dat2 V c).arrAt_eq_of_cover 3 (sums2 V 7) (fun t hf => ?_) (fun i => ?_)
  · have h7 : t.val = 7 := by have := (flush2_3 t).1 hf; have := lt2 t; omega
    show (dat2 V c).after 3 t = _
    rw [after2_3, h7]
    funext y
    show sums2 V 7 y = sums2 V 7 ((win2_3.rect t).emb y)
    refine congrArg _ (funext fun a => Fin.ext ?_)
    fin_cases a
    · exact (Pipeline.Window.rect_emb_val_of_index_zero win2_3 t 0 (at2_3 t).1 y).symm
    · exact (Pipeline.Window.rect_emb_val_of_index_zero win2_3 t 1 (at2_3 t).2 y).symm
  · have hi0 : (i 0).val < 64 := (i 0).isLt
    have hi1 : (i 1).val < 1 := (i 1).isLt
    have ht : 7 < cfg2.N := by rw [show cfg2.N = 8 from N_2]; decide
    refine ⟨⟨7, ht⟩, (flush2_3 _).2 rfl, ?_⟩
    show i ∈ ((View.whole main_v3_1).slice (win2_3.rect ⟨7, ht⟩)).set
    rw [View.set_slice_whole, Rect.mem_set_unit]
    intro a
    match a with
    | ⟨0, _⟩ =>
      show win2_3.index ⟨7, ht⟩ 0 * 64 ≤ (i 0 : Nat) ∧ (i 0 : Nat) < win2_3.index ⟨7, ht⟩ 0 * 64 + win2_3.xsize (grid2.coords ⟨7, ht⟩) 0
      rw [(at2_3 _).1, (sz2_3 _).1]; omega
    | ⟨1, _⟩ =>
      show win2_3.index ⟨7, ht⟩ 1 * 1 ≤ (i 1 : Nat) ∧ (i 1 : Nat) < win2_3.index ⟨7, ht⟩ 1 * 1 + win2_3.xsize (grid2.coords ⟨7, ht⟩) 1
      rw [(at2_3 _).2, (sz2_3 _).2]; omega

end Cert.Proof.Tile
-- ==== Proof.Arr3.lean ====
/-
  TensorCore call 3: its blocks read off their arrays, and what its two results hold after it.
-/
module

public import proofs.«01_k».proof.Proof.Gate3
public import proofs.«01_k».proof.Proof.Gen.KernelIdeal.Points
public import Idealize.ShloMosaic.Lib.IdealHost
public import Idealize.ShloMosaic.Lib.Pipeline.Value

@[expose] public section

noncomputable section

namespace Cert.Proof.Tile

open Cert.KernelIdeal Cert.KernelIdeal.Gen
open Idealize.ShloMosaic hiding ix1 ix2 ix3
open Idealize.ShloMosaic.ValueIdx
open Idealize.ShloMosaic.Pipeline (Dat Cfg Window)

variable {F : FTy → Type} [FloatOps F] (V : Valuation τ sig (Elt F)) (c : Dev nD)

theorem at3_0 : ∀ t : Fin cfg3.N, win3_0.index t 0 = t.val + 24 ∧ win3_0.index t 1 = 0 := by decide +kernel
theorem at3_1 : ∀ t : Fin cfg3.N, win3_1.index t 0 = 0 ∧ win3_1.index t 1 = 0 := by decide +kernel
theorem at3_2 : ∀ t : Fin cfg3.N, win3_2.index t 0 = 0 ∧ win3_2.index t 1 = t.val := by decide +kernel
theorem at3_3 : ∀ t : Fin cfg3.N, win3_3.index t 0 = 0 ∧ win3_3.index t 1 = 0 := by decide +kernel
theorem sz3_2 : ∀ t : Fin cfg3.N, win3_2.xsize (grid3.coords t) 0 = 64 ∧ win3_2.xsize (grid3.coords t) 1 = 1024 := by decide +kernel
theorem sz3_3 : ∀ t : Fin cfg3.N, win3_3.xsize (grid3.coords t) 0 = 64 ∧ win3_3.xsize (grid3.coords t) 1 = 1 := by decide +kernel

theorem lt3 (t : Fin cfg3.N) : t.val < 8 := lt_of_lt_of_eq t.isLt (show cfg3.N = 8 from N_3)

/-- The block of tokens at point `t`. -/
theorem xrow3 (t : Fin cfg3.N) (j : Fin 1024) (d : Fin 768) :
    (iblk3 V 0 t : FVec F S1024x768 .f32) (ix2 j d) = (V (Proc.devRef .tc main_v0) : FVec F S32768x768 .f32) (ix2 ⟨(t.val + 24) * 1024 + j.val, by have := lt3 t; omega⟩ d) := by
  show (V (Proc.devRef .tc main_v0) : FVec F S32768x768 .f32) ((win3_0.rect t).emb (ix2 j d)) = _
  refine congrArg _ (funext fun a => Fin.ext ?_)
  fin_cases a
  · exact (Pipeline.Window.rect_emb_val win3_0 t _ 0 rfl).trans (congrArg (· * 1024 + j.val) (at3_0 t).1)
  · exact Pipeline.Window.rect_emb_val_of_index_zero win3_0 t 1 (at3_0 t).2 _

/-- The weights. -/
theorem wgt3 (t : Fin cfg3.N) : (iblk3 V 1 t : FVec F S64x768 .f32) = (V (Proc.devRef .tc main_arg1) : FVec F S64x768 .f32) := by
  funext y
  show (V (Proc.devRef .tc main_arg1) : FVec F S64x768 .f32) ((win3_1.rect t).emb y) = _
  refine congrArg _ (funext fun a => Fin.ext ?_)
  fin_cases a
  · exact Pipeline.Window.rect_emb_val_of_index_zero win3_1 t 0 (at3_1 t).1 y
  · exact Pipeline.Window.rect_emb_val_of_index_zero win3_1 t 1 (at3_1 t).2 y

/-- The probabilities of all the call's tokens. -/
def all3 : FVec F S64x8192 .f32 := fun i => prob3 V ((i 1).val / 1024) (ix2 (i 0) ⟨(i 1).val % 1024, Nat.mod_lt _ (by decide)⟩)

theorem out3 : (Pipeline.afterRegion (dat3 V c) V (Proc.devRef .tc main_v4_0) : FVec F S64x8192 .f32) = all3 V := by
  refine (Pipeline.afterRegion_arr (dat3 V c) V launch3.win.arr_inj 2).trans ?_
  refine (dat3 V c).arrAt_eq_of_cover 2 (all3 V) (fun t _ => ?_) (fun i => ?_)
  · show (dat3 V c).after 2 t = _
    rw [after3_2]
    funext y
    show prob3 V t.val y = all3 V ((win3_2.rect t).emb y)
    have h0 : ((win3_2.rect t).emb y 0).val = (y 0).val := Pipeline.Window.rect_emb_val_of_index_zero win3_2 t 0 (at3_2 t).1 y
    have h1 : ((win3_2.rect t).emb y 1).val = t.val * 1024 + (y 1).val :=
      (Pipeline.Window.rect_emb_val win3_2 t y 1 rfl).trans (congrArg (· * 1024 + (y 1).val) (at3_2 t).2)
    have hy : (y 1).val < 1024 := lt_of_lt_of_eq (y 1).isLt (sz3_2 t).2
    unfold all3
    have e1 : ((win3_2.rect t).emb y 1).val / 1024 = t.val := by rw [h1]; omega
    refine (congrArg₂ (fun n => prob3 V n) e1 ?_).symm
    funext a; apply Fin.ext
    fin_cases a
    · exact h0
    · show ((win3_2.rect t).emb y 1).val % 1024 = (y 1).val
      rw [h1]; omega
  · have hi0 : (i 0).val < 64 := (i 0).isLt
    have hi1 : (i 1).val < 8192 := (i 1).isLt
    have ht : (i 1).val / 1024 < cfg3.N := by rw [show cfg3.N = 8 from N_3]; omega
    refine ⟨⟨(i 1).val / 1024, ht⟩, flush3_2 _, ?_⟩
    show i ∈ ((View.whole main_v4_0).slice (win3_2.rect ⟨(i 1).val / 1024, ht⟩)).set
    rw [View.set_slice_whole, Rect.mem_set_unit]
    intro a
    match a with
    | ⟨0, _⟩ =>
      show win3_2.index ⟨(i 1).val / 1024, ht⟩ 0 * 64 ≤ (i 0 : Nat) ∧ (i 0 : Nat) < win3_2.index ⟨(i 1).val / 1024, ht⟩ 0 * 64 + win3_2.xsize (grid3.coords ⟨(i 1).val / 1024, ht⟩) 0
      rw [(at3_2 _).1, (sz3_2 _).1]; omega
    | ⟨1, _⟩ =>
      show win3_2.index ⟨(i 1).val / 1024, ht⟩ 1 * 1024 ≤ (i 1 : Nat) ∧ (i 1 : Nat) < win3_2.index ⟨(i 1).val / 1024, ht⟩ 1 * 1024 + win3_2.xsize (grid3.coords ⟨(i 1).val / 1024, ht⟩) 1
      rw [(at3_2 _).2, (sz3_2 _).2]
      show (i 1).val / 1024 * 1024 ≤ (i 1).val ∧ (i 1).val < (i 1).val / 1024 * 1024 + 1024
      omega

theorem tot3 : (Pipeline.afterRegion (dat3 V c) V (Proc.devRef .tc main_v4_1) : FVec F S64x1 .f32) = sums3 V 7 := by
  refine (Pipeline.afterRegion_arr (dat3 V c) V launch3.win.arr_inj 3).trans ?_
  refine (dat3 V c).arrAt_eq_of_cover 3 (sums3 V 7) (fun t hf => ?_) (fun i => ?_)
  · have h7 : t.val = 7 := by have := (flush3_3 t).1 hf; have := lt3 t; omega
    show (dat3 V c).after 3 t = _
    rw [after3_3, h7]
    funext y
    show sums3 V 7 y = sums3 V 7 ((win3_3.rect t).emb y)
    refine congrArg _ (funext fun a => Fin.ext ?_)
    fin_cases a
    · exact (Pipeline.Window.rect_emb_val_of_index_zero win3_3 t 0 (at3_3 t).1 y).symm
    · exact (Pipeline.Window.rect_emb_val_of_index_zero win3_3 t 1 (at3_3 t).2 y).symm
  · have hi0 : (i 0).val < 64 := (i 0).isLt
    have hi1 : (i 1).val < 1 := (i 1).isLt
    have ht : 7 < cfg3.N := by rw [show cfg3.N = 8 from N_3]; decide
    refine ⟨⟨7, ht⟩, (flush3_3 _).2 rfl, ?_⟩
    show i ∈ ((View.whole main_v4_1).slice (win3_3.rect ⟨7, ht⟩)).set
    rw [View.set_slice_whole, Rect.mem_set_unit]
    intro a
    match a with
    | ⟨0, _⟩ =>
      show win3_3.index ⟨7, ht⟩ 0 * 64 ≤ (i 0 : Nat) ∧ (i 0 : Nat) < win3_3.index ⟨7, ht⟩ 0 * 64 + win3_3.xsize (grid3.coords ⟨7, ht⟩) 0
      rw [(at3_3 _).1, (sz3_3 _).1]; omega
    | ⟨1, _⟩ =>
      show win3_3.index ⟨7, ht⟩ 1 * 1 ≤ (i 1 : Nat) ∧ (i 1 : Nat) < win3_3.index ⟨7, ht⟩ 1 * 1 + win3_3.xsize (grid3.coords ⟨7, ht⟩) 1
      rw [(at3_3 _).2, (sz3_3 _).2]; omega

end Cert.Proof.Tile
-- ==== Proof.Kern.lean ====
/-
  The kernel's probabilities and their sums over the extended reals, read off the arguments.
-/
module

public import proofs.«01_k».proof.Proof.Run
public import proofs.«01_k».proof.Proof.Block
public import proofs.«01_k».proof.Proof.Arr0
public import proofs.«01_k».proof.Proof.Arr1
public import proofs.«01_k».proof.Proof.Arr2
public import proofs.«01_k».proof.Proof.Arr3

@[expose] public section

noncomputable section

namespace Cert.Proof.Tile

open Cert.KernelIdeal Cert.KernelIdeal.Gen
open Idealize.ShloMosaic hiding ix1 ix2 ix3
open Idealize.ShloMosaic.ValueIdx

/-- Row `r`'s logits. -/
def rlg (X : FVec Ideal S32768x768 .f32) (W : FVec Ideal S64x768 .f32) (r : Fin 32768) (e : Fin 64) : EReal :=
  ∑ d : Fin 768, X (ix2 r d) * W (ix2 e d)

/-- A running sum is the sum of its terms. -/
theorem acc_sum (S p : ℕ → EReal) (h0 : S 0 = p 0) (hs : ∀ n, S (n + 1) = S n + p (n + 1)) (n : ℕ) : S n = ∑ t ∈ Finset.range (n + 1), p t := by
  induction n with
  | zero => rw [h0, Finset.sum_range_one]
  | succ n ih => rw [hs, ih, Finset.sum_range_succ _ (n + 1)]

section Calls

variable (V : Valuation τ sig (Elt Ideal))

theorem prob0_at (t : Fin 8) (e : Fin 64) (j : Fin 1024) :
    prob0 V t.val (ix2 e j) = sm (rlg (V (Proc.devRef .tc main_v0)) (V (Proc.devRef .tc main_arg1)) ⟨(t.val + 0) * 1024 + j.val, by omega⟩) e := by
  have ht : (pnt0 t.val).val = t.val := Nat.mod_eq_of_lt t.isLt
  refine (smx_at (iblk0 V 1 (pnt0 t.val)) (iblk0 V 0 (pnt0 t.val)) e j).trans (congrArg (sm · e) (funext fun e' => ?_))
  refine Finset.sum_congr rfl fun d _ => congrArg₂ (· * ·) ?_ (congrFun (wgt0 V _) _)
  refine (xrow0 V (pnt0 t.val) j d).trans (congrArg (fun r => (V (Proc.devRef .tc main_v0) : FVec Ideal S32768x768 .f32) (ix2 r d)) (Fin.ext ?_))
  show ((pnt0 t.val).val + 0) * 1024 + j.val = _
  rw [ht]

theorem all0_at (s : Fin 8192) (e : Fin 64) :
    all0 V (ix2 e s) = sm (rlg (V (Proc.devRef .tc main_v0)) (V (Proc.devRef .tc main_arg1)) ⟨0 * 8192 + s.val, by omega⟩) e := by
  refine (prob0_at V ⟨s.val / 1024, by omega⟩ e ⟨s.val % 1024, Nat.mod_lt _ (by decide)⟩).trans (congrArg (fun r => sm (rlg _ _ r) e) (Fin.ext ?_))
  show (s.val / 1024 + 0) * 1024 + s.val % 1024 = 0 * 8192 + s.val
  omega

theorem sums0_at (e : Fin 64) :
    (sums0 V 7) (ix2 e (0 : Fin 1)) = ∑ s : Fin 8192, sm (rlg (V (Proc.devRef .tc main_v0)) (V (Proc.devRef .tc main_arg1)) ⟨0 * 8192 + s.val, by omega⟩) e := by
  have hs : ∀ n, sums0 V (n + 1) (ix2 e (0 : Fin 1)) = sums0 V n (ix2 e (0 : Fin 1)) + ∑ j : Fin 1024, prob0 V (n + 1) (ix2 e j) := fun n => addS_at _ _ e
  have h0 : sums0 V 0 (ix2 e (0 : Fin 1)) = ∑ j : Fin 1024, prob0 V 0 (ix2 e j) := colS_at _ e
  refine (acc_sum (fun n => sums0 V n (ix2 e (0 : Fin 1))) (fun n => ∑ j : Fin 1024, prob0 V n (ix2 e j)) h0 hs 7).trans ?_
  refine (Finset.sum_range (n := 8) _).trans ?_
  refine Eq.trans ?_ (sum_split 8 1024 8192 rfl _ (fun t j => by omega)).symm
  refine Finset.sum_congr rfl fun t _ => Finset.sum_congr rfl fun j _ => (prob0_at V t e j).trans (congrArg (fun r => sm (rlg _ _ r) e) (Fin.ext ?_))
  show (t.val + 0) * 1024 + j.val = 0 * 8192 + (t.val * 1024 + j.val)
  omega

theorem prob1_at (t : Fin 8) (e : Fin 64) (j : Fin 1024) :
    prob1 V t.val (ix2 e j) = sm (rlg (V (Proc.devRef .tc main_v0)) (V (Proc.devRef .tc main_arg1)) ⟨(t.val + 8) * 1024 + j.val, by omega⟩) e := by
  have ht : (pnt1 t.val).val = t.val := Nat.mod_eq_of_lt t.isLt
  refine (smx_at (iblk1 V 1 (pnt1 t.val)) (iblk1 V 0 (pnt1 t.val)) e j).trans (congrArg (sm · e) (funext fun e' => ?_))
  refine Finset.sum_congr rfl fun d _ => congrArg₂ (· * ·) ?_ (congrFun (wgt1 V _) _)
  refine (xrow1 V (pnt1 t.val) j d).trans (congrArg (fun r => (V (Proc.devRef .tc main_v0) : FVec Ideal S32768x768 .f32) (ix2 r d)) (Fin.ext ?_))
  show ((pnt1 t.val).val + 8) * 1024 + j.val = _
  rw [ht]

theorem all1_at (s : Fin 8192) (e : Fin 64) :
    all1 V (ix2 e s) = sm (rlg (V (Proc.devRef .tc main_v0)) (V (Proc.devRef .tc main_arg1)) ⟨1 * 8192 + s.val, by omega⟩) e := by
  refine (prob1_at V ⟨s.val / 1024, by omega⟩ e ⟨s.val % 1024, Nat.mod_lt _ (by decide)⟩).trans (congrArg (fun r => sm (rlg _ _ r) e) (Fin.ext ?_))
  show (s.val / 1024 + 8) * 1024 + s.val % 1024 = 1 * 8192 + s.val
  omega

theorem sums1_at (e : Fin 64) :
    (sums1 V 7) (ix2 e (0 : Fin 1)) = ∑ s : Fin 8192, sm (rlg (V (Proc.devRef .tc main_v0)) (V (Proc.devRef .tc main_arg1)) ⟨1 * 8192 + s.val, by omega⟩) e := by
  have hs : ∀ n, sums1 V (n + 1) (ix2 e (0 : Fin 1)) = sums1 V n (ix2 e (0 : Fin 1)) + ∑ j : Fin 1024, prob1 V (n + 1) (ix2 e j) := fun n => addS_at _ _ e
  have h0 : sums1 V 0 (ix2 e (0 : Fin 1)) = ∑ j : Fin 1024, prob1 V 0 (ix2 e j) := colS_at _ e
  refine (acc_sum (fun n => sums1 V n (ix2 e (0 : Fin 1))) (fun n => ∑ j : Fin 1024, prob1 V n (ix2 e j)) h0 hs 7).trans ?_
  refine (Finset.sum_range (n := 8) _).trans ?_
  refine Eq.trans ?_ (sum_split 8 1024 8192 rfl _ (fun t j => by omega)).symm
  refine Finset.sum_congr rfl fun t _ => Finset.sum_congr rfl fun j _ => (prob1_at V t e j).trans (congrArg (fun r => sm (rlg _ _ r) e) (Fin.ext ?_))
  show (t.val + 8) * 1024 + j.val = 1 * 8192 + (t.val * 1024 + j.val)
  omega

theorem prob2_at (t : Fin 8) (e : Fin 64) (j : Fin 1024) :
    prob2 V t.val (ix2 e j) = sm (rlg (V (Proc.devRef .tc main_v0)) (V (Proc.devRef .tc main_arg1)) ⟨(t.val + 16) * 1024 + j.val, by omega⟩) e := by
  have ht : (pnt2 t.val).val = t.val := Nat.mod_eq_of_lt t.isLt
  refine (smx_at (iblk2 V 1 (pnt2 t.val)) (iblk2 V 0 (pnt2 t.val)) e j).trans (congrArg (sm · e) (funext fun e' => ?_))
  refine Finset.sum_congr rfl fun d _ => congrArg₂ (· * ·) ?_ (congrFun (wgt2 V _) _)
  refine (xrow2 V (pnt2 t.val) j d).trans (congrArg (fun r => (V (Proc.devRef .tc main_v0) : FVec Ideal S32768x768 .f32) (ix2 r d)) (Fin.ext ?_))
  show ((pnt2 t.val).val + 16) * 1024 + j.val = _
  rw [ht]

theorem all2_at (s : Fin 8192) (e : Fin 64) :
    all2 V (ix2 e s) = sm (rlg (V (Proc.devRef .tc main_v0)) (V (Proc.devRef .tc main_arg1)) ⟨2 * 8192 + s.val, by omega⟩) e := by
  refine (prob2_at V ⟨s.val / 1024, by omega⟩ e ⟨s.val % 1024, Nat.mod_lt _ (by decide)⟩).trans (congrArg (fun r => sm (rlg _ _ r) e) (Fin.ext ?_))
  show (s.val / 1024 + 16) * 1024 + s.val % 1024 = 2 * 8192 + s.val
  omega

theorem sums2_at (e : Fin 64) :
    (sums2 V 7) (ix2 e (0 : Fin 1)) = ∑ s : Fin 8192, sm (rlg (V (Proc.devRef .tc main_v0)) (V (Proc.devRef .tc main_arg1)) ⟨2 * 8192 + s.val, by omega⟩) e := by
  have hs : ∀ n, sums2 V (n + 1) (ix2 e (0 : Fin 1)) = sums2 V n (ix2 e (0 : Fin 1)) + ∑ j : Fin 1024, prob2 V (n + 1) (ix2 e j) := fun n => addS_at _ _ e
  have h0 : sums2 V 0 (ix2 e (0 : Fin 1)) = ∑ j : Fin 1024, prob2 V 0 (ix2 e j) := colS_at _ e
  refine (acc_sum (fun n => sums2 V n (ix2 e (0 : Fin 1))) (fun n => ∑ j : Fin 1024, prob2 V n (ix2 e j)) h0 hs 7).trans ?_
  refine (Finset.sum_range (n := 8) _).trans ?_
  refine Eq.trans ?_ (sum_split 8 1024 8192 rfl _ (fun t j => by omega)).symm
  refine Finset.sum_congr rfl fun t _ => Finset.sum_congr rfl fun j _ => (prob2_at V t e j).trans (congrArg (fun r => sm (rlg _ _ r) e) (Fin.ext ?_))
  show (t.val + 16) * 1024 + j.val = 2 * 8192 + (t.val * 1024 + j.val)
  omega

theorem prob3_at (t : Fin 8) (e : Fin 64) (j : Fin 1024) :
    prob3 V t.val (ix2 e j) = sm (rlg (V (Proc.devRef .tc main_v0)) (V (Proc.devRef .tc main_arg1)) ⟨(t.val + 24) * 1024 + j.val, by omega⟩) e := by
  have ht : (pnt3 t.val).val = t.val := Nat.mod_eq_of_lt t.isLt
  refine (smx_at (iblk3 V 1 (pnt3 t.val)) (iblk3 V 0 (pnt3 t.val)) e j).trans (congrArg (sm · e) (funext fun e' => ?_))
  refine Finset.sum_congr rfl fun d _ => congrArg₂ (· * ·) ?_ (congrFun (wgt3 V _) _)
  refine (xrow3 V (pnt3 t.val) j d).trans (congrArg (fun r => (V (Proc.devRef .tc main_v0) : FVec Ideal S32768x768 .f32) (ix2 r d)) (Fin.ext ?_))
  show ((pnt3 t.val).val + 24) * 1024 + j.val = _
  rw [ht]

theorem all3_at (s : Fin 8192) (e : Fin 64) :
    all3 V (ix2 e s) = sm (rlg (V (Proc.devRef .tc main_v0)) (V (Proc.devRef .tc main_arg1)) ⟨3 * 8192 + s.val, by omega⟩) e := by
  refine (prob3_at V ⟨s.val / 1024, by omega⟩ e ⟨s.val % 1024, Nat.mod_lt _ (by decide)⟩).trans (congrArg (fun r => sm (rlg _ _ r) e) (Fin.ext ?_))
  show (s.val / 1024 + 24) * 1024 + s.val % 1024 = 3 * 8192 + s.val
  omega

theorem sums3_at (e : Fin 64) :
    (sums3 V 7) (ix2 e (0 : Fin 1)) = ∑ s : Fin 8192, sm (rlg (V (Proc.devRef .tc main_v0)) (V (Proc.devRef .tc main_arg1)) ⟨3 * 8192 + s.val, by omega⟩) e := by
  have hs : ∀ n, sums3 V (n + 1) (ix2 e (0 : Fin 1)) = sums3 V n (ix2 e (0 : Fin 1)) + ∑ j : Fin 1024, prob3 V (n + 1) (ix2 e j) := fun n => addS_at _ _ e
  have h0 : sums3 V 0 (ix2 e (0 : Fin 1)) = ∑ j : Fin 1024, prob3 V 0 (ix2 e j) := colS_at _ e
  refine (acc_sum (fun n => sums3 V n (ix2 e (0 : Fin 1))) (fun n => ∑ j : Fin 1024, prob3 V n (ix2 e j)) h0 hs 7).trans ?_
  refine (Finset.sum_range (n := 8) _).trans ?_
  refine Eq.trans ?_ (sum_split 8 1024 8192 rfl _ (fun t j => by omega)).symm
  refine Finset.sum_congr rfl fun t _ => Finset.sum_congr rfl fun j _ => (prob3_at V t e j).trans (congrArg (fun r => sm (rlg _ _ r) e) (Fin.ext ?_))
  show (t.val + 24) * 1024 + j.val = 3 * 8192 + (t.val * 1024 + j.val)
  omega

end Calls

variable (m : (ℓ : Loc nD τ sig) → Buf (Elt Ideal) ℓ) (d : Dev nD)

/-- Each call's column of sums. -/
def tt (q : Fin 4) : FVec Ideal S64x1 .f32 := match q with
  | 0 => V5 m d (Proc.devRef .tc main_v1_1)
  | 1 => V5 m d (Proc.devRef .tc main_v2_1)
  | 2 => V5 m d (Proc.devRef .tc main_v3_1)
  | 3 => V5 m d (Proc.devRef .tc main_v4_1)

/-- The tokens and the weights the kernel is given. -/
def argX : FVec Ideal S4x8192x768 .f32 := m ((SparseCore.T d).loc main_arg0)
def argW : FVec Ideal S64x768 .f32 := m ((SparseCore.T d).loc main_arg1)

/-- The logits of token `(k, s)`. -/
def klg (k : Fin 4) (s : Fin 8192) (e : Fin 64) : EReal := ∑ i : Fin 768, argX m d (ix3 k s i) * argW m d (ix2 e i)

theorem V1_x (k : Fin 4) (s : Fin 8192) (i : Fin 768) (r : Fin 32768) (hr : r.val = k.val * 8192 + s.val) :
    (V1 m d (Proc.devRef .tc main_v0) : FVec Ideal S32768x768 .f32) (ix2 r i) = argX m d (ix3 k s i) := by
  unfold V1
  refine (congrFun (StableHlo.reshape_result (τ := τ) main_arg0 main_v0 rfl shapeCasts_S4x8192x768_S32768x768 _ _ (V0 m d)) (ix2 r i)).trans ?_
  refine shapeCast_apply (argX m d) shapeCasts_S4x8192x768_S32768x768 (ix2 r i) (ix3 k s i) ?_
  rw [Shape.rowMajor_val_three, Shape.rowMajor_val_two]
  show (k.val * 8192 + s.val) * 768 + i.val = r.val * 768 + i.val
  rw [hr]

theorem V1_w : (V1 m d (Proc.devRef .tc main_arg1) : FVec Ideal S64x768 .f32) = argW m d := keep1' m d main_arg1 (by decide)

theorem rlg_at (k : Fin 4) (s : Fin 8192) (r : Fin 32768) (hr : r.val = k.val * 8192 + s.val) :
    rlg (V1 m d (Proc.devRef .tc main_v0)) (V1 m d (Proc.devRef .tc main_arg1)) r = klg m d k s := by
  funext e
  refine Finset.sum_congr rfl fun i _ => congrArg₂ (· * ·) (V1_x m d k s i r hr) (congrFun (V1_w m d) _)

theorem v0_x : V1 m d (Proc.devRef .tc main_v0) = V1 m d (Proc.devRef .tc main_v0) := by
  rfl
theorem v0_w : V1 m d (Proc.devRef .tc main_arg1) = V1 m d (Proc.devRef .tc main_arg1) := by
  rfl
theorem pt0_eq : pt m 0 d = all0 (V1 m d) := by
  show V5 m d (Proc.devRef .tc main_v1_0) = _
  rw [keep3 m d main_v1_0 (by decide) (by decide), keep2 m d main_v1_0 (by decide) (by decide), keep1 m d main_v1_0 (by decide) (by decide)]
  exact out0 (V1 m d) d
theorem tt0_eq : tt m d 0 = sums0 (V1 m d) 7 := by
  show V5 m d (Proc.devRef .tc main_v1_1) = _
  rw [keep3 m d main_v1_1 (by decide) (by decide), keep2 m d main_v1_1 (by decide) (by decide), keep1 m d main_v1_1 (by decide) (by decide)]
  exact tot0 (V1 m d) d
theorem pt0_at (s : Fin 8192) (e : Fin 64) : pt m 0 d (ix2 e s) = sm (klg m d 0 s) e := by
  rw [pt0_eq, all0_at, v0_x, v0_w, rlg_at m d 0 s _ rfl]
theorem tt0_at (e : Fin 64) : tt m d 0 (ix2 e (0 : Fin 1)) = ∑ s : Fin 8192, sm (klg m d 0 s) e := by
  rw [tt0_eq, sums0_at, v0_x, v0_w]
  exact Finset.sum_congr rfl fun s _ => by rw [rlg_at m d 0 s _ rfl]

theorem v1_x : V2 m d (Proc.devRef .tc main_v0) = V1 m d (Proc.devRef .tc main_v0) := by
  rw [keep0 m d main_v0 (by decide) (by decide)]
theorem v1_w : V2 m d (Proc.devRef .tc main_arg1) = V1 m d (Proc.devRef .tc main_arg1) := by
  rw [keep0 m d main_arg1 (by decide) (by decide)]
theorem pt1_eq : pt m 1 d = all1 (V2 m d) := by
  show V5 m d (Proc.devRef .tc main_v2_0) = _
  rw [keep3 m d main_v2_0 (by decide) (by decide), keep2 m d main_v2_0 (by decide) (by decide)]
  exact out1 (V2 m d) d
theorem tt1_eq : tt m d 1 = sums1 (V2 m d) 7 := by
  show V5 m d (Proc.devRef .tc main_v2_1) = _
  rw [keep3 m d main_v2_1 (by decide) (by decide), keep2 m d main_v2_1 (by decide) (by decide)]
  exact tot1 (V2 m d) d
theorem pt1_at (s : Fin 8192) (e : Fin 64) : pt m 1 d (ix2 e s) = sm (klg m d 1 s) e := by
  rw [pt1_eq, all1_at, v1_x, v1_w, rlg_at m d 1 s _ rfl]
theorem tt1_at (e : Fin 64) : tt m d 1 (ix2 e (0 : Fin 1)) = ∑ s : Fin 8192, sm (klg m d 1 s) e := by
  rw [tt1_eq, sums1_at, v1_x, v1_w]
  exact Finset.sum_congr rfl fun s _ => by rw [rlg_at m d 1 s _ rfl]

theorem v2_x : V3 m d (Proc.devRef .tc main_v0) = V1 m d (Proc.devRef .tc main_v0) := by
  rw [keep1 m d main_v0 (by decide) (by decide), keep0 m d main_v0 (by decide) (by decide)]
theorem v2_w : V3 m d (Proc.devRef .tc main_arg1) = V1 m d (Proc.devRef .tc main_arg1) := by
  rw [keep1 m d main_arg1 (by decide) (by decide), keep0 m d main_arg1 (by decide) (by decide)]
theorem pt2_eq : pt m 2 d = all2 (V3 m d) := by
  show V5 m d (Proc.devRef .tc main_v3_0) = _
  rw [keep3 m d main_v3_0 (by decide) (by decide)]
  exact out2 (V3 m d) d
theorem tt2_eq : tt m d 2 = sums2 (V3 m d) 7 := by
  show V5 m d (Proc.devRef .tc main_v3_1) = _
  rw [keep3 m d main_v3_1 (by decide) (by decide)]
  exact tot2 (V3 m d) d
theorem pt2_at (s : Fin 8192) (e : Fin 64) : pt m 2 d (ix2 e s) = sm (klg m d 2 s) e := by
  rw [pt2_eq, all2_at, v2_x, v2_w, rlg_at m d 2 s _ rfl]
theorem tt2_at (e : Fin 64) : tt m d 2 (ix2 e (0 : Fin 1)) = ∑ s : Fin 8192, sm (klg m d 2 s) e := by
  rw [tt2_eq, sums2_at, v2_x, v2_w]
  exact Finset.sum_congr rfl fun s _ => by rw [rlg_at m d 2 s _ rfl]

theorem v3_x : V4 m d (Proc.devRef .tc main_v0) = V1 m d (Proc.devRef .tc main_v0) := by
  rw [keep2 m d main_v0 (by decide) (by decide), keep1 m d main_v0 (by decide) (by decide), keep0 m d main_v0 (by decide) (by decide)]
theorem v3_w : V4 m d (Proc.devRef .tc main_arg1) = V1 m d (Proc.devRef .tc main_arg1) := by
  rw [keep2 m d main_arg1 (by decide) (by decide), keep1 m d main_arg1 (by decide) (by decide), keep0 m d main_arg1 (by decide) (by decide)]
theorem pt3_eq : pt m 3 d = all3 (V4 m d) := by
  show V5 m d (Proc.devRef .tc main_v4_0) = _
  exact out3 (V4 m d) d
theorem tt3_eq : tt m d 3 = sums3 (V4 m d) 7 := by
  show V5 m d (Proc.devRef .tc main_v4_1) = _
  exact tot3 (V4 m d) d
theorem pt3_at (s : Fin 8192) (e : Fin 64) : pt m 3 d (ix2 e s) = sm (klg m d 3 s) e := by
  rw [pt3_eq, all3_at, v3_x, v3_w, rlg_at m d 3 s _ rfl]
theorem tt3_at (e : Fin 64) : tt m d 3 (ix2 e (0 : Fin 1)) = ∑ s : Fin 8192, sm (klg m d 3 s) e := by
  rw [tt3_eq, sums3_at, v3_x, v3_w]
  exact Finset.sum_congr rfl fun s _ => by rw [rlg_at m d 3 s _ rfl]

theorem pt_at (k : Fin 4) (s : Fin 8192) (e : Fin 64) : pt m k d (ix2 e s) = sm (klg m d k s) e := by
  match k with
  | 0 => exact pt0_at m d s e
  | 1 => exact pt1_at m d s e
  | 2 => exact pt2_at m d s e
  | 3 => exact pt3_at m d s e

theorem tt_at (k : Fin 4) (e : Fin 64) : tt m d k (ix2 e (0 : Fin 1)) = ∑ s : Fin 8192, sm (klg m d k s) e := by
  match k with
  | 0 => exact tt0_at m d e
  | 1 => exact tt1_at m d e
  | 2 => exact tt2_at m d e
  | 3 => exact tt3_at m d e

end Cert.Proof.Tile
-- ==== Proof.Out.lean ====
/-
  The kernel's three results over the extended reals, read off the arguments.
-/
module

public import proofs.«01_k».proof.Proof.Kern

@[expose] public section

noncomputable section

namespace Cert.Proof.Tile

open Cert.KernelIdeal Cert.KernelIdeal.Gen
open Idealize.ShloMosaic hiding ix1 ix2 ix3
open Idealize.ShloMosaic.ValueIdx

section Any

variable {F : FTy → Type} [FloatOps F] (W : Valuation τ sig (Elt F))

/-- The gated probabilities of the four calls, laid out as the result. -/
def resG (a0 a1 a2 a3 : FVec F S64x8192 .f32) : FVec F S4x8192x64 .f32 :=
  transpose S4x8192x64 [0, 2, 1] (shapeCast S4x64x8192 (concatenate S256x8192 0 [⟨S64x8192, a0⟩, ⟨S64x8192, a1⟩, ⟨S64x8192, a2⟩, ⟨S64x8192, a3⟩] concatenates_S64x8192_S64x8192_S64x8192_S64x8192_S256x8192_d0) shapeCasts_S256x8192_S4x64x8192) transposes_S4x64x8192_S4x8192x64_0_2_1

/-- The experts of the four calls, laid out as the result. -/
def resI (a0 a1 a2 a3 : IVec S8x8192 32) : IVec S4x8192x8 32 :=
  transpose S4x8192x8 [0, 2, 1] (shapeCast S4x8x8192 (concatenate S32x8192 0 [⟨S8x8192, a0⟩, ⟨S8x8192, a1⟩, ⟨S8x8192, a2⟩, ⟨S8x8192, a3⟩] concatenates_S8x8192_S8x8192_S8x8192_S8x8192_S32x8192_d0) shapeCasts_S32x8192_S4x8x8192) transposes_S4x8x8192_S4x8192x8_0_2_1

/-- Each expert's mean share less its even share. -/
def dev (b0 b1 b2 b3 : FVec F S64x1 .f32) : FVec F S64 .f32 :=
  subf (Host.divf (shapeCast S64 (addf (addf (addf b0 b1) b2) b3) shapeCasts_S64x1_S64) (broadcastInDim S64 ![] bcast_S_S64 (constant S_ .f32 0x47000000#32))) (broadcastInDim S64 ![] bcast_S_S64 (constant S_ .f32 0x3C800000#32))

/-- The loss of the four calls' sums. -/
def resL (b0 b1 b2 b3 : FVec F S64x1 .f32) : FVec F S_ .f32 :=
  mulf (Host.divf (Host.reduceAdd (mulf (dev b0 b1 b2 b3) (dev b0 b1 b2 b3)) (constant S_ .f32 0x00000000#32) reducesTo_S64_S_d0 h_S_) (constant S_ .f32 0x42800000#32)) (constant S_ .f32 0x3C23D70A#32)

theorem after_g : (StableHlo.after tailOps W (Proc.devRef .tc main_v24) : FVec F S4x8192x64 .f32)
    = resG (W (Proc.devRef .tc main_v5_0)) (W (Proc.devRef .tc main_v6_0)) (W (Proc.devRef .tc main_v7_0)) (W (Proc.devRef .tc main_v8_0)) := by
  after_results
  rfl

theorem after_i : (StableHlo.after tailOps W (Proc.devRef .tc main_v26) : IVec S4x8192x8 32)
    = resI (W (Proc.devRef .tc main_v5_1)) (W (Proc.devRef .tc main_v6_1)) (W (Proc.devRef .tc main_v7_1)) (W (Proc.devRef .tc main_v8_1)) := by
  after_results
  rfl

theorem after_l : (StableHlo.after tailOps W (Proc.devRef .tc main_v22) : FVec F S_ .f32)
    = resL (W (Proc.devRef .tc main_v1_1)) (W (Proc.devRef .tc main_v2_1)) (W (Proc.devRef .tc main_v3_1)) (W (Proc.devRef .tc main_v4_1)) := by
  after_results
  rfl

theorem resG_at (A : Fin 4 → FVec F S64x8192 .f32) (k : Fin 4) (s : Fin 8192) (e : Fin 64) : resG (A 0) (A 1) (A 2) (A 3) (ix3 k s e) = A k (ix2 e s) := by
  unfold resG
  rw [transpose_apply _ _ _ (ix3 k s e) (ix3 k e s) (fun b => by fin_cases b <;> rfl),
    shapeCast_apply _ _ (ix3 k e s) (ix2 (⟨k.val * 64 + e.val, by omega⟩ : Fin 256) s) (by rw [Shape.rowMajor_val_three, Shape.rowMajor_val_two]; rfl)]
  match k with
  | 0 => exact concatenate_apply_piece (t := S256x8192) 0 [⟨S64x8192, A 0⟩, ⟨S64x8192, A 1⟩, ⟨S64x8192, A 2⟩, ⟨S64x8192, A 3⟩] concatenates_S64x8192_S64x8192_S64x8192_S64x8192_S256x8192_d0 (ix2 (⟨0 * 64 + e.val, by omega⟩ : Fin 256) s) 0 (Nat.lt_of_lt_of_eq (by decide : 0 < 4) rfl) S64x8192 (A 0) rfl rfl 0 rfl (ix2 e s) (fun b hb => by fin_cases b <;> first | rfl | exact absurd rfl hb) (by show 0 + e.val = 0 * 64 + e.val; omega)
  | 1 => exact concatenate_apply_piece (t := S256x8192) 0 [⟨S64x8192, A 0⟩, ⟨S64x8192, A 1⟩, ⟨S64x8192, A 2⟩, ⟨S64x8192, A 3⟩] concatenates_S64x8192_S64x8192_S64x8192_S64x8192_S256x8192_d0 (ix2 (⟨1 * 64 + e.val, by omega⟩ : Fin 256) s) 1 (Nat.lt_of_lt_of_eq (by decide : 1 < 4) rfl) S64x8192 (A 1) rfl rfl 64 rfl (ix2 e s) (fun b hb => by fin_cases b <;> first | rfl | exact absurd rfl hb) (by show 64 + e.val = 1 * 64 + e.val; omega)
  | 2 => exact concatenate_apply_piece (t := S256x8192) 0 [⟨S64x8192, A 0⟩, ⟨S64x8192, A 1⟩, ⟨S64x8192, A 2⟩, ⟨S64x8192, A 3⟩] concatenates_S64x8192_S64x8192_S64x8192_S64x8192_S256x8192_d0 (ix2 (⟨2 * 64 + e.val, by omega⟩ : Fin 256) s) 2 (Nat.lt_of_lt_of_eq (by decide : 2 < 4) rfl) S64x8192 (A 2) rfl rfl 128 rfl (ix2 e s) (fun b hb => by fin_cases b <;> first | rfl | exact absurd rfl hb) (by show 128 + e.val = 2 * 64 + e.val; omega)
  | 3 => exact concatenate_apply_piece (t := S256x8192) 0 [⟨S64x8192, A 0⟩, ⟨S64x8192, A 1⟩, ⟨S64x8192, A 2⟩, ⟨S64x8192, A 3⟩] concatenates_S64x8192_S64x8192_S64x8192_S64x8192_S256x8192_d0 (ix2 (⟨3 * 64 + e.val, by omega⟩ : Fin 256) s) 3 (Nat.lt_of_lt_of_eq (by decide : 3 < 4) rfl) S64x8192 (A 3) rfl rfl 192 rfl (ix2 e s) (fun b hb => by fin_cases b <;> first | rfl | exact absurd rfl hb) (by show 192 + e.val = 3 * 64 + e.val; omega)

theorem resI_at (A : Fin 4 → IVec S8x8192 32) (k : Fin 4) (s : Fin 8192) (r : Fin 8) : resI (A 0) (A 1) (A 2) (A 3) (ix3 k s r) = A k (ix2 r s) := by
  unfold resI
  rw [transpose_apply _ _ _ (ix3 k s r) (ix3 k r s) (fun b => by fin_cases b <;> rfl),
    shapeCast_apply _ _ (ix3 k r s) (ix2 (⟨k.val * 8 + r.val, by omega⟩ : Fin 32) s) (by rw [Shape.rowMajor_val_three, Shape.rowMajor_val_two]; rfl)]
  match k with
  | 0 => exact concatenate_apply_piece (t := S32x8192) 0 [⟨S8x8192, A 0⟩, ⟨S8x8192, A 1⟩, ⟨S8x8192, A 2⟩, ⟨S8x8192, A 3⟩] concatenates_S8x8192_S8x8192_S8x8192_S8x8192_S32x8192_d0 (ix2 (⟨0 * 8 + r.val, by omega⟩ : Fin 32) s) 0 (Nat.lt_of_lt_of_eq (by decide : 0 < 4) rfl) S8x8192 (A 0) rfl rfl 0 rfl (ix2 r s) (fun b hb => by fin_cases b <;> first | rfl | exact absurd rfl hb) (by show 0 + r.val = 0 * 8 + r.val; omega)
  | 1 => exact concatenate_apply_piece (t := S32x8192) 0 [⟨S8x8192, A 0⟩, ⟨S8x8192, A 1⟩, ⟨S8x8192, A 2⟩, ⟨S8x8192, A 3⟩] concatenates_S8x8192_S8x8192_S8x8192_S8x8192_S32x8192_d0 (ix2 (⟨1 * 8 + r.val, by omega⟩ : Fin 32) s) 1 (Nat.lt_of_lt_of_eq (by decide : 1 < 4) rfl) S8x8192 (A 1) rfl rfl 8 rfl (ix2 r s) (fun b hb => by fin_cases b <;> first | rfl | exact absurd rfl hb) (by show 8 + r.val = 1 * 8 + r.val; omega)
  | 2 => exact concatenate_apply_piece (t := S32x8192) 0 [⟨S8x8192, A 0⟩, ⟨S8x8192, A 1⟩, ⟨S8x8192, A 2⟩, ⟨S8x8192, A 3⟩] concatenates_S8x8192_S8x8192_S8x8192_S8x8192_S32x8192_d0 (ix2 (⟨2 * 8 + r.val, by omega⟩ : Fin 32) s) 2 (Nat.lt_of_lt_of_eq (by decide : 2 < 4) rfl) S8x8192 (A 2) rfl rfl 16 rfl (ix2 r s) (fun b hb => by fin_cases b <;> first | rfl | exact absurd rfl hb) (by show 16 + r.val = 2 * 8 + r.val; omega)
  | 3 => exact concatenate_apply_piece (t := S32x8192) 0 [⟨S8x8192, A 0⟩, ⟨S8x8192, A 1⟩, ⟨S8x8192, A 2⟩, ⟨S8x8192, A 3⟩] concatenates_S8x8192_S8x8192_S8x8192_S8x8192_S32x8192_d0 (ix2 (⟨3 * 8 + r.val, by omega⟩ : Fin 32) s) 3 (Nat.lt_of_lt_of_eq (by decide : 3 < 4) rfl) S8x8192 (A 3) rfl rfl 24 rfl (ix2 r s) (fun b hb => by fin_cases b <;> first | rfl | exact absurd rfl hb) (by show 24 + r.val = 3 * 8 + r.val; omega)

end Any

section Runs

variable {F : FTy → Type} [FloatOps F] (m : (ℓ : Loc nD τ sig) → Buf (Elt F) ℓ) (d : Dev nD)

theorem V9_g0 : V9 m d (Proc.devRef .tc main_v5_0) = gatedArr (pt m 0 d) := by
  unfold V9 V8 V7 V6
  rw [upd_off _ _ _ _ _ _ (by decide) (by decide), upd_off _ _ _ _ _ _ (by decide) (by decide), upd_off _ _ _ _ _ _ (by decide) (by decide), upd_fst _ _ _ _ _ (by decide)]
theorem V9_g1 : V9 m d (Proc.devRef .tc main_v6_0) = gatedArr (pt m 1 d) := by
  unfold V9 V8 V7
  rw [upd_off _ _ _ _ _ _ (by decide) (by decide), upd_off _ _ _ _ _ _ (by decide) (by decide), upd_fst _ _ _ _ _ (by decide)]
theorem V9_g2 : V9 m d (Proc.devRef .tc main_v7_0) = gatedArr (pt m 2 d) := by
  unfold V9 V8
  rw [upd_off _ _ _ _ _ _ (by decide) (by decide), upd_fst _ _ _ _ _ (by decide)]
theorem V9_g3 : V9 m d (Proc.devRef .tc main_v8_0) = gatedArr (pt m 3 d) := by
  unfold V9
  rw [upd_fst _ _ _ _ _ (by decide)]
theorem V9_i0 : V9 m d (Proc.devRef .tc main_v5_1) = idsArr (pt m 0 d) := by
  unfold V9 V8 V7 V6
  rw [upd_off _ _ _ _ _ _ (by decide) (by decide), upd_off _ _ _ _ _ _ (by decide) (by decide), upd_off _ _ _ _ _ _ (by decide) (by decide), upd_snd]
theorem V9_i1 : V9 m d (Proc.devRef .tc main_v6_1) = idsArr (pt m 1 d) := by
  unfold V9 V8 V7
  rw [upd_off _ _ _ _ _ _ (by decide) (by decide), upd_off _ _ _ _ _ _ (by decide) (by decide), upd_snd]
theorem V9_i2 : V9 m d (Proc.devRef .tc main_v7_1) = idsArr (pt m 2 d) := by
  unfold V9 V8
  rw [upd_off _ _ _ _ _ _ (by decide) (by decide), upd_snd]
theorem V9_i3 : V9 m d (Proc.devRef .tc main_v8_1) = idsArr (pt m 3 d) := by
  unfold V9
  rw [upd_snd]

/-- The kernel's three results. -/
def outG : FVec F S4x8192x64 .f32 := V10 m d (Proc.devRef .tc main_v24)
def outI : IVec S4x8192x8 32 := V10 m d (Proc.devRef .tc main_v26)
def outL : FVec F S_ .f32 := V10 m d (Proc.devRef .tc main_v22)

theorem outG_at (k : Fin 4) (s : Fin 8192) (e : Fin 64) : outG m d (ix3 k s e) = gated (fun y => pt m k d (ix2 y s)) e := by
  have h : outG m d = resG (gatedArr (pt m 0 d)) (gatedArr (pt m 1 d)) (gatedArr (pt m 2 d)) (gatedArr (pt m 3 d)) := by
    refine (after_g (V9 m d)).trans ?_
    rw [V9_g0, V9_g1, V9_g2, V9_g3]
  rw [h]
  exact resG_at (fun k => gatedArr (pt m k d)) k s e

theorem outI_at (k : Fin 4) (s : Fin 8192) (r : Fin 8) : outI m d (ix3 k s r) = ids (fun y => pt m k d (ix2 y s)) r := by
  have h : outI m d = resI (idsArr (pt m 0 d)) (idsArr (pt m 1 d)) (idsArr (pt m 2 d)) (idsArr (pt m 3 d)) := by
    refine (after_i (V9 m d)).trans ?_
    rw [V9_i0, V9_i1, V9_i2, V9_i3]
  rw [h]
  exact resI_at (fun k => idsArr (pt m k d)) k s r

end Runs

variable (m : (ℓ : Loc nD τ sig) → Buf (Elt Ideal) ℓ) (d : Dev nD)

theorem outL_eq : outL m d = resL (tt m d 0) (tt m d 1) (tt m d 2) (tt m d 3) := by
  refine (after_l (V9 m d)).trans ?_
  rw [keep5 m d main_v1_1 (by decide), keep5 m d main_v2_1 (by decide), keep5 m d main_v3_1 (by decide), keep5 m d main_v4_1 (by decide)]
  rfl

/-- Each expert's total over all the tokens. -/
def total (e : Fin 64) : EReal := ∑ k : Fin 4, ∑ s : Fin 8192, sm (klg m d k s) e

theorem dev_at (e : Fin 64) : dev (tt m d 0) (tt m d 1) (tt m d 2) (tt m d 3) (ix1 e) = Ideal.div (total m d e) (Ideal.ofBits .f32 0x47000000#32) - Ideal.ofBits .f32 0x3C800000#32 := by
  unfold dev
  rw [subf_apply, hostDivf_apply, shapeCast_apply _ _ (ix1 e) (ix2 e (0 : Fin 1)) (by
    rw [Shape.rowMajor_val_one, Shape.rowMajor_val_two]; show e.val * 1 + 0 = e.val; omega), addf_apply, addf_apply, addf_apply,
    broadcastInDim_scalar_apply, broadcastInDim_scalar_apply, constant_apply, constant_apply, tt_at, tt_at, tt_at, tt_at]
  unfold total
  rw [Fin.sum_univ_four]

theorem outG_sm (k : Fin 4) (s : Fin 8192) (e : Fin 64) : outG m d (ix3 k s e) = gated (F := Ideal) (sm (klg m d k s)) e := by
  rw [outG_at]
  exact congrArg (fun p => gated (F := Ideal) p e) (funext fun y => pt_at m d k s y)

theorem outI_sm (k : Fin 4) (s : Fin 8192) (r : Fin 8) : outI m d (ix3 k s r) = ids (F := Ideal) (sm (klg m d k s)) r := by
  rw [outI_at]
  exact congrArg (fun p => ids (F := Ideal) p r) (funext fun y => pt_at m d k s y)

end Cert.Proof.Tile
-- ==== Proof.Finite.lean ====
/-
  The precondition read: every token's and every weight's entry is a real number.
-/
module

public import proofs.«01_k».proof.Defs
public import proofs.«01_k».proof.Proof.Gen.Pre_finite_inputs
public import proofs.«01_k».proof.Proof.Out
public import Idealize.ShloMosaic.Lib.ReduceAll

@[expose] public section

noncomputable section

namespace Cert.Proof

open Idealize.ShloMosaic hiding ix0 ix1 ix2 ix3
open Idealize.ShloMosaic.ValueIdx

/-- A value whose magnitude is below plus infinity is a real number. -/
theorem real_of_olt (x : EReal) (h : FloatOps.cmpf (F := Ideal) (φ := .f32) .olt (FloatOps.hostAbsf (F := Ideal) (φ := .f32) x) (FloatOps.ofBits (F := Ideal) .f32 0x7F800000#32) = 1#1) : ∃ r : ℝ, x = r := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  have hlt : max x (-x) < ⊤ := by
    by_contra hn
    rw [decide_eq_false hn] at h'
    exact absurd h' (by decide)
  rw [max_lt_iff] at hlt
  have h1 : x ≠ ⊤ := hlt.1.ne
  have h2 : x ≠ ⊥ := fun hb => by
    rw [hb] at hlt
    exact absurd hlt.2 (by simp)
  exact ⟨x.toReal, (EReal.coe_toReal h1 h2).symm⟩

instance : Subsingleton Cert.Pre_finite_inputs.S_.Idx := ⟨fun a b => funext fun i => i.elim0⟩

theorem and_one {c d : BitVec 1} (h : IntOp.andi c d = 1#1) : c = 1#1 ∧ d = 1#1 := by revert c d; decide

section

variable [Cert.Pre_finite_inputs.Facts] (a0 : FVec Ideal Cert.Pre_finite_inputs.S4x8192x768 .f32) (a1 : FVec Ideal Cert.Pre_finite_inputs.S64x768 .f32) (a2 : FVec Ideal Cert.Pre_finite_inputs.S64 .f32)

theorem pre_real (h : Cert.Pre_finite_inputs.fn (F := Ideal) a0 a1 a2 = fun _ => 1#1) : (∀ i, ∃ r : ℝ, a0 i = r) ∧ ∀ i, ∃ r : ℝ, a1 i = r := by
  obtain ⟨h0, h1⟩ := and_one (congrFun h ix0)
  exact ⟨fun i => real_of_olt _ (Host.reduce_andi_all _ _ _ _ _ h0 i), fun i => real_of_olt _ (Host.reduce_andi_all _ _ _ _ _ h1 i)⟩

end

/-- The logits are real. -/
theorem klg_real [Cert.Pre_finite_inputs.Facts] (m : (ℓ : Loc Cert.KernelIdeal.nD Cert.KernelIdeal.τ Cert.KernelIdeal.sig) → Buf (Elt Ideal) ℓ) (hm : Cert.Pre_KernelIdeal_finite_inputs m)
    (c : Dev Cert.KernelIdeal.nD) (k : Fin 4) (s : Fin 8192) : ∃ x : Fin 64 → ℝ, ∀ e, Tile.klg m c k s e = x e := by
  obtain ⟨hx, hw⟩ := pre_real _ _ _ (hm c)
  choose x hx using hx
  choose w hw using hw
  refine ⟨fun e => ∑ i : Fin 768, x (ix3 k s i) * w (ix2 e i), fun e => ?_⟩
  unfold Tile.klg
  rw [← Tile.coe_sum']
  refine Finset.sum_congr rfl fun i _ => ?_
  rw [EReal.coe_mul]
  exact congrArg₂ (· * ·) (hx _) (hw _)

end Cert.Proof

end
-- ==== Proof.Ref.lean ====
/-
  The reference's operations read at an index over the extended reals: its logits, its softmax, its selection and the
  array it scatters into.
-/
module

public import proofs.«01_k».proof.Proof.Soft
public import proofs.«01_k».proof.Proof.Block
public import proofs.«01_k».proof.Proof.Gen.ReferenceIdeal
public import Idealize.ShloMosaic.Lib.IdealHost
public import Idealize.ShloMosaic.Lib.Pointwise.Contract
public import Idealize.ShloMosaic.Lib.Pipeline.Value
public import Idealize.ShloMosaic.Lib.ScatterToDense.RefScatter

@[expose] public section

noncomputable section

namespace Cert.Proof.Ref

open Cert.ReferenceIdeal Cert.ReferenceIdeal.Gen
open Idealize.ShloMosaic hiding ix1 ix2 ix3
open Idealize.ShloMosaic.ValueIdx
open Cert.Proof.Tile (sm mx kept)

/-- The logits of token `(k, s)`. -/
def lg (X : S4x8192x768.Idx → EReal) (W : S64x768.Idx → EReal) (k : Fin 4) (s : Fin 8192) (e : Fin 64) : EReal :=
  ∑ d : Fin 768, X (ix3 k s d) * W (ix2 e d)

theorem dot_at (X : FVec Ideal S4x8192x768 .f32) (W : FVec Ideal S64x768 .f32) (k : Fin 4) (s : Fin 8192) (e : Fin 64) :
    Host.dotGeneral dot_S4x8192x768_S64x768_S4x8192x64_2_1_01_0_n_n none X W (ix3 k s e) = lg X W k s e := by
  simp only [Host.dotGeneral]
  rw [Ideal.dotGeneral_apply, DotDims.sum_contr₁ _ (a := 2) rfl (K := 768) rfl]
  unfold lg
  refine Finset.sum_congr rfl fun d _ => ?_
  refine congrArg₂ (· * ·) (congrArg X ?_) (congrArg W ?_)
  · funext a; fin_cases a <;> rfl
  · funext a; fin_cases a <;> rfl

theorem neg_inf : Ideal.ofBits .f32 0xFF800000#32 = ⊥ := by simp [Ideal.ofBits, Ideal.ieee]

theorem red2 : S4x8192x64.Reduces [2] S4x8192 := by decide

/-- The reference's softmax along the experts. -/
def soft (T : FVec Ideal S4x8192x64 .f32) : FVec Ideal S4x8192x64 .f32 :=
  Host.divf (Host.exp (subf T (broadcastInDim S4x8192x64 ![0, 1, 2] bcast_S4x8192x1_S4x8192x64_0_1_2 (broadcastInDim S4x8192x1 ![0, 1] bcast_S4x8192_S4x8192x1_0_1 (maximumf (broadcastInDim S4x8192 ![] bcast_S_S4x8192 (constant S_ .f32 0xFF800000#32)) (Host.reduce FloatOps.maximumf T (constant S_ .f32 0xFF800000#32) reducesTo_S4x8192x64_S4x8192_d2 h_S_)))))) (broadcastInDim S4x8192x64 ![0, 1, 2] bcast_S4x8192x1_S4x8192x64_0_1_2 (broadcastInDim S4x8192x1 ![0, 1] bcast_S4x8192_S4x8192x1_0_1 (Host.reduceAdd (Host.exp (subf T (broadcastInDim S4x8192x64 ![0, 1, 2] bcast_S4x8192x1_S4x8192x64_0_1_2 (broadcastInDim S4x8192x1 ![0, 1] bcast_S4x8192_S4x8192x1_0_1 (maximumf (broadcastInDim S4x8192 ![] bcast_S_S4x8192 (constant S_ .f32 0xFF800000#32)) (Host.reduce FloatOps.maximumf T (constant S_ .f32 0xFF800000#32) reducesTo_S4x8192x64_S4x8192_d2 h_S_)))))) (constant S_ .f32 0x00000000#32) reducesTo_S4x8192x64_S4x8192_d2 h_S_)))

/-- A value per token spread over the experts reads that token's. -/
theorem spread_at {α : Type} (v : S4x8192.Idx → α) (k : Fin 4) (s : Fin 8192) (e : Fin 64) :
    broadcastInDim S4x8192x64 ![0, 1, 2] bcast_S4x8192x1_S4x8192x64_0_1_2 (broadcastInDim S4x8192x1 ![0, 1] bcast_S4x8192_S4x8192x1_0_1 v) (ix3 k s e) = v (ix2 k s) := by
  rw [broadcastInDim_apply _ _ _ (ix3 k s e) (ix3 k s (0 : Fin 1)) (fun a => by fin_cases a <;> rfl)]
  exact broadcastInDim_apply _ _ _ (ix3 k s (0 : Fin 1)) (ix2 k s) (fun a => by fin_cases a <;> rfl)

theorem lift_at (k : Fin 4) (s : Fin 8192) (e : Fin 64) : red2.lift (ix2 k s) e = ix3 k s e := by
  funext a; fin_cases a <;> rfl

/-- The greatest of a token's logits, as the reference takes it. -/
theorem max_at (T : FVec Ideal S4x8192x64 .f32) (k : Fin 4) (s : Fin 8192) :
    maximumf (broadcastInDim S4x8192 ![] bcast_S_S4x8192 (constant (F := Ideal) S_ .f32 0xFF800000#32)) (Host.reduce FloatOps.maximumf T (constant S_ .f32 0xFF800000#32) reducesTo_S4x8192x64_S4x8192_d2 h_S_) (ix2 k s)
      = mx fun e => T (ix3 k s e) := by
  rw [maximumf_apply, broadcastInDim_scalar_apply, constant_apply, neg_inf, bot_sup_eq]
  have h := Host.reduce_eq_fold_single (FloatOps.maximumf (F := Ideal) (φ := .f32)) T (constant (F := Ideal) S_ .f32 0xFF800000#32) reducesTo_S4x8192x64_S4x8192_d2 red2 h_S_ (ix2 k s)
  rw [h, constant_apply, neg_inf]
  unfold mx
  refine congrArg (Finset.fold _ _ · _) (funext fun e => ?_)
  exact congrArg T (lift_at k s e)

theorem soft_at (T : FVec Ideal S4x8192x64 .f32) (k : Fin 4) (s : Fin 8192) (e : Fin 64) :
    soft T (ix3 k s e) = sm (fun e => T (ix3 k s e)) e := by
  have hx : ∀ e, Host.exp (subf T (broadcastInDim S4x8192x64 ![0, 1, 2] bcast_S4x8192x1_S4x8192x64_0_1_2 (broadcastInDim S4x8192x1 ![0, 1] bcast_S4x8192_S4x8192x1_0_1 (maximumf (broadcastInDim S4x8192 ![] bcast_S_S4x8192 (constant S_ .f32 0xFF800000#32)) (Host.reduce FloatOps.maximumf T (constant S_ .f32 0xFF800000#32) reducesTo_S4x8192x64_S4x8192_d2 h_S_))))) (ix3 k s e)
      = Ideal.exp (T (ix3 k s e) - mx fun e => T (ix3 k s e)) := fun e => by
    show Ideal.exp (subf T _ (ix3 k s e)) = _
    rw [subf_apply, spread_at, max_at]
  unfold soft
  rw [hostDivf_apply, hx, spread_at, hostReduceAdd_apply, Ideal.hostReduceAdd_single _ red2, constant_apply, Ideal.ofBits_zero_f32, zero_add]
  unfold sm
  refine congrArg (Ideal.div _) (Finset.sum_congr rfl fun e' _ => ?_)
  exact (congrArg _ (lift_at k s e')).trans (hx e')

/-- Token `(k, s)`'s sorted positions. -/
def pick (T : FVec Ideal S4x8192x64 .f32) (k : Fin 4) (s : Fin 8192) (r : Fin 8) : Fin 64 :=
  sortedFrom (fun a b : Fin 64 => decide (T (ix3 k s b) < T (ix3 k s a))) (r.castLE (by decide))

theorem along_at (k : Fin 4) (s : Fin 8192) (e e' : Fin 64) : Shape.Idx.along (ix3 k s e : S4x8192x64.Idx) 2 e' = ix3 k s e' := by
  funext a; fin_cases a <;> rfl

theorem topK_at (T : FVec Ideal S4x8192x64 .f32) (k : Fin 4) (s : Fin 8192) (r : Fin 8) :
    (Host.topK S4x8192x8 2 (FloatOps.cmpfTotal (F := Ideal) .gt) T sliceFits_S4x8192x64_S4x8192x8).1 (ix3 k s r) = T (ix3 k s (pick T k s r))
    ∧ (Host.topK S4x8192x8 2 (FloatOps.cmpfTotal (F := Ideal) .gt) T sliceFits_S4x8192x64_S4x8192x8).2 (ix3 k s r) = BitVec.ofNat 32 (pick T k s r).val := by
  have hb : ∀ k', (fun a b : Fin 64 => (FloatOps.cmpfTotal (F := Ideal) (φ := .f32) .gt (T (Shape.Idx.along (ix3 k s k' : S4x8192x64.Idx) 2 a)) (T (Shape.Idx.along (ix3 k s k' : S4x8192x64.Idx) 2 b)) == 1#1)) = fun a b : Fin 64 => decide (T (ix3 k s b) < T (ix3 k s a)) := fun k' => by
    funext a b
    rw [along_at, along_at]
    show (BitVec.ofBool (decide (T (ix3 k s b) < T (ix3 k s a))) == 1#1) = _
    cases decide (T (ix3 k s b) < T (ix3 k s a)) <;> rfl
  have hj : ∀ {α : Type} (v : S4x8192x64.Idx → α), extractStridedSlice S4x8192x8 (fun _ => 0) v sliceFits_S4x8192x64_S4x8192x8 (ix3 k s r) = v (ix3 k s (r.castLE (by decide))) := fun v =>
    extractStridedSlice_apply _ v _ _ _ fun a => by fin_cases a <;> exact (Nat.zero_add _).symm
  unfold Host.topK
  dsimp only
  rw [hj, hj]
  unfold Host.sort2
  rw [dif_pos (show 2 < S4x8192x64.rank by decide)]
  dsimp only
  have hp : sortedFrom (fun a b : Fin 64 => (FloatOps.cmpfTotal (F := Ideal) (φ := .f32) .gt (T (Shape.Idx.along (ix3 k s (r.castLE (by decide)) : S4x8192x64.Idx) 2 a)) (T (Shape.Idx.along (ix3 k s (r.castLE (by decide)) : S4x8192x64.Idx) 2 b)) == 1#1)) (r.castLE (by decide)) = pick T k s r := by
    rw [hb]; rfl
  refine ⟨?_, ?_⟩
  · refine (congrArg (fun q => T (Shape.Idx.along (ix3 k s (r.castLE (by decide)) : S4x8192x64.Idx) 2 q)) hp).trans ?_
    exact congrArg T (along_at _ _ _ _)
  · refine (congrArg (fun q => (if hd : 2 < S4x8192x64.rank then iotaInDim S4x8192x64 32 ⟨2, hd⟩ (Shape.Idx.along (ix3 k s (r.castLE (by decide)) : S4x8192x64.Idx) 2 q) else 0#32)) hp).trans ?_
    rw [dif_pos (by decide), along_at]
    rfl

/-! ## The scattered array -/

/-- The reference's scatter of the selected logits `V` at the experts `I`, over minus infinity. -/
def scat (V : FVec Ideal S4x8192x8 .f32) (I : IVec S4x8192x8 32) : FVec Ideal S4x8192x64 .f32 :=
  shapeCast _ (Host.scatter scatter_S32768x64_S32768x8x2_S32768x8_n_01_01_2 (fun _ b => b) (broadcastInDim S32768x64 ![] bcast_S_S32768x64 (constant (F := Ideal) S_ .f32 0xFF800000#32)) (concatenate S32768x8x2 2 [⟨S32768x8x1, (broadcastInDim S32768x8x1 ![0, 1] bcast_S32768x8_S32768x8x1_0_1 (broadcastInDim S32768x8 ![0, 1] bcast_S32768x1_S32768x8_0_1 (select (cmpi .slt (broadcastInDim S32768x1 ![0] bcast_S32768_S32768x1_0 (iotaInDim S32768 32 0)) (broadcastInDim S32768x1 ![] bcast_S_S32768x1 (constantI S_ 32 0#32))) (addi (broadcastInDim S32768x1 ![0] bcast_S32768_S32768x1_0 (iotaInDim S32768 32 0)) (broadcastInDim S32768x1 ![] bcast_S_S32768x1 (constantI S_ 32 32768#32))) (broadcastInDim S32768x1 ![0] bcast_S32768_S32768x1_0 (iotaInDim S32768 32 0)))))⟩, ⟨S32768x8x1, (broadcastInDim S32768x8x1 ![0, 1] bcast_S32768x8_S32768x8x1_0_1 (select (cmpi .slt (shapeCast _ I shapeCasts_S4x8192x8_S32768x8) (broadcastInDim S32768x8 ![] bcast_S_S32768x8 (constantI S_ 32 0#32))) (addi (shapeCast _ I shapeCasts_S4x8192x8_S32768x8) (broadcastInDim S32768x8 ![] bcast_S_S32768x8 (constantI S_ 32 64#32))) (shapeCast _ I shapeCasts_S4x8192x8_S32768x8)))⟩] concatenates_S32768x8x1_S32768x8x1_S32768x8x2_d2) (shapeCast _ V shapeCasts_S4x8192x8_S32768x8)) shapeCasts_S32768x64_S4x8192x64

/-- A word below half the range is not negative, so the wrap of a negative index leaves it. -/
theorem wrap_at (n m : ℕ) (h : n < 2 ^ 31) : Scalar.select (IntOp.cmpi .slt (BitVec.ofNat 32 n) 0#32) (IntOp.addi (BitVec.ofNat 32 n) (BitVec.ofNat 32 m)) (BitVec.ofNat 32 n) = BitVec.ofNat 32 n := by
  have h0 : IntOp.cmpi .slt (BitVec.ofNat 32 n) 0#32 = 0#1 := by
    have : (BitVec.ofNat 32 n).slt 0#32 = false := by
      rw [BitVec.slt_eq_decide, decide_eq_false_iff_not, BitVec.toInt_zero, BitVec.toInt_eq_toNat_of_lt (by rw [BitVec.toNat_ofNat]; omega)]
      omega
    show BitVec.ofBool _ = _
    rw [this]; rfl
  rw [h0]; exact select_zero _ _

theorem cast8_at {α : Type} (v : S4x8192x8.Idx → α) (i : Fin 32768) (r : Fin 8) :
    shapeCast S32768x8 v shapeCasts_S4x8192x8_S32768x8 (ix2 i r) = v (ix3 ⟨i.val / 8192, by omega⟩ ⟨i.val % 8192, Nat.mod_lt _ (by decide)⟩ r) := by
  refine shapeCast_apply v _ _ _ ?_
  rw [Shape.rowMajor_val_three, Shape.rowMajor_val_two]
  show (i.val / 8192 * 8192 + i.val % 8192) * 8 + r.val = i.val * 8 + r.val
  omega

theorem scat_at (T : FVec Ideal S4x8192x64 .f32) (V : FVec Ideal S4x8192x8 .f32) (I : IVec S4x8192x8 32)
    (hV : ∀ k s r, V (ix3 k s r) = T (ix3 k s (pick T k s r))) (hI : ∀ k s r, I (ix3 k s r) = BitVec.ofNat 32 (pick T k s r).val)
    (k : Fin 4) (s : Fin 8192) (e : Fin 64) :
    scat V I (ix3 k s e) = kept (pick T k s) (fun e => T (ix3 k s e)) e := by
  have hinj : ∀ k s, Function.Injective (pick T k s) := fun k s a b hab => by
    have h := congrArg Fin.val (sortedFrom_injective _ hab)
    exact Fin.ext h
  unfold scat
  rw [shapeCast_apply _ _ (ix3 k s e) (ix2 (⟨k.val * 8192 + s.val, by omega⟩ : Fin 32768) e) (by
    rw [Shape.rowMajor_val_three, Shape.rowMajor_val_two]; rfl)]
  refine (ScatterToDense.scatter_eq_GS (T := 32768) (C := 64) (K := 8) scatter_S32768x64_S32768x8x2_S32768x8_n_01_01_2 rfl rfl rfl (by decide) (by decide) _ _ _
    (fun i n => BitVec.ofNat 32 (pick T ⟨i.val / 8192, by omega⟩ ⟨i.val % 8192, Nat.mod_lt _ (by decide)⟩ ⟨n % 8, Nat.mod_lt _ (by decide)⟩).val)
    (fun i n => T (ix3 ⟨i.val / 8192, by omega⟩ ⟨i.val % 8192, Nat.mod_lt _ (by decide)⟩ (pick T ⟨i.val / 8192, by omega⟩ ⟨i.val % 8192, Nat.mod_lt _ (by decide)⟩ ⟨n % 8, Nat.mod_lt _ (by decide)⟩)))
    (fun i r => ?_) (fun i r => ?_) (fun i r => ?_) _ e).trans ?_
  · refine (concatenate_pair_apply_left (s₁ := S32768x8x1) (s₂ := S32768x8x1) 2 _ _ _ (ix3 i r (0 : Fin 2)) rfl (ix3 i r (0 : Fin 1)) (fun b => by fin_cases b <;> rfl)).trans ?_
    rw [broadcastInDim_apply _ _ _ (ix3 i r (0 : Fin 1)) (ix2 i r) (fun a => by fin_cases a <;> rfl),
      broadcastInDim_apply _ _ _ (ix2 i r) (ix2 i (0 : Fin 1)) (fun a => by fin_cases a <;> rfl)]
    rw [show select (cmpi .slt (broadcastInDim S32768x1 ![0] bcast_S32768_S32768x1_0 (iotaInDim S32768 32 0)) (broadcastInDim S32768x1 ![] bcast_S_S32768x1 (constantI S_ 32 0#32))) (addi (broadcastInDim S32768x1 ![0] bcast_S32768_S32768x1_0 (iotaInDim S32768 32 0)) (broadcastInDim S32768x1 ![] bcast_S_S32768x1 (constantI S_ 32 32768#32))) (broadcastInDim S32768x1 ![0] bcast_S32768_S32768x1_0 (iotaInDim S32768 32 0)) (ix2 i (0 : Fin 1))
      = Scalar.select (IntOp.cmpi .slt (broadcastInDim S32768x1 ![0] bcast_S32768_S32768x1_0 (iotaInDim S32768 32 0) (ix2 i (0 : Fin 1))) 0#32) (IntOp.addi (broadcastInDim S32768x1 ![0] bcast_S32768_S32768x1_0 (iotaInDim S32768 32 0) (ix2 i (0 : Fin 1))) (BitVec.ofNat 32 32768)) (broadcastInDim S32768x1 ![0] bcast_S32768_S32768x1_0 (iotaInDim S32768 32 0) (ix2 i (0 : Fin 1))) from rfl]
    rw [broadcastInDim_apply _ _ (iotaInDim S32768 32 0) (ix2 i (0 : Fin 1)) (ix1 i) (fun a => by fin_cases a; rfl), iotaInDim_apply]
    exact wrap_at i.val 32768 (by have := i.isLt; omega)
  · refine (concatenate_pair_apply_right (s₁ := S32768x8x1) (s₂ := S32768x8x1) 2 _ _ _ (ix3 i r (1 : Fin 2)) rfl rfl (ix3 i r (0 : Fin 1)) (fun b hb => by fin_cases b <;> first | rfl | exact absurd rfl hb) rfl).trans ?_
    rw [broadcastInDim_apply _ _ _ (ix3 i r (0 : Fin 1)) (ix2 i r) (fun a => by fin_cases a <;> rfl)]
    rw [show select (cmpi .slt (shapeCast S32768x8 I shapeCasts_S4x8192x8_S32768x8) (broadcastInDim S32768x8 ![] bcast_S_S32768x8 (constantI S_ 32 0#32))) (addi (shapeCast S32768x8 I shapeCasts_S4x8192x8_S32768x8) (broadcastInDim S32768x8 ![] bcast_S_S32768x8 (constantI S_ 32 64#32))) (shapeCast S32768x8 I shapeCasts_S4x8192x8_S32768x8) (ix2 i r)
      = Scalar.select (IntOp.cmpi .slt (shapeCast S32768x8 I shapeCasts_S4x8192x8_S32768x8 (ix2 i r)) 0#32) (IntOp.addi (shapeCast S32768x8 I shapeCasts_S4x8192x8_S32768x8 (ix2 i r)) (BitVec.ofNat 32 64)) (shapeCast S32768x8 I shapeCasts_S4x8192x8_S32768x8 (ix2 i r)) from rfl]
    rw [cast8_at, hI, wrap_at _ _ (lt_of_lt_of_le (pick T _ _ r).isLt (by decide))]
    refine congrArg (fun q => BitVec.ofNat 32 (pick T _ _ q).val) (Fin.ext ?_)
    exact (Nat.mod_eq_of_lt r.isLt).symm
  · rw [cast8_at, hV]
    refine congrArg (fun q => T (ix3 _ _ (pick T _ _ q))) (Fin.ext ?_)
    exact (Nat.mod_eq_of_lt r.isLt).symm
  · rw [broadcastInDim_scalar_apply, constant_apply, neg_inf]
    have hk : (⟨(k.val * 8192 + s.val) / 8192, by omega⟩ : Fin 4) = k := Fin.ext (by show (k.val * 8192 + s.val) / 8192 = k.val; omega)
    have hs : (⟨(k.val * 8192 + s.val) % 8192, Nat.mod_lt _ (by decide)⟩ : Fin 8192) = s := Fin.ext (by show (k.val * 8192 + s.val) % 8192 = s.val; omega)
    dsimp only
    rw [hk, hs]
    refine Tile.written (pick T k s) (hinj k s) (fun e => T (ix3 k s e)) _ _ (fun i => ?_) (fun i => ?_) e
    · refine congrArg (fun q => BitVec.ofNat 32 (pick T k s q).val) (Fin.ext ?_)
      exact Nat.mod_eq_of_lt i.isLt
    · refine congrArg (fun q => T (ix3 k s (pick T k s q))) (Fin.ext ?_)
      exact Nat.mod_eq_of_lt i.isLt

/-! ## The loss -/

/-- Each expert's mean share less its even share. -/
def rdev (T : FVec Ideal S4x8192x64 .f32) : FVec Ideal S64 .f32 :=
  subf (Host.divf (Host.reduceAdd (shapeCast _ (soft T) shapeCasts_S4x8192x64_S32768x64) (constant S_ .f32 0x00000000#32) reducesTo_S32768x64_S64_d0 h_S_) (broadcastInDim S64 ![] bcast_S_S64 (constant S_ .f32 0x47000000#32))) (Host.divf (broadcastInDim S64 ![] bcast_S_S64 (constant S_ .f32 0x3F800000#32)) (broadcastInDim S64 ![] bcast_S_S64 (constant S_ .f32 0x42800000#32)))

/-- The reference's loss. -/
def rloss (D : FVec Ideal S64 .f32) : FVec Ideal S_ .f32 :=
  mulf (Host.divf (Host.reduceAdd (mulf D D) (constant S_ .f32 0x00000000#32) reducesTo_S64_S_d0 h_S_) (constant S_ .f32 0x42800000#32)) (constant S_ .f32 0x3C23D70A#32)

theorem word_64 : Ideal.ofBits .f32 0x42800000#32 = ((64 : ℝ) : EReal) := by
  simp [Ideal.ofBits, Ideal.ieee, -EReal.coe_mul]; norm_num

theorem word_inv_64 : Ideal.ofBits .f32 0x3C800000#32 = ((1 / 64 : ℝ) : EReal) := by
  simp [Ideal.ofBits, Ideal.ieee, -EReal.coe_mul]; norm_num

theorem inv_64 : Ideal.div (Ideal.ofBits .f32 0x3F800000#32) (Ideal.ofBits .f32 0x42800000#32) = Ideal.ofBits .f32 0x3C800000#32 := by
  rw [Ideal.ofBits_one_f32, word_64, word_inv_64, Ideal.div_coe (by norm_num), one_mul]

theorem red1 : S32768x64.Reduces [0] S64 := by decide

theorem rdev_at (T : FVec Ideal S4x8192x64 .f32) (e : Fin 64) :
    rdev T (ix1 e) = Ideal.div (∑ k : Fin 4, ∑ s : Fin 8192, sm (fun e => T (ix3 k s e)) e) (Ideal.ofBits .f32 0x47000000#32) - Ideal.ofBits .f32 0x3C800000#32 := by
  unfold rdev
  rw [subf_apply, hostDivf_apply, hostDivf_apply, broadcastInDim_scalar_apply, broadcastInDim_scalar_apply, broadcastInDim_scalar_apply, constant_apply, constant_apply, constant_apply, inv_64,
    hostReduceAdd_apply, Ideal.hostReduceAdd_single _ red1, constant_apply, Ideal.ofBits_zero_f32, zero_add]
  refine congrArg (fun q => Ideal.div q (Ideal.ofBits .f32 0x47000000#32) - Ideal.ofBits .f32 0x3C800000#32) ?_
  refine (Tile.sum_split 4 8192 32768 rfl _ (fun t j => by omega)).trans ?_
  refine Finset.sum_congr rfl fun k _ => Finset.sum_congr rfl fun s _ => ?_
  refine Eq.trans ?_ (soft_at T k s e)
  refine shapeCast_apply (soft T) _ _ (ix3 k s e) ?_
  rw [Shape.rowMajor_val_three, Shape.rowMajor_val_two]
  rfl

end Cert.Proof.Ref

end
-- ==== Proof.Value.lean ====
/-
  The kernel's results are the reference's over the extended reals, at finite tokens and weights.
-/
module

public import proofs.«01_k».proof.Proof.Finite
public import proofs.«01_k».proof.Proof.Ref
public import proofs.«01_k».proof.Proof.Frame
public import proofs.«01_k».proof.Proof.Gen.ReferenceIdeal.Run

@[expose] public section

noncomputable section

namespace Cert.Proof

open Idealize.SL.Sem
open Idealize.ShloMosaic hiding ix0 ix1 ix2 ix3 eq_ix1 eq_ix2 eq_ix3
open Idealize.ShloMosaic.ValueIdx

section Results

open Cert.ReferenceIdeal Cert.ReferenceIdeal.Gen
open Cert.Proof.Ref

variable [Cert.Pre_finite_inputs.Facts] (m : (ℓ : Loc Cert.KernelIdeal.nD Cert.KernelIdeal.τ Cert.KernelIdeal.sig) → Buf (Elt Ideal) ℓ) (hm : Cert.Pre_KernelIdeal_finite_inputs m)
  (c : Dev Cert.KernelIdeal.nD)

/-- The reference's logits of the kernel's arguments. -/
def lgs : FVec Ideal S4x8192x64 .f32 := Host.dotGeneral dot_S4x8192x768_S64x768_S4x8192x64_2_1_01_0_n_n none (Tile.argX m c) (Tile.argW m c)

omit [Cert.Pre_finite_inputs.Facts] in
theorem lgs_at (k : Fin 4) (s : Fin 8192) (e : Fin 64) : lgs m c (ix3 k s e) = Tile.klg m c k s e := dot_at (Tile.argX m c) (Tile.argW m c) k s e

omit [Cert.Pre_finite_inputs.Facts] in
theorem lgs_row (k : Fin 4) (s : Fin 8192) : (fun e => lgs m c (ix3 k s e)) = Tile.klg m c k s := funext fun e => lgs_at m c k s e

/-- The reference's experts at logits `T`. -/
def pickedOf (T : FVec Ideal S4x8192x64 .f32) : IVec S4x8192x8 32 := (Host.topK S4x8192x8 2 (FloatOps.cmpfTotal (F := Ideal) .gt) T sliceFits_S4x8192x64_S4x8192x8).2

/-- The reference's gated probabilities at logits `T`. -/
def gatedOf (T : FVec Ideal S4x8192x64 .f32) : FVec Ideal S4x8192x64 .f32 :=
  soft (scat (Host.topK S4x8192x8 2 (FloatOps.cmpfTotal (F := Ideal) .gt) T sliceFits_S4x8192x64_S4x8192x8).1 (pickedOf T))

include hm

theorem row_real (k : Fin 4) (s : Fin 8192) : ∃ x : Fin 64 → ℝ, ∀ e, lgs m c (ix3 k s e) = x e := by
  obtain ⟨x, hx⟩ := klg_real m hm c k s
  exact ⟨x, fun e => (lgs_at m c k s e).trans (hx e)⟩

theorem val_g : gatedOf (lgs m c) = Tile.outG m c := by
  suffices h : ∀ (k : Fin 4) (s : Fin 8192) (e : Fin 64), gatedOf (lgs m c) (ix3 k s e) = Tile.outG m c (ix3 k s e) from
    funext fun j => (congrArg _ (eq_ix3 j)).trans ((h (j 0) (j 1) (j 2)).trans (congrArg _ (eq_ix3 j)).symm)
  intro k s e
  obtain ⟨x, hx⟩ := row_real m hm c k s
  unfold gatedOf
  refine (soft_at _ k s e).trans ?_
  refine Eq.trans ?_ (Tile.outG_sm m c k s e).symm
  rw [← lgs_row m c k s]
  refine Eq.trans ?_ (Tile.gated_eq (fun e => lgs m c (ix3 k s e)) x hx (pick (lgs m c) k s) rfl e).symm
  refine congrArg (Tile.sm · e) (funext fun e' => ?_)
  exact scat_at (lgs m c) _ _ (fun k s r => (topK_at (lgs m c) k s r).1) (fun k s r => (topK_at (lgs m c) k s r).2) k s e'

theorem val_i : pickedOf (lgs m c) = Tile.outI m c := by
  suffices h : ∀ (k : Fin 4) (s : Fin 8192) (r : Fin 8), pickedOf (lgs m c) (ix3 k s r) = Tile.outI m c (ix3 k s r) from
    funext fun j => (congrArg _ (eq_ix3 j)).trans ((h (j 0) (j 1) (j 2)).trans (congrArg _ (eq_ix3 j)).symm)
  intro k s r
  obtain ⟨x, hx⟩ := row_real m hm c k s
  refine (topK_at (lgs m c) k s r).2.trans ?_
  refine Eq.trans ?_ (Tile.outI_sm m c k s r).symm
  rw [← lgs_row m c k s]
  exact (Tile.ids_eq (fun e => lgs m c (ix3 k s e)) x hx r).symm

omit hm [Cert.Pre_finite_inputs.Facts] in
theorem dev_eq : rdev (lgs m c) = Tile.dev (Tile.tt m c 0) (Tile.tt m c 1) (Tile.tt m c 2) (Tile.tt m c 3) := by
  funext j
  rw [eq_ix1 j]
  generalize (j 0 : Fin 64) = e
  refine (rdev_at (lgs m c) e).trans (Eq.trans ?_ (Tile.dev_at m c e).symm)
  unfold Tile.total
  refine congrArg (fun q => Ideal.div q (Ideal.ofBits .f32 0x47000000#32) - Ideal.ofBits .f32 0x3C800000#32) ?_
  exact Finset.sum_congr rfl fun k _ => Finset.sum_congr rfl fun s _ => by rw [lgs_row]

omit hm [Cert.Pre_finite_inputs.Facts] in
theorem val_l : rloss (rdev (lgs m c)) = Tile.outL m c := by
  rw [Tile.outL_eq, dev_eq]
  rfl

end Results

theorem value [Cert.Pre_finite_inputs.Facts] : Cert.algebraic_KernelIdeal_ReferenceIdeal_pre_finite_inputs := fun m g m' g' hm hargs => by
  refine ⟨fun c => Tile.outG m c, fun c => Tile.outI m c, fun c => Tile.outL m c, ?_, ?_⟩
  · refine (θ_run Cert.KernelIdeal.defs _ _).mono (fun r h c => ?_) (Tile.run_main (F := Ideal) m g)
    exact ⟨h.1 c Cert.KernelIdeal.main_v24 (Tile.uc _ (by decide)), h.1 c Cert.KernelIdeal.main_v26 (Tile.uc _ (by decide)), h.1 c Cert.KernelIdeal.main_v22 (Tile.uc _ (by decide)),
      (h.1 c Cert.KernelIdeal.main_arg0 (Tile.uc _ (by decide))).trans (Tile.arg_kept m c _ (.inl rfl)),
      (h.1 c Cert.KernelIdeal.main_arg1 (Tile.uc _ (by decide))).trans (Tile.arg_kept m c _ (.inr (.inl rfl))),
      (h.1 c Cert.KernelIdeal.main_arg2 (Tile.uc _ (by decide))).trans (Tile.arg_kept m c _ (.inr (.inr rfl)))⟩
  · refine (θ_run Cert.ReferenceIdeal.defs _ _).mono (fun r h c => ?_) (Cert.ReferenceIdeal.Value.run (F := Ideal) m' g')
    obtain ⟨e0, e1, e2, e3⟩ := h c
    have hL : Host.dotGeneral Cert.ReferenceIdeal.dot_S4x8192x768_S64x768_S4x8192x64_2_1_01_0_n_n none
        (m' ((c.tc : Thread Cert.ReferenceIdeal.nD Cert.ReferenceIdeal.τ).loc Cert.ReferenceIdeal.main_arg0) : FVec Ideal Cert.ReferenceIdeal.S4x8192x768 .f32)
        (m' ((c.tc : Thread Cert.ReferenceIdeal.nD Cert.ReferenceIdeal.τ).loc Cert.ReferenceIdeal.main_arg1) : FVec Ideal Cert.ReferenceIdeal.S64x768 .f32) = lgs m c :=
      congrArg₂ (Host.dotGeneral Cert.ReferenceIdeal.dot_S4x8192x768_S64x768_S4x8192x64_2_1_01_0_n_n none) (hargs c).1 (hargs c).2.1
    refine ⟨?_, ?_, ?_, e3⟩
    · refine e0.trans (Eq.trans ?_ ((congrArg gatedOf hL).trans (val_g m hm c)))
      unfold Cert.ReferenceIdeal.Value.res_main_v55
      rfl
    · exact e1.trans ((congrArg pickedOf hL).trans (val_i m hm c))
    · exact e2.trans ((congrArg (fun T => Ref.rloss (Ref.rdev T)) hL).trans (val_l m c))

theorem frame_ideal_pre [Cert.Pre_finite_inputs.Facts] : Cert.quiescent_KernelIdeal_pre_finite_inputs := fun m ρ _ => frame_ideal m ρ trivial

theorem frame_ref_pre [Cert.Pre_finite_inputs.Facts] : Cert.quiescent_ReferenceIdeal_pre_finite_inputs := fun m ρ _ => frame_ref m ρ trivial

end Cert.Proof

end
-- ==== Proof.lean ====
/-
  The claims of this directory, put together.
-/
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frame
public import proofs.«01_k».proof.Proof.Gen.Pre_finite_inputs
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  frame_kernel, frame_ideal, frame_ideal_pre, frame_ref, frame_ref_pre, trivial, value⟩

end Cert.Proof

end
